-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpIdeal_scales_gate_up [hPre_scales_gate_up : Cert.Pre_scales_gate_up.Facts] (m : (ℓ : Loc Cert.GateUpIdeal.nD Cert.GateUpIdeal.τ Cert.GateUpIdeal.sig) → Buf (Elt Ideal) ℓ) : Prop :=
  ∀ c : Dev Cert.GateUpIdeal.nD,
    (Cert.Pre_scales_gate_up.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5)) (m ((c.tc : Thread Cert.GateUpIdeal.nD Cert.GateUpIdeal.τ).loc Cert.GateUpIdeal.main_arg6))).1 = (fun _ => 1#1)
    ∧ (Cert.Pre_scales_gate_up.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5)) (m ((c.tc : Thread Cert.GateUpIdeal.nD Cert.GateUpIdeal.τ).loc Cert.GateUpIdeal.main_arg6))).2 = (fun _ => 1#1)

def Pre_GateUpReferenceIdeal (m : (ℓ : Loc Cert.GateUpReferenceIdeal.nD Cert.GateUpReferenceIdeal.τ Cert.GateUpReferenceIdeal.sig) → Buf (Elt Ideal) ℓ) : Prop :=
  True

def Pre_GateUpReferenceIdeal_scales_gate_up [hPre_scales_gate_up : Cert.Pre_scales_gate_up.Facts] (m : (ℓ : Loc Cert.GateUpReferenceIdeal.nD Cert.GateUpReferenceIdeal.τ Cert.GateUpReferenceIdeal.sig) → Buf (Elt Ideal) ℓ) : Prop :=
  ∀ c : Dev Cert.GateUpReferenceIdeal.nD,
    (Cert.Pre_scales_gate_up.fn (F := Ideal) (m ((c.tc : Thread Cert.GateUpReferenceIdeal.nD Cert.GateUpReferenceIdeal.τ).loc Cert.GateUpReferenceIdeal.main_arg0)) (m ((c.tc : Thread Cert.GateUpReferenceIdeal.nD Cert.GateUpReferenceIdeal.τ).loc Cert.GateUpReferenceIdeal.main_arg1)) (m ((c.tc : Thread Cert.GateUpReferenceIdeal.nD Cert.GateUpReferenceIdeal.τ).loc Cert.GateUpReferenceIdeal.main_arg2)) (m ((c.tc : Thread Cert.GateUpReferenceIdeal.nD Cert.GateUpReferenceIdeal.τ).loc Cert.GateUpReferenceIdeal.main_arg3)) (m ((c.tc : Thread Cert.GateUpReferenceIdeal.nD Cert.GateUpReferenceIdeal.τ).loc Cert.GateUpReferenceIdeal.main_arg4)) (m ((c.tc : Thread Cert.GateUpReferenceIdeal.nD Cert.GateUpReferenceIdeal.τ).loc Cert.GateUpReferenceIdeal.main_arg5)) (m ((c.tc : Thread Cert.GateUpReferenceIdeal.nD Cert.GateUpReferenceIdeal.τ).loc Cert.GateUpReferenceIdeal.main_arg6))).1 = (fun _ => 1#1)
    ∧ (Cert.Pre_scales_gate_up.fn (F := Ideal) (m ((c.tc : Thread Cert.GateUpReferenceIdeal.nD Cert.GateUpReferenceIdeal.τ).loc Cert.GateUpReferenceIdeal.main_arg0)) (m ((c.tc : Thread Cert.GateUpReferenceIdeal.nD Cert.GateUpReferenceIdeal.τ).loc Cert.GateUpReferenceIdeal.main_arg1)) (m ((c.tc : Thread Cert.GateUpReferenceIdeal.nD Cert.GateUpReferenceIdeal.τ).loc Cert.GateUpReferenceIdeal.main_arg2)) (m ((c.tc : Thread Cert.GateUpReferenceIdeal.nD Cert.GateUpReferenceIdeal.τ).loc Cert.GateUpReferenceIdeal.main_arg3)) (m ((c.tc : Thread Cert.GateUpReferenceIdeal.nD Cert.GateUpReferenceIdeal.τ).loc Cert.GateUpReferenceIdeal.main_arg4)) (m ((c.tc : Thread Cert.GateUpReferenceIdeal.nD Cert.GateUpReferenceIdeal.τ).loc Cert.GateUpReferenceIdeal.main_arg5)) (m ((c.tc : Thread Cert.GateUpReferenceIdeal.nD Cert.GateUpReferenceIdeal.τ).loc Cert.GateUpReferenceIdeal.main_arg6))).2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_scales_down [hPre_scales_down : Cert.Pre_scales_down.Facts] (m : (ℓ : Loc Cert.DownIdeal.nD Cert.DownIdeal.τ Cert.DownIdeal.sig) → Buf (Elt Ideal) ℓ) : Prop :=
  ∀ c : Dev Cert.DownIdeal.nD,
    (Cert.Pre_scales_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6))).1 = (fun _ => 1#1)
    ∧ (Cert.Pre_scales_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6))).2 = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_scales_down [hPre_scales_down : Cert.Pre_scales_down.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_scales_down.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4)) (m ((c.tc : Thread Cert.DownReferenceIdeal.nD Cert.DownReferenceIdeal.τ).loc Cert.DownReferenceIdeal.main_arg5)) (m ((c.tc : Thread Cert.DownReferenceIdeal.nD Cert.DownReferenceIdeal.τ).loc Cert.DownReferenceIdeal.main_arg6))).1 = (fun _ => 1#1)
    ∧ (Cert.Pre_scales_down.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4)) (m ((c.tc : Thread Cert.DownReferenceIdeal.nD Cert.DownReferenceIdeal.τ).loc Cert.DownReferenceIdeal.main_arg5)) (m ((c.tc : Thread Cert.DownReferenceIdeal.nD Cert.DownReferenceIdeal.τ).loc Cert.DownReferenceIdeal.main_arg6))).2 = (fun _ => 1#1)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6))
      ∧ r.2.sem = fun _ => 0)

def quiescent_GateUpIdeal_pre_scales_gate_up [hGateUpIdeal : Cert.GateUpIdeal.Facts] [hPre_scales_gate_up : Cert.Pre_scales_gate_up.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal_scales_gate_up m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4)
      ∧ r.2.mem ((c.tc : Thread Cert.GateUpReferenceIdeal.nD Cert.GateUpReferenceIdeal.τ).loc Cert.GateUpReferenceIdeal.main_arg5) = m ((c.tc : Thread Cert.GateUpReferenceIdeal.nD Cert.GateUpReferenceIdeal.τ).loc Cert.GateUpReferenceIdeal.main_arg5)
      ∧ r.2.mem ((c.tc : Thread Cert.GateUpReferenceIdeal.nD Cert.GateUpReferenceIdeal.τ).loc Cert.GateUpReferenceIdeal.main_arg6) = m ((c.tc : Thread Cert.GateUpReferenceIdeal.nD Cert.GateUpReferenceIdeal.τ).loc Cert.GateUpReferenceIdeal.main_arg6))
      ∧ r.2.sem = fun _ => 0)

def quiescent_GateUpReferenceIdeal_pre_scales_gate_up [hGateUpReferenceIdeal : Cert.GateUpReferenceIdeal.Facts] [hPre_scales_gate_up : Cert.Pre_scales_gate_up.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal_scales_gate_up m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4)
      ∧ r.2.mem ((c.tc : Thread Cert.GateUpReferenceIdeal.nD Cert.GateUpReferenceIdeal.τ).loc Cert.GateUpReferenceIdeal.main_arg5) = m ((c.tc : Thread Cert.GateUpReferenceIdeal.nD Cert.GateUpReferenceIdeal.τ).loc Cert.GateUpReferenceIdeal.main_arg5)
      ∧ r.2.mem ((c.tc : Thread Cert.GateUpReferenceIdeal.nD Cert.GateUpReferenceIdeal.τ).loc Cert.GateUpReferenceIdeal.main_arg6) = m ((c.tc : Thread Cert.GateUpReferenceIdeal.nD Cert.GateUpReferenceIdeal.τ).loc Cert.GateUpReferenceIdeal.main_arg6))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_DownIdeal_pre_scales_down [hDownIdeal : Cert.DownIdeal.Facts] [hPre_scales_down : Cert.Pre_scales_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal_scales_down m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5)
      ∧ r.2.mem ((c.tc : Thread Cert.DownReferenceIdeal.nD Cert.DownReferenceIdeal.τ).loc Cert.DownReferenceIdeal.main_arg6) = m ((c.tc : Thread Cert.DownReferenceIdeal.nD Cert.DownReferenceIdeal.τ).loc Cert.DownReferenceIdeal.main_arg6))
      ∧ r.2.sem = fun _ => 0)

def quiescent_DownReferenceIdeal_pre_scales_down [hDownReferenceIdeal : Cert.DownReferenceIdeal.Facts] [hPre_scales_down : Cert.Pre_scales_down.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_scales_down m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5)
      ∧ r.2.mem ((c.tc : Thread Cert.DownReferenceIdeal.nD Cert.DownReferenceIdeal.τ).loc Cert.DownReferenceIdeal.main_arg6) = m ((c.tc : Thread Cert.DownReferenceIdeal.nD Cert.DownReferenceIdeal.τ).loc Cert.DownReferenceIdeal.main_arg6))
      ∧ r.2.sem = fun _ => 0)

def preserves_GateUp_GateUpIdeal : Prop :=
  True

def algebraic_GateUpIdeal_GateUpReferenceIdeal_pre_scales_gate_up [hGateUpIdeal : Cert.GateUpIdeal.Facts] [hGateUpReferenceIdeal : Cert.GateUpReferenceIdeal.Facts] [hPre_scales_gate_up : Cert.Pre_scales_gate_up.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal_scales_gate_up m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)
      ∧ m' ((c.tc : Thread Cert.GateUpReferenceIdeal.nD Cert.GateUpReferenceIdeal.τ).loc Cert.GateUpReferenceIdeal.main_arg3) = m ((c.tc : Thread Cert.GateUpIdeal.nD Cert.GateUpIdeal.τ).loc Cert.GateUpIdeal.main_arg3)
      ∧ m' ((c.tc : Thread Cert.GateUpReferenceIdeal.nD Cert.GateUpReferenceIdeal.τ).loc Cert.GateUpReferenceIdeal.main_arg4) = m ((c.tc : Thread Cert.GateUpIdeal.nD Cert.GateUpIdeal.τ).loc Cert.GateUpIdeal.main_arg4)
      ∧ m' ((c.tc : Thread Cert.GateUpReferenceIdeal.nD Cert.GateUpReferenceIdeal.τ).loc Cert.GateUpReferenceIdeal.main_arg5) = m ((c.tc : Thread Cert.GateUpIdeal.nD Cert.GateUpIdeal.τ).loc Cert.GateUpIdeal.main_arg5)
      ∧ m' ((c.tc : Thread Cert.GateUpReferenceIdeal.nD Cert.GateUpReferenceIdeal.τ).loc Cert.GateUpReferenceIdeal.main_arg6) = m ((c.tc : Thread Cert.GateUpIdeal.nD Cert.GateUpIdeal.τ).loc Cert.GateUpIdeal.main_arg6)) →
    ∃ (v0 : (c : Dev Cert.GateUpIdeal.nD) → Buf (Elt Ideal) ((c.tc : Thread Cert.GateUpIdeal.nD Cert.GateUpIdeal.τ).loc Cert.GateUpIdeal.main_v1_0)) (v1 : (c : Dev Cert.GateUpIdeal.nD) → Buf (Elt Ideal) ((c.tc : Thread Cert.GateUpIdeal.nD Cert.GateUpIdeal.τ).loc Cert.GateUpIdeal.main_v1_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v1_0) = v0 c
          ∧ r.2.mem ((c.tc : Thread Cert.GateUpIdeal.nD Cert.GateUpIdeal.τ).loc Cert.GateUpIdeal.main_v1_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
          ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v106) = v0 c
          ∧ r.2.mem ((c.tc : Thread Cert.GateUpReferenceIdeal.nD Cert.GateUpReferenceIdeal.τ).loc Cert.GateUpReferenceIdeal.main_v84) = v1 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2)
          ∧ r.2.mem ((c.tc : Thread Cert.GateUpReferenceIdeal.nD Cert.GateUpReferenceIdeal.τ).loc Cert.GateUpReferenceIdeal.main_arg3) = m' ((c.tc : Thread Cert.GateUpReferenceIdeal.nD Cert.GateUpReferenceIdeal.τ).loc Cert.GateUpReferenceIdeal.main_arg3)
          ∧ r.2.mem ((c.tc : Thread Cert.GateUpReferenceIdeal.nD Cert.GateUpReferenceIdeal.τ).loc Cert.GateUpReferenceIdeal.main_arg4) = m' ((c.tc : Thread Cert.GateUpReferenceIdeal.nD Cert.GateUpReferenceIdeal.τ).loc Cert.GateUpReferenceIdeal.main_arg4)
          ∧ r.2.mem ((c.tc : Thread Cert.GateUpReferenceIdeal.nD Cert.GateUpReferenceIdeal.τ).loc Cert.GateUpReferenceIdeal.main_arg5) = m' ((c.tc : Thread Cert.GateUpReferenceIdeal.nD Cert.GateUpReferenceIdeal.τ).loc Cert.GateUpReferenceIdeal.main_arg5)
          ∧ r.2.mem ((c.tc : Thread Cert.GateUpReferenceIdeal.nD Cert.GateUpReferenceIdeal.τ).loc Cert.GateUpReferenceIdeal.main_arg6) = m' ((c.tc : Thread Cert.GateUpReferenceIdeal.nD Cert.GateUpReferenceIdeal.τ).loc Cert.GateUpReferenceIdeal.main_arg6))

def preserves_Down_DownIdeal : Prop :=
  True

def algebraic_DownIdeal_DownReferenceIdeal_pre_scales_down [hDownIdeal : Cert.DownIdeal.Facts] [hDownReferenceIdeal : Cert.DownReferenceIdeal.Facts] [hPre_scales_down : Cert.Pre_scales_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal_scales_down m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)
      ∧ m' ((c.tc : Thread Cert.DownReferenceIdeal.nD Cert.DownReferenceIdeal.τ).loc Cert.DownReferenceIdeal.main_arg5) = m ((c.tc : Thread Cert.DownIdeal.nD Cert.DownIdeal.τ).loc Cert.DownIdeal.main_arg5)
      ∧ m' ((c.tc : Thread Cert.DownReferenceIdeal.nD Cert.DownReferenceIdeal.τ).loc Cert.DownReferenceIdeal.main_arg6) = m ((c.tc : Thread Cert.DownIdeal.nD Cert.DownIdeal.τ).loc Cert.DownIdeal.main_arg6)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v91) = v0 c
          ∧ r.2.mem ((c.tc : Thread Cert.DownReferenceIdeal.nD Cert.DownReferenceIdeal.τ).loc Cert.DownReferenceIdeal.main_v83) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4)
          ∧ r.2.mem ((c.tc : Thread Cert.DownReferenceIdeal.nD Cert.DownReferenceIdeal.τ).loc Cert.DownReferenceIdeal.main_arg5) = m' ((c.tc : Thread Cert.DownReferenceIdeal.nD Cert.DownReferenceIdeal.τ).loc Cert.DownReferenceIdeal.main_arg5)
          ∧ r.2.mem ((c.tc : Thread Cert.DownReferenceIdeal.nD Cert.DownReferenceIdeal.τ).loc Cert.DownReferenceIdeal.main_arg6) = m' ((c.tc : Thread Cert.DownReferenceIdeal.nD Cert.DownReferenceIdeal.τ).loc Cert.DownReferenceIdeal.main_arg6))

def Claim : Prop :=
  ∃ (hGateUp : Cert.GateUp.Facts) (hGateUpIdeal : Cert.GateUpIdeal.Facts) (hGateUpReferenceIdeal : Cert.GateUpReferenceIdeal.Facts) (hDown : Cert.Down.Facts) (hDownIdeal : Cert.DownIdeal.Facts) (hDownReferenceIdeal : Cert.DownReferenceIdeal.Facts) (hPre_scales_gate_up : Cert.Pre_scales_gate_up.Facts) (hPre_scales_down : Cert.Pre_scales_down.Facts),
    quiescent_GateUp (hGateUp := hGateUp)
    ∧ quiescent_GateUpIdeal (hGateUpIdeal := hGateUpIdeal)
    ∧ quiescent_GateUpIdeal_pre_scales_gate_up (hGateUpIdeal := hGateUpIdeal) (hPre_scales_gate_up := hPre_scales_gate_up)
    ∧ quiescent_GateUpReferenceIdeal (hGateUpReferenceIdeal := hGateUpReferenceIdeal)
    ∧ quiescent_GateUpReferenceIdeal_pre_scales_gate_up (hGateUpReferenceIdeal := hGateUpReferenceIdeal) (hPre_scales_gate_up := hPre_scales_gate_up)
    ∧ quiescent_Down (hDown := hDown)
    ∧ quiescent_DownIdeal (hDownIdeal := hDownIdeal)
    ∧ quiescent_DownIdeal_pre_scales_down (hDownIdeal := hDownIdeal) (hPre_scales_down := hPre_scales_down)
    ∧ quiescent_DownReferenceIdeal (hDownReferenceIdeal := hDownReferenceIdeal)
    ∧ quiescent_DownReferenceIdeal_pre_scales_down (hDownReferenceIdeal := hDownReferenceIdeal) (hPre_scales_down := hPre_scales_down)
    ∧ preserves_GateUp_GateUpIdeal
    ∧ algebraic_GateUpIdeal_GateUpReferenceIdeal_pre_scales_gate_up (hGateUpIdeal := hGateUpIdeal) (hGateUpReferenceIdeal := hGateUpReferenceIdeal) (hPre_scales_gate_up := hPre_scales_gate_up)
    ∧ preserves_Down_DownIdeal
    ∧ algebraic_DownIdeal_DownReferenceIdeal_pre_scales_down (hDownIdeal := hDownIdeal) (hDownReferenceIdeal := hDownReferenceIdeal) (hPre_scales_down := hPre_scales_down)
-- ==== Pre_scales_down.lean ====
abbrev S10x16384 : Shape := ⟨2, ![10, 16384]⟩
abbrev S10 : Shape := ⟨1, ![10]⟩
abbrev S8192x3072 : Shape := ⟨2, ![8192, 3072]⟩
abbrev S512x3072 : Shape := ⟨2, ![512, 3072]⟩
abbrev S3x16384x64 : Shape := ⟨3, ![3, 16384, 64]⟩
abbrev S3x64x3072 : Shape := ⟨3, ![3, 64, 3072]⟩
abbrev S3 : Shape := ⟨1, ![3]⟩
abbrev S_ : Shape := ⟨0, ![]⟩

class Facts : Prop where
  bcast_S_S512x3072 : S_.BroadcastsInDim S512x3072 (![] : Fin 0 → Fin S512x3072.rank)

variable [Facts]

def fn {F : FTy → Type} [FloatOps F] (main_arg0 : FVec F S10x16384 .bf16) (main_arg1 : IVec S10 32) (main_arg2 : IVec S8192x3072 8) (main_arg3 : IVec S512x3072 8) (main_arg4 : FVec F S3x16384x64 .bf16) (main_arg5 : FVec F S3x64x3072 .bf16) (main_arg6 : FVec F S3 .f32) : IVec S512x3072 1 × IVec S512x3072 1 :=
  let main_c : IVec S_ 8 := constantI S_ 8 2#8
  let main_v0 : IVec S512x3072 8 := broadcastInDim S512x3072 ![] bcast_S_S512x3072 main_c
  let main_v1 : IVec S512x3072 1 := cmpi .uge main_arg3 main_v0
  let main_c_0 : IVec S_ 8 := constantI S_ 8 252#8
  let main_v2 : IVec S512x3072 8 := broadcastInDim S512x3072 ![] bcast_S_S512x3072 main_c_0
  let main_v3 : IVec S512x3072 1 := cmpi .ule main_arg3 main_v2
  (main_v1, main_v3)
-- ==== Pre_scales_gate_up.lean ====
abbrev S10x1x3072 : Shape := ⟨3, ![10, 1, 3072]⟩
abbrev S10 : Shape := ⟨1, ![10]⟩
abbrev S1536x32768 : Shape := ⟨2, ![1536, 32768]⟩
abbrev S96x32768 : Shape := ⟨2, ![96, 32768]⟩
abbrev S3x3072x128 : Shape := ⟨3, ![3, 3072, 128]⟩
abbrev S3x2x64x16384 : Shape := ⟨4, ![3, 2, 64, 16384]⟩
abbrev S3 : Shape := ⟨1, ![3]⟩
abbrev S_ : Shape := ⟨0, ![]⟩

class Facts : Prop where
  bcast_S_S96x32768 : S_.BroadcastsInDim S96x32768 (![] : Fin 0 → Fin S96x32768.rank)

variable [Facts]

def fn {F : FTy → Type} [FloatOps F] (main_arg0 : FVec F S10x1x3072 .bf16) (main_arg1 : IVec S10 32) (main_arg2 : IVec S1536x32768 8) (main_arg3 : IVec S96x32768 8) (main_arg4 : FVec F S3x3072x128 .bf16) (main_arg5 : FVec F S3x2x64x16384 .bf16) (main_arg6 : FVec F S3 .f32) : IVec S96x32768 1 × IVec S96x32768 1 :=
  let main_c : IVec S_ 8 := constantI S_ 8 2#8
  let main_v0 : IVec S96x32768 8 := broadcastInDim S96x32768 ![] bcast_S_S96x32768 main_c
  let main_v1 : IVec S96x32768 1 := cmpi .uge main_arg3 main_v0
  let main_c_0 : IVec S_ 8 := constantI S_ 8 252#8
  let main_v2 : IVec S96x32768 8 := broadcastInDim S96x32768 ![] bcast_S_S96x32768 main_c_0
  let main_v3 : IVec S96x32768 1 := cmpi .ule main_arg3 main_v2
  (main_v1, main_v3)
-- ==== GateUp.lean ====
abbrev S10x1x3072 : Shape := ⟨3, ![10, 1, 3072]⟩
abbrev S10 : Shape := ⟨1, ![10]⟩
abbrev S1536x32768 : Shape := ⟨2, ![1536, 32768]⟩
abbrev S96x32768 : Shape := ⟨2, ![96, 32768]⟩
abbrev S3x3072x128 : Shape := ⟨3, ![3, 3072, 128]⟩
abbrev S3x2x64x16384 : Shape := ⟨4, ![3, 2, 64, 16384]⟩
abbrev S3 : Shape := ⟨1, ![3]⟩
abbrev S10x3072 : Shape := ⟨2, ![10, 3072]⟩
abbrev S10x16384 : Shape := ⟨2, ![10, 16384]⟩
abbrev S10x128 : Shape := ⟨2, ![10, 128]⟩
abbrev S1536x512 : Shape := ⟨2, ![1536, 512]⟩
abbrev S96x512 : Shape := ⟨2, ![96, 512]⟩
abbrev S3x2x64x512 : Shape := ⟨4, ![3, 2, 64, 512]⟩
abbrev S10x512 : Shape := ⟨2, ![10, 512]⟩
abbrev S12x80x256 : Shape := ⟨3, ![12, 80, 256]⟩
abbrev S2x10x192 : Shape := ⟨3, ![2, 10, 192]⟩
abbrev S6x4x16x128 : Shape := ⟨4, ![6, 4, 16, 128]⟩
abbrev S4x2x96x128 : Shape := ⟨4, ![4, 2, 96, 128]⟩
abbrev S10x256 : Shape := ⟨2, ![10, 256]⟩
abbrev S10x128x1 : Shape := ⟨3, ![10, 128, 1]⟩
abbrev S8x256 : Shape := ⟨2, ![8, 256]⟩
abbrev S1x8x256 : Shape := ⟨3, ![1, 8, 256]⟩
abbrev S10x1x256 : Shape := ⟨3, ![10, 1, 256]⟩
abbrev S10x8x256 : Shape := ⟨3, ![10, 8, 256]⟩
abbrev S80x256 : Shape := ⟨2, ![80, 256]⟩
abbrev S1x80x256 : Shape := ⟨3, ![1, 80, 256]⟩
abbrev S1 : Shape := ⟨1, ![1]⟩
abbrev S1x3072x128 : Shape := ⟨3, ![1, 3072, 128]⟩
abbrev S3072x128 : Shape := ⟨2, ![3072, 128]⟩
abbrev S10x64 : Shape := ⟨2, ![10, 64]⟩
abbrev S10x192 : Shape := ⟨2, ![10, 192]⟩
abbrev S1x10x192 : Shape := ⟨3, ![1, 10, 192]⟩
abbrev S96x128 : Shape := ⟨2, ![96, 128]⟩
abbrev S8x128 : Shape := ⟨2, ![8, 128]⟩
abbrev S1x1x8x128 : Shape := ⟨4, ![1, 1, 8, 128]⟩
abbrev S32x256 : Shape := ⟨2, ![32, 256]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S1x8x128 : Shape := ⟨3, ![1, 8, 128]⟩
abbrev S1x2x96x128 : Shape := ⟨4, ![1, 2, 96, 128]⟩
abbrev S2x96x128 : Shape := ⟨3, ![2, 96, 128]⟩
abbrev S1x10x128 : Shape := ⟨3, ![1, 10, 128]⟩
abbrev S3x1x64x256 : Shape := ⟨4, ![3, 1, 64, 256]⟩
abbrev S3x64x256 : Shape := ⟨3, ![3, 64, 256]⟩
abbrev S192x256 : Shape := ⟨2, ![192, 256]⟩

abbrev nBuf : Space → Nat
  | .hbm => 10
  | .vmem => 20
  | .smem => 2
  | _ => 0

abbrev bufTy : (tb : Table) → Fin (tcTables nBuf tb) → BufTy
  | .hbm, ⟨0, _⟩ => ⟨S10x1x3072, .bf16⟩
  | .hbm, ⟨1, _⟩ => ⟨S10, .i32⟩
  | .hbm, ⟨2, _⟩ => ⟨S1536x32768, .i8⟩
  | .hbm, ⟨3, _⟩ => ⟨S96x32768, .i8⟩
  | .hbm, ⟨4, _⟩ => ⟨S3x3072x128, .bf16⟩
  | .hbm, ⟨5, _⟩ => ⟨S3x2x64x16384, .bf16⟩
  | .hbm, ⟨6, _⟩ => ⟨S3, .f32⟩
  | .hbm, ⟨7, _⟩ => ⟨S10x3072, .bf16⟩
  | .hbm, ⟨8, _⟩ => ⟨S10x16384, .bf16⟩
  | .hbm, ⟨9, _⟩ => ⟨S10x128, .bf16⟩
  | .local _ .vmem, ⟨0, _⟩ => ⟨S10x3072, .bf16⟩
  | .local _ .vmem, ⟨1, _⟩ => ⟨S1536x512, .i8⟩
  | .local _ .vmem, ⟨2, _⟩ => ⟨S1536x512, .i8⟩
  | .local _ .vmem, ⟨3, _⟩ => ⟨S1536x512, .i8⟩
  | .local _ .vmem, ⟨4, _⟩ => ⟨S1536x512, .i8⟩
  | .local _ .vmem, ⟨5, _⟩ => ⟨S96x512, .i8⟩
  | .local _ .vmem, ⟨6, _⟩ => ⟨S96x512, .i8⟩
  | .local _ .vmem, ⟨7, _⟩ => ⟨S96x512, .i8⟩
  | .local _ .vmem, ⟨8, _⟩ => ⟨S96x512, .i8⟩
  | .local _ .vmem, ⟨9, _⟩ => ⟨S3x3072x128, .bf16⟩
  | .local _ .vmem, ⟨10, _⟩ => ⟨S3x2x64x512, .bf16⟩
  | .local _ .vmem, ⟨11, _⟩ => ⟨S3x2x64x512, .bf16⟩
  | .local _ .vmem, ⟨12, _⟩ => ⟨S10x512, .bf16⟩
  | .local _ .vmem, ⟨13, _⟩ => ⟨S10x512, .bf16⟩
  | .local _ .vmem, ⟨14, _⟩ => ⟨S10x128, .bf16⟩
  | .local _ .vmem, ⟨15, _⟩ => ⟨S12x80x256, .bf16⟩
  | .local _ .vmem, ⟨16, _⟩ => ⟨S2x10x192, .bf16⟩
  | .local _ .vmem, ⟨17, _⟩ => ⟨S6x4x16x128, .f32⟩
  | .local _ .vmem, ⟨18, _⟩ => ⟨S6x4x16x128, .f32⟩
  | .local _ .vmem, ⟨19, _⟩ => ⟨S4x2x96x128, .f32⟩
  | .local _ .smem, ⟨0, _⟩ => ⟨S10, .i32⟩
  | .local _ .smem, ⟨1, _⟩ => ⟨S3, .f32⟩
  | _, _ => ⟨S10x1x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S10 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1536x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x3072x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3x2x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S10x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S10x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GateUpReferenceIdeal.lean ====
abbrev S10x1x3072 : Shape := ⟨3, ![10, 1, 3072]⟩
abbrev S10 : Shape := ⟨1, ![10]⟩
abbrev S1536x32768 : Shape := ⟨2, ![1536, 32768]⟩
abbrev S96x32768 : Shape := ⟨2, ![96, 32768]⟩
abbrev S3x3072x128 : Shape := ⟨3, ![3, 3072, 128]⟩
abbrev S3x2x64x16384 : Shape := ⟨4, ![3, 2, 64, 16384]⟩
abbrev S3 : Shape := ⟨1, ![3]⟩
abbrev S10x3072 : Shape := ⟨2, ![10, 3072]⟩
abbrev S10x1 : Shape := ⟨2, ![10, 1]⟩
abbrev S1x3 : Shape := ⟨2, ![1, 3]⟩
abbrev S10x3 : Shape := ⟨2, ![10, 3]⟩
abbrev S_ : Shape := ⟨0, ![]⟩
abbrev S48x32768 : Shape := ⟨2, ![48, 32768]⟩
abbrev S48x32x32768 : Shape := ⟨3, ![48, 32, 32768]⟩
abbrev S48x1x32768 : Shape := ⟨3, ![48, 1, 32768]⟩
abbrev S10x1536 : Shape := ⟨2, ![10, 1536]⟩
abbrev S10x32768 : Shape := ⟨2, ![10, 32768]⟩
abbrev S10x3x128 : Shape := ⟨3, ![10, 3, 128]⟩
abbrev S10x128 : Shape := ⟨2, ![10, 128]⟩
abbrev S10x3x1x1 : Shape := ⟨4, ![10, 3, 1, 1]⟩
abbrev S10x1x2x64 : Shape := ⟨4, ![10, 1, 2, 64]⟩
abbrev S10x3x2x64 : Shape := ⟨4, ![10, 3, 2, 64]⟩
abbrev S2x16384x10 : Shape := ⟨3, ![2, 16384, 10]⟩
abbrev S10x2x16384 : Shape := ⟨3, ![10, 2, 16384]⟩
abbrev S10x1x16384 : Shape := ⟨3, ![10, 1, 16384]⟩
abbrev S10x16384 : Shape := ⟨2, ![10, 16384]⟩

abbrev nBuf : Space → Nat
  | .hbm => 155
  | .vmem => 0
  | .smem => 0
  | _ => 0

abbrev hbmTy0_0 (i : Nat) : BufTy := match i % 128 with
  | 0 => ⟨S10x1x3072, .bf16⟩
  | 1 => ⟨S10, .i32⟩
  | 2 => ⟨S1536x32768, .i8⟩
  | 3 => ⟨S96x32768, .i8⟩
  | 4 => ⟨S3x3072x128, .bf16⟩
  | 5 => ⟨S3x2x64x16384, .bf16⟩
  | 6 => ⟨S3, .f32⟩
  | 7 => ⟨S10x3072, .bf16⟩
  | 8 => ⟨S10x1, .i32⟩
  | 9 => ⟨S1x3, .i32⟩
  | 10 => ⟨S10x3, .i32⟩
  | 11 => ⟨S10x3, .i32⟩
  | 12 => ⟨S10x3, .i1⟩
  | 13 => ⟨S10x3, .f32⟩
  | 14 => ⟨S10x3, .bf16⟩
  | 15 => ⟨S_, .i32⟩
  | 16 => ⟨S10, .i32⟩
  | 17 => ⟨S10, .i1⟩
  | 18 => ⟨S_, .i32⟩
  | 19 => ⟨S10, .i32⟩
  | 20 => ⟨S10, .i32⟩
  | 21 => ⟨S10, .i32⟩
  | 22 => ⟨S10x1, .i32⟩
  | 23 => ⟨S10, .f32⟩
  | 24 => ⟨S1536x32768, .i32⟩
  | 25 => ⟨S96x32768, .i32⟩
  | 26 => ⟨S_, .i32⟩
  | 27 => ⟨S1536x32768, .i32⟩
  | 28 => ⟨S1536x32768, .i32⟩
  | 29 => ⟨S48x32768, .i32⟩
  | 30 => ⟨S48x32x32768, .i32⟩
  | 31 => ⟨S48x1x32768, .i32⟩
  | 32 => ⟨S_, .i32⟩
  | 33 => ⟨S48x32x32768, .i32⟩
  | 34 => ⟨S48x32x32768, .i32⟩
  | 35 => ⟨S_, .i32⟩
  | 36 => ⟨S48x32x32768, .i32⟩
  | 37 => ⟨S48x32x32768, .i32⟩
  | 38 => ⟨S_, .i32⟩
  | 39 => ⟨S48x1x32768, .i32⟩
  | 40 => ⟨S48x1x32768, .i32⟩
  | 41 => ⟨S_, .i32⟩
  | 42 => ⟨S48x1x32768, .i32⟩
  | 43 => ⟨S48x1x32768, .i32⟩
  | 44 => ⟨S48x32x32768, .i32⟩
  | 45 => ⟨S48x32x32768, .i32⟩
  | 46 => ⟨S_, .i32⟩
  | 47 => ⟨S48x32x32768, .i32⟩
  | 48 => ⟨S48x32x32768, .i1⟩
  | 49 => ⟨S_, .i32⟩
  | 50 => ⟨S_, .i32⟩
  | 51 => ⟨S48x32x32768, .i32⟩
  | 52 => ⟨S48x32x32768, .i32⟩
  | 53 => ⟨S48x32x32768, .i32⟩
  | 54 => ⟨S48x32x32768, .i32⟩
  | 55 => ⟨S48x32x32768, .i32⟩
  | 56 => ⟨S_, .i32⟩
  | 57 => ⟨S48x32x32768, .i32⟩
  | 58 => ⟨S48x32x32768, .i1⟩
  | 59 => ⟨S_, .i32⟩
  | 60 => ⟨S_, .i32⟩
  | 61 => ⟨S48x32x32768, .i32⟩
  | 62 => ⟨S48x32x32768, .i32⟩
  | 63 => ⟨S_, .i32⟩
  | 64 => ⟨S48x32x32768, .i32⟩
  | 65 => ⟨S48x32x32768, .i32⟩
  | 66 => ⟨S_, .i32⟩
  | 67 => ⟨S48x32x32768, .i32⟩
  | 68 => ⟨S48x32x32768, .i32⟩
  | 69 => ⟨S48x32x32768, .i32⟩
  | 70 => ⟨S48x32x32768, .i16⟩
  | 71 => ⟨S48x32x32768, .bf16⟩
  | 72 => ⟨S1536x32768, .bf16⟩
  | 73 => ⟨S_, .i32⟩
  | 74 => ⟨S1536x32768, .i32⟩
  | 75 => ⟨S1536x32768, .i32⟩
  | 76 => ⟨S48x32768, .i32⟩
  | 77 => ⟨S48x32x32768, .i32⟩
  | 78 => ⟨S48x1x32768, .i32⟩
  | 79 => ⟨S_, .i32⟩
  | 80 => ⟨S48x32x32768, .i32⟩
  | 81 => ⟨S48x32x32768, .i32⟩
  | 82 => ⟨S_, .i32⟩
  | 83 => ⟨S48x32x32768, .i32⟩
  | 84 => ⟨S48x32x32768, .i32⟩
  | 85 => ⟨S_, .i32⟩
  | 86 => ⟨S48x1x32768, .i32⟩
  | 87 => ⟨S48x1x32768, .i32⟩
  | 88 => ⟨S_, .i32⟩
  | 89 => ⟨S48x1x32768, .i32⟩
  | 90 => ⟨S48x1x32768, .i32⟩
  | 91 => ⟨S48x32x32768, .i32⟩
  | 92 => ⟨S48x32x32768, .i32⟩
  | 93 => ⟨S_, .i32⟩
  | 94 => ⟨S48x32x32768, .i32⟩
  | 95 => ⟨S48x32x32768, .i1⟩
  | 96 => ⟨S_, .i32⟩
  | 97 => ⟨S_, .i32⟩
  | 98 => ⟨S48x32x32768, .i32⟩
  | 99 => ⟨S48x32x32768, .i32⟩
  | 100 => ⟨S48x32x32768, .i32⟩
  | 101 => ⟨S48x32x32768, .i32⟩
  | 102 => ⟨S48x32x32768, .i32⟩
  | 103 => ⟨S_, .i32⟩
  | 104 => ⟨S48x32x32768, .i32⟩
  | 105 => ⟨S48x32x32768, .i1⟩
  | 106 => ⟨S_, .i32⟩
  | 107 => ⟨S_, .i32⟩
  | 108 => ⟨S48x32x32768, .i32⟩
  | 109 => ⟨S48x32x32768, .i32⟩
  | 110 => ⟨S_, .i32⟩
  | 111 => ⟨S48x32x32768, .i32⟩
  | 112 => ⟨S48x32x32768, .i32⟩
  | 113 => ⟨S_, .i32⟩
  | 114 => ⟨S48x32x32768, .i32⟩
  | 115 => ⟨S48x32x32768, .i32⟩
  | 116 => ⟨S48x32x32768, .i32⟩
  | 117 => ⟨S48x32x32768, .i16⟩
  | 118 => ⟨S48x32x32768, .bf16⟩
  | 119 => ⟨S1536x32768, .bf16⟩
  | 120 => ⟨S10x1536, .bf16⟩
  | 121 => ⟨S10x32768, .f32⟩
  | 122 => ⟨S10x1536, .bf16⟩
  | 123 => ⟨S10x32768, .f32⟩
  | 124 => ⟨S10x32768, .f32⟩
  | 125 => ⟨S10x3x128, .f32⟩
  | 126 => ⟨S10x128, .f32⟩
  | 127 => ⟨S10x1, .f32⟩
  | _ => ⟨S10x1x3072, .bf16⟩

abbrev hbmTy0_1 (i : Nat) : BufTy := match i % 128 with
  | 0 => ⟨S10x128, .f32⟩
  | 1 => ⟨S10x128, .f32⟩
  | 2 => ⟨S10x128, .bf16⟩
  | 3 => ⟨S10x3x1x1, .bf16⟩
  | 4 => ⟨S10x1x2x64, .bf16⟩
  | 5 => ⟨S10x3x2x64, .bf16⟩
  | 6 => ⟨S10x3x2x64, .bf16⟩
  | 7 => ⟨S10x3x2x64, .bf16⟩
  | 8 => ⟨S2x16384x10, .f32⟩
  | 9 => ⟨S10x2x16384, .f32⟩
  | 10 => ⟨S10x2x16384, .f32⟩
  | 11 => ⟨S10x2x16384, .f32⟩
  | 12 => ⟨S10x1x16384, .f32⟩
  | 13 => ⟨S10x16384, .f32⟩
  | 14 => ⟨S10x1x16384, .f32⟩
  | 15 => ⟨S10x16384, .f32⟩
  | 16 => ⟨S10x16384, .f32⟩
  | 17 => ⟨S10x16384, .f32⟩
  | 18 => ⟨S_, .f32⟩
  | 19 => ⟨S10x16384, .f32⟩
  | 20 => ⟨S10x16384, .f32⟩
  | 21 => ⟨S_, .f32⟩
  | 22 => ⟨S10x16384, .f32⟩
  | 23 => ⟨S10x16384, .f32⟩
  | 24 => ⟨S10x16384, .f32⟩
  | 25 => ⟨S10x16384, .f32⟩
  | 26 => ⟨S10x16384, .bf16⟩
  | _ => ⟨S10x1x3072, .bf16⟩

abbrev hbmTy (i : Nat) : BufTy := match i / 128 with
  | 0 => hbmTy0_0 i
  | 1 => hbmTy0_1 i
  | _ => ⟨S10x1x3072, .bf16⟩

abbrev bufTy : (tb : Table) → Fin (tcTables nBuf tb) → BufTy
  | .hbm, ⟨i, _⟩ => hbmTy i
  | _, _ => ⟨S10x1x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_c_8 : Ref sig .tc := ⟨.hbm, 50, rfl⟩
abbrev main_call1_v0 : Ref sig .tc := ⟨.hbm, 51, rfl⟩
abbrev main_call1_v1 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_9 : Ref sig .tc := ⟨.hbm, 56, rfl⟩
abbrev main_v32 : Ref sig .tc := ⟨.hbm, 57, rfl⟩
abbrev main_v33 : Ref sig .tc := ⟨.hbm, 58, rfl⟩
abbrev main_c_10 : Ref sig .tc := ⟨.hbm, 59, rfl⟩
abbrev main_call2_v0 : Ref sig .tc := ⟨.hbm, 60, rfl⟩
abbrev main_call2_v1 : Ref sig .tc := ⟨.hbm, 61, rfl⟩
abbrev main_v34 : Ref sig .tc := ⟨.hbm, 62, rfl⟩
abbrev main_c_11 : Ref sig .tc := ⟨.hbm, 63, rfl⟩
abbrev main_v35 : Ref sig .tc := ⟨.hbm, 64, rfl⟩
abbrev main_v36 : Ref sig .tc := ⟨.hbm, 65, rfl⟩
abbrev main_c_12 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_13 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_14 : Ref sig .tc := ⟨.hbm, 79, rfl⟩
abbrev main_v48 : Ref sig .tc := ⟨.hbm, 80, rfl⟩
abbrev main_v49 : Ref sig .tc := ⟨.hbm, 81, rfl⟩
abbrev main_c_15 : Ref sig .tc := ⟨.hbm, 82, rfl⟩
abbrev main_v50 : Ref sig .tc := ⟨.hbm, 83, rfl⟩
abbrev main_v51 : Ref sig .tc := ⟨.hbm, 84, rfl⟩
abbrev main_c_16 : Ref sig .tc := ⟨.hbm, 85, rfl⟩
abbrev main_v52 : Ref sig .tc := ⟨.hbm, 86, rfl⟩
abbrev main_v53 : Ref sig .tc := ⟨.hbm, 87, rfl⟩
abbrev main_c_17 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_18 : Ref sig .tc := ⟨.hbm, 93, rfl⟩
abbrev main_v58 : Ref sig .tc := ⟨.hbm, 94, rfl⟩
abbrev main_v59 : Ref sig .tc := ⟨.hbm, 95, rfl⟩
abbrev main_c_19 : Ref sig .tc := ⟨.hbm, 96, rfl⟩
abbrev main_c_20 : Ref sig .tc := ⟨.hbm, 97, rfl⟩
abbrev main_call3_v0 : Ref sig .tc := ⟨.hbm, 98, rfl⟩
abbrev main_call3_v1 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_c_21 : Ref sig .tc := ⟨.hbm, 103, rfl⟩
abbrev main_v63 : Ref sig .tc := ⟨.hbm, 104, rfl⟩
abbrev main_v64 : Ref sig .tc := ⟨.hbm, 105, rfl⟩
abbrev main_c_22 : Ref sig .tc := ⟨.hbm, 106, rfl⟩
abbrev main_call4_v0 : Ref sig .tc := ⟨.hbm, 107, rfl⟩
abbrev main_call4_v1 : Ref sig .tc := ⟨.hbm, 108, rfl⟩
abbrev main_v65 : Ref sig .tc := ⟨.hbm, 109, rfl⟩
abbrev main_c_23 : Ref sig .tc := ⟨.hbm, 110, rfl⟩
abbrev main_v66 : Ref sig .tc := ⟨.hbm, 111, rfl⟩
abbrev main_v67 : Ref sig .tc := ⟨.hbm, 112, rfl⟩
abbrev main_c_24 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst : Ref sig .tc := ⟨.hbm, 146, rfl⟩
abbrev main_v100 : Ref sig .tc := ⟨.hbm, 147, rfl⟩
abbrev main_v101 : Ref sig .tc := ⟨.hbm, 148, rfl⟩
abbrev main_cst_25 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩

abbrev nD : Nat := 1
abbrev τ : Topo := Topo.v7x

variable {F : FTy → Type} [FloatOps F]
-- ==== Down.lean ====
abbrev S10x16384 : Shape := ⟨2, ![10, 16384]⟩
abbrev S10 : Shape := ⟨1, ![10]⟩
abbrev S8192x3072 : Shape := ⟨2, ![8192, 3072]⟩
abbrev S512x3072 : Shape := ⟨2, ![512, 3072]⟩
abbrev S3x16384x64 : Shape := ⟨3, ![3, 16384, 64]⟩
abbrev S3x64x3072 : Shape := ⟨3, ![3, 64, 3072]⟩
abbrev S3 : Shape := ⟨1, ![3]⟩
abbrev S3x64x16384 : Shape := ⟨3, ![3, 64, 16384]⟩
abbrev S10x3072 : Shape := ⟨2, ![10, 3072]⟩
abbrev S10x64 : Shape := ⟨2, ![10, 64]⟩
abbrev S8192x256 : Shape := ⟨2, ![8192, 256]⟩
abbrev S512x256 : Shape := ⟨2, ![512, 256]⟩
abbrev S3x64x256 : Shape := ⟨3, ![3, 64, 256]⟩
abbrev S10x256 : Shape := ⟨2, ![10, 256]⟩
abbrev S64x80x256 : Shape := ⟨3, ![64, 80, 256]⟩
abbrev S10x192 : Shape := ⟨2, ![10, 192]⟩
abbrev S32x2x16x128 : Shape := ⟨4, ![32, 2, 16, 128]⟩
abbrev S2x96x128 : Shape := ⟨3, ![2, 96, 128]⟩
abbrev S10x128 : Shape := ⟨2, ![10, 128]⟩
abbrev S10x128x1 : Shape := ⟨3, ![10, 128, 1]⟩
abbrev S8x256 : Shape := ⟨2, ![8, 256]⟩
abbrev S1x8x256 : Shape := ⟨3, ![1, 8, 256]⟩
abbrev S10x1x256 : Shape := ⟨3, ![10, 1, 256]⟩
abbrev S10x8x256 : Shape := ⟨3, ![10, 8, 256]⟩
abbrev S80x256 : Shape := ⟨2, ![80, 256]⟩
abbrev S1x80x256 : Shape := ⟨3, ![1, 80, 256]⟩
abbrev S1 : Shape := ⟨1, ![1]⟩
abbrev S1x64x16384 : Shape := ⟨3, ![1, 64, 16384]⟩
abbrev S64x16384 : Shape := ⟨2, ![64, 16384]⟩
abbrev S512x128 : Shape := ⟨2, ![512, 128]⟩
abbrev S8x128 : Shape := ⟨2, ![8, 128]⟩
abbrev S1x1x8x128 : Shape := ⟨4, ![1, 1, 8, 128]⟩
abbrev S32x256 : Shape := ⟨2, ![32, 256]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S1x8x128 : Shape := ⟨3, ![1, 8, 128]⟩
abbrev S1x10x128 : Shape := ⟨3, ![1, 10, 128]⟩
abbrev S192x256 : Shape := ⟨2, ![192, 256]⟩

abbrev nBuf : Space → Nat
  | .hbm => 10
  | .vmem => 15
  | .smem => 2
  | _ => 0

abbrev bufTy : (tb : Table) → Fin (tcTables nBuf tb) → BufTy
  | .hbm, ⟨0, _⟩ => ⟨S10x16384, .bf16⟩
  | .hbm, ⟨1, _⟩ => ⟨S10, .i32⟩
  | .hbm, ⟨2, _⟩ => ⟨S8192x3072, .i8⟩
  | .hbm, ⟨3, _⟩ => ⟨S512x3072, .i8⟩
  | .hbm, ⟨4, _⟩ => ⟨S3x16384x64, .bf16⟩
  | .hbm, ⟨5, _⟩ => ⟨S3x64x3072, .bf16⟩
  | .hbm, ⟨6, _⟩ => ⟨S3, .f32⟩
  | .hbm, ⟨7, _⟩ => ⟨S3x64x16384, .bf16⟩
  | .hbm, ⟨8, _⟩ => ⟨S10x3072, .bf16⟩
  | .hbm, ⟨9, _⟩ => ⟨S10x64, .bf16⟩
  | .local _ .vmem, ⟨0, _⟩ => ⟨S10x16384, .bf16⟩
  | .local _ .vmem, ⟨1, _⟩ => ⟨S8192x256, .i8⟩
  | .local _ .vmem, ⟨2, _⟩ => ⟨S8192x256, .i8⟩
  | .local _ .vmem, ⟨3, _⟩ => ⟨S512x256, .i8⟩
  | .local _ .vmem, ⟨4, _⟩ => ⟨S512x256, .i8⟩
  | .local _ .vmem, ⟨5, _⟩ => ⟨S3x64x16384, .bf16⟩
  | .local _ .vmem, ⟨6, _⟩ => ⟨S3x64x256, .bf16⟩
  | .local _ .vmem, ⟨7, _⟩ => ⟨S3x64x256, .bf16⟩
  | .local _ .vmem, ⟨8, _⟩ => ⟨S10x256, .bf16⟩
  | .local _ .vmem, ⟨9, _⟩ => ⟨S10x256, .bf16⟩
  | .local _ .vmem, ⟨10, _⟩ => ⟨S10x64, .bf16⟩
  | .local _ .vmem, ⟨11, _⟩ => ⟨S64x80x256, .bf16⟩
  | .local _ .vmem, ⟨12, _⟩ => ⟨S10x192, .bf16⟩
  | .local _ .vmem, ⟨13, _⟩ => ⟨S32x2x16x128, .f32⟩
  | .local _ .vmem, ⟨14, _⟩ => ⟨S2x96x128, .f32⟩
  | .local _ .smem, ⟨0, _⟩ => ⟨S10, .i32⟩
  | .local _ .smem, ⟨1, _⟩ => ⟨S3, .f32⟩
  | _, _ => ⟨S10x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S10 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x64x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3x64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S10x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S10x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DownReferenceIdeal.lean ====
abbrev S10x16384 : Shape := ⟨2, ![10, 16384]⟩
abbrev S10 : Shape := ⟨1, ![10]⟩
abbrev S8192x3072 : Shape := ⟨2, ![8192, 3072]⟩
abbrev S512x3072 : Shape := ⟨2, ![512, 3072]⟩
abbrev S3x16384x64 : Shape := ⟨3, ![3, 16384, 64]⟩
abbrev S3x64x3072 : Shape := ⟨3, ![3, 64, 3072]⟩
abbrev S3 : Shape := ⟨1, ![3]⟩
abbrev S10x1 : Shape := ⟨2, ![10, 1]⟩
abbrev S1x3 : Shape := ⟨2, ![1, 3]⟩
abbrev S10x3 : Shape := ⟨2, ![10, 3]⟩
abbrev S_ : Shape := ⟨0, ![]⟩
abbrev S256x3072 : Shape := ⟨2, ![256, 3072]⟩
abbrev S256x32x3072 : Shape := ⟨3, ![256, 32, 3072]⟩
abbrev S256x1x3072 : Shape := ⟨3, ![256, 1, 3072]⟩
abbrev S10x8192 : Shape := ⟨2, ![10, 8192]⟩
abbrev S10x3072 : Shape := ⟨2, ![10, 3072]⟩
abbrev S10x3x64 : Shape := ⟨3, ![10, 3, 64]⟩
abbrev S10x64 : Shape := ⟨2, ![10, 64]⟩
abbrev S10x3x1 : Shape := ⟨3, ![10, 3, 1]⟩
abbrev S10x1x64 : Shape := ⟨3, ![10, 1, 64]⟩

abbrev nBuf : Space → Nat
  | .hbm => 138
  | .vmem => 0
  | .smem => 0
  | _ => 0

abbrev hbmTy0_0 (i : Nat) : BufTy := match i % 128 with
  | 0 => ⟨S10x16384, .bf16⟩
  | 1 => ⟨S10, .i32⟩
  | 2 => ⟨S8192x3072, .i8⟩
  | 3 => ⟨S512x3072, .i8⟩
  | 4 => ⟨S3x16384x64, .bf16⟩
  | 5 => ⟨S3x64x3072, .bf16⟩
  | 6 => ⟨S3, .f32⟩
  | 7 => ⟨S10x1, .i32⟩
  | 8 => ⟨S1x3, .i32⟩
  | 9 => ⟨S10x3, .i32⟩
  | 10 => ⟨S10x3, .i32⟩
  | 11 => ⟨S10x3, .i1⟩
  | 12 => ⟨S10x3, .f32⟩
  | 13 => ⟨S10x3, .bf16⟩
  | 14 => ⟨S_, .i32⟩
  | 15 => ⟨S10, .i32⟩
  | 16 => ⟨S10, .i1⟩
  | 17 => ⟨S_, .i32⟩
  | 18 => ⟨S10, .i32⟩
  | 19 => ⟨S10, .i32⟩
  | 20 => ⟨S10, .i32⟩
  | 21 => ⟨S10x1, .i32⟩
  | 22 => ⟨S10, .f32⟩
  | 23 => ⟨S8192x3072, .i32⟩
  | 24 => ⟨S512x3072, .i32⟩
  | 25 => ⟨S_, .i32⟩
  | 26 => ⟨S8192x3072, .i32⟩
  | 27 => ⟨S8192x3072, .i32⟩
  | 28 => ⟨S256x3072, .i32⟩
  | 29 => ⟨S256x32x3072, .i32⟩
  | 30 => ⟨S256x1x3072, .i32⟩
  | 31 => ⟨S_, .i32⟩
  | 32 => ⟨S256x32x3072, .i32⟩
  | 33 => ⟨S256x32x3072, .i32⟩
  | 34 => ⟨S_, .i32⟩
  | 35 => ⟨S256x32x3072, .i32⟩
  | 36 => ⟨S256x32x3072, .i32⟩
  | 37 => ⟨S_, .i32⟩
  | 38 => ⟨S256x1x3072, .i32⟩
  | 39 => ⟨S256x1x3072, .i32⟩
  | 40 => ⟨S_, .i32⟩
  | 41 => ⟨S256x1x3072, .i32⟩
  | 42 => ⟨S256x1x3072, .i32⟩
  | 43 => ⟨S256x32x3072, .i32⟩
  | 44 => ⟨S256x32x3072, .i32⟩
  | 45 => ⟨S_, .i32⟩
  | 46 => ⟨S256x32x3072, .i32⟩
  | 47 => ⟨S256x32x3072, .i1⟩
  | 48 => ⟨S_, .i32⟩
  | 49 => ⟨S_, .i32⟩
  | 50 => ⟨S256x32x3072, .i32⟩
  | 51 => ⟨S256x32x3072, .i32⟩
  | 52 => ⟨S256x32x3072, .i32⟩
  | 53 => ⟨S256x32x3072, .i32⟩
  | 54 => ⟨S256x32x3072, .i32⟩
  | 55 => ⟨S_, .i32⟩
  | 56 => ⟨S256x32x3072, .i32⟩
  | 57 => ⟨S256x32x3072, .i1⟩
  | 58 => ⟨S_, .i32⟩
  | 59 => ⟨S_, .i32⟩
  | 60 => ⟨S256x32x3072, .i32⟩
  | 61 => ⟨S256x32x3072, .i32⟩
  | 62 => ⟨S_, .i32⟩
  | 63 => ⟨S256x32x3072, .i32⟩
  | 64 => ⟨S256x32x3072, .i32⟩
  | 65 => ⟨S_, .i32⟩
  | 66 => ⟨S256x32x3072, .i32⟩
  | 67 => ⟨S256x32x3072, .i32⟩
  | 68 => ⟨S256x32x3072, .i32⟩
  | 69 => ⟨S256x32x3072, .i16⟩
  | 70 => ⟨S256x32x3072, .bf16⟩
  | 71 => ⟨S8192x3072, .bf16⟩
  | 72 => ⟨S_, .i32⟩
  | 73 => ⟨S8192x3072, .i32⟩
  | 74 => ⟨S8192x3072, .i32⟩
  | 75 => ⟨S256x3072, .i32⟩
  | 76 => ⟨S256x32x3072, .i32⟩
  | 77 => ⟨S256x1x3072, .i32⟩
  | 78 => ⟨S_, .i32⟩
  | 79 => ⟨S256x32x3072, .i32⟩
  | 80 => ⟨S256x32x3072, .i32⟩
  | 81 => ⟨S_, .i32⟩
  | 82 => ⟨S256x32x3072, .i32⟩
  | 83 => ⟨S256x32x3072, .i32⟩
  | 84 => ⟨S_, .i32⟩
  | 85 => ⟨S256x1x3072, .i32⟩
  | 86 => ⟨S256x1x3072, .i32⟩
  | 87 => ⟨S_, .i32⟩
  | 88 => ⟨S256x1x3072, .i32⟩
  | 89 => ⟨S256x1x3072, .i32⟩
  | 90 => ⟨S256x32x3072, .i32⟩
  | 91 => ⟨S256x32x3072, .i32⟩
  | 92 => ⟨S_, .i32⟩
  | 93 => ⟨S256x32x3072, .i32⟩
  | 94 => ⟨S256x32x3072, .i1⟩
  | 95 => ⟨S_, .i32⟩
  | 96 => ⟨S_, .i32⟩
  | 97 => ⟨S256x32x3072, .i32⟩
  | 98 => ⟨S256x32x3072, .i32⟩
  | 99 => ⟨S256x32x3072, .i32⟩
  | 100 => ⟨S256x32x3072, .i32⟩
  | 101 => ⟨S256x32x3072, .i32⟩
  | 102 => ⟨S_, .i32⟩
  | 103 => ⟨S256x32x3072, .i32⟩
  | 104 => ⟨S256x32x3072, .i1⟩
  | 105 => ⟨S_, .i32⟩
  | 106 => ⟨S_, .i32⟩
  | 107 => ⟨S256x32x3072, .i32⟩
  | 108 => ⟨S256x32x3072, .i32⟩
  | 109 => ⟨S_, .i32⟩
  | 110 => ⟨S256x32x3072, .i32⟩
  | 111 => ⟨S256x32x3072, .i32⟩
  | 112 => ⟨S_, .i32⟩
  | 113 => ⟨S256x32x3072, .i32⟩
  | 114 => ⟨S256x32x3072, .i32⟩
  | 115 => ⟨S256x32x3072, .i32⟩
  | 116 => ⟨S256x32x3072, .i16⟩
  | 117 => ⟨S256x32x3072, .bf16⟩
  | 118 => ⟨S8192x3072, .bf16⟩
  | 119 => ⟨S10x8192, .bf16⟩
  | 120 => ⟨S10x3072, .f32⟩
  | 121 => ⟨S10x8192, .bf16⟩
  | 122 => ⟨S10x3072, .f32⟩
  | 123 => ⟨S10x3072, .f32⟩
  | 124 => ⟨S10x3x64, .f32⟩
  | 125 => ⟨S10x64, .f32⟩
  | 126 => ⟨S10x1, .f32⟩
  | 127 => ⟨S10x64, .f32⟩
  | _ => ⟨S10x16384, .bf16⟩

abbrev hbmTy0_1 (i : Nat) : BufTy := match i % 128 with
  | 0 => ⟨S10x64, .f32⟩
  | 1 => ⟨S10x64, .bf16⟩
  | 2 => ⟨S10x3x1, .bf16⟩
  | 3 => ⟨S10x1x64, .bf16⟩
  | 4 => ⟨S10x3x64, .bf16⟩
  | 5 => ⟨S10x3x64, .bf16⟩
  | 6 => ⟨S10x3x64, .bf16⟩
  | 7 => ⟨S10x3072, .f32⟩
  | 8 => ⟨S10x3072, .f32⟩
  | 9 => ⟨S10x3072, .bf16⟩
  | _ => ⟨S10x16384, .bf16⟩

abbrev hbmTy (i : Nat) : BufTy := match i / 128 with
  | 0 => hbmTy0_0 i
  | 1 => hbmTy0_1 i
  | _ => ⟨S10x16384, .bf16⟩

abbrev bufTy : (tb : Table) → Fin (tcTables nBuf tb) → BufTy
  | .hbm, ⟨i, _⟩ => hbmTy i
  | _, _ => ⟨S10x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_c_8 : Ref sig .tc := ⟨.hbm, 49, rfl⟩
abbrev main_call1_v0 : Ref sig .tc := ⟨.hbm, 50, rfl⟩
abbrev main_call1_v1 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_9 : Ref sig .tc := ⟨.hbm, 55, rfl⟩
abbrev main_v31 : Ref sig .tc := ⟨.hbm, 56, rfl⟩
abbrev main_v32 : Ref sig .tc := ⟨.hbm, 57, rfl⟩
abbrev main_c_10 : Ref sig .tc := ⟨.hbm, 58, rfl⟩
abbrev main_call2_v0 : Ref sig .tc := ⟨.hbm, 59, rfl⟩
abbrev main_call2_v1 : Ref sig .tc := ⟨.hbm, 60, rfl⟩
abbrev main_v33 : Ref sig .tc := ⟨.hbm, 61, rfl⟩
abbrev main_c_11 : Ref sig .tc := ⟨.hbm, 62, rfl⟩
abbrev main_v34 : Ref sig .tc := ⟨.hbm, 63, rfl⟩
abbrev main_v35 : Ref sig .tc := ⟨.hbm, 64, rfl⟩
abbrev main_c_12 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_13 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_14 : Ref sig .tc := ⟨.hbm, 78, rfl⟩
abbrev main_v47 : Ref sig .tc := ⟨.hbm, 79, rfl⟩
abbrev main_v48 : Ref sig .tc := ⟨.hbm, 80, rfl⟩
abbrev main_c_15 : Ref sig .tc := ⟨.hbm, 81, rfl⟩
abbrev main_v49 : Ref sig .tc := ⟨.hbm, 82, rfl⟩
abbrev main_v50 : Ref sig .tc := ⟨.hbm, 83, rfl⟩
abbrev main_c_16 : Ref sig .tc := ⟨.hbm, 84, rfl⟩
abbrev main_v51 : Ref sig .tc := ⟨.hbm, 85, rfl⟩
abbrev main_v52 : Ref sig .tc := ⟨.hbm, 86, rfl⟩
abbrev main_c_17 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_18 : Ref sig .tc := ⟨.hbm, 92, rfl⟩
abbrev main_v57 : Ref sig .tc := ⟨.hbm, 93, rfl⟩
abbrev main_v58 : Ref sig .tc := ⟨.hbm, 94, rfl⟩
abbrev main_c_19 : Ref sig .tc := ⟨.hbm, 95, rfl⟩
abbrev main_c_20 : Ref sig .tc := ⟨.hbm, 96, rfl⟩
abbrev main_call3_v0 : Ref sig .tc := ⟨.hbm, 97, rfl⟩
abbrev main_call3_v1 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_c_21 : Ref sig .tc := ⟨.hbm, 102, rfl⟩
abbrev main_v62 : Ref sig .tc := ⟨.hbm, 103, rfl⟩
abbrev main_v63 : Ref sig .tc := ⟨.hbm, 104, rfl⟩
abbrev main_c_22 : Ref sig .tc := ⟨.hbm, 105, rfl⟩
abbrev main_call4_v0 : Ref sig .tc := ⟨.hbm, 106, rfl⟩
abbrev main_call4_v1 : Ref sig .tc := ⟨.hbm, 107, rfl⟩
abbrev main_v64 : Ref sig .tc := ⟨.hbm, 108, rfl⟩
abbrev main_c_23 : Ref sig .tc := ⟨.hbm, 109, rfl⟩
abbrev main_v65 : Ref sig .tc := ⟨.hbm, 110, rfl⟩
abbrev main_v66 : Ref sig .tc := ⟨.hbm, 111, rfl⟩
abbrev main_c_24 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩

abbrev nD : Nat := 1
abbrev τ : Topo := Topo.v7x

variable {F : FTy → Type} [FloatOps F]
-- ==== Proof.GateUpIdeal.Body.lean ====
/- The kernel body of `GateUpIdeal` cut at its first conditional: `initProg`, what the first grid point does before the rest
   (the skeleton's own text), and `restProg`, what every grid point does; the body is the second after the first at
   the first point (`body_first`) and the second alone at the others (`body_later`). -/
module

public import proofs.«01_k».proof.Proof.Gen.GateUpIdeal.Skeleton

@[expose] public section

set_option maxRecDepth 65536

noncomputable section

namespace Cert.GateUpIdeal.Hand

open Idealize.ShloMosaic Idealize.ShloMosaic.TcCoe Cert.GateUpIdeal.Gen
open Idealize.SL.Sem

variable {F : FTy → Type} [FloatOps F]

/-- What the first grid point does before the rest. -/
def initProg (i : grid0.Coords) (arg1 : Memref sig .tc .smem S10 .i32) (harg1 : arg1.IsWhole) (arg2 : Memref sig .tc .smem S3 .f32) (harg2 : arg2.IsWhole) (arg3 : Memref sig .tc .vmem S10x3072 .bf16) (harg3 : arg3.IsWhole) (arg4 : Memref sig .tc .vmem S1536x512 .i8) (harg4 : arg4.IsWhole) (arg5 : Memref sig .tc .vmem S1536x512 .i8) (harg5 : arg5.IsWhole) (arg6 : Memref sig .tc .vmem S96x512 .i8) (harg6 : arg6.IsWhole) (arg7 : Memref sig .tc .vmem S96x512 .i8) (harg7 : arg7.IsWhole) (arg8 : Memref sig .tc .vmem S3x3072x128 .bf16) (harg8 : arg8.IsWhole) (arg9 : Memref sig .tc .vmem S3x2x64x512 .bf16) (harg9 : arg9.IsWhole) (arg10 : Memref sig .tc .vmem S10x512 .bf16) (harg10 : arg10.IsWhole) (arg11 : Memref sig .tc .vmem S10x128 .bf16) (harg11 : arg11.IsWhole) (arg12 : Memref sig .tc .vmem S12x80x256 .bf16) (harg12 : arg12.IsWhole) (arg13 : Memref sig .tc .vmem S2x10x192 .bf16) (harg13 : arg13.IsWhole) (arg14 : Memref sig .tc .vmem S6x4x16x128 .f32) (harg14 : arg14.IsWhole) (arg15 : Memref sig .tc .vmem S6x4x16x128 .f32) (harg15 : arg15.IsWhole) (arg16 : Memref sig .tc .vmem S4x2x96x128 .f32) (harg16 : arg16.IsWhole) :
    Prog (TpuEff nD τ sig (Elt F) Λ₀ .tc) PUnit := do
  let ⟨v6075, v6120, v6121, v6126, v6131, v6134, v6135⟩ : Σ' (v6075 : IVec S10x128 32) (v6120 : FVec F S10x128 .f32) (v6121 : FVec F S10x64 .f32) (v6126 : FVec F S10x64 .f32) (v6131 : FVec F S10x64 .f32) (v6134 : IVec S10x64 1), FVec F S10x64 .f32 ← k0_part53 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  let v6139 : Vec F S1x10x192 .bf16 ← Prog.lift (.load arg13 (Rect.unit (s := S2x10x192) ![0, 0, 0] S1x10x192.size inb_S2x10x192_S1x10x192_0_0_0).toLoadRect (View.loadsAt_vmem h_S1x10x192))
  Prog.lift (.store arg13 (Rect.unit (s := S2x10x192) ![0, 0, 0] S1x10x192.size inb_S2x10x192_S1x10x192_0_0_0) (k0_pay188 v6121 v6126 v6131 v6134 v6135) Finset.univ (View.stores_vmem h_S1x10x192 (harg13.storeExact_slice rfl _ packedbf16_S2x10x192_S1x10x192_0_0_0) (fun _ => rfl)) (.inl rfl))
  let v6160 : Vec F S1x10x192 .bf16 ← Prog.lift (.load arg13 (Rect.unit (s := S2x10x192) ![1, 0, 0] S1x10x192.size inb_S2x10x192_S1x10x192_1_0_0).toLoadRect (View.loadsAt_vmem h_S1x10x192))
  Prog.lift (.store arg13 (Rect.unit (s := S2x10x192) ![1, 0, 0] S1x10x192.size inb_S2x10x192_S1x10x192_1_0_0) (k0_pay189 v6075 v6120) Finset.univ (View.stores_vmem h_S1x10x192 (harg13.storeExact_slice rfl _ packedbf16_S2x10x192_S1x10x192_1_0_0) (fun _ => rfl)) (.inl rfl))
  pure ⟨⟩

/-- Part 54 without its conditional. -/
def rest54 (i : grid0.Coords) (arg1 : Memref sig .tc .smem S10 .i32) (harg1 : arg1.IsWhole) (arg2 : Memref sig .tc .smem S3 .f32) (harg2 : arg2.IsWhole) (arg3 : Memref sig .tc .vmem S10x3072 .bf16) (harg3 : arg3.IsWhole) (arg4 : Memref sig .tc .vmem S1536x512 .i8) (harg4 : arg4.IsWhole) (arg5 : Memref sig .tc .vmem S1536x512 .i8) (harg5 : arg5.IsWhole) (arg6 : Memref sig .tc .vmem S96x512 .i8) (harg6 : arg6.IsWhole) (arg7 : Memref sig .tc .vmem S96x512 .i8) (harg7 : arg7.IsWhole) (arg8 : Memref sig .tc .vmem S3x3072x128 .bf16) (harg8 : arg8.IsWhole) (arg9 : Memref sig .tc .vmem S3x2x64x512 .bf16) (harg9 : arg9.IsWhole) (arg10 : Memref sig .tc .vmem S10x512 .bf16) (harg10 : arg10.IsWhole) (arg11 : Memref sig .tc .vmem S10x128 .bf16) (harg11 : arg11.IsWhole) (arg12 : Memref sig .tc .vmem S12x80x256 .bf16) (harg12 : arg12.IsWhole) (arg13 : Memref sig .tc .vmem S2x10x192 .bf16) (harg13 : arg13.IsWhole) (arg14 : Memref sig .tc .vmem S6x4x16x128 .f32) (harg14 : arg14.IsWhole) (arg15 : Memref sig .tc .vmem S6x4x16x128 .f32) (harg15 : arg15.IsWhole) (arg16 : Memref sig .tc .vmem S4x2x96x128 .f32) (harg16 : arg16.IsWhole) :
    Prog (TpuEff nD τ sig (Elt F) Λ₀ .tc) (FVec F S96x128 .f32) := do
  let v3 : Vec F S96x128 .i8 ← Prog.lift (.load arg6 (Rect.unit (s := S96x512) ![0, 0] S96x128.size inb_S96x512_S96x128_0_0).toLoadRect (View.loadsAt_vmem h_S96x128))
  let v9 : Vec F S1x1x8x128 .f32 ← Prog.lift (.load arg14 (Rect.unit (s := S6x4x16x128) ![0, 0, 0, 0] S1x1x8x128.size inb_S6x4x16x128_S1x1x8x128_0_0_0_0).toLoadRect (View.loadsAt_vmem h_S1x1x8x128))
  Prog.lift (.store arg14 (Rect.unit (s := S6x4x16x128) ![0, 0, 0, 0] S1x1x8x128.size inb_S6x4x16x128_S1x1x8x128_0_0_0_0) (k0_pay191 v3) Finset.univ (View.stores_vmem_bits_univ h_S1x1x8x128 rfl) (.inl rfl))
  let v13 : Vec F S1x1x8x128 .f32 ← Prog.lift (.load arg14 (Rect.unit (s := S6x4x16x128) ![0, 0, 8, 0] S1x1x8x128.size inb_S6x4x16x128_S1x1x8x128_0_0_8_0).toLoadRect (View.loadsAt_vmem h_S1x1x8x128))
  Prog.lift (.store arg14 (Rect.unit (s := S6x4x16x128) ![0, 0, 8, 0] S1x1x8x128.size inb_S6x4x16x128_S1x1x8x128_0_0_8_0) (k0_pay192 v3) Finset.univ (View.stores_vmem_bits_univ h_S1x1x8x128 rfl) (.inl rfl))
  let v17 : Vec F S1x1x8x128 .f32 ← Prog.lift (.load arg14 (Rect.unit (s := S6x4x16x128) ![1, 0, 0, 0] S1x1x8x128.size inb_S6x4x16x128_S1x1x8x128_1_0_0_0).toLoadRect (View.loadsAt_vmem h_S1x1x8x128))
  Prog.lift (.store arg14 (Rect.unit (s := S6x4x16x128) ![1, 0, 0, 0] S1x1x8x128.size inb_S6x4x16x128_S1x1x8x128_1_0_0_0) (k0_pay193 v3) Finset.univ (View.stores_vmem_bits_univ h_S1x1x8x128 rfl) (.inl rfl))
  let v21 : Vec F S1x1x8x128 .f32 ← Prog.lift (.load arg14 (Rect.unit (s := S6x4x16x128) ![1, 0, 8, 0] S1x1x8x128.size inb_S6x4x16x128_S1x1x8x128_1_0_8_0).toLoadRect (View.loadsAt_vmem h_S1x1x8x128))
  Prog.lift (.store arg14 (Rect.unit (s := S6x4x16x128) ![1, 0, 8, 0] S1x1x8x128.size inb_S6x4x16x128_S1x1x8x128_1_0_8_0) (k0_pay194 v3) Finset.univ (View.stores_vmem_bits_univ h_S1x1x8x128 rfl) (.inl rfl))
  let v25 : Vec F S1x1x8x128 .f32 ← Prog.lift (.load arg14 (Rect.unit (s := S6x4x16x128) ![2, 0, 0, 0] S1x1x8x128.size inb_S6x4x16x128_S1x1x8x128_2_0_0_0).toLoadRect (View.loadsAt_vmem h_S1x1x8x128))
  Prog.lift (.store arg14 (Rect.unit (s := S6x4x16x128) ![2, 0, 0, 0] S1x1x8x128.size inb_S6x4x16x128_S1x1x8x128_2_0_0_0) (k0_pay195 v3) Finset.univ (View.stores_vmem_bits_univ h_S1x1x8x128 rfl) (.inl rfl))
  pure (k0_pay190 v3)

/-- Part 169 without the conditional. -/
def rest169 (i : grid0.Coords) (arg1 : Memref sig .tc .smem S10 .i32) (harg1 : arg1.IsWhole) (arg2 : Memref sig .tc .smem S3 .f32) (harg2 : arg2.IsWhole) (arg3 : Memref sig .tc .vmem S10x3072 .bf16) (harg3 : arg3.IsWhole) (arg4 : Memref sig .tc .vmem S1536x512 .i8) (harg4 : arg4.IsWhole) (arg5 : Memref sig .tc .vmem S1536x512 .i8) (harg5 : arg5.IsWhole) (arg6 : Memref sig .tc .vmem S96x512 .i8) (harg6 : arg6.IsWhole) (arg7 : Memref sig .tc .vmem S96x512 .i8) (harg7 : arg7.IsWhole) (arg8 : Memref sig .tc .vmem S3x3072x128 .bf16) (harg8 : arg8.IsWhole) (arg9 : Memref sig .tc .vmem S3x2x64x512 .bf16) (harg9 : arg9.IsWhole) (arg10 : Memref sig .tc .vmem S10x512 .bf16) (harg10 : arg10.IsWhole) (arg11 : Memref sig .tc .vmem S10x128 .bf16) (harg11 : arg11.IsWhole) (arg12 : Memref sig .tc .vmem S12x80x256 .bf16) (harg12 : arg12.IsWhole) (arg13 : Memref sig .tc .vmem S2x10x192 .bf16) (harg13 : arg13.IsWhole) (arg14 : Memref sig .tc .vmem S6x4x16x128 .f32) (harg14 : arg14.IsWhole) (arg15 : Memref sig .tc .vmem S6x4x16x128 .f32) (harg15 : arg15.IsWhole) (arg16 : Memref sig .tc .vmem S4x2x96x128 .f32) (harg16 : arg16.IsWhole) :
    Prog (TpuEff nD τ sig (Elt F) Λ₀ .tc) (Σ' (v1248 : FVec F S10x256 .f32) (v1847 : FVec F S10x8x256 .f32), FVec F S10x128 .f32) := do
  let v7 : FVec F S96x128 .f32 ← rest54 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  let ⟨v52, v53⟩ : Σ' (v52 : FVec F S8x128 .f32), Vec F S1x1x8x128 .f32 ← k0_part55 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7
  let ⟨v60, v81⟩ : Σ' (v60 : FVec F S96x128 .f32), FVec F S8x128 .f32 ← k0_part56 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v52 v53
  k0_part57 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v60 v81
  let ⟨v113, v137⟩ : Σ' (v113 : FVec F S96x128 .f32), FVec F S1x1x8x128 .f32 ← k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  let ⟨v163, c23_i32_145⟩ : Σ' (v163 : IVec S96x128 32), BitVec 32 ← k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v113 v137
  let ⟨v166, v191⟩ : Σ' (v166 : FVec F S96x128 .f32), FVec F S8x128 .f32 ← k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v163 c23_i32_145
  let ⟨v219, v220⟩ : Σ' (v219 : FVec F S96x128 .f32), FVec F S8x128 .f32 ← k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v166 v191
  let v244 : FVec F S8x128 .f32 ← k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v219 v220
  let ⟨v272, v273⟩ : Σ' (v272 : FVec F S96x128 .f32), FVec F S8x128 .f32 ← k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v219 v244
  let v301 : FVec F S8x128 .f32 ← k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v272 v273
  let v325 : FVec F S96x128 .f32 ← k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v272 v301
  let ⟨v354, v355⟩ : Σ' (v354 : FVec F S8x128 .f32), Vec F S1x1x8x128 .f32 ← k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v325
  let ⟨v378, v383⟩ : Σ' (v378 : FVec F S96x128 .f32), FVec F S8x128 .f32 ← k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v325 v354 v355
  let v411 : FVec F S8x128 .f32 ← k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v378 v383
  let ⟨v440, c7_i32⟩ : Σ' (v440 : IVec S256x256 32), BitVec 32 ← k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v378 v411
  let ⟨v475, v476⟩ : Σ' (v475 : FVec F S10x8x256 .f32), Vec F S32x256 .i8 ← k0_part70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v440 c7_i32
  let v515 : FVec F S80x256 .f32 ← k0_part71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v476
  let ⟨v525, v539, v541, v543, v545, v550, c6_i32_462⟩ : Σ' (v525 : FVec F S10x8x256 .f32) (v539 : IVec S256x256 32) (v541 : IVec S256x256 32) (v543 : IVec S256x256 1) (v545 : IVec S256x256 1) (v550 : IVec S256x256 32), BitVec 32 ← k0_part72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v475 v515
  let ⟨v575, v583, v585⟩ : Σ' (v575 : FVec F S10x8x256 .f32) (v583 : IVec S128x256 32), IVec S128x256 32 ← k0_part73 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v525 v539 v541 v543 v545 v550 c6_i32_462
  let ⟨v621, v623⟩ : Σ' (v621 : FVec F S10x8x256 .f32), FVec F S10x8x256 .f32 ← k0_part74 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v583 v585
  let ⟨v625, v661⟩ : Σ' (v625 : FVec F S10x8x256 .f32), FVec F S256x256 .f32 ← k0_part75 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v575 v621 v623
  let ⟨v675, v689, v691, v693, v695, v697⟩ : Σ' (v675 : FVec F S10x8x256 .f32) (v689 : IVec S256x256 32) (v691 : IVec S256x256 32) (v693 : IVec S256x256 1) (v695 : IVec S256x256 1), IVec S256x256 1 ← k0_part76 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v625 v661
  let ⟨v725, v731⟩ : Σ' (v725 : FVec F S10x8x256 .f32), IVec S128x256 32 ← k0_part77 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v675 v689 v691 v693 v695 v697
  let ⟨v765, v767⟩ : Σ' (v765 : FVec F S80x256 .f32), FVec F S8x128 .f32 ← k0_part78 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v731
  let ⟨v775, v808⟩ : Σ' (v775 : FVec F S10x8x256 .f32), IVec S256x256 32 ← k0_part79 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v725 v765 v767
  let ⟨v825, v839, v841, v843⟩ : Σ' (v825 : FVec F S10x8x256 .f32) (v839 : IVec S256x256 32) (v841 : IVec S256x256 32), IVec S256x256 1 ← k0_part80 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v775 v808
  let ⟨v875, v876, v877⟩ : Σ' (v875 : FVec F S10x8x256 .f32) (v876 : Vec F S32x256 .i8), Vec F S32x256 .i8 ← k0_part81 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v825 v839 v841 v843
  let v915 : FVec F S80x256 .f32 ← k0_part82 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v876 v877
  let ⟨v925, v939, v953, c8_i32_684⟩ : Σ' (v925 : FVec F S10x8x256 .f32) (v939 : IVec S256x256 32) (v953 : IVec S256x256 32), BitVec 32 ← k0_part83 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v875 v915
  let ⟨v975, v989⟩ : Σ' (v975 : FVec F S10x8x256 .f32), IVec S256x256 32 ← k0_part84 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v925 v939 v953 c8_i32_684
  let ⟨v1025, v1027⟩ : Σ' (v1025 : FVec F S10x8x256 .f32), FVec F S8x128 .f32 ← k0_part85 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v975 v989
  let v1055 : FVec F S8x128 .f32 ← k0_part86 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1025 v1027
  let v1083 : FVec F S8x128 .f32 ← k0_part87 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1025 v1055
  let v1106 : FVec F S10x128 .f32 ← k0_part88 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1025 v1083
  let v1131 : FVec F S10x128 .f32 ← k0_part89 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1106
  let ⟨v1136, v1159⟩ : Σ' (v1136 : FVec F S10x128 .f32), FVec F S8x128 .f32 ← k0_part90 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1025 v1131
  let v1187 : FVec F S8x128 .f32 ← k0_part91 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1025 v1159
  let ⟨v1212, v1215⟩ : Σ' (v1212 : FVec F S10x128 .f32), Vec F S1x10x128 .f32 ← k0_part92 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1025 v1187
  let ⟨v1237, v1240⟩ : Σ' (v1237 : FVec F S10x128 .f32), Vec F S1x10x128 .f32 ← k0_part93 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1212 v1215
  let ⟨v1248, v1262, v1276⟩ : Σ' (v1248 : FVec F S10x256 .f32) (v1262 : IVec S256x256 32), IVec S256x256 32 ← k0_part94 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1136 v1237 v1240
  let ⟨v1297, v1311⟩ : Σ' (v1297 : FVec F S10x8x256 .f32), IVec S256x256 32 ← k0_part95 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1262 v1276
  let v1347 : FVec F S10x8x256 .f32 ← k0_part96 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1297 v1311
  let ⟨v1385, v1386⟩ : Σ' (v1385 : FVec F S80x256 .bf16), FVec F S256x256 .fp8e4m3 ← k0_part97 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  let ⟨v1397, v1411, v1413, v1415, v1417, v1419, v1420, v1421⟩ : Σ' (v1397 : FVec F S10x8x256 .f32) (v1411 : IVec S256x256 32) (v1413 : IVec S256x256 32) (v1415 : IVec S256x256 1) (v1417 : IVec S256x256 1) (v1419 : IVec S256x256 1) (v1420 : IVec S256x256 32), IVec S256x256 32 ← k0_part98 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1347 v1385 v1386
  let ⟨v1447, v1453, v1455, c4_i32_1108⟩ : Σ' (v1447 : FVec F S10x8x256 .f32) (v1453 : IVec S128x256 32) (v1455 : IVec S128x256 32), BitVec 32 ← k0_part99 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1397 v1411 v1413 v1415 v1417 v1419 v1420 v1421
  let ⟨v1492, v1493⟩ : Σ' (v1492 : FVec F S8x256 .f32), FVec F S10x8x256 .f32 ← k0_part100 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1453 v1455 c4_i32_1108
  let ⟨v1497, v1533⟩ : Σ' (v1497 : FVec F S10x8x256 .f32), FVec F S256x256 .f32 ← k0_part101 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1447 v1492 v1493
  let ⟨v1547, v1561, v1563, v1565, v1567, c6_i32_1176⟩ : Σ' (v1547 : FVec F S10x8x256 .f32) (v1561 : IVec S256x256 32) (v1563 : IVec S256x256 32) (v1565 : IVec S256x256 1) (v1567 : IVec S256x256 1), BitVec 32 ← k0_part102 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1497 v1533
  let ⟨v1597, v1598, v1599, v1600, v1601⟩ : Σ' (v1597 : FVec F S10x8x256 .f32) (v1598 : Vec F S32x256 .i8) (v1599 : Vec F S32x256 .i8) (v1600 : Vec F S32x256 .i8), Vec F S32x256 .i8 ← k0_part103 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1547 v1561 v1563 v1565 v1567 c6_i32_1176
  let ⟨v1637, v1639⟩ : Σ' (v1637 : FVec F S80x256 .f32), FVec F S8x128 .f32 ← k0_part104 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1598 v1599 v1600 v1601
  let ⟨v1647, v1675, v1677, v1678⟩ : Σ' (v1647 : FVec F S10x8x256 .f32) (v1675 : IVec S256x256 32) (v1677 : IVec S256x256 1), IVec S256x256 32 ← k0_part105 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1597 v1637 v1639
  let ⟨v1697, v1711, v1713, c5_i32_1270⟩ : Σ' (v1697 : FVec F S10x8x256 .f32) (v1711 : IVec S256x256 32) (v1713 : IVec S256x256 32), BitVec 32 ← k0_part106 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1647 v1675 v1677 v1678
  let ⟨v1747, v1748, v1749⟩ : Σ' (v1747 : FVec F S10x8x256 .f32) (v1748 : Vec F S32x256 .i8), Vec F S32x256 .i8 ← k0_part107 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1697 v1711 v1713 c5_i32_1270
  let v1787 : FVec F S80x256 .f32 ← k0_part108 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1748 v1749
  let ⟨v1797, v1811, v1813, v1815, v1824⟩ : Σ' (v1797 : FVec F S10x8x256 .f32) (v1811 : IVec S256x256 32) (v1813 : IVec S256x256 32) (v1815 : IVec S256x256 1), IVec S256x256 32 ← k0_part109 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1747 v1787
  let ⟨v1847, v1856⟩ : Σ' (v1847 : FVec F S10x8x256 .f32), FVec F S8x128 .f32 ← k0_part110 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1797 v1811 v1813 v1815 v1824
  let v1884 : FVec F S8x128 .f32 ← k0_part111 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1847 v1856
  let v1912 : FVec F S8x128 .f32 ← k0_part112 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1847 v1884
  let v1938 : FVec F S10x128 .f32 ← k0_part113 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1912
  pure ⟨v1248, v1847, v1938⟩

/-- What every grid point does. -/
def restProg (i : grid0.Coords) (arg1 : Memref sig .tc .smem S10 .i32) (harg1 : arg1.IsWhole) (arg2 : Memref sig .tc .smem S3 .f32) (harg2 : arg2.IsWhole) (arg3 : Memref sig .tc .vmem S10x3072 .bf16) (harg3 : arg3.IsWhole) (arg4 : Memref sig .tc .vmem S1536x512 .i8) (harg4 : arg4.IsWhole) (arg5 : Memref sig .tc .vmem S1536x512 .i8) (harg5 : arg5.IsWhole) (arg6 : Memref sig .tc .vmem S96x512 .i8) (harg6 : arg6.IsWhole) (arg7 : Memref sig .tc .vmem S96x512 .i8) (harg7 : arg7.IsWhole) (arg8 : Memref sig .tc .vmem S3x3072x128 .bf16) (harg8 : arg8.IsWhole) (arg9 : Memref sig .tc .vmem S3x2x64x512 .bf16) (harg9 : arg9.IsWhole) (arg10 : Memref sig .tc .vmem S10x512 .bf16) (harg10 : arg10.IsWhole) (arg11 : Memref sig .tc .vmem S10x128 .bf16) (harg11 : arg11.IsWhole) (arg12 : Memref sig .tc .vmem S12x80x256 .bf16) (harg12 : arg12.IsWhole) (arg13 : Memref sig .tc .vmem S2x10x192 .bf16) (harg13 : arg13.IsWhole) (arg14 : Memref sig .tc .vmem S6x4x16x128 .f32) (harg14 : arg14.IsWhole) (arg15 : Memref sig .tc .vmem S6x4x16x128 .f32) (harg15 : arg15.IsWhole) (arg16 : Memref sig .tc .vmem S4x2x96x128 .f32) (harg16 : arg16.IsWhole) :
    Prog (TpuEff nD τ sig (Elt F) Λ₀ .tc) PUnit := do
  let ⟨v1248, v1847, v1938⟩ : Σ' (v1248 : FVec F S10x256 .f32) (v1847 : FVec F S10x8x256 .f32), FVec F S10x128 .f32 ← rest169 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  let ⟨v2911, v3733, v3736, v3737⟩ : Σ' (v2911 : FVec F S10x256 .f32) (v3733 : FVec F S10x256 .f32) (v3736 : FVec F S192x256 .bf16), Vec F S3x1x64x256 .bf16 ← k0_part170 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1248 v1847 v1938
  let v3740 : Vec F S1x10x192 .bf16 ← Prog.lift (.load arg13 (Rect.unit (s := S2x10x192) ![0, 0, 0] S1x10x192.size inb_S2x10x192_S1x10x192_0_0_0).toLoadRect (View.loadsAt_vmem h_S1x10x192))
  let v3744 : Vec F S1x10x192 .bf16 ← Prog.lift (.load arg13 (Rect.unit (s := S2x10x192) ![1, 0, 0] S1x10x192.size inb_S2x10x192_S1x10x192_1_0_0).toLoadRect (View.loadsAt_vmem h_S1x10x192))
  let v3752 : Vec F S10x256 .bf16 ← Prog.lift (.load arg10 (Rect.unit (s := S10x512) ![0, 256] S10x256.size inb_S10x512_S10x256_0_256).toLoadRect (View.loadsAt_vmem h_S10x256))
  Prog.lift (.store arg10 (Rect.unit (s := S10x512) ![0, 256] S10x256.size inb_S10x512_S10x256_0_256) (k0_pay1 v2911 v3733 v3736 v3737 v3740 v3744) Finset.univ (View.stores_vmem h_S10x256 (harg10.storeExact_slice rfl _ packedbf16_S10x512_S10x256_0_256) (fun _ => rfl)) (.inl rfl))
  pure ⟨⟩

/-- At the first point the body is the rest after the first point's own part. -/
theorem body_first (i : grid0.Coords) (arg1 : Memref sig .tc .smem S10 .i32) (harg1 : arg1.IsWhole) (arg2 : Memref sig .tc .smem S3 .f32) (harg2 : arg2.IsWhole) (arg3 : Memref sig .tc .vmem S10x3072 .bf16) (harg3 : arg3.IsWhole) (arg4 : Memref sig .tc .vmem S1536x512 .i8) (harg4 : arg4.IsWhole) (arg5 : Memref sig .tc .vmem S1536x512 .i8) (harg5 : arg5.IsWhole) (arg6 : Memref sig .tc .vmem S96x512 .i8) (harg6 : arg6.IsWhole) (arg7 : Memref sig .tc .vmem S96x512 .i8) (harg7 : arg7.IsWhole) (arg8 : Memref sig .tc .vmem S3x3072x128 .bf16) (harg8 : arg8.IsWhole) (arg9 : Memref sig .tc .vmem S3x2x64x512 .bf16) (harg9 : arg9.IsWhole) (arg10 : Memref sig .tc .vmem S10x512 .bf16) (harg10 : arg10.IsWhole) (arg11 : Memref sig .tc .vmem S10x128 .bf16) (harg11 : arg11.IsWhole) (arg12 : Memref sig .tc .vmem S12x80x256 .bf16) (harg12 : arg12.IsWhole) (arg13 : Memref sig .tc .vmem S2x10x192 .bf16) (harg13 : arg13.IsWhole) (arg14 : Memref sig .tc .vmem S6x4x16x128 .f32) (harg14 : arg14.IsWhole) (arg15 : Memref sig .tc .vmem S6x4x16x128 .f32) (harg15 : arg15.IsWhole) (arg16 : Memref sig .tc .vmem S4x2x96x128 .f32) (harg16 : arg16.IsWhole) (h : k0_cond1 i = 1#1) :
    cc0_gate_up (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = (initProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 >>= fun _ => restProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) := by
  rw [cc0_gate_up_eq_skeleton]
  unfold cc0_gate_up_skel restProg

  rw [k0_part169_eq_skeleton]
  unfold k0_part169_skel rest169
  rw [k0_part54_eq_skeleton]
  unfold k0_part54_skel rest54
  rw [dif_pos h]
  simp only [Prog.bind_assoc]
  rfl

/-- At a later point the body is the rest alone. -/
theorem body_later (i : grid0.Coords) (arg1 : Memref sig .tc .smem S10 .i32) (harg1 : arg1.IsWhole) (arg2 : Memref sig .tc .smem S3 .f32) (harg2 : arg2.IsWhole) (arg3 : Memref sig .tc .vmem S10x3072 .bf16) (harg3 : arg3.IsWhole) (arg4 : Memref sig .tc .vmem S1536x512 .i8) (harg4 : arg4.IsWhole) (arg5 : Memref sig .tc .vmem S1536x512 .i8) (harg5 : arg5.IsWhole) (arg6 : Memref sig .tc .vmem S96x512 .i8) (harg6 : arg6.IsWhole) (arg7 : Memref sig .tc .vmem S96x512 .i8) (harg7 : arg7.IsWhole) (arg8 : Memref sig .tc .vmem S3x3072x128 .bf16) (harg8 : arg8.IsWhole) (arg9 : Memref sig .tc .vmem S3x2x64x512 .bf16) (harg9 : arg9.IsWhole) (arg10 : Memref sig .tc .vmem S10x512 .bf16) (harg10 : arg10.IsWhole) (arg11 : Memref sig .tc .vmem S10x128 .bf16) (harg11 : arg11.IsWhole) (arg12 : Memref sig .tc .vmem S12x80x256 .bf16) (harg12 : arg12.IsWhole) (arg13 : Memref sig .tc .vmem S2x10x192 .bf16) (harg13 : arg13.IsWhole) (arg14 : Memref sig .tc .vmem S6x4x16x128 .f32) (harg14 : arg14.IsWhole) (arg15 : Memref sig .tc .vmem S6x4x16x128 .f32) (harg15 : arg15.IsWhole) (arg16 : Memref sig .tc .vmem S4x2x96x128 .f32) (harg16 : arg16.IsWhole) (h : ¬ k0_cond1 i = 1#1) :
    cc0_gate_up (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = restProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 := by
  rw [cc0_gate_up_eq_skeleton]
  unfold cc0_gate_up_skel restProg

  rw [k0_part169_eq_skeleton]
  unfold k0_part169_skel rest169
  rw [k0_part54_eq_skeleton]
  unfold k0_part54_skel rest54
  rw [dif_neg h]

end Cert.GateUpIdeal.Hand

end
-- ==== Proof.GateUpIdeal.RestRun.lean ====
/- The rest of the kernel body run once, on any memrefs: what its stores leave in the output block is found by the run. -/
module

public import proofs.«01_k».proof.Proof.GateUpIdeal.Body
public import Idealize.ShloMosaic.Lib.Pipeline.FrameBody
public import Idealize.ShloMosaic.Lib.Ring
public import Idealize.ShloMosaic.Lib.Tactic
public import proofs.«01_k».proof.Proof.Gen.GateUpIdeal.Launch
public import proofs.«01_k».proof.Proof.Gen.GateUpIdeal.Points

@[expose] public section

set_option maxRecDepth 16384

noncomputable section

namespace Cert.GateUpIdeal.Hand

open Idealize.ShloMosaic Idealize.ShloMosaic.TcCoe Idealize.ShloMosaic.Tactic Cert.GateUpIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 9000000 in set_option sl_exec.squeezeSlice true in
/-- What the rest of the body stores into the output block, as pieces (last first), with the proof that on memrefs holding the inputs and the two carried scratches it runs to the continuation with those as they were. -/
noncomputable def restRun (c : Dev nD) (i : grid0.Coords) (arg1 : Memref sig .tc .smem S10 .i32) (harg1 : arg1.IsWhole) (arg2 : Memref sig .tc .smem S3 .f32) (harg2 : arg2.IsWhole) (arg3 : Memref sig .tc .vmem S10x3072 .bf16) (harg3 : arg3.IsWhole) (arg4 : Memref sig .tc .vmem S1536x512 .i8) (harg4 : arg4.IsWhole) (arg5 : Memref sig .tc .vmem S1536x512 .i8) (harg5 : arg5.IsWhole) (arg6 : Memref sig .tc .vmem S96x512 .i8) (harg6 : arg6.IsWhole) (arg7 : Memref sig .tc .vmem S96x512 .i8) (harg7 : arg7.IsWhole) (arg8 : Memref sig .tc .vmem S3x3072x128 .bf16) (harg8 : arg8.IsWhole) (arg9 : Memref sig .tc .vmem S3x2x64x512 .bf16) (harg9 : arg9.IsWhole) (arg10 : Memref sig .tc .vmem S10x512 .bf16) (harg10 : arg10.IsWhole) (arg11 : Memref sig .tc .vmem S10x128 .bf16) (harg11 : arg11.IsWhole) (arg12 : Memref sig .tc .vmem S12x80x256 .bf16) (harg12 : arg12.IsWhole) (arg13 : Memref sig .tc .vmem S2x10x192 .bf16) (harg13 : arg13.IsWhole) (arg14 : Memref sig .tc .vmem S6x4x16x128 .f32) (harg14 : arg14.IsWhole) (arg15 : Memref sig .tc .vmem S6x4x16x128 .f32) (harg15 : arg15.IsWhole) (arg16 : Memref sig .tc .vmem S4x2x96x128 .f32) (harg16 : arg16.IsWhole)
    (x1 : Vec F S10 .i32) (x2 : Vec F S3 .f32) (x3 : Vec F S10x3072 .bf16) (x4 : Vec F S1536x512 .i8) (x5 : Vec F S1536x512 .i8) (x6 : Vec F S96x512 .i8) (x7 : Vec F S96x512 .i8) (x8 : Vec F S3x3072x128 .bf16) (x9 : Vec F S3x2x64x512 .bf16) (x12 : Vec F S12x80x256 .bf16) (x13 : Vec F S2x10x192 .bf16) :
    { L10 : List (View.Piece (Elt F) S10x512 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg12 fullShare x12 ∗ owns (c : Thread nD τ) arg13 fullShare x13 ∗ (∃ d, owns (c : Thread nD τ) arg10 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg12 fullShare x12 ∗ owns (c : Thread nD τ) arg13 fullShare x13 ∗ (∃ f, arg10.view.loc (c : Thread nD τ) ↦[arg10.view.set]{fullShare} arg10.view.writes (Elt F) f L10) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (restProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    unfold restProg rest169 rest54
    simp only [k0_part170_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f12, %hf12, H12⟩, ⟨%f13, %hf13, H13⟩, ⟨%d10, %f10, -, H10⟩, ⟨%d14, %f14, -, H14⟩, ⟨%d15, %f15, -, H15⟩, ⟨%d16, %f16, -, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg13.eq_unread hf13
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H12]
    · iexists _; isplitr; · ipureintro; exact harg12.read_unread _
      iexact H12
    isplitl [H13]
    · iexists _; isplitr; · ipureintro; exact harg13.read_unread _
      iexact H13
    isplitl [H10]
    · iexists _; iexact H10
    isplitl [H14]
    · iexists _, _; isplitr; swap; · iexact H14
      ipureintro; rfl
    isplitl [H15]
    · iexists _, _; isplitr; swap; · iexact H15
      ipureintro; rfl
    iexists _, _; isplitr; swap; · iexact H16
    ipureintro; rfl

end Cert.GateUpIdeal.Hand

end
-- ==== Proof.GateUpIdeal.InitRun.lean ====
/- The first grid point's own part run once, on any memrefs: what its stores leave in the carried scratches and in the second output is found by the run. -/
module

public import proofs.«01_k».proof.Proof.GateUpIdeal.Body
public import Idealize.ShloMosaic.Lib.Pipeline.FrameBody
public import Idealize.ShloMosaic.Lib.Ring
public import Idealize.ShloMosaic.Lib.Tactic
public import proofs.«01_k».proof.Proof.Gen.GateUpIdeal.Launch
public import proofs.«01_k».proof.Proof.Gen.GateUpIdeal.Points

@[expose] public section

set_option maxRecDepth 16384

noncomputable section

namespace Cert.GateUpIdeal.Hand

open Idealize.ShloMosaic Idealize.ShloMosaic.TcCoe Idealize.ShloMosaic.Tactic Cert.GateUpIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 9000000 in set_option sl_exec.squeezeSlice true in
/-- What the first point's own part stores into the carried scratches and the second output, as pieces (last first), with the proof that it runs to the continuation. -/
noncomputable def initRun (c : Dev nD) (i : grid0.Coords) (arg1 : Memref sig .tc .smem S10 .i32) (harg1 : arg1.IsWhole) (arg2 : Memref sig .tc .smem S3 .f32) (harg2 : arg2.IsWhole) (arg3 : Memref sig .tc .vmem S10x3072 .bf16) (harg3 : arg3.IsWhole) (arg4 : Memref sig .tc .vmem S1536x512 .i8) (harg4 : arg4.IsWhole) (arg5 : Memref sig .tc .vmem S1536x512 .i8) (harg5 : arg5.IsWhole) (arg6 : Memref sig .tc .vmem S96x512 .i8) (harg6 : arg6.IsWhole) (arg7 : Memref sig .tc .vmem S96x512 .i8) (harg7 : arg7.IsWhole) (arg8 : Memref sig .tc .vmem S3x3072x128 .bf16) (harg8 : arg8.IsWhole) (arg9 : Memref sig .tc .vmem S3x2x64x512 .bf16) (harg9 : arg9.IsWhole) (arg10 : Memref sig .tc .vmem S10x512 .bf16) (harg10 : arg10.IsWhole) (arg11 : Memref sig .tc .vmem S10x128 .bf16) (harg11 : arg11.IsWhole) (arg12 : Memref sig .tc .vmem S12x80x256 .bf16) (harg12 : arg12.IsWhole) (arg13 : Memref sig .tc .vmem S2x10x192 .bf16) (harg13 : arg13.IsWhole) (arg14 : Memref sig .tc .vmem S6x4x16x128 .f32) (harg14 : arg14.IsWhole) (arg15 : Memref sig .tc .vmem S6x4x16x128 .f32) (harg15 : arg15.IsWhole) (arg16 : Memref sig .tc .vmem S4x2x96x128 .f32) (harg16 : arg16.IsWhole)
    (x1 : Vec F S10 .i32) (x2 : Vec F S3 .f32) (x3 : Vec F S10x3072 .bf16) (x8 : Vec F S3x3072x128 .bf16) :
    { L : List (View.Piece (Elt F) S12x80x256 .bf16) × List (View.Piece (Elt F) S2x10x192 .bf16) × List (View.Piece (Elt F) S10x128 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg8 fullShare x8 ∗ (∃ d, owns (c : Thread nD τ) arg12 fullShare d) ∗ (∃ d, owns (c : Thread nD τ) arg13 fullShare d) ∗ (∃ d, owns (c : Thread nD τ) arg11 fullShare d)
            ∗ (iprop(owns (c : Thread nD τ) arg1 fullShare x1 ∗ owns (c : Thread nD τ) arg2 fullShare x2 ∗ owns (c : Thread nD τ) arg3 fullShare x3 ∗ owns (c : Thread nD τ) arg8 fullShare x8 ∗ (∃ f, arg12.view.loc (c : Thread nD τ) ↦[arg12.view.set]{fullShare} arg12.view.writes (Elt F) f L.1) ∗ (∃ f, arg13.view.loc (c : Thread nD τ) ↦[arg13.view.set]{fullShare} arg13.view.writes (Elt F) f L.2.1) ∗ (∃ f, arg11.view.loc (c : Thread nD τ) ↦[arg11.view.set]{fullShare} arg11.view.writes (Elt F) f L.2.2)) -∗ K ⟨⟩))
          ⊢ wp frame (wpE (defs₀ (F := F)) Variants.none c none) E (initProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?_, ?_, ?_⟩, fun E K => ?run⟩
  case run =>
    unfold initProg
    simp only [k0_part53_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
    unfold owns
    iintro ⟨⟨%f1, %hf1, H1⟩, ⟨%f2, %hf2, H2⟩, ⟨%f3, %hf3, H3⟩, ⟨%f8, %hf8, H8⟩, ⟨%d12, %f12, -, H12⟩, ⟨%d13, %f13, -, H13⟩, ⟨%d11, %f11, -, H11⟩, Hk⟩
    obtain rfl := harg1.eq_unread hf1; obtain rfl := harg2.eq_unread hf2; obtain rfl := harg3.eq_unread hf3; obtain rfl := harg8.eq_unread hf8
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H8]
    · iexists _; isplitr; · ipureintro; exact harg8.read_unread _
      iexact H8
    isplitl [H12]
    · iexists _; iexact H12
    isplitl [H13]
    · iexists _; iexact H13
    iexists _; iexact H11

end Cert.GateUpIdeal.Hand

end
-- ==== Proof.GateUpIdeal.Frame.lean ====
/- The idealized kernel's frame: what the carried scratches and both outputs hold point by point, the body's obligation at every point, and the run. -/
module

public import proofs.«01_k».proof.Proof.GateUpIdeal.RestRun
public import proofs.«01_k».proof.Proof.GateUpIdeal.InitRun
public import proofs.«01_k».proof.Proof.Gen.GateUpIdeal.Frame
public import Idealize.ShloMosaic.Lib.Pipeline.TableIdle
public import Idealize.ShloMosaic.Lib.Claim

@[expose] public section

set_option maxRecDepth 16384

noncomputable section

namespace Cert.GateUpIdeal.Hand

open Idealize.ShloMosaic Idealize.ShloMosaic.TcCoe Idealize.ShloMosaic.Tactic Cert.GateUpIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S10 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10x3072 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S96x512 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S96x512 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x3072x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x2x64x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S10x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S10x128 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S12x80x256 .bf16 := Memref.whole cc0_scratch0
abbrev scM0_1 : Memref sig .tc .vmem S2x10x192 .bf16 := Memref.whole cc0_scratch1
abbrev scM0_2 : Memref sig .tc .vmem S6x4x16x128 .f32 := Memref.whole cc0_scratch2
abbrev scM0_3 : Memref sig .tc .vmem S6x4x16x128 .f32 := Memref.whole cc0_scratch3
abbrev scM0_4 : Memref sig .tc .vmem S4x2x96x128 .f32 := Memref.whole cc0_scratch4
/-- The scratch `arg12` the kernel carries between points, as a view: what it holds is stated through it. -/
abbrev VS0_0 : View sig .tc .vmem S12x80x256 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## What the carried scratches and the outputs hold -/

/-- The grid's first point. -/
def p0 : Fin cfg0.N := ⟨0, by rw [show cfg0.N = 32 from N_0]; decide⟩

/-- What the first point's own part stores, as pieces. -/
def initL (c : Dev nD) : List (View.Piece (Elt F) S12x80x256 .bf16) × List (View.Piece (Elt F) S2x10x192 .bf16) × List (View.Piece (Elt F) S10x128 .bf16) :=
  (initRun c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) scM0_0 (Memref.isWhole_whole _) scM0_1 (Memref.isWhole_whole _) scM0_2 (Memref.isWhole_whole _) scM0_3 (Memref.isWhole_whole _) scM0_4 (Memref.isWhole_whole _) (iblk m c 0 p0) (iblk m c 1 p0) (iblk m c 2 p0) (iblk m c 7 p0)).1

/-- The expanded left operand, stored at the first point and read at every point. -/
def lhs0 (c : Dev nD) : Vec F S12x80x256 .bf16 := View.canon (initL m c).1
/-- The masked low-rank product, stored at the first point and read at every point. -/
def lora0 (c : Dev nD) : Vec F S2x10x192 .bf16 := View.canon (initL m c).2.1
/-- The second output, stored at the first point. -/
def snd0 (c : Dev nD) : Vec F S10x128 .bf16 := View.canon (initL m c).2.2

/-- What a point stores into the first output's block, as pieces. -/
def restL (c : Dev nD) (t : Fin cfg0.N) : List (View.Piece (Elt F) S10x512 .bf16) :=
  (restRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (lhs0 m c) (lora0 m c)).1

/-- The first output's block after a point. -/
def blk0 (c : Dev nD) (t : Fin cfg0.N) : Vec F S10x512 .bf16 := View.canon (restL m c t)

theorem cover_lhs (c : Dev nD) (y) : ∃ p ∈ (initL m c).1, y ∈ p.1.set :=
  View.cover_of_tiledL (initL m c).1 S1x80x256.size (by unfold initL; sl_kernel_rfl) y
theorem cover_lora (c : Dev nD) (y) : ∃ p ∈ (initL m c).2.1, y ∈ p.1.set :=
  View.cover_of_tiledL (initL m c).2.1 S1x10x192.size (by unfold initL; sl_kernel_rfl) y
theorem cover_snd (c : Dev nD) (y) : ∃ p ∈ (initL m c).2.2, y ∈ p.1.set :=
  View.cover_of_tiledL (initL m c).2.2 S10x128.size (by unfold initL; sl_kernel_rfl) y
theorem cover_blk (c : Dev nD) (t : Fin cfg0.N) (y) : ∃ p ∈ restL m c t, y ∈ p.1.set :=
  View.cover_of_tiledL (restL m c t) S10x256.size (by unfold restL; sl_kernel_rfl) y

/-- The region invariant before a position: at the first every scratch at anything, later the two carried scratches at their contents. -/
def PhiS (c : Dev nD) : ℕ → sProp 𝕄
  | 0 => Pipeline.ΦA spec0 c
  | _ + 1 => iprop(iprop(owns (c : Thread nD τ) scM0_0 fullShare (lhs0 m c) ∗ owns (c : Thread nD τ) scM0_1 fullShare (lora0 m c) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiS_pos (c : Dev nD) (n : ℕ) (h : n ≠ 0) :
    PhiS m c n = iprop(iprop(owns (c : Thread nD τ) scM0_0 fullShare (lhs0 m c) ∗ owns (c : Thread nD τ) scM0_1 fullShare (lora0 m c) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl h
  | succ n => rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => blk0 m c t
    | ⟨10, _⟩ => snd0 m c
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = blk0 m c t := by dsimp only [dats]
theorem after0_10 (c : Dev nD) (t : Fin cfg0.N) : (dats m 0 c).after 10 t = snd0 m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Output 10's buffer holds something stored since the region's entry at every point but the first. -/
theorem fresh0_10 : ∀ n : ℕ, n ≠ 0 → n < 32 → cfg0.fresh 10 n = false
  | 0, h, _ => absurd rfl h
  | n + 1, _, hn => by
    have hN : cfg0.N = 32 := N_0
    have hn' : n < cfg0.N := by omega
    unfold Pipeline.Cfg.fresh
    rw [dif_pos hn']
    have hfl : (cfg0.win 10).flush ⟨n, hn'⟩ = false :=
      Bool.eq_false_iff.mpr fun h => by have := (flush0_10 _).mp h; dsimp only at this; omega
    rw [hfl, Bool.false_or]
    by_cases hz : n = 0
    · subst hz
      have h0 : cond0_0 (grid0.coords ⟨0, hn'⟩) := (hcond0_0 ⟨0, hn'⟩).mpr rfl
      have hi : cfg0.idle 10 (grid0.coords ⟨0, hn'⟩) = false := by
        show (!(k0_cond1 (grid0.coords ⟨0, hn'⟩) == 1#1)) = false
        have h0' : k0_cond1 (grid0.coords ⟨0, hn'⟩) = 1#1 := h0
        rw [h0']; rfl
      exact Bool.and_eq_false_iff.mpr (Or.inl hi)
    · exact Bool.and_eq_false_iff.mpr (Or.inr (fresh0_10 n hz (by omega)))

theorem before0_10 (c : Dev nD) (t : Fin cfg0.N) (ht : t.val ≠ 0) (d) : (dats m 0 c).before 10 t d = snd0 m c := by
  have hN : cfg0.N = 32 := N_0
  rw [Dat.before_out_traj _ 10 rfl (fun _ _ => rfl) (fun _ _ _ _ => rfl) t.val t rfl d,
    if_neg (by rw [fresh0_10 t.val ht (by have := t.isLt; omega)]; exact Bool.false_ne_true)]
  rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 12800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from rfl, PhiS_pos m c (t.val + 1) (Nat.succ_ne_zero _)]
  rw [show (dats m 0 c).Φ t.castSucc = PhiS m c t.val from rfl]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from rfl, after0_9]
  by_cases h0 : t.val = 0
  · obtain rfl : t = p0 := Fin.ext h0
    have hc : k0_cond1 (grid0.coords p0) = 1#1 := (hcond0_0 p0).mpr rfl
    rw [show (dats m 0 c).leavesExact 10 p0 = owns (c : Thread nD τ) (ms0_10 p0) fullShare ((dats m 0 c).after 10 p0) from by
      unfold Dat.leavesExact
      rw [show cfg0.idle 10 (grid0.coords p0) = false from by
        show (!(k0_cond1 (grid0.coords p0) == 1#1)) = false
        rw [hc]; rfl], after0_10]
    rw [show PhiS m c (p0 : Fin cfg0.N).val = Pipeline.ΦA spec0 c from rfl, PhiA0_eq]
    rw [body_first _ _ _ _ _ _ _ _ _ _ _ _ _ _ _ _ _ _ _ _ _ _ _ _ _ _ _ _ _ _ _ _ _ hc, wp_bind]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((initRun c (grid0.coords p0) _ _ _ _ _ _ _ _ _ _ _ _ _ _ _ _ _ _ _ _ _ _ _ _ _ _ _ _ _ _ _ _ (iblk m c 0 p0) (iblk m c 1 p0) (iblk m c 2 p0) (iblk m c 7 p0)).2 Set.univ _)
    isplitl [H0]; · iexact H0
    isplitl [H1]; · iexact H1
    isplitl [H2]; · iexact H2
    isplitl [H7]; · iexact H7
    isplitl [HS0]; · iexact HS0
    isplitl [HS1]; · iexact HS1
    isplitl [H10]; · iexists _; iexact H10
    iintro ⟨H0, H1, H2, H7, ⟨%e0, HS0⟩, ⟨%e1, HS1⟩, ⟨%e2, H10⟩⟩
    ihave HS0 := (show _ ⊢ owns (c : Thread nD τ) scM0_0 fullShare (lhs0 m c) from by
      iintro H; unfold owns; iexists _; isplitr
      swap; · iexact H
      ipureintro; exact View.read_writes_eq_canon _ _ _ (cover_lhs m c)) $$ HS0
    ihave HS1 := (show _ ⊢ owns (c : Thread nD τ) scM0_1 fullShare (lora0 m c) from by
      iintro H; unfold owns; iexists _; isplitr
      swap; · iexact H
      ipureintro; exact View.read_writes_eq_canon _ _ _ (cover_lora m c)) $$ HS1
    ihave H10 := (show _ ⊢ owns (c : Thread nD τ) (ms0_10 p0) fullShare (snd0 m c) from by
      iintro H; unfold owns; iexists _; isplitr
      swap; · iexact H
      ipureintro; exact View.read_writes_eq_canon _ _ _ (cover_snd m c)) $$ H10
    iapply ((restRun c (grid0.coords p0) _ _ _ _ _ _ _ _ _ _ _ _ _ _ _ _ _ _ _ _ _ _ _ _ _ _ _ _ _ _ _ _ (iblk m c 0 p0) (iblk m c 1 p0) (iblk m c 2 p0) (iblk m c 3 p0) (iblk m c 4 p0) (iblk m c 5 p0) (iblk m c 6 p0) (iblk m c 7 p0) (iblk m c 8 p0) (lhs0 m c) (lora0 m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [H9]; · iexists _; iexact H9
    isplitl [HS2]; · iexact HS2
    isplitl [HS3]; · iexact HS3
    isplitl [HS4]; · iexact HS4
    iintro ⟨H0, H1, H2, H3, H4, H5, H6, H7, H8, HS0, HS1, ⟨%er, H9⟩, HS2, HS3, HS4⟩
    isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_eq_canon _ _ _ (cover_blk m c p0)
    iexact H10
  · have hc : ¬ k0_cond1 (grid0.coords t) = 1#1 := fun h => h0 (by have := (hcond0_0 t).mp h; omega)
    rw [PhiS_pos m c t.val h0]
    simp only [before0_10 m c t h0]
    rw [body_later _ _ _ _ _ _ _ _ _ _ _ _ _ _ _ _ _ _ _ _ _ _ _ _ _ _ _ _ _ _ _ _ _ hc]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((restRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (lhs0 m c) (lora0 m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [H9]; · iexists _; iexact H9
    isplitl [HS2]; · iexact HS2
    isplitl [HS3]; · iexact HS3
    isplitl [HS4]; · iexact HS4
    iintro ⟨H0, H1, H2, H3, H4, H5, H6, H7, H8, HS0, HS1, ⟨%er, H9⟩, HS2, HS3, HS4⟩
    isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_eq_canon _ _ _ (cover_blk m c t)
    unfold Dat.leavesExact
    rw [show cfg0.idle 10 (cfg0.grid.coords t) = true from by
      show (!(k0_cond1 (grid0.coords t) == 1#1)) = true
      simpa using hc]
    cases hfl : (cfg0.win 10).flush t
    · dsimp only; iexists d10; rw [before0_10 m c t h0]; iexact H10
    · dsimp only; rw [after0_10]; iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  have hN : cfg0.N = 32 := N_0
  rw [show (dats m 0 c).Φ (Fin.last cfg0.N) = PhiS m c (Fin.last cfg0.N).val from rfl,
    PhiS_pos m c _ (by rw [Fin.val_last]; omega), PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexact HS2
    isplitl [HS3]
    · iexact HS3
    iexact HS4
  iexact Hg

set_option backward.isDefEq.respectTransparency.types false in
/-- The launch, with every semaphore counter of the machine at zero at every final state. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The launch: both outputs as the proof data states them, every other array unchanged. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.GateUpIdeal.Hand

end
-- ==== Proof.GateUpIdeal.Same.lean ====
/- No operation was rewritten in the idealization, so the kernel and its idealization are the same program, and the frame
   proved of the one at any float values is the frame of the other. -/
module

public import proofs.«01_k».proof.Defs
public import proofs.«01_k».proof.Proof.Gen.GateUp
public import proofs.«01_k».proof.Proof.GateUpIdeal.Frame

@[expose] public section

set_option maxRecDepth 100000
set_option maxHeartbeats 4000000

namespace Cert.GateUpClaims

open Idealize.ShloMosaic Idealize.SL.Sem

variable {F : FTy → Type} [FloatOps F]

theorem defs₀_eq : Cert.GateUp.defs₀ (F := F) = Cert.GateUpIdeal.defs₀ (F := F) := by
  refine congrArg Defs.onTc (funext fun (l : Fin 1) => funext fun a => ?_)
  match l with
  | 0 => rfl

theorem defs_eq : Cert.GateUp.defs (F := F) = Cert.GateUpIdeal.defs (F := F) :=
  congrArg (Pipeline.defs _) defs₀_eq

theorem main_eq : Cert.GateUp.main (F := F) = Cert.GateUpIdeal.main (F := F) := rfl

/-- The kernel's frame. -/
theorem bits_frame : Cert.quiescent_GateUp := fun m g _ => by
  rw [defs_eq, main_eq]
  exact Cert.GateUpIdeal.Hand.frame (F := Bits) m g

end Cert.GateUpClaims
-- ==== Proof.Mx.Tile.lean ====
/- One weight tile of the block product: its contribution to the accumulator, as the kernel's operations on vectors,
   and what that is at an index over the extended reals. -/
module

public import proofs.«01_k».proof.Proof.Gen.GateUpIdeal.Skeleton
public import Idealize.ShloMosaic.Lib.Pointwise
public import Idealize.ShloMosaic.Lib.Tactic

@[expose] public section

set_option maxRecDepth 16384

noncomputable section

namespace Cert.Mx

open Idealize.ShloMosaic Cert.GateUpIdeal Cert.GateUpIdeal.Gen

/-- Twice the e2m1 value of a code, in the kernel's words. -/
def twice (n : BitVec 32) : BitVec 32 :=
  let m := n &&& 7#32
  let v := Scalar.select (Scalar.cmpi .slt m 5#32) m (Scalar.select (Scalar.cmpi .eq m 5#32) 6#32 (Scalar.select (Scalar.cmpi .eq m 6#32) 8#32 12#32))
  Scalar.select (Scalar.cmpi .sge n 8#32) (0#32 - v) v

section
variable {F : FTy → Type} [FloatOps F]

/-- A tile's values of its codes. -/
def wTile (n : IVec S256x256 32) : FVec F S256x256 .f32 :=
  let m : IVec S256x256 32 := andi n (broadcast S256x256 7#32)
  let v : IVec S256x256 32 := select (cmpi .slt m (broadcast S256x256 5#32)) m (select (cmpi .eq m (broadcast S256x256 5#32)) (broadcast S256x256 6#32) (select (cmpi .eq m (broadcast S256x256 6#32)) (broadcast S256x256 8#32) (broadcast S256x256 12#32)))
  let w : IVec S256x256 32 := select (cmpi .sge n (broadcast S256x256 8#32)) (subi (broadcast S256x256 0#32) v) v
  mulf (sitofp .f32 w) (broadcast S256x256 (Scalar.ofBits .f32 0x3F000000#32 : F .f32))

/-- A tile's contribution: its group products, each times its group's scale. -/
def contrib (n : IVec S256x256 32) (L : Vec F S1x80x256 .bf16) (s0 s1 : Vec F S1x1x8x128 .f32) : FVec F S10x8x256 .f32 :=
  mulf (shapeCast S10x8x256 (matmul dot_S80x256_S256x256_S80x256_1_0_0_1_n_n none (shapeCast S80x256 L shapeCasts_S1x80x256_S80x256 : FVec F S80x256 .bf16)
      (truncf .fp8e4m3 (wTile n) bitsLt_fp8e4m3_f32) (constant S80x256 .f32 0x00000000#32)) shapeCasts_S80x256_S10x8x256)
    (broadcastTo S10x8x256 (shapeCast S1x8x256 (concatenate S8x256 1 [⟨S8x128, shapeCast S8x128 s0 shapeCasts_S1x1x8x128_S8x128⟩, ⟨S8x128, shapeCast S8x128 s1 shapeCasts_S1x1x8x128_S8x128⟩] concatenates_S8x128_S8x128_S8x256_d1) shapeCasts_S8x256_S1x8x256) broadcasts_S1x8x256_S10x8x256)

theorem k0_pay345_eq (acc : FVec F S10x8x256 .f32) (n : IVec S256x256 32) (L : Vec F S1x80x256 .bf16) (s0 s1 : Vec F S1x1x8x128 .f32) :
    k0_pay345 acc n L s0 s1 = addf acc (contrib n L s0 s1) := rfl

end

/-- A tile's contribution at row `b`, group `g`, column `l`. -/
theorem contrib_apply (n : IVec S256x256 32) (L : Vec Ideal S1x80x256 .bf16) (s0 s1 : Vec Ideal S1x1x8x128 .f32) (b : Fin 10) (g : Fin 8) (l : Fin 256) :
    contrib (F := Ideal) n L s0 s1 (ix3 b g l)
      = (∑ k : Fin 256, L (ix3 0 ⟨b * 8 + g, by omega⟩ k) * wTile (F := Ideal) n (ix2 k l))
        * (if h : l.val < 128 then s0 (ix4 0 0 g ⟨l, h⟩) else s1 (ix4 0 0 g ⟨l - 128, by omega⟩)) := by
  unfold contrib
  pointwise

/-- A tile's value at an index. -/
theorem wTile_apply (n : IVec S256x256 32) (j : S256x256.Idx) :
    wTile (F := Ideal) n j = (((twice (n j)).toInt : ℝ) : EReal) * Ideal.ofBits .f32 0x3F000000#32 := by
  unfold wTile twice
  pointwise
  rfl

end Cert.Mx

end
-- ==== Proof.Mx.Read.lean ====
/- What the kernel's loads read, as functions of the arrays: a slab of codes, a tile of the left operand, a group's
   scale rows, the accumulator's rows after the column scratch; and what the stores to the two kinds of scratch leave. -/
module

public import proofs.«01_k».proof.Proof.Mx.Tile
public import Idealize.ShloMosaic.Lib.Pipeline.FrameBody
public import Idealize.ShloMosaic.Lib.Pipeline.Value
public import Idealize.ShloMosaic.Lib.Pipeline.Frame

@[expose] public section

set_option maxRecDepth 16384

noncomputable section

namespace Cert.Mx

open Idealize.ShloMosaic Cert.GateUpIdeal Cert.GateUpIdeal.Gen

variable {F : FTy → Type} [FloatOps F]

/-- A load from a whole buffer of known contents reads them at the load's indices. -/
theorem readAt_whole {sig : RefSig} {κ : Kind} {sp : Space} {s : Shape} {e : EltTy} (m : Memref sig κ sp s e) (h : m.IsWhole)
    (x : s.Idx → Elt F e) (B : LoadRect s) : View.readAt (Elt F) m.view B (h.unread x) = fun j => x (B.idx j) := by
  funext j
  show m.view.read (Elt F) (h.unread x) (B.idx j) = _
  rw [h.read_unread]

/-- 32 rows and 256 columns of a code array. -/
def slab {R C : ℕ} [NeZero R] [NeZero C] (x : Vec F ⟨2, ![R, C]⟩ .i8) (r c : ℕ) : Vec F S32x256 .i8 :=
  fun j => x (ix2 (Fin.ofNat R (r + (j 0).val)) (Fin.ofNat C (c + (j 1).val)))

/-- Tile `n` of the left operand. -/
def lhsT {N : ℕ} [NeZero N] (x : Vec F ⟨3, ![N, 80, 256]⟩ .bf16) (n : ℕ) : Vec F S1x80x256 .bf16 :=
  fun j => x (ix3 (Fin.ofNat N n) (j 1) (j 2))

/-- Every second scale row from `a` on, of one tile row and lane tile of the scale scratch. -/
def sclT {Q T : ℕ} [NeZero Q] [NeZero T] (x : Vec F ⟨4, ![Q, T, 16, 128]⟩ .f32) (q t a : ℕ) : Vec F S1x1x8x128 .f32 :=
  fun j => x (ix4 (Fin.ofNat Q q) (Fin.ofNat T t) (Fin.ofNat 16 (a + 2 * (j 2).val)) (j 3))

theorem readAt_slab {sig : RefSig} {κ : Kind} {sp : Space} {R C : ℕ} [NeZero R] [NeZero C] (m : Memref sig κ sp ⟨2, ![R, C]⟩ .i8) (h : m.IsWhole)
    (x : Vec F ⟨2, ![R, C]⟩ .i8) (r c : ℕ) (inb) :
    View.readAt (Elt F) m.view (Rect.unit (s := ⟨2, ![R, C]⟩) ![r, c] S32x256.size inb).toLoadRect (h.unread x) = slab x r c := by
  rw [readAt_whole]
  have h0 : r + 32 ≤ R := inb 0
  have h1 : c + 256 ≤ C := inb 1
  funext (j : S32x256.Idx)
  have l0 : (j 0).val < 32 := (j 0).isLt
  have l1 : (j 1).val < 256 := (j 1).isLt
  unfold slab
  congr 1
  funext a
  apply Fin.ext
  match a with
  | ⟨0, _⟩ => exact Eq.trans (show _ = r + 1 * (j 0).val from rfl) (by rw [Nat.one_mul]; exact (Nat.mod_eq_of_lt (by omega)).symm)
  | ⟨1, _⟩ => exact Eq.trans (show _ = c + 1 * (j 1).val from rfl) (by rw [Nat.one_mul]; exact (Nat.mod_eq_of_lt (by omega)).symm)

theorem readAt_lhsT {sig : RefSig} {κ : Kind} {sp : Space} {N : ℕ} [NeZero N] (m : Memref sig κ sp ⟨3, ![N, 80, 256]⟩ .bf16) (h : m.IsWhole)
    (x : Vec F ⟨3, ![N, 80, 256]⟩ .bf16) (n : ℕ) (inb) :
    View.readAt (Elt F) m.view (Rect.unit (s := ⟨3, ![N, 80, 256]⟩) ![n, 0, 0] S1x80x256.size inb).toLoadRect (h.unread x) = lhsT x n := by
  rw [readAt_whole]
  have h0 : n + 1 ≤ N := inb 0
  funext (j : S1x80x256.Idx)
  have l0 : (j 0).val < 1 := (j 0).isLt
  unfold lhsT
  congr 1
  funext a
  apply Fin.ext
  match a with
  | ⟨0, _⟩ => exact Eq.trans (show _ = n + 1 * (j 0).val from rfl) (by
      have e : (j 0).val = 0 := by omega
      rw [e]; exact (Nat.mod_eq_of_lt (by omega)).symm)
  | ⟨1, _⟩ => exact Eq.trans (show _ = 0 + 1 * (j 1).val from rfl) (by rw [Nat.one_mul, Nat.zero_add]; rfl)
  | ⟨2, _⟩ => exact Eq.trans (show _ = 0 + 1 * (j 2).val from rfl) (by rw [Nat.one_mul, Nat.zero_add]; rfl)

theorem readCov_sclT {sig : RefSig} {κ : Kind} {sp : Space} {Q T : ℕ} [NeZero Q] [NeZero T] (v : View sig κ sp ⟨4, ![Q, T, 16, 128]⟩ .f32)
    (L : List (View.Piece (Elt F) ⟨4, ![Q, T, 16, 128]⟩ .f32)) (q t a : ℕ) (hq : q < Q) (ht : t < T) (ha : a < 2) (inb) :
    v.readCov L (⟨![q, t, a, 0], S1x1x8x128.size, ![1, 1, 2, 1], inb⟩ : LoadRect ⟨4, ![Q, T, 16, 128]⟩) = sclT (View.canon L) q t a := by
  rw [View.readCov_eq_canon']
  funext (j : S1x1x8x128.Idx)
  have l0 : (j 0).val < 1 := (j 0).isLt
  have l1 : (j 1).val < 1 := (j 1).isLt
  have l2 : (j 2).val < 8 := (j 2).isLt
  unfold sclT
  congr 1
  funext i
  apply Fin.ext
  match i with
  | ⟨0, _⟩ => exact Eq.trans (show _ = q + 1 * (j 0).val from rfl) (by
      have e : (j 0).val = 0 := by omega
      rw [e]; exact (Nat.mod_eq_of_lt (by omega)).symm)
  | ⟨1, _⟩ => exact Eq.trans (show _ = t + 1 * (j 1).val from rfl) (by
      have e : (j 1).val = 0 := by omega
      rw [e]; exact (Nat.mod_eq_of_lt (by omega)).symm)
  | ⟨2, _⟩ => exact Eq.trans (show _ = a + 2 * (j 2).val from rfl) (Nat.mod_eq_of_lt (by omega)).symm
  | ⟨3, _⟩ => exact Eq.trans (show _ = 0 + 1 * (j 3).val from rfl) (by rw [Nat.one_mul, Nat.zero_add]; rfl)

/-- The contents after stores of which the last ones agree with `G`, where one of those covers. -/
theorem canon_append_of_pieces {s : Shape} {e : EltTy} (G : s.Idx → Elt F e) :
    ∀ (L T : List (View.Piece (Elt F) s e)) (_ : ∀ p ∈ L, ∀ x : p.1.shape.Idx, p.2 x = G (p.1.emb x)) (y : s.Idx)
      (_ : ∃ p ∈ L, y ∈ p.1.set), View.canon (L ++ T) y = G y
  | [], _, _, _, hy => by obtain ⟨p, hp, _⟩ := hy; simp at hp
  | p :: L, T, hL, y, hy => by
    rw [List.cons_append]
    by_cases hm : y ∈ p.1.set
    · obtain ⟨x, rfl⟩ := p.1.exists_idx_of_mem hm
      rw [show p.1.idx x = p.1.emb x from rfl, View.canon_cons_emb]
      exact hL p (by simp) x
    · rw [View.canon_cons_of_not_mem _ _ hm]
      refine canon_append_of_pieces G L T (fun q hq => hL q (by simp [hq])) y ?_
      obtain ⟨q, hq, hyq⟩ := hy
      rcases List.mem_cons.mp hq with rfl | hq'
      · exact absurd hyq hm
      · exact ⟨q, hq', hyq⟩

/-- The f32 of a scale code: its bits above the mantissa. -/
def wsc {R : ℕ} (v : Vec F ⟨2, ![R, 128]⟩ .i8) : FVec F ⟨2, ![R, 128]⟩ .f32 :=
  bitcastToFloat .f32 (shli (extui 32 (v : IVec ⟨2, ![R, 128]⟩ 8) (by decide)) (broadcast ⟨2, ![R, 128]⟩ 23#32))

/-- One accumulator row block of the column scratch: row `b`, columns `128 h` on. -/
def redPay (acc : FVec F S10x8x256 .f32) (b h : ℕ) (hb : b < 10) (hh : h < 2) : FVec F S1x8x128 .f32 :=
  shapeCast S1x8x128 (shapeCast S8x128 (extractStridedSlice S1x8x128 ![b, 0, 128 * h] acc
    ⟨rfl, fun a => match a with | ⟨0, _⟩ => (by show b + 1 ≤ 10; omega) | ⟨1, _⟩ => (by show 0 + 8 ≤ 8; omega) | ⟨2, _⟩ => (by show 128 * h + 128 ≤ 256; omega)⟩)
    shapeCasts_S1x8x128_S8x128) shapeCasts_S8x128_S1x8x128

/-- Where row block `b` of a half lies in a slot. -/
abbrev redRect (h b : ℕ) (hh : h < 2) (hb : b < 10) : Rect S2x96x128 :=
  Rect.unit (s := S2x96x128) ![h, 9 * b, 0] S1x8x128.size
    (fun a => match a with | ⟨0, _⟩ => (by show h + 1 ≤ 2; omega) | ⟨1, _⟩ => (by show 9 * b + 8 ≤ 96; omega) | ⟨2, _⟩ => (by show 0 + 128 ≤ 128; omega))

/-- The store of it, into slot `s` of the scratch. -/
def redPiece {S : ℕ} (s h b : ℕ) (hs : s < S) (hh : h < 2) (hb : b < 10) (acc : FVec F S10x8x256 .f32) : View.Piece (Elt F) ⟨4, ![S, 2, 96, 128]⟩ .f32 :=
  ⟨(Rect.unit (s := ⟨4, ![S, 2, 96, 128]⟩) ![s, 0, 0, 0] S1x2x96x128.size
      (fun a => match a with | ⟨0, _⟩ => (by show s + 1 ≤ S; omega) | ⟨1, _⟩ => (by show 0 + 2 ≤ 2; omega) | ⟨2, _⟩ => (by show 0 + 96 ≤ 96; omega) | ⟨3, _⟩ => (by show 0 + 128 ≤ 128; omega))).within
    ((redRect h b hh hb).consLift ![1, 2, 96, 128] rfl (fun _ => rfl)) (fun _ => rfl),
   Rect.payAlong (r := redRect h b hh hb) (R := (redRect h b hh hb).consLift ![1, 2, 96, 128] rfl (fun _ => rfl)) ((redRect h b hh hb).numel_consLift ![1, 2, 96, 128] rfl (fun _ => rfl)) (redPay acc b h hb hh)⟩

/-- The ten stores of one half, last first. -/
def redPieces {S : ℕ} (s h : ℕ) (hs : s < S) (hh : h < 2) (acc : FVec F S10x8x256 .f32) : List (View.Piece (Elt F) ⟨4, ![S, 2, 96, 128]⟩ .f32) :=
  [redPiece s h 9 hs hh (by omega) acc, redPiece s h 8 hs hh (by omega) acc, redPiece s h 7 hs hh (by omega) acc, redPiece s h 6 hs hh (by omega) acc,
   redPiece s h 5 hs hh (by omega) acc, redPiece s h 4 hs hh (by omega) acc, redPiece s h 3 hs hh (by omega) acc, redPiece s h 2 hs hh (by omega) acc,
   redPiece s h 1 hs hh (by omega) acc, redPiece s h 0 hs hh (by omega) acc]

theorem mem_redPieces {S : ℕ} (s h b : ℕ) (hs : s < S) (hh : h < 2) (hb : b < 10) (acc : FVec F S10x8x256 .f32) :
    redPiece s h b hs hh hb acc ∈ redPieces s h hs hh acc := by
  have : b = 0 ∨ b = 1 ∨ b = 2 ∨ b = 3 ∨ b = 4 ∨ b = 5 ∨ b = 6 ∨ b = 7 ∨ b = 8 ∨ b = 9 := by omega
  rcases this with rfl | rfl | rfl | rfl | rfl | rfl | rfl | rfl | rfl | rfl <;> simp [redPieces]

theorem of_mem_redPieces {S : ℕ} (s h : ℕ) (hs : s < S) (hh : h < 2) (acc : FVec F S10x8x256 .f32) {p : View.Piece (Elt F) ⟨4, ![S, 2, 96, 128]⟩ .f32}
    (hp : p ∈ redPieces s h hs hh acc) : ∃ (b : ℕ) (hb : b < 10), p = redPiece s h b hs hh hb acc := by
  simp only [redPieces, List.mem_cons, List.not_mem_nil, or_false] at hp
  rcases hp with h | h | h | h | h | h | h | h | h | h <;> exact ⟨_, _, h⟩

/-- The scratch as a function of the accumulator: row `9 b + g`. -/
def redG {S : ℕ} (acc : FVec F S10x8x256 .f32) : Vec F ⟨4, ![S, 2, 96, 128]⟩ .f32 :=
  fun y => acc (ix3 (Fin.ofNat 10 ((y 2).val / 9)) (Fin.ofNat 8 ((y 2).val % 9)) (Fin.ofNat 256 (128 * (y 1).val + (y 3).val)))

theorem redPay_apply (acc : FVec F S10x8x256 .f32) (b h : ℕ) (hb : b < 10) (hh : h < 2) (z : S1x8x128.Idx) :
    redPay acc b h hb hh z = acc (ix3 ⟨b, hb⟩ (z 1) ⟨128 * h + (z 2).val, by have : (z 2).val < 128 := (z 2).isLt; omega⟩) := by
  unfold redPay
  idx_vars z
  pointwise

theorem redPiece_agrees {S : ℕ} (s h b : ℕ) (hs : s < S) (hh : h < 2) (hb : b < 10) (acc : FVec F S10x8x256 .f32)
    (x : (redPiece s h b hs hh hb acc).1.shape.Idx) : (redPiece s h b hs hh hb acc).2 x = redG acc ((redPiece s h b hs hh hb acc).1.emb x) := by
  have l1 : (x 1).val < 1 := (x 1).isLt
  have l2 : (x 2).val < 8 := (x 2).isLt
  have l3 : (x 3).val < 128 := (x 3).isLt
  have e := Rect.payAlong_consLift (redRect h b hh hb) ![1, 2, 96, 128] rfl (fun _ => rfl) (redPay acc b h hb hh)
      ((redRect h b hh hb).numel_consLift ![1, 2, 96, 128] rfl (fun _ => rfl)) x (ix3 ⟨(x 1).val, l1⟩ ⟨(x 2).val, l2⟩ ⟨(x 3).val, l3⟩ : S1x8x128.Idx)
      (fun i => match i with | ⟨0, _⟩ => rfl | ⟨1, _⟩ => rfl | ⟨2, _⟩ => rfl)
  refine Eq.trans e ?_
  rw [redPay_apply]
  have y1 : (((redPiece (F := F) s h b hs hh hb acc).1.emb x) 1).val = 0 + h + 1 * (x 1).val := rfl
  have y2 : (((redPiece (F := F) s h b hs hh hb acc).1.emb x) 2).val = 0 + 9 * b + 1 * (x 2).val := rfl
  have y3 : (((redPiece (F := F) s h b hs hh hb acc).1.emb x) 3).val = 0 + 0 + 1 * (x 3).val := rfl
  unfold redG
  congr 1
  funext a
  apply Fin.ext
  match a with
  | ⟨0, _⟩ => show b = (_ / 9) % 10; rw [y2]; omega
  | ⟨1, _⟩ => show (x 2).val = (_ % 9) % 8; rw [y2]; omega
  | ⟨2, _⟩ => show 128 * h + (x 3).val = (128 * _ + _) % 256; rw [y1, y3]; omega

/-- A group's rows of the accumulator, all ten, one half of the columns. -/
def redLd (acc : FVec F S10x8x256 .f32) (h g : ℕ) : Vec F S1x10x128 .f32 :=
  fun j => acc (ix3 (j 1) (Fin.ofNat 8 g) (Fin.ofNat 256 (128 * h + (j 2).val)))

/-- The strided load of a group's rows reads them off the accumulator. -/
theorem readRed {sig : RefSig} {κ : Kind} {sp : Space} {S : ℕ} (v : View sig κ sp ⟨4, ![S, 2, 96, 128]⟩ .f32) (s h g : ℕ) (hs : s < S) (hh : h < 2) (hg : g < 8)
    (acc : FVec F S10x8x256 .f32) (T : List (View.Piece (Elt F) ⟨4, ![S, 2, 96, 128]⟩ .f32)) (i1 i2 p1 p2 p3 hR) :
    LoadRect.valAlong (lr := (⟨![h, g, 0], S1x10x128.size, ![1, 9, 1], i2⟩ : LoadRect S2x96x128)) hR
      (v.readCov (redPieces s h hs hh acc ++ T) ((Rect.unit (s := ⟨4, ![S, 2, 96, 128]⟩) ![s, 0, 0, 0] S1x2x96x128.size i1).withinL
        ((⟨![h, g, 0], S1x10x128.size, ![1, 9, 1], i2⟩ : LoadRect S2x96x128).consLift ![1, 2, 96, 128] p1 p2) p3)) = redLd acc h g := by
  rw [View.readCov_eq_canon']
  funext (x : S1x10x128.Idx)
  have l0 : (x 0).val < 1 := (x 0).isLt
  have l1 : (x 1).val < 10 := (x 1).isLt
  have l2 : (x 2).val < 128 := (x 2).isLt
  show View.canon _ (LoadRect.idx _ (Shape.reshapeEquiv hR x)) = _
  have hx : Shape.reshapeEquiv hR x = Fin.cons ⟨0, Nat.one_pos⟩ x := Shape.reshapeEquiv_cons_one (d := S1x10x128.size) _ _
  rw [hx]
  generalize hy : LoadRect.idx _ _ = y
  have y0 : (y 0).val = s := by rw [← hy]; show s + 0 + 1 * 0 = s; omega
  have y1 : (y 1).val = h := by rw [← hy]; show 0 + h + 1 * (x 0).val = h; omega
  have y2 : (y 2).val = g + 9 * (x 1).val := by rw [← hy]; show 0 + g + 9 * (x 1).val = _; omega
  have y3 : (y 3).val = (x 2).val := by rw [← hy]; show 0 + 0 + 1 * (x 2).val = _; omega
  rw [canon_append_of_pieces (redG acc)]
  · unfold redG redLd
    congr 1
    funext a
    apply Fin.ext
    match a with
    | ⟨0, _⟩ => show (_ / 9) % 10 = (x 1).val; rw [y2]; omega
    | ⟨1, _⟩ => show (_ % 9) % 8 = g % 8; rw [y2]; omega
    | ⟨2, _⟩ => show (128 * _ + _) % 256 = _ % 256; rw [y1, y3]
  · intro p hp
    obtain ⟨b, hb, rfl⟩ := of_mem_redPieces s h hs hh acc hp
    exact redPiece_agrees s h b hs hh hb acc
  · refine ⟨_, mem_redPieces s h (x 1).val hs hh l1 acc, (LoadRect.mem_set _).mpr fun a => ?_⟩
    match a with
    | ⟨0, _⟩ => exact ⟨0, Nat.one_pos, by show (y 0).val = s + 0 + 1 * 0; omega⟩
    | ⟨1, _⟩ => exact ⟨0, Nat.one_pos, by show (y 1).val = 0 + h + 1 * 0; omega⟩
    | ⟨2, _⟩ => exact ⟨g, hg, by show (y 2).val = 0 + 9 * (x 1).val + 1 * g; omega⟩
    | ⟨3, _⟩ => exact ⟨(x 2).val, l2, by show (y 3).val = 0 + 0 + 1 * (x 2).val; omega⟩

/-- The scale scratch as a function of the scales: row `r` of tile row `q` is scale row `8 q + r`, or of the upper eight `8 Q + 8 q + (r - 8)`. -/
def sclG {Q T R : ℕ} [NeZero R] (f : Fin T → FVec F ⟨2, ![R, 128]⟩ .f32) : Vec F ⟨4, ![Q, T, 16, 128]⟩ .f32 :=
  fun y => f (y 1) (ix2 (Fin.ofNat R (8 * (y 0).val + ((y 2).val / 8) * (8 * Q) + (y 2).val % 8)) (y 3))

theorem sclPay_apply {R : ℕ} (o : ℕ) (ho : o + 8 ≤ R) (f : FVec F ⟨2, ![R, 128]⟩ .f32) (x : S1x1x8x128.Idx) :
    shapeCast S1x1x8x128 (extractStridedSlice S8x128 ![o, 0] f ⟨rfl, fun a => match a with | ⟨0, _⟩ => ho | ⟨1, _⟩ => (by show 0 + 128 ≤ 128; omega)⟩) shapeCasts_S8x128_S1x1x8x128 x
      = f (ix2 ⟨o + (x 2).val, by have : (x 2).val < 8 := (x 2).isLt; omega⟩ (x 3)) := by
  have b0 : (x 0).val < 1 := (x 0).isLt
  have b1 : (x 1).val < 1 := (x 1).isLt
  rw [shapeCast_apply _ _ x (ix2 (x 2) (x 3) : S8x128.Idx) (by
    rw [Shape.rowMajor_val_two, Shape.rowMajor_val_four]
    show (x 2).val * 128 + (x 3).val = (((x 0).val * 1 + (x 1).val) * 8 + (x 2).val) * 128 + (x 3).val
    omega)]
  refine extractStridedSlice_apply _ _ _ _ _ fun a => ?_
  match a with
  | ⟨0, _⟩ => rfl
  | ⟨1, _⟩ => exact (Nat.zero_add _).symm

/-- The store of eight scale rows from row `o` on into tile row `q`, lane tile `t`, rows `e` on agrees with it. -/
theorem sclPiece_agrees {Q T R : ℕ} [NeZero R] (hR : 16 * Q ≤ R) (f : Fin T → FVec F ⟨2, ![R, 128]⟩ .f32) (q t h e o : ℕ) (hq : q < Q) (ht : t < T) (hh : h < 2)
    (he : e = 8 * h) (ho : o = 8 * q + h * (8 * Q)) (inb hs)
    (x : (Rect.unit (s := ⟨4, ![Q, T, 16, 128]⟩) ![q, t, e, 0] S1x1x8x128.size inb).shape.Idx) :
    shapeCast S1x1x8x128 (extractStridedSlice S8x128 ![o, 0] (f ⟨t, ht⟩) hs) shapeCasts_S8x128_S1x1x8x128 x
      = sclG f ((Rect.unit (s := ⟨4, ![Q, T, 16, 128]⟩) ![q, t, e, 0] S1x1x8x128.size inb).emb x) := by
  subst he ho
  have b0 : (x 0).val < 1 := (x 0).isLt
  have b1 : (x 1).val < 1 := (x 1).isLt
  have b2 : (x 2).val < 8 := (x 2).isLt
  have hb : 8 * q + h * (8 * Q) + 8 ≤ R := by
    rcases (by omega : h = 0 ∨ h = 1) with rfl | rfl <;> omega
  have y1 : ((Rect.unit (s := ⟨4, ![Q, T, 16, 128]⟩) ![q, t, 8 * h, 0] S1x1x8x128.size inb).emb x) 1 = ⟨t, ht⟩ := Fin.ext (by show t + 1 * (x 1).val = t; omega)
  unfold sclG
  rw [y1]
  refine Eq.trans (sclPay_apply (8 * q + h * (8 * Q)) hb (f ⟨t, ht⟩) x) (congrArg (f ⟨t, ht⟩) (funext fun a => Fin.ext (Eq.symm ?_)))
  match a with
  | ⟨0, _⟩ =>
    show (8 * (q + 1 * (x 0).val) + ((8 * h + 1 * (x 2).val) / 8) * (8 * Q) + (8 * h + 1 * (x 2).val) % 8) % R = 8 * q + h * (8 * Q) + (x 2).val
    have e1 : (8 * h + 1 * (x 2).val) / 8 = h := by omega
    have e2 : (8 * h + 1 * (x 2).val) % 8 = (x 2).val := by omega
    have e3 : q + 1 * (x 0).val = q := by omega
    rw [e1, e2, e3]
    exact Nat.mod_eq_of_lt (by omega)
  | ⟨1, _⟩ => show 0 + 1 * (x 3).val = (x 3).val; omega

/-- A 128-column tile of scale codes. -/
def scT {R C : ℕ} [NeZero C] (x : Vec F ⟨2, ![R, C]⟩ .i8) (c : ℕ) : Vec F ⟨2, ![R, 128]⟩ .i8 :=
  fun j => x (ix2 (j 0) (Fin.ofNat C (c + (j 1).val)))

theorem readAt_scT {sig : RefSig} {κ : Kind} {sp : Space} {R C : ℕ} [NeZero C] (m : Memref sig κ sp ⟨2, ![R, C]⟩ .i8) (h : m.IsWhole)
    (x : Vec F ⟨2, ![R, C]⟩ .i8) (c : ℕ) (inb) :
    View.readAt (Elt F) m.view (Rect.unit (s := ⟨2, ![R, C]⟩) ![0, c] ![R, 128] inb).toLoadRect (h.unread x) = scT x c := by
  rw [readAt_whole]
  have h1 : c + 128 ≤ C := inb 1
  funext (j : (⟨2, ![R, 128]⟩ : Shape).Idx)
  have l1 : (j 1).val < 128 := (j 1).isLt
  unfold scT
  congr 1
  funext a
  apply Fin.ext
  match a with
  | ⟨0, _⟩ => exact Eq.trans (show _ = 0 + 1 * (j 0).val from rfl) (by rw [Nat.one_mul, Nat.zero_add]; rfl)
  | ⟨1, _⟩ => exact Eq.trans (show _ = c + 1 * (j 1).val from rfl) (by rw [Nat.one_mul]; exact (Nat.mod_eq_of_lt (by omega)).symm)

/-- The scale scratch of a block of scale codes. -/
def scG {Q T R C : ℕ} [NeZero R] [NeZero C] (x : Vec F ⟨2, ![R, C]⟩ .i8) : Vec F ⟨4, ![Q, T, 16, 128]⟩ .f32 :=
  sclG fun t => wsc (scT x (128 * t.val))

/-- As `sclPiece_agrees`, of the scale codes' tile at column `c`. -/
theorem scPiece_agrees {Q T R C : ℕ} [NeZero R] [NeZero C] (x6 : Vec F ⟨2, ![R, C]⟩ .i8) (q t e o c : ℕ) (hR : 16 * Q ≤ R) (hq : q < Q) (ht : t < T) (hh : e / 8 < 2)
    (he : e = 8 * (e / 8)) (ho : o = 8 * q + (e / 8) * (8 * Q)) (hc : c = 128 * t) (inb hs hw)
    (x : (Rect.unit (s := ⟨4, ![Q, T, 16, 128]⟩) ![q, t, e, 0] S1x1x8x128.size inb).shape.Idx) :
    shapeCast S1x1x8x128 (extractStridedSlice S8x128 ![o, 0] (bitcastToFloat (F := F) .f32 (shli (extui 32 (scT x6 c : IVec ⟨2, ![R, 128]⟩ 8) hw) (broadcast ⟨2, ![R, 128]⟩ 23#32))) hs) shapeCasts_S8x128_S1x1x8x128 x
      = scG x6 ((Rect.unit (s := ⟨4, ![Q, T, 16, 128]⟩) ![q, t, e, 0] S1x1x8x128.size inb).emb x) := by
  subst hc
  exact sclPiece_agrees hR (fun t => wsc (scT x6 (128 * t.val))) q t (e / 8) e o hq ht hh he ho inb hs x

/-- What tile `n` adds to the accumulator of the 256 columns from `c` on. -/
def tileC {R C N Q T : ℕ} [NeZero R] [NeZero C] [NeZero N] [NeZero Q] [NeZero T] (x : Vec F ⟨2, ![R, C]⟩ .i8) (L : Vec F ⟨3, ![N, 80, 256]⟩ .bf16)
    (G : Vec F ⟨4, ![Q, T, 16, 128]⟩ .f32) (c n : ℕ) : FVec F S10x8x256 .f32 :=
  contrib (k0_pay344 (slab x (256 * (n / 2) + 32 * (n % 2)) c) (slab x (256 * (n / 2) + 32 * (n % 2) + 64) c)
      (slab x (256 * (n / 2) + 32 * (n % 2) + 128) c) (slab x (256 * (n / 2) + 32 * (n % 2) + 192) c))
    (lhsT L n) (sclT G (n / 2) (c / 128) (n % 2)) (sclT G (n / 2) (c / 128 + 1) (n % 2))

/-- The accumulator after tiles `0` to `n`. -/
def accT {R C N Q T : ℕ} [NeZero R] [NeZero C] [NeZero N] [NeZero Q] [NeZero T] (x : Vec F ⟨2, ![R, C]⟩ .i8) (L : Vec F ⟨3, ![N, 80, 256]⟩ .bf16)
    (G : Vec F ⟨4, ![Q, T, 16, 128]⟩ .f32) (c : ℕ) : ℕ → FVec F S10x8x256 .f32
  | 0 => tileC x L G c 0
  | n + 1 => addf (accT x L G c n) (tileC x L G c (n + 1))

/-- The groups' sum over the first `g` groups of one half of the columns. -/
def redS (acc : FVec F S10x8x256 .f32) (h : ℕ) : ℕ → FVec F S10x128 .f32
  | 0 => broadcast S10x128 (Scalar.ofBits .f32 0x00000000#32 : F .f32)
  | g + 1 => addf (redS acc h g) (shapeCast S10x128 (redLd acc h g) shapeCasts_S1x10x128_S10x128)

/-- A column block: the groups' sum, both halves. -/
def redC (acc : FVec F S10x8x256 .f32) : FVec F S10x256 .f32 :=
  concatenate S10x256 1 [⟨S10x128, redS acc 0 8⟩, ⟨S10x128, redS acc 1 8⟩] concatenates_S10x128_S10x128_S10x256_d1

end Cert.Mx

end
-- ==== Proof.Mx.Code.lean ====
/- The e2m1 codes and the e8m0 scales, as real numbers: the kernel's two factors and the reference's one bfloat16
   pattern are the same number for every scale from 2 to 252. -/
module

public import proofs.«01_k».proof.Proof.Mx.Tile

@[expose] public section

set_option maxRecDepth 16384

noncomputable section

namespace Cert.Mx

open Idealize.ShloMosaic

/-- A code byte's nibble: the low four bits for `h = 0`, the high four otherwise. -/
def nib (c : BitVec 8) (h : ℕ) : BitVec 32 :=
  if h < 1 then IntOp.andi (c.setWidth 32) 15#32 else IntOp.shrsi .vector (c.setWidth 32) 4#32

/-- The reference's bfloat16 pattern of a nibble and a scale code. -/
def refW (n s : BitVec 32) : BitVec 16 :=
  BitVec.setWidth 16 (IntOp.ori
    (Scalar.select (IntOp.cmpi .eq (IntOp.andi n 7#32) 0#32) 0#32
      (IntOp.subi (IntOp.addi (IntOp.shli .host (IntOp.andi n 7#32) 6#32) (IntOp.shli .host (IntOp.subi s 1#32) 7#32))
        (Scalar.select (IntOp.cmpi .eq (IntOp.andi n 7#32) 1#32) 64#32 0#32)))
    (IntOp.shli .host (IntOp.andi n 8#32) 12#32))

theorem nib_hi_host : ∀ c : BitVec 8, IntOp.shrsi .host (c.setWidth 32) 4#32 = nib c 1 := by
  decide +kernel

theorem nib_small : ∀ c : BitVec 8, (∃ k : Fin 16, nib c 0 = BitVec.ofNat 32 k.val) ∧ (∃ k : Fin 16, nib c 1 = BitVec.ofNat 32 k.val) := by
  decide +kernel

theorem nib_cases (c : BitVec 8) (h : ℕ) : ∃ k : Fin 16, nib c h = BitVec.ofNat 32 k.val := by
  by_cases h0 : h < 1
  · have : h = 0 := by omega
    subst this
    exact (nib_small c).1
  · have e : nib c h = nib c 1 := by simp [nib, h0]
    rw [e]
    exact (nib_small c).2

/-- Twice the value of code `k`. -/
def twoV (k : Fin 16) : ℤ := ![0, 1, 2, 3, 4, 6, 8, 12, 0, -1, -2, -3, -4, -6, -8, -12] k

theorem twice_tab : ∀ k : Fin 16, (twice (BitVec.ofNat 32 k.val)).toInt = twoV k := by
  decide +kernel

/-- The exponent of code `k`'s value, plus 127, and its mantissa. -/
def exN (k : Fin 16) (s : ℕ) : ℕ := ![0, s - 1, s, s, s + 1, s + 1, s + 2, s + 2, 0, s - 1, s, s, s + 1, s + 1, s + 2, s + 2] k
def frN (k : Fin 16) : ℕ := ![0, 0, 0, 64, 0, 64, 0, 64, 0, 0, 0, 64, 0, 64, 0, 64] k

set_option maxHeartbeats 2000000 in
theorem bits_tab : ∀ (k : Fin 16) (s : BitVec 8), 2 ≤ s.toNat → s.toNat ≤ 252 →
    ((refW (BitVec.ofNat 32 k.val) (s.setWidth 32)).extractLsb' 15 1 == 1#1) = decide (8 ≤ k.val)
    ∧ ((refW (BitVec.ofNat 32 k.val) (s.setWidth 32)).extractLsb' 7 8).toNat = exN k s.toNat
    ∧ ((refW (BitVec.ofNat 32 k.val) (s.setWidth 32)).extractLsb' 0 7).toNat = frN k := by
  decide +kernel

/-- The kernel's scale factor of a scale code: the number whose single-precision exponent field the code is. -/
def scl (s : BitVec 8) : EReal := Ideal.ofBits .f32 (IntOp.shli .vector (s.setWidth 32) 23#32)

theorem scl_bits : ∀ s : BitVec 8, 1 ≤ s.toNat → s.toNat ≤ 254 →
    ((IntOp.shli .vector (s.setWidth 32) 23#32).extractLsb' 31 1 == 1#1) = false
    ∧ ((IntOp.shli .vector (s.setWidth 32) 23#32).extractLsb' 23 8).toNat = s.toNat
    ∧ ((IntOp.shli .vector (s.setWidth 32) 23#32).extractLsb' 0 23).toNat = 0 := by
  decide +kernel

theorem scl_eq (s : BitVec 8) (h1 : 1 ≤ s.toNat) (h2 : s.toNat ≤ 254) : scl s = (((2 : ℝ) ^ ((s.toNat : ℤ) - 127) : ℝ) : EReal) := by
  obtain ⟨e1, e2, e3⟩ := scl_bits s h1 h2
  show Ideal.ieee 8 23 (IntOp.shli .vector (s.setWidth 32) 23#32) = _
  unfold Ideal.ieee
  simp only [e1, e2, e3]
  rw [if_neg (by omega), if_neg (by omega)]
  rw [EReal.coe_eq_coe_iff]
  have : ((s.toNat : ℤ) - (2 ^ (8 - 1) - 1) - (23 : ℕ)) = ((s.toNat : ℤ) - 127) + (-23) := by norm_num; ring
  rw [this, zpow_add₀ (by norm_num)]
  norm_num
  ring

theorem half_eq : Ideal.ofBits .f32 0x3F000000#32 = ((1 / 2 : ℝ) : EReal) := by
  simp [Ideal.ofBits, Ideal.ieee, -EReal.coe_mul]; norm_num

/-- The value of a byte's nibble. -/
def codeV (c : BitVec 8) (h : ℕ) : EReal := (((twice (nib c h)).toInt : ℝ) : EReal) * Ideal.ofBits .f32 0x3F000000#32

set_option maxHeartbeats 1000000 in
/-- The fields of code `k`'s pattern denote its value, times the scale. -/
theorem fields_tab (k : Fin 16) (t : ℕ) (h1 : 2 ≤ t) :
    (exN k t = 0 ∧ frN k = 0 ∧ twoV k = 0) ∨ ∃ e : ℤ, -1 ≤ e ∧ e ≤ 2 ∧ (exN k t : ℤ) = t + e
      ∧ (if 8 ≤ k.val then (-1 : ℝ) else 1) * ((2 ^ 7 + frN k : ℕ) : ℝ) * 2 ^ (e - 7) = (twoV k : ℝ) * (1 / 2) := by
  have hm : ((t - 1 : ℕ) : ℤ) = (t : ℤ) + -1 := by omega
  have h0 : (t : ℤ) = (t : ℤ) + 0 := by omega
  fin_cases k
  case «0» => exact Or.inl ⟨rfl, rfl, rfl⟩
  case «8» => exact Or.inl ⟨rfl, rfl, rfl⟩
  case «1» => exact Or.inr ⟨-1, by norm_num, by norm_num, hm, by simp [frN, twoV]; norm_num⟩
  case «9» => exact Or.inr ⟨-1, by norm_num, by norm_num, hm, by simp [frN, twoV]; norm_num⟩
  case «2» => exact Or.inr ⟨0, by norm_num, by norm_num, h0, by simp [frN, twoV]; norm_num⟩
  case «10» => exact Or.inr ⟨0, by norm_num, by norm_num, h0, by simp [frN, twoV]; norm_num⟩
  case «3» => exact Or.inr ⟨0, by norm_num, by norm_num, h0, by simp [frN, twoV]; norm_num⟩
  case «11» => exact Or.inr ⟨0, by norm_num, by norm_num, h0, by simp [frN, twoV]; norm_num⟩
  case «4» => exact Or.inr ⟨1, by norm_num, by norm_num, rfl, by simp [frN, twoV]; norm_num⟩
  case «12» => exact Or.inr ⟨1, by norm_num, by norm_num, rfl, by simp [frN, twoV]; norm_num⟩
  case «5» => exact Or.inr ⟨1, by norm_num, by norm_num, rfl, by simp [frN, twoV]; norm_num⟩
  case «13» => exact Or.inr ⟨1, by norm_num, by norm_num, rfl, by simp [frN, twoV]; norm_num⟩
  case «6» => exact Or.inr ⟨2, by norm_num, by norm_num, rfl, by simp [frN, twoV]; norm_num⟩
  case «14» => exact Or.inr ⟨2, by norm_num, by norm_num, rfl, by simp [frN, twoV]; norm_num⟩
  case «7» => exact Or.inr ⟨2, by norm_num, by norm_num, rfl, by simp [frN, twoV]; norm_num⟩
  case «15» => exact Or.inr ⟨2, by norm_num, by norm_num, rfl, by simp [frN, twoV]; norm_num⟩

/-- The reference's pattern is the product of the nibble's value and the scale. -/
theorem refW_eq (c s : BitVec 8) (h : ℕ) (h1 : 2 ≤ s.toNat) (h2 : s.toNat ≤ 252) :
    Ideal.ofBits .bf16 (refW (nib c h) (s.setWidth 32)) = codeV c h * scl s := by
  obtain ⟨k, hk⟩ := nib_cases c h
  unfold codeV
  rw [scl_eq s (by omega) (by omega), half_eq, hk, twice_tab k, ← EReal.coe_mul, ← EReal.coe_mul]
  obtain ⟨e1, e2, e3⟩ := bits_tab k s h1 h2
  show Ideal.ieee 8 7 (refW (BitVec.ofNat 32 k.val) (s.setWidth 32)) = _
  unfold Ideal.ieee
  simp only [e1, e2, e3, decide_eq_true_eq]
  generalize s.toNat = t at *
  rcases fields_tab k t h1 with ⟨x1, x2, x3⟩ | ⟨e, l1, l2, x1, x2⟩
  · rw [x1, x2, x3, if_neg (by omega), if_pos rfl]
    norm_num
  · rw [if_neg (by omega), if_neg (by omega), ← x2]
    rw [EReal.coe_eq_coe_iff]
    have : ((exN k t : ℤ) - (2 ^ (8 - 1) - 1) - (7 : ℕ)) = (e - 7) + ((t : ℤ) - 127) := by rw [x1]; norm_num; ring
    rw [this, zpow_add₀ (by norm_num)]
    ring

/-- A scale is a positive real number. -/
theorem scl_pos (s : BitVec 8) (h1 : 2 ≤ s.toNat) (h2 : s.toNat ≤ 252) : ∃ r : ℝ, 0 < r ∧ scl s = (r : EReal) :=
  ⟨_, by positivity, scl_eq s (by omega) (by omega)⟩

end Cert.Mx

end
-- ==== Proof.Mx.Value.lean ====
/- What a column block is over the extended reals: the product of the activations' rows with the weights, each weight
   its code's value times its group's scale, the two halves of the rows apart. -/
module

public import proofs.«01_k».proof.Proof.Mx.Read
public import proofs.«01_k».proof.Proof.Mx.Code

@[expose] public section

set_option maxRecDepth 16384

noncomputable section

namespace Cert.Mx

open Idealize.ShloMosaic Cert.GateUpIdeal Cert.GateUpIdeal.Gen

/-- A matrix at two numbers. -/
def at2 {R C : ℕ} [NeZero R] [NeZero C] {α : Type} (x : (⟨2, ![R, C]⟩ : Shape).Idx → α) (r c : ℕ) : α := x (ix2 (Fin.ofNat R r) (Fin.ofNat C c))

/-- The code row, in its half, that tile `n` has at row `k`. -/
def rowN (n k : ℕ) : ℕ := 256 * (n / 2) + 32 * (n % 2) + 64 * (k / 64) + k % 64 / 2

/-- The scale row that tile `n` has for group `g`, with `Q` tile rows. -/
def srowN (Q n g : ℕ) : ℕ := 8 * (n / 2) + ((n % 2 + 2 * g) / 8) * (8 * Q) + (n % 2 + 2 * g) % 8

theorem nib_k (x : BitVec 8) (k : ℕ) : nib x (k % 2) = if k % 2 < 1 then IntOp.andi (x.setWidth 32) 15#32 else IntOp.shrsi .vector (x.setWidth 32) 4#32 := rfl

theorem codes_apply {R C : ℕ} [NeZero R] [NeZero C] (x : Vec Ideal ⟨2, ![R, C]⟩ .i8) (n c : ℕ) (k l : Fin 256) :
    k0_pay344 (F := Ideal) (slab x (256 * (n / 2) + 32 * (n % 2)) c) (slab x (256 * (n / 2) + 32 * (n % 2) + 64) c)
      (slab x (256 * (n / 2) + 32 * (n % 2) + 128) c) (slab x (256 * (n / 2) + 32 * (n % 2) + 192) c) (ix2 k l)
    = nib (at2 x (rowN n k.val) (c + l.val)) (k.val % 2) := by
  unfold k0_pay344
  pointwise
  have hk := k.isLt
  have key : (if h_1 : k.val / 2 < 32 then slab x (256 * (n / 2) + 32 * (n % 2)) c (ix2 ⟨k.val / 2, h_1⟩ l)
          else if h_2 : k.val / 2 - 32 < 32 then slab x (256 * (n / 2) + 32 * (n % 2) + 64) c (ix2 ⟨k.val / 2 - 32, h_2⟩ l)
          else if h_3 : k.val / 2 - 32 - 32 < 32 then slab x (256 * (n / 2) + 32 * (n % 2) + 128) c (ix2 ⟨k.val / 2 - 32 - 32, h_3⟩ l)
          else slab x (256 * (n / 2) + 32 * (n % 2) + 192) c (ix2 ⟨k.val / 2 - 32 - 32 - 32, by omega⟩ l)) = at2 x (rowN n k.val) (c + l.val) := by
    split_ifs with h1 h2 h3
    · exact congrArg (fun r => at2 x r (c + l.val)) (show 256 * (n / 2) + 32 * (n % 2) + k.val / 2 = rowN n k.val by unfold rowN; omega)
    · exact congrArg (fun r => at2 x r (c + l.val)) (show 256 * (n / 2) + 32 * (n % 2) + 64 + (k.val / 2 - 32) = rowN n k.val by unfold rowN; omega)
    · exact congrArg (fun r => at2 x r (c + l.val)) (show 256 * (n / 2) + 32 * (n % 2) + 128 + (k.val / 2 - 32 - 32) = rowN n k.val by unfold rowN; omega)
    · exact congrArg (fun r => at2 x r (c + l.val)) (show 256 * (n / 2) + 32 * (n % 2) + 192 + (k.val / 2 - 32 - 32 - 32) = rowN n k.val by unfold rowN; omega)
  rw [nib_k]
  by_cases h2 : k.val % 2 < 1
  · refine (dif_pos h2).trans (Eq.trans ?_ (if_pos h2).symm)
    exact congrArg (fun v : BitVec 8 => IntOp.andi (v.setWidth 32) 15#32) key
  · refine (dif_neg h2).trans (Eq.trans ?_ (if_neg h2).symm)
    exact congrArg (fun v : BitVec 8 => IntOp.shrsi .vector (v.setWidth 32) 4#32) key

theorem scale_apply {Q T R C : ℕ} [NeZero Q] [NeZero T] [NeZero R] [NeZero C] (sc : Vec Ideal ⟨2, ![R, C]⟩ .i8) (n t : ℕ) (g : Fin 8) (l : Fin 128)
    (hn : n / 2 < Q) (ht : t < T) :
    sclT (scG (Q := Q) (T := T) sc) (n / 2) t (n % 2) (ix4 0 0 g l) = scl (at2 sc (srowN Q n g.val) (128 * t + l.val)) := by
  have hg := g.isLt
  have e1 : (Fin.ofNat Q (n / 2)).val = n / 2 := Nat.mod_eq_of_lt hn
  have e2 : (Fin.ofNat T t).val = t := Nat.mod_eq_of_lt ht
  have e3 : (Fin.ofNat 16 (n % 2 + 2 * g.val)).val = n % 2 + 2 * g.val := Nat.mod_eq_of_lt (by omega)
  show scl (at2 sc (8 * (Fin.ofNat Q (n / 2)).val + ((Fin.ofNat 16 (n % 2 + 2 * g.val)).val / 8) * (8 * Q) + (Fin.ofNat 16 (n % 2 + 2 * g.val)).val % 8)
    (128 * (Fin.ofNat T t).val + l.val)) = _
  rw [e1, e2, e3]
  rfl

/-- A tile's contribution at row `b`, group `g`, column `l`. -/
theorem tileC_apply {R C N Q T SR : ℕ} [NeZero R] [NeZero C] [NeZero N] [NeZero Q] [NeZero T] [NeZero SR] (x : Vec Ideal ⟨2, ![R, C]⟩ .i8) (L : Vec Ideal ⟨3, ![N, 80, 256]⟩ .bf16)
    (sc : Vec Ideal ⟨2, ![SR, C]⟩ .i8) (c n : ℕ) (hn : n / 2 < Q) (hc : c / 128 + 1 < T) (hc2 : c % 128 = 0) (b : Fin 10) (g : Fin 8) (l : Fin 256) :
    tileC (F := Ideal) x L (scG (Q := Q) (T := T) sc) c n (ix3 b g l)
      = (∑ k : Fin 256, L (ix3 (Fin.ofNat N n) ⟨b * 8 + g, by omega⟩ k) * codeV (at2 x (rowN n k.val) (c + l.val)) (k.val % 2))
        * scl (at2 sc (srowN Q n g.val) (c + l.val)) := by
  unfold tileC
  rw [contrib_apply]
  refine congrArg₂ (· * ·) (Finset.sum_congr rfl fun k _ => ?_) ?_
  · rw [wTile_apply, codes_apply]
    rfl
  · split_ifs with h
    · rw [scale_apply sc n (c / 128) g ⟨l.val, h⟩ hn (by omega)]
      exact congrArg (fun r => scl (at2 sc (srowN Q n g.val) r)) (show 128 * (c / 128) + l.val = c + l.val by omega)
    · rw [scale_apply sc n (c / 128 + 1) g ⟨l.val - 128, by omega⟩ hn hc]
      exact congrArg (fun r => scl (at2 sc (srowN Q n g.val) r)) (show 128 * (c / 128 + 1) + (l.val - 128) = c + l.val by omega)

theorem accT_apply {R C N Q T : ℕ} [NeZero R] [NeZero C] [NeZero N] [NeZero Q] [NeZero T] (x : Vec Ideal ⟨2, ![R, C]⟩ .i8) (L : Vec Ideal ⟨3, ![N, 80, 256]⟩ .bf16)
    (G : Vec Ideal ⟨4, ![Q, T, 16, 128]⟩ .f32) (c n : ℕ) (j : S10x8x256.Idx) :
    accT (F := Ideal) x L G c n j = ∑ i ∈ Finset.range (n + 1), tileC (F := Ideal) x L G c i j := by
  induction n with
  | zero => simp [accT]
  | succ n ih => rw [Finset.sum_range_succ, ← ih]; rfl

theorem redC_apply (acc : FVec Ideal S10x8x256 .f32) (b : Fin 10) (l : Fin 256) : redC acc (ix2 b l) = ∑ g : Fin 8, acc (ix3 b g l) := by
  have hl := l.isLt
  have e (g : ℕ) (hg : g < 8) (m : ℕ) (hm : m = l.val) : acc (ix3 b (Fin.ofNat 8 g) (Fin.ofNat 256 m)) = acc (ix3 b ⟨g, hg⟩ l) := by
    subst hm
    have h1 : Fin.ofNat 8 g = ⟨g, hg⟩ := Fin.ext (Nat.mod_eq_of_lt hg)
    have h2 : Fin.ofNat 256 l.val = l := Fin.ext (Nat.mod_eq_of_lt hl)
    rw [h1, h2]
  rw [Fin.sum_univ_eight]
  unfold redC redS redS redS redS redS redS redS redS redS redLd
  pointwise
  split_ifs with h
  · rw [e 0 (by omega) _ rfl, e 1 (by omega) _ rfl, e 2 (by omega) _ rfl, e 3 (by omega) _ rfl, e 4 (by omega) _ rfl, e 5 (by omega) _ rfl, e 6 (by omega) _ rfl, e 7 (by omega) _ rfl]
    rfl
  · have h' : 128 + (l.val - 128) = l.val := by omega
    rw [e 0 (by omega) _ h', e 1 (by omega) _ h', e 2 (by omega) _ h', e 3 (by omega) _ h', e 4 (by omega) _ h', e 5 (by omega) _ h', e 6 (by omega) _ h', e 7 (by omega) _ h']
    rfl

/-- A positive real factor goes into a sum of extended reals. -/
theorem sum_mul_pos {ι : Type} (s : Finset ι) (f : ι → EReal) (r : ℝ) (hr : 0 < r) : (∑ i ∈ s, f i) * (r : EReal) = ∑ i ∈ s, f i * (r : EReal) := by
  classical
  induction s using Finset.induction_on with
  | empty => simp
  | insert a s ha ih =>
    rw [Finset.sum_insert ha, Finset.sum_insert ha, ← ih, EReal.right_distrib_of_nonneg_of_ne_top (by exact_mod_cast hr.le) (EReal.coe_ne_top r)]

/-- The tiles' rows are the two halves' rows, each once. -/
theorem sum_rows (Q R : ℕ) (hR : R = 256 * Q) (P : ℕ → ℕ → EReal) :
    (∑ n ∈ Finset.range (2 * Q), ∑ k ∈ Finset.range 256, P (k % 2) (rowN n k)) = (∑ d ∈ Finset.range R, P 0 d) + ∑ d ∈ Finset.range R, P 1 d := by
  have e : (∑ d ∈ Finset.range R, P 0 d) + ∑ d ∈ Finset.range R, P 1 d = ∑ h ∈ Finset.range 2, ∑ d ∈ Finset.range R, P h d := by
    rw [Finset.sum_range_succ, Finset.sum_range_one]
  rw [e, ← Finset.sum_product', ← Finset.sum_product']
  subst hR
  refine Finset.sum_nbij' (fun p => (p.2 % 2, rowN p.1 p.2)) (fun p => (2 * (p.2 / 256) + p.2 % 64 / 32, 64 * (p.2 % 256 / 64) + 2 * (p.2 % 32) + p.1)) ?_ ?_ ?_ ?_ ?_
  · rintro ⟨n, k⟩ hp
    simp only [Finset.mem_product, Finset.mem_range] at hp ⊢
    unfold rowN
    omega
  · rintro ⟨h, d⟩ hp
    simp only [Finset.mem_product, Finset.mem_range] at hp ⊢
    omega
  · rintro ⟨n, k⟩ hp
    simp only [Finset.mem_product, Finset.mem_range] at hp
    unfold rowN
    simp only [Prod.mk.injEq]
    omega
  · rintro ⟨h, d⟩ hp
    simp only [Finset.mem_product, Finset.mem_range] at hp
    unfold rowN
    simp only [Prod.mk.injEq]
    omega
  · rintro ⟨n, k⟩ hp
    rfl

/-- The product of row `b` with column `col`: `X` the row, `x` the codes, `sc` the scales of its groups of 32 rows, the second half's after the first's. -/
def prodV {R C SR : ℕ} [NeZero R] [NeZero C] [NeZero SR] (X : ℕ → EReal) (x : Vec Ideal ⟨2, ![R, C]⟩ .i8) (sc : Vec Ideal ⟨2, ![SR, C]⟩ .i8) (col : ℕ) : EReal :=
  (∑ d ∈ Finset.range R, X d * (codeV (at2 x d col) 0 * scl (at2 sc (d / 32) col)))
    + ∑ d ∈ Finset.range R, X (R + d) * (codeV (at2 x d col) 1 * scl (at2 sc (R / 32 + d / 32) col))

/-- A column block is the product, of a left operand whose tile `n` has row `b`'s elements at their groups' rows. -/
theorem block_value {R C N Q T SR : ℕ} [NeZero R] [NeZero C] [NeZero N] [NeZero Q] [NeZero T] [NeZero SR] (x : Vec Ideal ⟨2, ![R, C]⟩ .i8) (L : Vec Ideal ⟨3, ![N, 80, 256]⟩ .bf16)
    (sc : Vec Ideal ⟨2, ![SR, C]⟩ .i8) (c : ℕ) (hR : R = 256 * Q) (hc : c / 128 + 1 < T) (hc2 : c % 128 = 0) (X : ℕ → EReal) (b : Fin 10) (l : Fin 256)
    (hL : ∀ n, n < 2 * Q → ∀ (g : Fin 8) (k : Fin 256), L (ix3 (Fin.ofNat N n) ⟨b * 8 + g, by omega⟩ k)
      = if g.val = k.val % 2 * 4 + k.val / 64 then X (k.val % 2 * R + rowN n k.val) else 0)
    (hs : ∀ i, 2 ≤ (sc i : BitVec 8).toNat ∧ (sc i : BitVec 8).toNat ≤ 252) (m : ℕ) (hm : m + 1 = 2 * Q) :
    redC (accT (F := Ideal) x L (scG (Q := Q) (T := T) sc) c m) (ix2 b l) = prodV X x sc (c + l.val) := by
  have step (g : Fin 8) (n : ℕ) (hn : n < 2 * Q) : tileC (F := Ideal) x L (scG (Q := Q) (T := T) sc) c n (ix3 b g l)
      = ∑ k : Fin 256, if g.val = k.val % 2 * 4 + k.val / 64 then X (k.val % 2 * R + rowN n k.val) * (codeV (at2 x (rowN n k.val) (c + l.val)) (k.val % 2) * scl (at2 sc (srowN Q n (k.val % 2 * 4 + k.val / 64)) (c + l.val))) else 0 := by
    rw [tileC_apply x L sc c n (by omega) hc hc2]
    obtain ⟨r, hr, e⟩ := scl_pos (at2 sc (srowN Q n g.val) (c + l.val)) (hs _).1 (hs _).2
    rw [e, sum_mul_pos _ _ r hr, ← e]
    refine Finset.sum_congr rfl fun k _ => ?_
    rw [hL n hn g k]
    split_ifs with h
    · rw [← h, mul_assoc]
    · rw [zero_mul, zero_mul]
  rw [redC_apply, Finset.sum_congr rfl fun g _ => accT_apply x L (scG (Q := Q) (T := T) sc) c m (ix3 b g l), hm, Finset.sum_comm]
  have inner (n : ℕ) (hn : n ∈ Finset.range (2 * Q)) : (∑ g : Fin 8, tileC (F := Ideal) x L (scG (Q := Q) (T := T) sc) c n (ix3 b g l))
      = ∑ k ∈ Finset.range 256, (fun h d => X (h * R + d) * (codeV (at2 x d (c + l.val)) h * scl (at2 sc (h * (R / 32) + d / 32) (c + l.val)))) (k % 2) (rowN n k) := by
    rw [Finset.sum_congr rfl fun g _ => step g n (Finset.mem_range.mp hn), Finset.sum_comm, Finset.sum_range]
    refine Finset.sum_congr rfl fun k _ => ?_
    have hk := k.isLt
    rw [Finset.sum_eq_single (⟨k.val % 2 * 4 + k.val / 64, by omega⟩ : Fin 8)]
    · rw [if_pos rfl]
      have er : srowN Q n (k.val % 2 * 4 + k.val / 64) = k.val % 2 * (R / 32) + rowN n k.val / 32 := by
        have e8 : (n % 2 + 2 * (k.val % 2 * 4 + k.val / 64)) / 8 = k.val % 2 := by omega
        unfold srowN rowN
        rw [e8]
        subst hR
        rcases (by omega : k.val % 2 = 0 ∨ k.val % 2 = 1) with h | h <;> rw [h] <;> omega
      rw [er]
    · intro g _ hg
      exact if_neg fun h => hg (Fin.ext h)
    · intro h
      exact absurd (Finset.mem_univ _) h
  refine (Finset.sum_congr rfl inner).trans ((sum_rows Q R hR fun h d => X (h * R + d) * (codeV (at2 x d (c + l.val)) h * scl (at2 sc (h * (R / 32) + d / 32) (c + l.val)))).trans ?_)
  unfold prodV
  simp only [Nat.zero_mul, Nat.zero_add, Nat.one_mul]

end Cert.Mx

end
-- ==== Proof.Mx.Lhs.lean ====
/- The expanded left operand's tile: where each lane's element comes from, and which of a group's eight rows keeps it. -/
module

public import proofs.«01_k».proof.Proof.Mx.Value

@[expose] public section

set_option maxRecDepth 16384

noncomputable section

namespace Cert.Mx

open Idealize.ShloMosaic Cert.GateUpIdeal Cert.GateUpIdeal.Gen

/-- The lane that lane `l` of a tile with parity `a` takes its element from. -/
def srcW (a : ℕ) (l : Fin 128) : BitVec 32 := BitVec.ofNat 32 (32 * (a + 2 * (l.val / 64)) + l.val % 64 / 2)

theorem srcW_toNat (a : ℕ) (ha : a < 2) (l : Fin 128) : (srcW a l).toNat % 128 = 32 * (a + 2 * (l.val / 64)) + l.val % 64 / 2 := by
  have := l.isLt
  unfold srcW
  rw [BitVec.toNat_ofNat]
  omega

/-- The lane's parity as a word. -/
def oddW (l : Fin 128) : BitVec 32 := BitVec.ofNat 32 (l.val % 2)

theorem sel_odd {α : Type} (l : Fin 128) (x y : α) : Scalar.select (IntOp.cmpi .eq (oddW l) 1#32) x y = if l.val % 2 = 1 then x else y := by
  have h : ∀ l : Fin 128, IntOp.cmpi .eq (oddW l) 1#32 = if l.val % 2 = 1 then 1#1 else 0#1 := by decide +kernel
  rw [h]
  split_ifs <;> rfl

/-- A selection by a mask word that says `p`. -/
theorem pick_mask {p : Prop} [Decidable p] (w : BitVec 1) (x z : EReal) (hw : w = if p then 1#1 else 0#1) (h : p → x = z) : Scalar.select w x (0 : EReal) = if p then z else 0 := by
  rw [hw]
  split_ifs with hp
  · exact h hp
  · rfl

theorem at2_eq {R C : ℕ} [NeZero R] [NeZero C] {α : Type} (x : (⟨2, ![R, C]⟩ : Shape).Idx → α) (i : Fin R) (j : ℕ) (hj : j < C) (d : ℕ) (h : j = d) :
    x (ix2 i ⟨j, hj⟩) = at2 x i.val d := by
  subst h
  have h1 : Fin.ofNat R i.val = i := Fin.ext (Nat.mod_eq_of_lt i.isLt)
  have h2 : Fin.ofNat C j = ⟨j, hj⟩ := Fin.ext (Nat.mod_eq_of_lt hj)
  unfold at2
  rw [h1, h2]

/-- Row `b`, group `g`, lane `k` of tile `n`, from `H` rows a half. -/
def tileV {D : ℕ} [NeZero D] (H : ℕ) (x : Vec Ideal ⟨2, ![10, D]⟩ .bf16) (n : ℕ) (b : Fin 10) (g : Fin 8) (k : Fin 256) : EReal :=
  if g.val = k.val % 2 * 4 + k.val / 64 then at2 x b.val (k.val % 2 * H + rowN n k.val) else 0

end Cert.Mx

end
-- ==== Proof.GateUpIdeal.Lhs.lean ====
/- What the first grid point stores into the expanded left operand. -/
module

public import proofs.«01_k».proof.Proof.GateUpIdeal.InitRun
public import proofs.«01_k».proof.Proof.Mx.Lhs

@[expose] public section

set_option maxRecDepth 16384
set_option maxHeartbeats 4000000

noncomputable section

namespace Cert.GateUpIdeal.Hand

open Idealize.ShloMosaic Cert.GateUpIdeal.Gen Cert.Mx

/-- The lanes' sources and their parities, of every tile. -/
theorem lanes (b : Fin 10) : (∀ l : Fin 128, initRun.sl.v3853 (ix2 b l) = srcW 0 l)
    ∧ (∀ l : Fin 128, initRun.sl.v4041 (ix2 b l) = srcW 1 l)
    ∧ (∀ l : Fin 128, initRun.sl.v4231 (ix2 b l) = srcW 0 l)
    ∧ (∀ l : Fin 128, initRun.sl.v4419 (ix2 b l) = srcW 1 l)
    ∧ (∀ l : Fin 128, initRun.sl.v4609 (ix2 b l) = srcW 0 l)
    ∧ (∀ l : Fin 128, initRun.sl.v4797 (ix2 b l) = srcW 1 l)
    ∧ (∀ l : Fin 128, initRun.sl.v4987 (ix2 b l) = srcW 0 l)
    ∧ (∀ l : Fin 128, initRun.sl.v5175 (ix2 b l) = srcW 1 l)
    ∧ (∀ l : Fin 128, initRun.sl.v5365 (ix2 b l) = srcW 0 l)
    ∧ (∀ l : Fin 128, initRun.sl.v5553 (ix2 b l) = srcW 1 l)
    ∧ (∀ l : Fin 128, initRun.sl.v5743 (ix2 b l) = srcW 0 l)
    ∧ (∀ l : Fin 128, initRun.sl.v5931 (ix2 b l) = srcW 1 l)
    ∧ (∀ l : Fin 128, initRun.sl.v3845 (ix2 b l) = oddW l)
    ∧ (∀ l : Fin 128, initRun.sl.v5545 (ix2 b l) = oddW l) := by
  refine ⟨?_, ?_, ?_, ?_, ?_, ?_, ?_, ?_, ?_, ?_, ?_, ?_, ?_, ?_⟩ <;> intro l <;>
    simp only [initRun.sl.v3853, initRun.sl.v3828, initRun.sl.v3805, initRun.sl.v3804, initRun.sl.v3802, initRun.sl.v3800, initRun.sl.v3798, initRun.sl.v3827, initRun.sl.v3819, initRun.sl.v3824, initRun.sl.v3807, initRun.sl.v3820, initRun.sl.v3812, initRun.sl.v3809, initRun.sl.v3852, initRun.sl.v3851, initRun.sl.v3850, initRun.sl.v4041, initRun.sl.v4016, initRun.sl.v3992, initRun.sl.v3989, initRun.sl.v3988, initRun.sl.v4015, initRun.sl.v4012, initRun.sl.v4008, initRun.sl.v4000, initRun.sl.v3997, initRun.sl.v4040, initRun.sl.v4038, initRun.sl.v4231, initRun.sl.v4206, initRun.sl.v4182, initRun.sl.v3758, initRun.sl.v4181, initRun.sl.v4172, initRun.sl.v4178, initRun.sl.v4174, initRun.sl.v4205, initRun.sl.v4202, initRun.sl.v4198, initRun.sl.v4190, initRun.sl.v4187, initRun.sl.v4230, initRun.sl.v4228, initRun.sl.v4419, initRun.sl.v4354, initRun.sl.v4353, initRun.sl.v4418, initRun.sl.v4416, initRun.sl.v4609, initRun.sl.v4585, initRun.sl.v4542, initRun.sl.v4538, initRun.sl.v4797, initRun.sl.v4773, initRun.sl.v4730, initRun.sl.v4726, initRun.sl.v4723, initRun.sl.v4987, initRun.sl.v4963, initRun.sl.v4920, initRun.sl.v4916, initRun.sl.v4913, initRun.sl.v5175, initRun.sl.v5151, initRun.sl.v5108, initRun.sl.v5104, initRun.sl.v5096, initRun.sl.v5365, initRun.sl.v5341, initRun.sl.v5298, initRun.sl.v5294, initRun.sl.v5286, initRun.sl.v5278, initRun.sl.v5275, initRun.sl.v5553, initRun.sl.v5529, initRun.sl.v5528, initRun.sl.v5504, initRun.sl.v5458, initRun.sl.v5503, initRun.sl.v5478, initRun.sl.v5500, initRun.sl.v5496, initRun.sl.v5527, initRun.sl.v5524, initRun.sl.v5520, initRun.sl.v5512, initRun.sl.v5509, initRun.sl.v5486, initRun.sl.v5482, initRun.sl.v5481, initRun.sl.v5474, initRun.sl.v5466, initRun.sl.v5463, initRun.sl.v5743, initRun.sl.v5719, initRun.sl.v5676, initRun.sl.v5931, initRun.sl.v5906, initRun.sl.v5882, initRun.sl.v5879, initRun.sl.v5878, initRun.sl.v5905, initRun.sl.v5902, initRun.sl.v5898, initRun.sl.v5890, initRun.sl.v5887, initRun.sl.v5930, initRun.sl.v5928, initRun.sl.v3845, initRun.sl.v3844, initRun.sl.v3835, initRun.sl.v3841, initRun.sl.v3837, initRun.sl.v5545, initRun.sl.v5544, initRun.sl.v5535, initRun.sl.v5541, initRun.sl.v5537, k0_pay5, k0_pay6, k0_pay7, k0_pay8, k0_pay17, k0_pay18, k0_pay28, k0_pay42, k0_pay56, k0_pay57, k0_pay74, k0_pay75, k0_pay76, k0_pay93, k0_pay94, k0_pay109, k0_pay110, k0_pay111, k0_pay126, k0_pay164, k0_pay165] <;>
    pointwise <;> revert l <;> decide +kernel

theorem read3 (arg3 : Memref sig .tc .vmem S10x3072 .bf16) (harg3 : arg3.IsWhole) (x3 : Vec Ideal S10x3072 .bf16) (inb) :
    View.readAt (Elt Ideal) arg3.view (Rect.unit (s := S10x3072) ![0, 0] S10x3072.size inb).toLoadRect (harg3.unread x3) = x3 := by
  rw [readAt_whole]
  funext (j : S10x3072.Idx)
  refine congrArg x3 (funext fun a => Fin.ext ?_)
  match a with
  | ⟨0, _⟩ => exact Eq.trans (show _ = 0 + 1 * (j 0).val from rfl) (by rw [Nat.one_mul, Nat.zero_add]; rfl)
  | ⟨1, _⟩ => exact Eq.trans (show _ = 0 + 1 * (j 1).val from rfl) (by rw [Nat.one_mul, Nat.zero_add]; rfl)

/-- The twelve tiles. -/
theorem tiles (c : Dev nD) (arg3 : Memref sig .tc .vmem S10x3072 .bf16) (harg3 : arg3.IsWhole) (x3 : Vec Ideal S10x3072 .bf16) (b : Fin 10) (g : Fin 8) (k : Fin 256) :
    k0_pay16 initRun.sl.cst_2969 initRun.sl.r_3 (initRun.sl.r_4 c arg3 harg3 x3) (ix3 0 ⟨b.val * 8 + g.val, by omega⟩ k) = tileV 1536 x3 0 b g k
    ∧ k0_pay25 (initRun.sl.v4074 c arg3 harg3 x3) initRun.sl.v4121 (ix3 0 ⟨b.val * 8 + g.val, by omega⟩ k) = tileV 1536 x3 1 b g k
    ∧ k0_pay41 (initRun.sl.v4264 c arg3 harg3 x3) initRun.sl.v3888 (muli initRun.sl.v4092 initRun.sl.v4093) (divsi initRun.sl.v3887 initRun.sl.v4095) (andi initRun.sl.v4110 initRun.sl.v4114) (ix3 0 ⟨b.val * 8 + g.val, by omega⟩ k) = tileV 1536 x3 2 b g k
    ∧ k0_pay53 (initRun.sl.v4452 c arg3 harg3 x3) initRun.sl.v3887 initRun.sl.v3888 (muli initRun.sl.v4092 initRun.sl.v4093) (divsi initRun.sl.v3887 initRun.sl.v4095) initRun.sl.v4110 initRun.sl.v4095 (ix3 0 ⟨b.val * 8 + g.val, by omega⟩ k) = tileV 1536 x3 3 b g k
    ∧ k0_pay73 (initRun.sl.v4642 c arg3 harg3 x3) initRun.sl.v3887 initRun.sl.v3888 (muli initRun.sl.v4092 initRun.sl.v4093) 64#32 (divsi initRun.sl.v3887 initRun.sl.v4095) (subi initRun.sl.v4099 initRun.sl.v4102) 1#32 (ix3 0 ⟨b.val * 8 + g.val, by omega⟩ k) = tileV 1536 x3 4 b g k
    ∧ k0_pay90 (initRun.sl.v4830 c arg3 harg3 x3) initRun.sl.v3887 initRun.sl.v3888 (muli initRun.sl.v4092 initRun.sl.v4093) 64#32 (divsi initRun.sl.v3887 initRun.sl.v4095) initRun.sl.v4099 (cmpi CmpIPredicate.slt initRun.sl.v3887 initRun.sl.v4081) (ix3 0 ⟨b.val * 8 + g.val, by omega⟩ k) = tileV 1536 x3 5 b g k
    ∧ k0_pay108 (initRun.sl.v5020 c arg3 harg3 x3) initRun.sl.v3887 initRun.sl.v3888 (muli initRun.sl.v4092 initRun.sl.v4093) 64#32 (divsi initRun.sl.v3887 initRun.sl.v4095) (ix3 0 ⟨b.val * 8 + g.val, by omega⟩ k) = tileV 1536 x3 6 b g k
    ∧ k0_pay123 (initRun.sl.v5208 c arg3 harg3 x3) initRun.sl.v3887 initRun.sl.v3888 initRun.sl.v4092 4#32 (ix3 0 ⟨b.val * 8 + g.val, by omega⟩ k) = tileV 1536 x3 7 b g k
    ∧ k0_pay139 (initRun.sl.v5398 c arg3 harg3 x3) initRun.sl.v3887 initRun.sl.v3888 2#32 (remsi initRun.sl.v3887 initRun.sl.v4079) initRun.sl.v4082 initRun.sl.v4084 initRun.sl.v4086 (ix3 0 ⟨b.val * 8 + g.val, by omega⟩ k) = tileV 1536 x3 8 b g k
    ∧ initRun.sl.v5645 c arg3 harg3 x3 (ix3 0 ⟨b.val * 8 + g.val, by omega⟩ k) = tileV 1536 x3 9 b g k
    ∧ k0_pay163 initRun.sl.cst_2969 initRun.sl.r_14 (initRun.sl.r_15 c arg3 harg3 x3) (ix3 0 ⟨b.val * 8 + g.val, by omega⟩ k) = tileV 1536 x3 10 b g k
    ∧ k0_pay172 (initRun.sl.v5964 c arg3 harg3 x3) initRun.sl.v4121 (ix3 0 ⟨b.val * 8 + g.val, by omega⟩ k) = tileV 1536 x3 11 b g k := by
  obtain ⟨s0, s1, s2, s3, s4, s5, s6, s7, s8, s9, s10, s11, o1, o2⟩ := lanes b
  have e3 : View.readAt (Elt Ideal) arg3.view (Rect.unit (s := S10x3072) ![0, 0] ![10, 3072] inb_S10x3072_S10x3072_0_0).toLoadRect (harg3.unread x3) = x3 :=
    read3 arg3 harg3 x3 inb_S10x3072_S10x3072_0_0
  refine ⟨?_, ?_, ?_, ?_, ?_, ?_, ?_, ?_, ?_, ?_, ?_, ?_⟩ <;>
    simp only [initRun.sl.cst_2969, initRun.sl.r_3, initRun.sl.v3888, initRun.sl.v3887, initRun.sl.r_4, initRun.sl.v3886, initRun.sl.v3885, initRun.sl.v3875, initRun.sl.v3855, initRun.sl.v3867, initRun.sl.r_1, initRun.sl.v3884, initRun.sl.v3876, initRun.sl.r_2, initRun.sl.v3819, initRun.sl.v3866, initRun.sl.v3856, initRun.sl.v3848, initRun.sl.v3865, initRun.sl.v3857, initRun.sl.v4074, initRun.sl.v4073, initRun.sl.v4063, initRun.sl.v4043, initRun.sl.v4072, initRun.sl.v4054, initRun.sl.v4044, initRun.sl.v4053, initRun.sl.v4121, initRun.sl.v4119, initRun.sl.v4118, initRun.sl.v4095, initRun.sl.v4117, initRun.sl.v4109, initRun.sl.v4114, initRun.sl.v4081, initRun.sl.v4110, initRun.sl.v4102, initRun.sl.v4099, initRun.sl.v4093, initRun.sl.v4092, initRun.sl.v4079, initRun.sl.v4091, initRun.sl.v4082, initRun.sl.v4088, initRun.sl.v4086, initRun.sl.v4084, initRun.sl.v4264, initRun.sl.v4263, initRun.sl.v4253, initRun.sl.v4233, initRun.sl.v4245, initRun.sl.r_5, initRun.sl.r, initRun.sl.v4262, initRun.sl.v4254, initRun.sl.r_6, initRun.sl.v4244, initRun.sl.v4234, initRun.sl.v4226, initRun.sl.v4243, initRun.sl.v4235, initRun.sl.v4452, initRun.sl.v4451, initRun.sl.v4441, initRun.sl.v4421, initRun.sl.v4450, initRun.sl.v4432, initRun.sl.v4422, initRun.sl.v4431, initRun.sl.v4642, initRun.sl.v4641, initRun.sl.v4631, initRun.sl.v4611, initRun.sl.v4623, initRun.sl.r_7, initRun.sl.v4640, initRun.sl.v4632, initRun.sl.r_8, initRun.sl.v4622, initRun.sl.v4612, initRun.sl.v4604, initRun.sl.v4621, initRun.sl.v4613, initRun.sl.v4830, initRun.sl.v4829, initRun.sl.v4819, initRun.sl.v4799, initRun.sl.v4828, initRun.sl.v4810, initRun.sl.v4800, initRun.sl.v4809, initRun.sl.v5020, initRun.sl.v5019, initRun.sl.v5009, initRun.sl.v4989, initRun.sl.v5001, initRun.sl.r_9, initRun.sl.v5018, initRun.sl.v5010, initRun.sl.r_10, initRun.sl.v5000, initRun.sl.v4990, initRun.sl.v4982, initRun.sl.v4999, initRun.sl.v4991, initRun.sl.v5208, initRun.sl.v5207, initRun.sl.v5197, initRun.sl.v5177, initRun.sl.v5206, initRun.sl.v5188, initRun.sl.v5178, initRun.sl.v5187, initRun.sl.v5398, initRun.sl.v5397, initRun.sl.v5387, initRun.sl.v5367, initRun.sl.v5379, initRun.sl.r_11, initRun.sl.v5396, initRun.sl.v5388, initRun.sl.r_12, initRun.sl.v5378, initRun.sl.v5368, initRun.sl.v5360, initRun.sl.v5377, initRun.sl.v5369, initRun.sl.v5645, initRun.sl.r_13, initRun.sl.v5586, initRun.sl.v5585, initRun.sl.v5575, initRun.sl.v5555, initRun.sl.v5584, initRun.sl.v5566, initRun.sl.v5556, initRun.sl.v5565, initRun.sl.r_14, initRun.sl.r_15, initRun.sl.v5776, initRun.sl.v5775, initRun.sl.v5765, initRun.sl.v5745, initRun.sl.v5757, initRun.sl.v5646, initRun.sl.v5774, initRun.sl.v5766, initRun.sl.v5647, initRun.sl.v5756, initRun.sl.v5746, initRun.sl.v5738, initRun.sl.v5755, initRun.sl.v5747, initRun.sl.v5964, initRun.sl.v5963, initRun.sl.v5953, initRun.sl.v5933, initRun.sl.v5962, initRun.sl.v5944, initRun.sl.v5934, initRun.sl.v5943, k0_pay2, k0_pay3, k0_pay4, k0_pay14, k0_pay15, k0_pay16, k0_pay25, k0_pay26, k0_pay27, k0_pay41, k0_pay53, k0_pay54, k0_pay55, k0_pay73, k0_pay90, k0_pay91, k0_pay92, k0_pay108, k0_pay123, k0_pay124, k0_pay125, k0_pay139, k0_pay148, k0_pay161, k0_pay162, k0_pay163, k0_pay172] <;>
    pointwise <;>
    simp only [s0, s1, s2, s3, s4, s5, s6, s7, s8, s9, s10, s11, o1, o2, e3, sel_odd, srcW_toNat _ (by decide : 0 < 2), srcW_toNat _ (by decide : 1 < 2)] <;>
    refine pick_mask _ _ _ ?_ (fun hg => ?_)
  all_goals first
    | (with_reducible show (_ : BitVec 1) = _)
      revert g k
      decide +kernel
    | have hk := k.isLt
      split_ifs <;> exact at2_eq _ _ _ _ _ (by unfold rowN; omega)

end Cert.GateUpIdeal.Hand

end
-- ==== Proof.GateUpIdeal.Lora.lean ====
/- What the first grid point stores into the second output and into the masked low-rank scratch. -/
module

public import proofs.«01_k».proof.Proof.GateUpIdeal.Lhs

@[expose] public section

set_option maxRecDepth 16384
set_option maxHeartbeats 400000

noncomputable section

namespace Cert.GateUpIdeal.Hand

open Idealize.ShloMosaic Cert.GateUpIdeal.Gen Cert.Mx

theorem read1 (arg1 : Memref sig .tc .smem S10 .i32) (harg1 : arg1.IsWhole) (x1 : Vec Ideal S10 .i32) (i : ℕ) (hi : i < 10) (inb) (hf) :
    View.readAt (Elt Ideal) arg1.view (Rect.unit (s := S10) ![i] S1.size inb).toLoadRect (harg1.unread x1) (Shape.Idx.first hf) = x1 (ix1 ⟨i, hi⟩) := by
  rw [readAt_whole]
  refine congrArg x1 (funext fun a => Fin.ext ?_)
  match a with
  | ⟨0, _⟩ => rfl

theorem read2 (arg2 : Memref sig .tc .smem S3 .f32) (harg2 : arg2.IsWhole) (x2 : Vec Ideal S3 .f32) (i : ℕ) (hi : i < 3) (inb) (hf) :
    View.readAt (Elt Ideal) arg2.view (Rect.unit (s := S3) ![i] S1.size inb).toLoadRect (harg2.unread x2) (Shape.Idx.first hf) = x2 (ix1 ⟨i, hi⟩) := by
  rw [readAt_whole]
  refine congrArg x2 (funext fun a => Fin.ext ?_)
  match a with
  | ⟨0, _⟩ => rfl

theorem read8 (arg8 : Memref sig .tc .vmem S3x3072x128 .bf16) (harg8 : arg8.IsWhole) (x8 : Vec Ideal S3x3072x128 .bf16) (i : ℕ) (hi : i < 3) (inb) (d : Fin 3072) (r : Fin 128) :
    View.readAt (Elt Ideal) arg8.view (Rect.unit (s := S3x3072x128) ![i, 0, 0] ![1, 3072, 128] inb).toLoadRect (harg8.unread x8) (ix3 0 d r) = x8 (ix3 ⟨i, hi⟩ d r) := by
  rw [readAt_whole]
  refine congrArg x8 (funext fun a => Fin.ext ?_)
  match a with
  | ⟨0, _⟩ => rfl
  | ⟨1, _⟩ => exact Eq.trans (show _ = 0 + 1 * d.val from rfl) (by rw [Nat.one_mul, Nat.zero_add]; rfl)
  | ⟨2, _⟩ => exact Eq.trans (show _ = 0 + 1 * r.val from rfl) (by rw [Nat.one_mul, Nat.zero_add]; rfl)

/-- The rows' words, one selected after another. -/
theorem rows10 {α : Type} (v : Fin 10 → α) (z : α) (b : Fin 10) :
    Scalar.select (IntOp.cmpi .eq (BitVec.ofNat 32 b.val) 9#32) (v 9) (Scalar.select (IntOp.cmpi .eq (BitVec.ofNat 32 b.val) 8#32) (v 8)
      (Scalar.select (IntOp.cmpi .eq (BitVec.ofNat 32 b.val) 7#32) (v 7) (Scalar.select (IntOp.cmpi .eq (BitVec.ofNat 32 b.val) 6#32) (v 6)
      (Scalar.select (IntOp.cmpi .eq (BitVec.ofNat 32 b.val) 5#32) (v 5) (Scalar.select (IntOp.cmpi .eq (BitVec.ofNat 32 b.val) 4#32) (v 4)
      (Scalar.select (IntOp.cmpi .eq (BitVec.ofNat 32 b.val) 3#32) (v 3) (Scalar.select (IntOp.cmpi .eq (BitVec.ofNat 32 b.val) 2#32) (v 2)
      (Scalar.select (IntOp.cmpi .eq (BitVec.ofNat 32 b.val) 1#32) (v 1) (Scalar.select (IntOp.cmpi .eq (BitVec.ofNat 32 b.val) 0#32) (v 0) z))))))))) = v b := by
  fin_cases b <;> rfl

theorem ids_eq (c : Dev nD) (arg1 : Memref sig .tc .smem S10 .i32) (harg1 : arg1.IsWhole) (x1 : Vec Ideal S10 .i32) (b : Fin 10) (l : Fin 128) : initRun.sl.r_27 (F := Ideal) c arg1 harg1 x1 (ix2 b l) = x1 (ix1 b) := by
  simp only [initRun.sl.r_27, initRun.sl.r_26, initRun.sl.r_25, initRun.sl.r_24, initRun.sl.r_23, initRun.sl.r_21, initRun.sl.r_22, initRun.sl.r_20, initRun.sl.r_19, initRun.sl.r_18, initRun.sl.r_17, initRun.sl.r_16, initRun.sl.v6024, k0_pay173, k0_pay174, k0_pay175]
  pointwise
  rw [read1 arg1 harg1 x1 0 (by decide), read1 arg1 harg1 x1 1 (by decide), read1 arg1 harg1 x1 2 (by decide), read1 arg1 harg1 x1 3 (by decide), read1 arg1 harg1 x1 4 (by decide), read1 arg1 harg1 x1 5 (by decide), read1 arg1 harg1 x1 6 (by decide), read1 arg1 harg1 x1 7 (by decide), read1 arg1 harg1 x1 8 (by decide), read1 arg1 harg1 x1 9 (by decide)]
  exact rows10 (fun b => x1 (ix1 b)) _ b

theorem sel_eq {α : Type} (i j : BitVec 32) (x y : α) : Scalar.select (IntOp.cmpi .eq i j) x y = if i = j then x else y := by
  unfold Scalar.select IntOp.cmpi
  by_cases h : i = j
  · subst h
    rw [if_pos rfl, beq_self_eq_true]
    rfl
  · rw [if_neg h, beq_eq_false_iff_ne.mpr h]
    rfl

/-- The chosen adapter's element of a row: of three, by the row's index; zero with any other index. -/
def pick3 (i : BitVec 32) (f : Fin 3 → EReal) : EReal := if i = 2#32 then f 2 else if i = 1#32 then f 1 else if i = 0#32 then f 0 else 0

theorem pick3_eq (i : BitVec 32) (f : Fin 3 → EReal) :
    Scalar.select (IntOp.cmpi .eq i 2#32) (f 2) (Scalar.select (IntOp.cmpi .eq i 1#32) (f 1) (Scalar.select (IntOp.cmpi .eq i 0#32) (f 0) (0 : EReal))) = pick3 i f := by
  rw [sel_eq, sel_eq, sel_eq]
  rfl

/-- The first low-rank product of a row, scaled. -/
def sV (x1 : Vec Ideal S10 .i32) (x2 : Vec Ideal S3 .f32) (x3 : Vec Ideal S10x3072 .bf16) (x8 : Vec Ideal S3x3072x128 .bf16) (b : Fin 10) (r : Fin 128) : EReal :=
  pick3 (x1 (ix1 b)) (fun n => ∑ d : Fin 3072, x3 (ix2 b d) * x8 (ix3 n d r)) * pick3 (x1 (ix1 b)) (fun n => x2 (ix1 n))

theorem snd_eq (c : Dev nD) (arg1 : Memref sig .tc .smem S10 .i32) (harg1 : arg1.IsWhole) (arg2 : Memref sig .tc .smem S3 .f32) (harg2 : arg2.IsWhole) (arg3 : Memref sig .tc .vmem S10x3072 .bf16) (harg3 : arg3.IsWhole) (arg8 : Memref sig .tc .vmem S3x3072x128 .bf16) (harg8 : arg8.IsWhole) (x1 : Vec Ideal S10 .i32) (x2 : Vec Ideal S3 .f32) (x3 : Vec Ideal S10x3072 .bf16) (x8 : Vec Ideal S3x3072x128 .bf16) (b : Fin 10) (r : Fin 128) : k0_pay180 (initRun.sl.r_27 c arg1 harg1 x1) (initRun.sl.r_28 c arg1 harg1 arg3 harg3 arg8 harg8 x1 x3 x8)
      (initRun.sl.r_29 c arg1 harg1 x1) (initRun.sl.r_30 c arg3 harg3 x3) (initRun.sl.r_31 c arg8 harg8 x8)
      initRun.sl.cst_3623
      (View.readAt (Elt Ideal) arg3.view (Rect.unit (s := S10x3072) ![0, 0] S10x3072.size inb_S10x3072_S10x3072_0_0).toLoadRect (harg3.unread x3))
      (View.readAt (Elt Ideal) arg8.view (Rect.unit (s := S3x3072x128) ![2, 0, 0] S1x3072x128.size inb_S3x3072x128_S1x3072x128_2_0_0).toLoadRect (harg8.unread x8))
      (initRun.sl.r_32 c arg2 harg2 x2) (initRun.sl.r_33 c arg2 harg2 x2) (initRun.sl.r_34 c arg2 harg2 x2) (ix2 b r) = sV x1 x2 x3 x8 b r := by
  have e3 : View.readAt (Elt Ideal) arg3.view (Rect.unit (s := S10x3072) ![0, 0] ![10, 3072] inb_S10x3072_S10x3072_0_0).toLoadRect (harg3.unread x3) = x3 :=
    read3 arg3 harg3 x3 inb_S10x3072_S10x3072_0_0
  have e27 : k0_pay175 initRun.sl.v6024 (initRun.sl.r_22 c arg1 harg1 x1) k0_pay174 (initRun.sl.r_21 c arg1 harg1 x1) (initRun.sl.r_23 c arg1 harg1 x1) (initRun.sl.r_24 c arg1 harg1 x1) (initRun.sl.r_25 c arg1 harg1 x1) (initRun.sl.r_26 c arg1 harg1 x1) = initRun.sl.r_27 (F := Ideal) c arg1 harg1 x1 := rfl
  simp only [initRun.sl.r_28, initRun.sl.r_29, initRun.sl.r_30, initRun.sl.r_31, initRun.sl.cst_3623, initRun.sl.r_32, initRun.sl.r_33, initRun.sl.r_34, k0_pay176, k0_pay177, k0_pay178, k0_pay179, k0_pay180, e27]
  pointwise
  simp only [ids_eq, e3]
  rw [read2 arg2 harg2 x2 0 (by decide), read2 arg2 harg2 x2 1 (by decide), read2 arg2 harg2 x2 2 (by decide)]
  simp only [read8 arg8 harg8 x8 0 (by decide), read8 arg8 harg8 x8 1 (by decide), read8 arg8 harg8 x8 2 (by decide)]
  exact congrArg₂ (fun a b : EReal => a * b) (pick3_eq (x1 (ix1 b)) fun n => ∑ d : Fin 3072, x3 (ix2 b d) * x8 (ix3 n d r)) (pick3_eq (x1 (ix1 b)) fun n => x2 (ix1 n))

theorem part_eq (i : BitVec 32) (f : Fin 128 → EReal) (n m j t : ℕ) (h1 : n = j / 64) (h2 : m < 128) (h3 : m = 64 * t + j % 64) :
    (if i = BitVec.ofNat 32 n then f ⟨m, h2⟩ else 0) = if i = BitVec.ofNat 32 (j / 64) then f (Fin.ofNat 128 (64 * t + j % 64)) else 0 := by
  subst h1
  subst h3
  have e : (⟨64 * t + j % 64, h2⟩ : Fin 128) = Fin.ofNat 128 (64 * t + j % 64) := Fin.ext (Nat.mod_eq_of_lt h2).symm
  rw [e]

/-- The masked product's element: half `t`, row `b`, column `j`, 64 columns an adapter. -/
def mV (x1 : Vec Ideal S10 .i32) (x2 : Vec Ideal S3 .f32) (x3 : Vec Ideal S10x3072 .bf16) (x8 : Vec Ideal S3x3072x128 .bf16) (t : ℕ) (b : Fin 10) (j : Fin 192) : EReal :=
  if x1 (ix1 b) = BitVec.ofNat 32 (j.val / 64) then sV x1 x2 x3 x8 b (Fin.ofNat 128 (64 * t + j.val % 64)) else 0

theorem lora0_eq' (c : Dev nD) (arg1 : Memref sig .tc .smem S10 .i32) (harg1 : arg1.IsWhole) (arg2 : Memref sig .tc .smem S3 .f32) (harg2 : arg2.IsWhole) (arg3 : Memref sig .tc .vmem S10x3072 .bf16) (harg3 : arg3.IsWhole) (arg8 : Memref sig .tc .vmem S3x3072x128 .bf16) (harg8 : arg8.IsWhole) (x1 : Vec Ideal S10 .i32) (x2 : Vec Ideal S3 .f32) (x3 : Vec Ideal S10x3072 .bf16) (x8 : Vec Ideal S3x3072x128 .bf16) (b : Fin 10) (j : Fin 192) : k0_pay188 (initRun.sl.r_36 c arg1 harg1 arg2 harg2 arg3 harg3 arg8 harg8 x1 x2 x3 x8) (initRun.sl.r_37 c arg1 harg1 arg2 harg2 arg3 harg3 arg8 harg8 x1 x2 x3 x8) (initRun.sl.r_39 c arg1 harg1 arg2 harg2 arg3 harg3 arg8 harg8 x1 x2 x3 x8) (initRun.sl.r_40 (F := Ideal) c arg1 harg1 x1) k0_pay187 (ix3 0 b j) = mV x1 x2 x3 x8 0 b j := by
  have es := snd_eq c arg1 harg1 arg2 harg2 arg3 harg3 arg8 harg8 x1 x2 x3 x8 b
  have ei := ids_eq c arg1 harg1 x1 b
  simp only [initRun.sl.r_35, initRun.sl.r_36, initRun.sl.r_37, initRun.sl.r_38, initRun.sl.r_39, initRun.sl.r_40, initRun.sl.cst_2969, k0_pay181, k0_pay182, k0_pay183, k0_pay184, k0_pay185, k0_pay186, k0_pay187, k0_pay188, k0_pay189]
  revert es
  generalize k0_pay180 (initRun.sl.r_27 c arg1 harg1 x1) (initRun.sl.r_28 c arg1 harg1 arg3 harg3 arg8 harg8 x1 x3 x8)
      (initRun.sl.r_29 c arg1 harg1 x1) (initRun.sl.r_30 c arg3 harg3 x3) (initRun.sl.r_31 c arg8 harg8 x8)
      initRun.sl.cst_3623
      (View.readAt (Elt Ideal) arg3.view (Rect.unit (s := S10x3072) ![0, 0] S10x3072.size inb_S10x3072_S10x3072_0_0).toLoadRect (harg3.unread x3))
      (View.readAt (Elt Ideal) arg8.view (Rect.unit (s := S3x3072x128) ![2, 0, 0] S1x3072x128.size inb_S3x3072x128_S1x3072x128_2_0_0).toLoadRect (harg8.unread x8))
      (initRun.sl.r_32 c arg2 harg2 x2) (initRun.sl.r_33 c arg2 harg2 x2) (initRun.sl.r_34 c arg2 harg2 x2) = S
  intro es
  pointwise
  simp only [es, ei, sel_eq]
  have hj := j.isLt
  unfold mV
  by_cases h : j.val < 64
  · rw [dif_pos h]
    exact part_eq _ _ 0 _ j.val _ (by omega) _ (by omega)
  · rw [dif_neg h]
    by_cases h2 : j.val - 64 < 64
    · rw [dif_pos h2]
      exact part_eq _ _ 1 _ j.val _ (by omega) _ (by omega)
    · rw [dif_neg h2]
      exact part_eq _ _ 2 _ j.val _ (by omega) _ (by omega)

theorem lora1_eq (c : Dev nD) (arg1 : Memref sig .tc .smem S10 .i32) (harg1 : arg1.IsWhole) (arg2 : Memref sig .tc .smem S3 .f32) (harg2 : arg2.IsWhole) (arg3 : Memref sig .tc .vmem S10x3072 .bf16) (harg3 : arg3.IsWhole) (arg8 : Memref sig .tc .vmem S3x3072x128 .bf16) (harg8 : arg8.IsWhole) (x1 : Vec Ideal S10 .i32) (x2 : Vec Ideal S3 .f32) (x3 : Vec Ideal S10x3072 .bf16) (x8 : Vec Ideal S3x3072x128 .bf16) (b : Fin 10) (j : Fin 192) : k0_pay189 (initRun.sl.r_27 c arg1 harg1 x1) (initRun.sl.r_35 c arg1 harg1 arg2 harg2 arg3 harg3 arg8 harg8 x1 x2 x3 x8) (ix3 0 b j) = mV x1 x2 x3 x8 1 b j := by
  have es := snd_eq c arg1 harg1 arg2 harg2 arg3 harg3 arg8 harg8 x1 x2 x3 x8 b
  have ei := ids_eq c arg1 harg1 x1 b
  simp only [initRun.sl.r_35, initRun.sl.r_36, initRun.sl.r_37, initRun.sl.r_38, initRun.sl.r_39, initRun.sl.r_40, initRun.sl.cst_2969, k0_pay181, k0_pay182, k0_pay183, k0_pay184, k0_pay185, k0_pay186, k0_pay187, k0_pay188, k0_pay189]
  revert es
  generalize k0_pay180 (initRun.sl.r_27 c arg1 harg1 x1) (initRun.sl.r_28 c arg1 harg1 arg3 harg3 arg8 harg8 x1 x3 x8)
      (initRun.sl.r_29 c arg1 harg1 x1) (initRun.sl.r_30 c arg3 harg3 x3) (initRun.sl.r_31 c arg8 harg8 x8)
      initRun.sl.cst_3623
      (View.readAt (Elt Ideal) arg3.view (Rect.unit (s := S10x3072) ![0, 0] S10x3072.size inb_S10x3072_S10x3072_0_0).toLoadRect (harg3.unread x3))
      (View.readAt (Elt Ideal) arg8.view (Rect.unit (s := S3x3072x128) ![2, 0, 0] S1x3072x128.size inb_S3x3072x128_S1x3072x128_2_0_0).toLoadRect (harg8.unread x8))
      (initRun.sl.r_32 c arg2 harg2 x2) (initRun.sl.r_33 c arg2 harg2 x2) (initRun.sl.r_34 c arg2 harg2 x2) = S
  intro es
  pointwise
  simp only [es, ei, sel_eq]
  have hj := j.isLt
  unfold mV
  by_cases h : j.val < 64
  · rw [dif_pos h]
    exact part_eq _ _ 0 _ j.val _ (by omega) _ (by omega)
  · rw [dif_neg h]
    by_cases h2 : j.val - 64 < 64
    · rw [dif_pos h2]
      exact part_eq _ _ 1 _ j.val _ (by omega) _ (by omega)
    · rw [dif_neg h2]
      exact part_eq _ _ 2 _ j.val _ (by omega) _ (by omega)

end Cert.GateUpIdeal.Hand

end
-- ==== Proof.GateUpIdeal.Held.lean ====
/- What the carried scratches and the second output hold after the first grid point. -/
module

public import proofs.«01_k».proof.Proof.GateUpIdeal.Lora
public import proofs.«01_k».proof.Proof.GateUpIdeal.Frame

@[expose] public section

set_option maxRecDepth 16384
set_option maxHeartbeats 400000

noncomputable section

namespace Cert.GateUpIdeal.Hand

open Idealize.ShloMosaic Cert.GateUpIdeal.Gen Cert.Mx

/-- The expanded left operand. -/
def lhsG {N D : ℕ} [NeZero D] (H : ℕ) (x : Vec Ideal ⟨2, ![10, D]⟩ .bf16) : Vec Ideal ⟨3, ![N, 80, 256]⟩ .bf16 := fun y =>
  tileV H x (y 0).val ⟨(y 1).val / 8, by have : (y 1).val < 80 := (y 1).isLt; omega⟩ ⟨(y 1).val % 8, by omega⟩ (y 2)

theorem tileV_congr {D : ℕ} [NeZero D] (H : ℕ) (x : Vec Ideal ⟨2, ![10, D]⟩ .bf16) {n n' : ℕ} {b b' : Fin 10} {g g' : Fin 8} {k k' : Fin 256}
    (h1 : n = n') (h2 : b.val = b'.val) (h3 : g.val = g'.val) (h4 : k.val = k'.val) : tileV H x n b g k = tileV H x n' b' g' k' := by
  obtain rfl := h1; obtain rfl := Fin.ext h2; obtain rfl := Fin.ext h3; obtain rfl := Fin.ext h4; rfl

theorem lhs_piece {N D : ℕ} [NeZero D] (H : ℕ) (x : Vec Ideal ⟨2, ![10, D]⟩ .bf16) (P : Vec Ideal S1x80x256 .bf16) (n : ℕ) (inb)
    (h : ∀ (b : Fin 10) (g : Fin 8) (k : Fin 256), P (ix3 0 ⟨b.val * 8 + g.val, by omega⟩ k) = tileV H x n b g k)
    (y : (Rect.unit (s := ⟨3, ![N, 80, 256]⟩) ![n, 0, 0] S1x80x256.size inb).shape.Idx) :
    P y = lhsG H x ((Rect.unit (s := ⟨3, ![N, 80, 256]⟩) ![n, 0, 0] S1x80x256.size inb).emb y) := by
  have l0 : (y 0).val < 1 := (y 0).isLt
  have l1 : (y 1).val < 80 := (y 1).isLt
  have l2 : (y 2).val < 256 := (y 2).isLt
  have e : (y : S1x80x256.Idx) = ix3 0 ⟨((⟨(y 1).val / 8, by omega⟩ : Fin 10)).val * 8 + ((⟨(y 1).val % 8, by omega⟩ : Fin 8)).val, by omega⟩ ⟨(y 2).val, l2⟩ := by
    funext a
    apply Fin.ext
    match a with
    | ⟨0, _⟩ => exact (show (y 0).val = 0 by omega)
    | ⟨1, _⟩ => exact (show (y 1).val = (y 1).val / 8 * 8 + (y 1).val % 8 by omega)
    | ⟨2, _⟩ => rfl
  refine (congrArg P e).trans ((h _ _ _).trans (tileV_congr H x ?_ ?_ ?_ ?_))
  · exact (show n = n + 1 * (y 0).val by omega)
  · exact (show (y 1).val / 8 = (0 + 1 * (y 1).val) / 8 by omega)
  · exact (show (y 1).val % 8 = (0 + 1 * (y 1).val) % 8 by omega)
  · exact (show (y 2).val = 0 + 1 * (y 2).val by omega)

variable (m : (ℓ : Loc nD τ sig) → Buf (Elt Ideal) ℓ) (c : Dev nD)

theorem lhs0_eq : lhs0 m c = lhsG 1536 (iblk m c 2 p0) := by
  funext y
  have ht := tiles c (ms0_2 p0) (hs0_2 p0) (iblk m c 2 p0)
  refine View.canon_apply_of_pieces (lhsG 1536 (iblk m c 2 p0)) _ ?_ y (cover_lhs m c y)
  unfold initL initRun
  dsimp only
  simp only [List.forall_mem_cons, List.not_mem_nil, false_imp_iff, implies_true, and_true]
  and_intros
  · exact lhs_piece _ _ _ _ _ fun b g k => (ht b g k).2.2.2.2.2.2.2.2.2.2.2
  · exact lhs_piece _ _ _ _ _ fun b g k => (ht b g k).2.2.2.2.2.2.2.2.2.2.1
  · exact lhs_piece _ _ _ _ _ fun b g k => (ht b g k).2.2.2.2.2.2.2.2.2.1
  · exact lhs_piece _ _ _ _ _ fun b g k => (ht b g k).2.2.2.2.2.2.2.2.1
  · exact lhs_piece _ _ _ _ _ fun b g k => (ht b g k).2.2.2.2.2.2.2.1
  · exact lhs_piece _ _ _ _ _ fun b g k => (ht b g k).2.2.2.2.2.2.1
  · exact lhs_piece _ _ _ _ _ fun b g k => (ht b g k).2.2.2.2.2.1
  · exact lhs_piece _ _ _ _ _ fun b g k => (ht b g k).2.2.2.2.1
  · exact lhs_piece _ _ _ _ _ fun b g k => (ht b g k).2.2.2.1
  · exact lhs_piece _ _ _ _ _ fun b g k => (ht b g k).2.2.1
  · exact lhs_piece _ _ _ _ _ fun b g k => (ht b g k).2.1
  · exact lhs_piece _ _ _ _ _ fun b g k => (ht b g k).1

/-- The masked low-rank product, both halves. -/
def loraG (x1 : Vec Ideal S10 .i32) (x2 : Vec Ideal S3 .f32) (x3 : Vec Ideal S10x3072 .bf16) (x8 : Vec Ideal S3x3072x128 .bf16) : Vec Ideal S2x10x192 .bf16 := fun y =>
  mV x1 x2 x3 x8 (y 0).val (y 1) (y 2)

theorem lora_piece (x1 : Vec Ideal S10 .i32) (x2 : Vec Ideal S3 .f32) (x3 : Vec Ideal S10x3072 .bf16) (x8 : Vec Ideal S3x3072x128 .bf16) (P : Vec Ideal S1x10x192 .bf16) (t : ℕ) (inb)
    (h : ∀ (b : Fin 10) (j : Fin 192), P (ix3 0 b j) = mV x1 x2 x3 x8 t b j)
    (y : (Rect.unit (s := S2x10x192) ![t, 0, 0] S1x10x192.size inb).shape.Idx) :
    P y = loraG x1 x2 x3 x8 ((Rect.unit (s := S2x10x192) ![t, 0, 0] S1x10x192.size inb).emb y) := by
  have l0 : (y 0).val < 1 := (y 0).isLt
  have l1 : (y 1).val < 10 := (y 1).isLt
  have l2 : (y 2).val < 192 := (y 2).isLt
  have e : (y : S1x10x192.Idx) = ix3 0 ⟨(y 1).val, l1⟩ ⟨(y 2).val, l2⟩ := by
    funext a
    apply Fin.ext
    match a with
    | ⟨0, _⟩ => exact (show (y 0).val = 0 by omega)
    | ⟨1, _⟩ => rfl
    | ⟨2, _⟩ => rfl
  have mc : ∀ {t t' : ℕ} {b b' : Fin 10} {j j' : Fin 192} (_ : t = t') (_ : b.val = b'.val) (_ : j.val = j'.val), mV x1 x2 x3 x8 t b j = mV x1 x2 x3 x8 t' b' j' := by
    intro t t' b b' j j' h1 h2 h3
    obtain rfl := h1; obtain rfl := Fin.ext h2; obtain rfl := Fin.ext h3; rfl
  refine (congrArg P e).trans ((h _ _).trans (mc ?_ ?_ ?_))
  · exact (show t = t + 1 * (y 0).val by omega)
  · exact (show (y 1).val = 0 + 1 * (y 1).val by omega)
  · exact (show (y 2).val = 0 + 1 * (y 2).val by omega)

theorem lora0_eq : lora0 m c = loraG (iblk m c 0 p0) (iblk m c 1 p0) (iblk m c 2 p0) (iblk m c 7 p0) := by
  funext y
  refine View.canon_apply_of_pieces (loraG (iblk m c 0 p0) (iblk m c 1 p0) (iblk m c 2 p0) (iblk m c 7 p0)) _ ?_ y (cover_lora m c y)
  unfold initL initRun
  dsimp only
  simp only [List.forall_mem_cons, List.not_mem_nil, false_imp_iff, implies_true, and_true]
  and_intros
  · exact lora_piece _ _ _ _ _ _ _ fun b j => lora1_eq _ _ _ _ _ _ _ _ _ _ _ _ _ b j
  · exact lora_piece _ _ _ _ _ _ _ fun b j => lora0_eq' _ _ _ _ _ _ _ _ _ _ _ _ _ b j

theorem snd0_eq (b : Fin 10) (r : Fin 128) : snd0 m c (ix2 b r) = sV (iblk m c 0 p0) (iblk m c 1 p0) (iblk m c 2 p0) (iblk m c 7 p0) b r := by
  refine View.canon_apply_of_pieces (fun y : S10x128.Idx => sV (iblk m c 0 p0) (iblk m c 1 p0) (iblk m c 2 p0) (iblk m c 7 p0) (y 0) (y 1)) _ ?_ (ix2 b r) (cover_snd m c (ix2 b r))
  unfold initL initRun
  dsimp only
  simp only [List.forall_mem_cons, List.not_mem_nil, false_imp_iff, implies_true, and_true]
  intro (y : S10x128.Idx)
  have e : y = ix2 (y 0) (y 1) := by funext a; match a with | ⟨0, _⟩ => rfl | ⟨1, _⟩ => rfl
  rw [e]
  refine (snd_eq _ _ _ _ _ _ _ _ _ _ _ _ _ (y 0) (y 1)).trans (congrArg₂ (sV _ _ _ _) (Fin.ext ?_) (Fin.ext ?_))
  · exact (show (y 0).val = 0 + 1 * (y 0).val by omega)
  · exact (show (y 1).val = 0 + 1 * (y 1).val by omega)

end Cert.GateUpIdeal.Hand

end
-- ==== Proof.GateUpIdeal.Words.lean ====
/- The values that the run found in the scale scratches and the four accumulators, read as the block product's. -/
module

public import proofs.«01_k».proof.Proof.GateUpIdeal.RestRun
public import proofs.«01_k».proof.Proof.Mx.Read

@[expose] public section

set_option maxRecDepth 16384
set_option maxHeartbeats 1000000

noncomputable section

namespace Cert.GateUpIdeal.Hand

open Idealize.ShloMosaic Cert.GateUpIdeal.Gen Cert.Mx

variable {F : FTy → Type} [FloatOps F]

/-- The scale scratch of arg6. -/
theorem H14_48_eq (c : Dev nD) (arg6 : Memref sig .tc .vmem S96x512 .i8) (harg6 : arg6.IsWhole) (x6 : Vec F S96x512 .i8) : View.canon (restRun.sl.H14_48 c arg6 harg6 x6) = scG (Q := 6) (T := 4) (R := 96) (C := 512) x6 := by
  funext y
  have hc := View.cover_of_tiledL (s := S6x4x16x128) (restRun.sl.H14_48 c arg6 harg6 x6) S1x1x8x128.size (by unfold restRun.sl.H14_48; sl_kernel_rfl) y
  refine View.canon_apply_of_pieces (scG (Q := 6) (T := 4) (R := 96) (C := 512) x6) _ ?_ y hc
  clear hc
  simp only [restRun.sl.H14_48, restRun.sl.r, restRun.sl.r_2, restRun.sl.r_1, restRun.sl.r_4, restRun.sl.r_3, restRun.sl.r_5, restRun.sl.r_7, restRun.sl.r_6]
  simp only [k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, readAt_scT (R := 96) (C := 512)]
  simp only [List.forall_mem_cons, List.not_mem_nil, false_imp_iff, implies_true, and_true]
  and_intros <;> exact scPiece_agrees (Q := 6) (T := 4) (R := 96) (C := 512) _ _ _ _ _ _ (by decide) (by decide) (by decide) (by decide) (by decide) (by decide) (by decide) _ _ _

/-- The scale scratch of arg7. -/
theorem H15_48_eq (c : Dev nD) (arg7 : Memref sig .tc .vmem S96x512 .i8) (harg7 : arg7.IsWhole) (x7 : Vec F S96x512 .i8) : View.canon (restRun.sl.H15_48 c arg7 harg7 x7) = scG (Q := 6) (T := 4) (R := 96) (C := 512) x7 := by
  funext y
  have hc := View.cover_of_tiledL (s := S6x4x16x128) (restRun.sl.H15_48 c arg7 harg7 x7) S1x1x8x128.size (by unfold restRun.sl.H15_48; sl_kernel_rfl) y
  refine View.canon_apply_of_pieces (scG (Q := 6) (T := 4) (R := 96) (C := 512) x7) _ ?_ y hc
  clear hc
  simp only [restRun.sl.H15_48, restRun.sl.r_9, restRun.sl.r_8, restRun.sl.r_10, restRun.sl.r_12, restRun.sl.r_11, restRun.sl.r_13, restRun.sl.r_14, restRun.sl.r_15, restRun.sl.r_17, restRun.sl.r_16, restRun.sl.r_18]
  simp only [k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, readAt_scT (R := 96) (C := 512)]
  simp only [List.forall_mem_cons, List.not_mem_nil, false_imp_iff, implies_true, and_true]
  and_intros <;> exact scPiece_agrees (Q := 6) (T := 4) (R := 96) (C := 512) _ _ _ _ _ _ (by decide) (by decide) (by decide) (by decide) (by decide) (by decide) (by decide) _ _ _

/-- The accumulator: gate, columns 0 to 255. -/
theorem acc0_eq (c : Dev nD) (arg4 : Memref sig .tc .vmem S1536x512 .i8) (harg4 : arg4.IsWhole) (arg6 : Memref sig .tc .vmem S96x512 .i8) (harg6 : arg6.IsWhole) (arg12 : Memref sig .tc .vmem S12x80x256 .bf16) (harg12 : arg12.IsWhole) (arg14 : Memref sig .tc .vmem S6x4x16x128 .f32) (x4 : Vec F S1536x512 .i8) (x6 : Vec F S96x512 .i8) (x12 : Vec F S12x80x256 .bf16) : restRun.sl.r_61 c arg4 harg4 arg6 harg6 arg12 harg12 arg14 x4 x6 x12 = accT (R := 1536) (C := 512) (N := 12) (Q := 6) (T := 4) x4 x12 (scG x6) 0 11 := by
  simp only [restRun.sl.r_61, restRun.sl.v1018, restRun.sl.v1016, restRun.sl.r_60, restRun.sl.r_59, restRun.sl.v968, restRun.sl.v966, restRun.sl.r_58, restRun.sl.r_57, restRun.sl.r_56, restRun.sl.v918, restRun.sl.v916, restRun.sl.r_55, restRun.sl.r_54, restRun.sl.r_53, restRun.sl.r_52, restRun.sl.v868, restRun.sl.v866, restRun.sl.r_51, restRun.sl.r_50, restRun.sl.r_49, restRun.sl.r_48, restRun.sl.v818, restRun.sl.v816, restRun.sl.r_47, restRun.sl.r_46, restRun.sl.v768, restRun.sl.r_45, restRun.sl.v766, restRun.sl.r_44, restRun.sl.r_43, restRun.sl.r_42, restRun.sl.v718, restRun.sl.v716, restRun.sl.r_41, restRun.sl.r_40, restRun.sl.r_39, restRun.sl.r_38, restRun.sl.r_37, restRun.sl.r_36, restRun.sl.v668, restRun.sl.v666, restRun.sl.r_35, restRun.sl.r_34, restRun.sl.r_33, restRun.sl.v618, restRun.sl.v616, restRun.sl.r_32, restRun.sl.r_31, restRun.sl.r_30, restRun.sl.r_29, restRun.sl.v568, restRun.sl.v566, restRun.sl.r_28, restRun.sl.r_27, restRun.sl.r_26, restRun.sl.r_25, restRun.sl.r_24, restRun.sl.r_23, restRun.sl.v518, restRun.sl.v516, restRun.sl.r_22, restRun.sl.r_21, restRun.sl.r_20, restRun.sl.v469, restRun.sl.v467, restRun.sl.r_19]
  simp only [readAt_slab (R := 1536) (C := 512), readAt_lhsT (N := 12), readCov_sclT (Q := 6) (T := 4), Nat.reduceLT, H14_48_eq]
  simp only [k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, accT, tileC, contrib, wTile, k0_pay344, Nat.reduceMul, Nat.reduceAdd, Nat.reduceDiv, Nat.reduceMod]

/-- The accumulator: up, columns 0 to 255. -/
theorem acc1_eq (c : Dev nD) (arg5 : Memref sig .tc .vmem S1536x512 .i8) (harg5 : arg5.IsWhole) (arg7 : Memref sig .tc .vmem S96x512 .i8) (harg7 : arg7.IsWhole) (arg12 : Memref sig .tc .vmem S12x80x256 .bf16) (harg12 : arg12.IsWhole) (arg15 : Memref sig .tc .vmem S6x4x16x128 .f32) (x5 : Vec F S1536x512 .i8) (x7 : Vec F S96x512 .i8) (x12 : Vec F S12x80x256 .bf16) : restRun.sl.r_122 c arg5 harg5 arg7 harg7 arg12 harg12 arg15 x5 x7 x12 = accT (R := 1536) (C := 512) (N := 12) (Q := 6) (T := 4) x5 x12 (scG x7) 0 11 := by
  simp only [restRun.sl.r_122, restRun.sl.v1840, restRun.sl.v1838, restRun.sl.r_121, restRun.sl.r_120, restRun.sl.r_119, restRun.sl.r_118, restRun.sl.r_117, restRun.sl.v1790, restRun.sl.v1788, restRun.sl.r_116, restRun.sl.r_115, restRun.sl.r_114, restRun.sl.r_113, restRun.sl.v1740, restRun.sl.v1738, restRun.sl.r_112, restRun.sl.r_111, restRun.sl.r_110, restRun.sl.v1690, restRun.sl.v1688, restRun.sl.r_109, restRun.sl.r_108, restRun.sl.r_107, restRun.sl.v1640, restRun.sl.r_106, restRun.sl.v1638, restRun.sl.r_105, restRun.sl.r_104, restRun.sl.r_103, restRun.sl.r_102, restRun.sl.r_101, restRun.sl.r_100, restRun.sl.v1590, restRun.sl.v1588, restRun.sl.r_99, restRun.sl.r_98, restRun.sl.r_97, restRun.sl.r_96, restRun.sl.r_95, restRun.sl.v1540, restRun.sl.v1538, restRun.sl.r_94, restRun.sl.r_93, restRun.sl.r_92, restRun.sl.r_90, restRun.sl.r_89, restRun.sl.r_91, restRun.sl.v1490, restRun.sl.v1488, restRun.sl.r_88, restRun.sl.v1440, restRun.sl.v1438, restRun.sl.r_87, restRun.sl.r_86, restRun.sl.r_85, restRun.sl.r_84, restRun.sl.r_83, restRun.sl.r_82, restRun.sl.v1390, restRun.sl.v1388, restRun.sl.r_81, restRun.sl.r_80, restRun.sl.r_79, restRun.sl.v1340, restRun.sl.v1338, restRun.sl.r_78, restRun.sl.r_77, restRun.sl.v1291, restRun.sl.v1289, restRun.sl.r_76, restRun.sl.r_75]
  simp only [readAt_slab (R := 1536) (C := 512), readAt_lhsT (N := 12), readCov_sclT (Q := 6) (T := 4), Nat.reduceLT, H15_48_eq]
  simp only [k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, accT, tileC, contrib, wTile, k0_pay344, Nat.reduceMul, Nat.reduceAdd, Nat.reduceDiv, Nat.reduceMod]

/-- The accumulator: gate, columns 256 to 511. -/
theorem acc2_eq (c : Dev nD) (arg4 : Memref sig .tc .vmem S1536x512 .i8) (harg4 : arg4.IsWhole) (arg6 : Memref sig .tc .vmem S96x512 .i8) (harg6 : arg6.IsWhole) (arg12 : Memref sig .tc .vmem S12x80x256 .bf16) (harg12 : arg12.IsWhole) (arg14 : Memref sig .tc .vmem S6x4x16x128 .f32) (x4 : Vec F S1536x512 .i8) (x6 : Vec F S96x512 .i8) (x12 : Vec F S12x80x256 .bf16) : restRun.sl.r_177 c arg4 harg4 arg6 harg6 arg12 harg12 arg14 x4 x6 x12 = accT (R := 1536) (C := 512) (N := 12) (Q := 6) (T := 4) x4 x12 (scG x6) 256 11 := by
  simp only [restRun.sl.r_177, restRun.sl.v2681, restRun.sl.v2679, restRun.sl.r_176, restRun.sl.r_175, restRun.sl.v2631, restRun.sl.v2629, restRun.sl.r_174, restRun.sl.r_173, restRun.sl.r_172, restRun.sl.v2581, restRun.sl.r_171, restRun.sl.v2579, restRun.sl.r_170, restRun.sl.r_169, restRun.sl.r_168, restRun.sl.r_167, restRun.sl.r_166, restRun.sl.v2531, restRun.sl.v2529, restRun.sl.r_165, restRun.sl.r_164, restRun.sl.r_163, restRun.sl.r_162, restRun.sl.v2481, restRun.sl.v2479, restRun.sl.cst_1869, restRun.sl.r_161, restRun.sl.r_160, restRun.sl.r_159, restRun.sl.v2431, restRun.sl.r_158, restRun.sl.v2429, restRun.sl.r_157, restRun.sl.r_156, restRun.sl.r_155, restRun.sl.v2381, restRun.sl.v2379, restRun.sl.r_154, restRun.sl.r_153, restRun.sl.r_152, restRun.sl.r_151, restRun.sl.r_150, restRun.sl.r_149, restRun.sl.v2331, restRun.sl.v2329, restRun.sl.r_148, restRun.sl.r_147, restRun.sl.r_146, restRun.sl.v2281, restRun.sl.v2279, restRun.sl.r_145, restRun.sl.r_144, restRun.sl.r_143, restRun.sl.v2231, restRun.sl.v2229, restRun.sl.r_142, restRun.sl.r_141, restRun.sl.r_140, restRun.sl.r_139, restRun.sl.r_138, restRun.sl.v2181, restRun.sl.v2179, restRun.sl.r_137, restRun.sl.r_136, restRun.sl.r_135, restRun.sl.r_134, restRun.sl.v2132, restRun.sl.v2130, restRun.sl.r_133, restRun.sl.r_132]
  simp only [readAt_slab (R := 1536) (C := 512), readAt_lhsT (N := 12), readCov_sclT (Q := 6) (T := 4), Nat.reduceLT, H14_48_eq]
  simp only [k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, accT, tileC, contrib, wTile, k0_pay344, Nat.reduceMul, Nat.reduceAdd, Nat.reduceDiv, Nat.reduceMod]

/-- The accumulator: up, columns 256 to 511. -/
theorem acc3_eq (c : Dev nD) (arg5 : Memref sig .tc .vmem S1536x512 .i8) (harg5 : arg5.IsWhole) (arg7 : Memref sig .tc .vmem S96x512 .i8) (harg7 : arg7.IsWhole) (arg12 : Memref sig .tc .vmem S12x80x256 .bf16) (harg12 : arg12.IsWhole) (arg15 : Memref sig .tc .vmem S6x4x16x128 .f32) (x5 : Vec F S1536x512 .i8) (x7 : Vec F S96x512 .i8) (x12 : Vec F S12x80x256 .bf16) : restRun.sl.r_229 c arg5 harg5 arg7 harg7 arg12 harg12 arg15 x5 x7 x12 = accT (R := 1536) (C := 512) (N := 12) (Q := 6) (T := 4) x5 x12 (scG x7) 256 11 := by
  simp only [restRun.sl.r_229, restRun.sl.v3503, restRun.sl.v3501, restRun.sl.r_228, restRun.sl.r_227, restRun.sl.r_226, restRun.sl.v3453, restRun.sl.v3451, restRun.sl.r_225, restRun.sl.r_224, restRun.sl.r_223, restRun.sl.r_222, restRun.sl.v3403, restRun.sl.v3401, restRun.sl.r_221, restRun.sl.r_220, restRun.sl.r_219, restRun.sl.r_218, restRun.sl.v3353, restRun.sl.v3351, restRun.sl.r_217, restRun.sl.r_216, restRun.sl.v3303, restRun.sl.r_215, restRun.sl.v3301, restRun.sl.r_214, restRun.sl.r_213, restRun.sl.r_212, restRun.sl.v3253, restRun.sl.v3251, restRun.sl.r_211, restRun.sl.r_210, restRun.sl.r_209, restRun.sl.r_208, restRun.sl.r_207, restRun.sl.r_206, restRun.sl.v3203, restRun.sl.v3201, restRun.sl.r_205, restRun.sl.r_204, restRun.sl.r_203, restRun.sl.v3153, restRun.sl.v3151, restRun.sl.r_202, restRun.sl.r_201, restRun.sl.r_200, restRun.sl.r_199, restRun.sl.v3103, restRun.sl.v3101, restRun.sl.r_198, restRun.sl.r_197, restRun.sl.r_196, restRun.sl.r_195, restRun.sl.r_194, restRun.sl.r_193, restRun.sl.v3053, restRun.sl.v3051, restRun.sl.r_192, restRun.sl.r_191, restRun.sl.r_190, restRun.sl.v3003, restRun.sl.v3001, restRun.sl.r_189, restRun.sl.r_188, restRun.sl.v2954, restRun.sl.v2952, restRun.sl.r_187, restRun.sl.r_186]
  simp only [readAt_slab (R := 1536) (C := 512), readAt_lhsT (N := 12), readCov_sclT (Q := 6) (T := 4), Nat.reduceLT, H15_48_eq]
  simp only [k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, accT, tileC, contrib, wTile, k0_pay344, Nat.reduceMul, Nat.reduceAdd, Nat.reduceDiv, Nat.reduceMod]

end Cert.GateUpIdeal.Hand

end
-- ==== Proof.GateUpIdeal.Sums.lean ====
/- The four column blocks of a grid point: the accumulators summed over their groups through the column scratch. -/
module

public import proofs.«01_k».proof.Proof.GateUpIdeal.Words

@[expose] public section

set_option maxRecDepth 16384
set_option maxHeartbeats 1000000

noncomputable section

namespace Cert.GateUpIdeal.Hand

open Idealize.ShloMosaic Cert.GateUpIdeal.Gen Cert.Mx

variable {F : FTy → Type} [FloatOps F]

theorem H16_10_eq (c : Dev nD) (arg4 : Memref sig .tc .vmem S1536x512 .i8) (harg4 : arg4.IsWhole) (arg6 : Memref sig .tc .vmem S96x512 .i8) (harg6 : arg6.IsWhole) (arg12 : Memref sig .tc .vmem S12x80x256 .bf16) (harg12 : arg12.IsWhole) (arg14 : Memref sig .tc .vmem S6x4x16x128 .f32) (x4 : Vec F S1536x512 .i8) (x6 : Vec F S96x512 .i8) (x12 : Vec F S12x80x256 .bf16) : restRun.sl.H16_10 c arg4 harg4 arg6 harg6 arg12 harg12 arg14 x4 x6 x12 = redPieces (S := 4) 0 0 (by decide) (by decide) (restRun.sl.r_61 c arg4 harg4 arg6 harg6 arg12 harg12 arg14 x4 x6 x12) ++ [] := by
  simp only [restRun.sl.H16_10, restRun.sl.r_62, restRun.sl.r_63, restRun.sl.r_64]
  simp only [k0_pay345, k0_pay346, k0_pay347, k0_pay348, k0_pay349, k0_pay350, k0_pay351, k0_pay352, k0_pay353, k0_pay354, k0_pay355, k0_pay356, k0_pay357, k0_pay358]
  rfl

theorem H16_20_eq (c : Dev nD) (arg4 : Memref sig .tc .vmem S1536x512 .i8) (harg4 : arg4.IsWhole) (arg6 : Memref sig .tc .vmem S96x512 .i8) (harg6 : arg6.IsWhole) (arg12 : Memref sig .tc .vmem S12x80x256 .bf16) (harg12 : arg12.IsWhole) (arg14 : Memref sig .tc .vmem S6x4x16x128 .f32) (x4 : Vec F S1536x512 .i8) (x6 : Vec F S96x512 .i8) (x12 : Vec F S12x80x256 .bf16) : restRun.sl.H16_20 c arg4 harg4 arg6 harg6 arg12 harg12 arg14 x4 x6 x12 = redPieces (S := 4) 0 1 (by decide) (by decide) (restRun.sl.r_61 c arg4 harg4 arg6 harg6 arg12 harg12 arg14 x4 x6 x12) ++ restRun.sl.H16_10 c arg4 harg4 arg6 harg6 arg12 harg12 arg14 x4 x6 x12 := by
  simp only [restRun.sl.H16_20, restRun.sl.r_68, restRun.sl.r_69]
  simp only [k0_pay362, k0_pay363, k0_pay364, k0_pay365, k0_pay366, k0_pay367, k0_pay368, k0_pay369, k0_pay370, k0_pay371, k0_pay372, k0_pay373]
  rfl

theorem H16_30_eq (c : Dev nD) (arg4 : Memref sig .tc .vmem S1536x512 .i8) (harg4 : arg4.IsWhole) (arg5 : Memref sig .tc .vmem S1536x512 .i8) (harg5 : arg5.IsWhole) (arg6 : Memref sig .tc .vmem S96x512 .i8) (harg6 : arg6.IsWhole) (arg7 : Memref sig .tc .vmem S96x512 .i8) (harg7 : arg7.IsWhole) (arg12 : Memref sig .tc .vmem S12x80x256 .bf16) (harg12 : arg12.IsWhole) (arg14 : Memref sig .tc .vmem S6x4x16x128 .f32) (arg15 : Memref sig .tc .vmem S6x4x16x128 .f32) (x4 : Vec F S1536x512 .i8) (x5 : Vec F S1536x512 .i8) (x6 : Vec F S96x512 .i8) (x7 : Vec F S96x512 .i8) (x12 : Vec F S12x80x256 .bf16) : restRun.sl.H16_30 c arg4 harg4 arg5 harg5 arg6 harg6 arg7 harg7 arg12 harg12 arg14 arg15 x4 x5 x6 x7 x12 = redPieces (S := 4) 1 0 (by decide) (by decide) (restRun.sl.r_122 c arg5 harg5 arg7 harg7 arg12 harg12 arg15 x5 x7 x12) ++ restRun.sl.H16_20 c arg4 harg4 arg6 harg6 arg12 harg12 arg14 x4 x6 x12 := by
  simp only [restRun.sl.H16_30, restRun.sl.r_117, restRun.sl.r_118, restRun.sl.r_119, restRun.sl.r_120, restRun.sl.r_121, restRun.sl.r_123, restRun.sl.r_124, restRun.sl.r_125]
  simp only [k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435]
  rfl

theorem H16_40_eq (c : Dev nD) (arg4 : Memref sig .tc .vmem S1536x512 .i8) (harg4 : arg4.IsWhole) (arg5 : Memref sig .tc .vmem S1536x512 .i8) (harg5 : arg5.IsWhole) (arg6 : Memref sig .tc .vmem S96x512 .i8) (harg6 : arg6.IsWhole) (arg7 : Memref sig .tc .vmem S96x512 .i8) (harg7 : arg7.IsWhole) (arg12 : Memref sig .tc .vmem S12x80x256 .bf16) (harg12 : arg12.IsWhole) (arg14 : Memref sig .tc .vmem S6x4x16x128 .f32) (arg15 : Memref sig .tc .vmem S6x4x16x128 .f32) (arg16 : Memref sig .tc .vmem S4x2x96x128 .f32) (x4 : Vec F S1536x512 .i8) (x5 : Vec F S1536x512 .i8) (x6 : Vec F S96x512 .i8) (x7 : Vec F S96x512 .i8) (x12 : Vec F S12x80x256 .bf16) : restRun.sl.H16_40 c arg4 harg4 arg5 harg5 arg6 harg6 arg7 harg7 arg12 harg12 arg14 arg15 arg16 x4 x5 x6 x7 x12 = redPieces (S := 4) 1 1 (by decide) (by decide) (restRun.sl.r_122 c arg5 harg5 arg7 harg7 arg12 harg12 arg15 x5 x7 x12) ++ restRun.sl.H16_30 c arg4 harg4 arg5 harg5 arg6 harg6 arg7 harg7 arg12 harg12 arg14 arg15 x4 x5 x6 x7 x12 := by
  simp only [restRun.sl.H16_40, restRun.sl.r_128]
  simp only [k0_pay438, k0_pay447]
  rfl

theorem H16_50_eq (c : Dev nD) (arg4 : Memref sig .tc .vmem S1536x512 .i8) (harg4 : arg4.IsWhole) (arg5 : Memref sig .tc .vmem S1536x512 .i8) (harg5 : arg5.IsWhole) (arg6 : Memref sig .tc .vmem S96x512 .i8) (harg6 : arg6.IsWhole) (arg7 : Memref sig .tc .vmem S96x512 .i8) (harg7 : arg7.IsWhole) (arg12 : Memref sig .tc .vmem S12x80x256 .bf16) (harg12 : arg12.IsWhole) (arg14 : Memref sig .tc .vmem S6x4x16x128 .f32) (arg15 : Memref sig .tc .vmem S6x4x16x128 .f32) (arg16 : Memref sig .tc .vmem S4x2x96x128 .f32) (x4 : Vec F S1536x512 .i8) (x5 : Vec F S1536x512 .i8) (x6 : Vec F S96x512 .i8) (x7 : Vec F S96x512 .i8) (x12 : Vec F S12x80x256 .bf16) : restRun.sl.H16_50 c arg4 harg4 arg5 harg5 arg6 harg6 arg7 harg7 arg12 harg12 arg14 arg15 arg16 x4 x5 x6 x7 x12 = redPieces (S := 4) 2 0 (by decide) (by decide) (restRun.sl.r_177 c arg4 harg4 arg6 harg6 arg12 harg12 arg14 x4 x6 x12) ++ restRun.sl.H16_40 c arg4 harg4 arg5 harg5 arg6 harg6 arg7 harg7 arg12 harg12 arg14 arg15 arg16 x4 x5 x6 x7 x12 := by
  simp only [restRun.sl.H16_50]
  simp only [k0_pay507, k0_pay508]
  rfl

theorem H16_60_eq (c : Dev nD) (arg4 : Memref sig .tc .vmem S1536x512 .i8) (harg4 : arg4.IsWhole) (arg5 : Memref sig .tc .vmem S1536x512 .i8) (harg5 : arg5.IsWhole) (arg6 : Memref sig .tc .vmem S96x512 .i8) (harg6 : arg6.IsWhole) (arg7 : Memref sig .tc .vmem S96x512 .i8) (harg7 : arg7.IsWhole) (arg12 : Memref sig .tc .vmem S12x80x256 .bf16) (harg12 : arg12.IsWhole) (arg14 : Memref sig .tc .vmem S6x4x16x128 .f32) (arg15 : Memref sig .tc .vmem S6x4x16x128 .f32) (arg16 : Memref sig .tc .vmem S4x2x96x128 .f32) (x4 : Vec F S1536x512 .i8) (x5 : Vec F S1536x512 .i8) (x6 : Vec F S96x512 .i8) (x7 : Vec F S96x512 .i8) (x12 : Vec F S12x80x256 .bf16) : restRun.sl.H16_60 c arg4 harg4 arg5 harg5 arg6 harg6 arg7 harg7 arg12 harg12 arg14 arg15 arg16 x4 x5 x6 x7 x12 = redPieces (S := 4) 2 1 (by decide) (by decide) (restRun.sl.r_177 c arg4 harg4 arg6 harg6 arg12 harg12 arg14 x4 x6 x12) ++ restRun.sl.H16_50 c arg4 harg4 arg5 harg5 arg6 harg6 arg7 harg7 arg12 harg12 arg14 arg15 arg16 x4 x5 x6 x7 x12 := by
  simp only [restRun.sl.H16_60]
  simp only [k0_pay512, k0_pay513, k0_pay514, k0_pay521, k0_pay522, k0_pay523]
  rfl

theorem H16_70_eq (c : Dev nD) (arg4 : Memref sig .tc .vmem S1536x512 .i8) (harg4 : arg4.IsWhole) (arg5 : Memref sig .tc .vmem S1536x512 .i8) (harg5 : arg5.IsWhole) (arg6 : Memref sig .tc .vmem S96x512 .i8) (harg6 : arg6.IsWhole) (arg7 : Memref sig .tc .vmem S96x512 .i8) (harg7 : arg7.IsWhole) (arg12 : Memref sig .tc .vmem S12x80x256 .bf16) (harg12 : arg12.IsWhole) (arg14 : Memref sig .tc .vmem S6x4x16x128 .f32) (arg15 : Memref sig .tc .vmem S6x4x16x128 .f32) (arg16 : Memref sig .tc .vmem S4x2x96x128 .f32) (x4 : Vec F S1536x512 .i8) (x5 : Vec F S1536x512 .i8) (x6 : Vec F S96x512 .i8) (x7 : Vec F S96x512 .i8) (x12 : Vec F S12x80x256 .bf16) : restRun.sl.H16_70 c arg4 harg4 arg5 harg5 arg6 harg6 arg7 harg7 arg12 harg12 arg14 arg15 arg16 x4 x5 x6 x7 x12 = redPieces (S := 4) 3 0 (by decide) (by decide) (restRun.sl.r_229 c arg5 harg5 arg7 harg7 arg12 harg12 arg15 x5 x7 x12) ++ restRun.sl.H16_60 c arg4 harg4 arg5 harg5 arg6 harg6 arg7 harg7 arg12 harg12 arg14 arg15 arg16 x4 x5 x6 x7 x12 := by
  simp only [restRun.sl.H16_70, restRun.sl.r_226, restRun.sl.r_227, restRun.sl.r_228]
  simp only [k0_pay567, k0_pay568, k0_pay569, k0_pay570, k0_pay571, k0_pay583]
  rfl

theorem H16_80_eq (c : Dev nD) (arg4 : Memref sig .tc .vmem S1536x512 .i8) (harg4 : arg4.IsWhole) (arg5 : Memref sig .tc .vmem S1536x512 .i8) (harg5 : arg5.IsWhole) (arg6 : Memref sig .tc .vmem S96x512 .i8) (harg6 : arg6.IsWhole) (arg7 : Memref sig .tc .vmem S96x512 .i8) (harg7 : arg7.IsWhole) (arg12 : Memref sig .tc .vmem S12x80x256 .bf16) (harg12 : arg12.IsWhole) (arg14 : Memref sig .tc .vmem S6x4x16x128 .f32) (arg15 : Memref sig .tc .vmem S6x4x16x128 .f32) (arg16 : Memref sig .tc .vmem S4x2x96x128 .f32) (x4 : Vec F S1536x512 .i8) (x5 : Vec F S1536x512 .i8) (x6 : Vec F S96x512 .i8) (x7 : Vec F S96x512 .i8) (x12 : Vec F S12x80x256 .bf16) : restRun.sl.H16_80 c arg4 harg4 arg5 harg5 arg6 harg6 arg7 harg7 arg12 harg12 arg14 arg15 arg16 x4 x5 x6 x7 x12 = redPieces (S := 4) 3 1 (by decide) (by decide) (restRun.sl.r_229 c arg5 harg5 arg7 harg7 arg12 harg12 arg15 x5 x7 x12) ++ restRun.sl.H16_70 c arg4 harg4 arg5 harg5 arg6 harg6 arg7 harg7 arg12 harg12 arg14 arg15 arg16 x4 x5 x6 x7 x12 := by
  simp only [restRun.sl.H16_80]
  simp only [k0_pay586, k0_pay598]
  rfl

/-- The column block: gate, columns 0 to 255. -/
theorem sum0_eq (c : Dev nD) (arg4 : Memref sig .tc .vmem S1536x512 .i8) (harg4 : arg4.IsWhole) (arg6 : Memref sig .tc .vmem S96x512 .i8) (harg6 : arg6.IsWhole) (arg12 : Memref sig .tc .vmem S12x80x256 .bf16) (harg12 : arg12.IsWhole) (arg14 : Memref sig .tc .vmem S6x4x16x128 .f32) (arg16 : Memref sig .tc .vmem S4x2x96x128 .f32) (x4 : Vec F S1536x512 .i8) (x6 : Vec F S96x512 .i8) (x12 : Vec F S12x80x256 .bf16) : restRun.sl.r_74 c arg4 harg4 arg6 harg6 arg12 harg12 arg14 arg16 x4 x6 x12 = redC (accT (R := 1536) (C := 512) (N := 12) (Q := 6) (T := 4) x4 x12 (scG x6) 0 11) := by
  simp -proj only [restRun.sl.r_74, restRun.sl.v1245, restRun.sl.r_73, restRun.sl.v1240, restRun.sl.r_72, restRun.sl.v1235, restRun.sl.v1230, restRun.sl.v1225, restRun.sl.v1220, restRun.sl.r_71, restRun.sl.v1215, restRun.sl.r_70, restRun.sl.v1209, restRun.sl.r_67, restRun.sl.v1134, restRun.sl.r_66, restRun.sl.v1129, restRun.sl.v1124, restRun.sl.v1119, restRun.sl.v1114, restRun.sl.v1109, restRun.sl.r_65, restRun.sl.v1104, restRun.sl.v1098]
  simp only [H16_10_eq, H16_20_eq, acc0_eq]
  simp only [k0_pay359, k0_pay360, k0_pay361, k0_pay374, k0_pay375, k0_pay376, redC, redS]
  refine congrArg₂ (fun a b => concatenate S10x256 1 [⟨S10x128, a⟩, ⟨S10x128, b⟩] concatenates_S10x128_S10x128_S10x256_d1) ?_ ?_
  · iterate 8 refine congrArg₂ addf ?_ (congrArg (fun v => shapeCast S10x128 v shapeCasts_S1x10x128_S10x128) ?_)
    · rfl
    all_goals exact readRed (S := 4) arg16.view 0 0 _ (by decide) (by decide) (by decide) _ _ _ _ _ _ _ _
  · iterate 8 refine congrArg₂ addf ?_ (congrArg (fun v => shapeCast S10x128 v shapeCasts_S1x10x128_S10x128) ?_)
    · rfl
    all_goals exact readRed (S := 4) arg16.view 0 1 _ (by decide) (by decide) (by decide) _ _ _ _ _ _ _ _

/-- The column block: up, columns 0 to 255. -/
theorem sum1_eq (c : Dev nD) (arg4 : Memref sig .tc .vmem S1536x512 .i8) (harg4 : arg4.IsWhole) (arg5 : Memref sig .tc .vmem S1536x512 .i8) (harg5 : arg5.IsWhole) (arg6 : Memref sig .tc .vmem S96x512 .i8) (harg6 : arg6.IsWhole) (arg7 : Memref sig .tc .vmem S96x512 .i8) (harg7 : arg7.IsWhole) (arg12 : Memref sig .tc .vmem S12x80x256 .bf16) (harg12 : arg12.IsWhole) (arg14 : Memref sig .tc .vmem S6x4x16x128 .f32) (arg15 : Memref sig .tc .vmem S6x4x16x128 .f32) (arg16 : Memref sig .tc .vmem S4x2x96x128 .f32) (x4 : Vec F S1536x512 .i8) (x5 : Vec F S1536x512 .i8) (x6 : Vec F S96x512 .i8) (x7 : Vec F S96x512 .i8) (x12 : Vec F S12x80x256 .bf16) : restRun.sl.r_130 c arg4 harg4 arg5 harg5 arg6 harg6 arg7 harg7 arg12 harg12 arg14 arg15 arg16 x4 x5 x6 x7 x12 = redC (accT (R := 1536) (C := 512) (N := 12) (Q := 6) (T := 4) x5 x12 (scG x7) 0 11) := by
  simp -proj only [restRun.sl.r_130, restRun.sl.v2067, restRun.sl.v2062, restRun.sl.v2057, restRun.sl.v2052, restRun.sl.v2047, restRun.sl.r_129, restRun.sl.v2042, restRun.sl.v2037, restRun.sl.v2031, restRun.sl.r_127, restRun.sl.v1956, restRun.sl.v1951, restRun.sl.v1946, restRun.sl.v1941, restRun.sl.r_126, restRun.sl.v1936, restRun.sl.v1931, restRun.sl.v1926, restRun.sl.v1920, restRun.sl.r_74, restRun.sl.v1245, restRun.sl.r_73, restRun.sl.v1240, restRun.sl.r_72, restRun.sl.v1235, restRun.sl.v1230, restRun.sl.v1225, restRun.sl.v1220, restRun.sl.r_71, restRun.sl.v1215, restRun.sl.r_70, restRun.sl.v1209, restRun.sl.r_67, restRun.sl.v1134, restRun.sl.r_66, restRun.sl.v1129, restRun.sl.v1124, restRun.sl.v1119, restRun.sl.v1114, restRun.sl.v1109, restRun.sl.r_65, restRun.sl.v1104, restRun.sl.v1098]
  simp only [H16_30_eq, H16_40_eq, acc1_eq]
  simp only [k0_pay359, k0_pay360, k0_pay361, k0_pay374, k0_pay375, k0_pay376, k0_pay436, k0_pay437, k0_pay448, k0_pay449, redC, redS]
  refine congrArg₂ (fun a b => concatenate S10x256 1 [⟨S10x128, a⟩, ⟨S10x128, b⟩] concatenates_S10x128_S10x128_S10x256_d1) ?_ ?_
  · iterate 8 refine congrArg₂ addf ?_ (congrArg (fun v => shapeCast S10x128 v shapeCasts_S1x10x128_S10x128) ?_)
    · rfl
    all_goals exact readRed (S := 4) arg16.view 1 0 _ (by decide) (by decide) (by decide) _ _ _ _ _ _ _ _
  · iterate 8 refine congrArg₂ addf ?_ (congrArg (fun v => shapeCast S10x128 v shapeCasts_S1x10x128_S10x128) ?_)
    · rfl
    all_goals exact readRed (S := 4) arg16.view 1 1 _ (by decide) (by decide) (by decide) _ _ _ _ _ _ _ _

/-- The column block: gate, columns 256 to 511. -/
theorem sum2_eq (c : Dev nD) (arg4 : Memref sig .tc .vmem S1536x512 .i8) (harg4 : arg4.IsWhole) (arg5 : Memref sig .tc .vmem S1536x512 .i8) (harg5 : arg5.IsWhole) (arg6 : Memref sig .tc .vmem S96x512 .i8) (harg6 : arg6.IsWhole) (arg7 : Memref sig .tc .vmem S96x512 .i8) (harg7 : arg7.IsWhole) (arg12 : Memref sig .tc .vmem S12x80x256 .bf16) (harg12 : arg12.IsWhole) (arg14 : Memref sig .tc .vmem S6x4x16x128 .f32) (arg15 : Memref sig .tc .vmem S6x4x16x128 .f32) (arg16 : Memref sig .tc .vmem S4x2x96x128 .f32) (x4 : Vec F S1536x512 .i8) (x5 : Vec F S1536x512 .i8) (x6 : Vec F S96x512 .i8) (x7 : Vec F S96x512 .i8) (x12 : Vec F S12x80x256 .bf16) : restRun.sl.r_185 c arg4 harg4 arg5 harg5 arg6 harg6 arg7 harg7 arg12 harg12 arg14 arg15 arg16 x4 x5 x6 x7 x12 = redC (accT (R := 1536) (C := 512) (N := 12) (Q := 6) (T := 4) x4 x12 (scG x6) 256 11) := by
  simp -proj only [restRun.sl.r_185, restRun.sl.v2908, restRun.sl.r_184, restRun.sl.v2903, restRun.sl.v2898, restRun.sl.v2893, restRun.sl.v2888, restRun.sl.v2883, restRun.sl.r_183, restRun.sl.v2878, restRun.sl.v2872, restRun.sl.r_181, restRun.sl.v2797, restRun.sl.r_180, restRun.sl.v2792, restRun.sl.v2787, restRun.sl.v2782, restRun.sl.v2777, restRun.sl.v2772, restRun.sl.r_179, restRun.sl.v2767, restRun.sl.v2761]
  simp only [H16_50_eq, H16_60_eq, acc2_eq]
  simp only [k0_pay509, k0_pay510, k0_pay511, k0_pay524, k0_pay525, k0_pay526, redC, redS]
  refine congrArg₂ (fun a b => concatenate S10x256 1 [⟨S10x128, a⟩, ⟨S10x128, b⟩] concatenates_S10x128_S10x128_S10x256_d1) ?_ ?_
  · iterate 8 refine congrArg₂ addf ?_ (congrArg (fun v => shapeCast S10x128 v shapeCasts_S1x10x128_S10x128) ?_)
    · rfl
    all_goals exact readRed (S := 4) arg16.view 2 0 _ (by decide) (by decide) (by decide) _ _ _ _ _ _ _ _
  · iterate 8 refine congrArg₂ addf ?_ (congrArg (fun v => shapeCast S10x128 v shapeCasts_S1x10x128_S10x128) ?_)
    · rfl
    all_goals exact readRed (S := 4) arg16.view 2 1 _ (by decide) (by decide) (by decide) _ _ _ _ _ _ _ _

/-- The column block: up, columns 256 to 511. -/
theorem sum3_eq (c : Dev nD) (arg4 : Memref sig .tc .vmem S1536x512 .i8) (harg4 : arg4.IsWhole) (arg5 : Memref sig .tc .vmem S1536x512 .i8) (harg5 : arg5.IsWhole) (arg6 : Memref sig .tc .vmem S96x512 .i8) (harg6 : arg6.IsWhole) (arg7 : Memref sig .tc .vmem S96x512 .i8) (harg7 : arg7.IsWhole) (arg12 : Memref sig .tc .vmem S12x80x256 .bf16) (harg12 : arg12.IsWhole) (arg14 : Memref sig .tc .vmem S6x4x16x128 .f32) (arg15 : Memref sig .tc .vmem S6x4x16x128 .f32) (arg16 : Memref sig .tc .vmem S4x2x96x128 .f32) (x4 : Vec F S1536x512 .i8) (x5 : Vec F S1536x512 .i8) (x6 : Vec F S96x512 .i8) (x7 : Vec F S96x512 .i8) (x12 : Vec F S12x80x256 .bf16) : restRun.sl.r_235 c arg4 harg4 arg5 harg5 arg6 harg6 arg7 harg7 arg12 harg12 arg14 arg15 arg16 x4 x5 x6 x7 x12 = redC (accT (R := 1536) (C := 512) (N := 12) (Q := 6) (T := 4) x5 x12 (scG x7) 256 11) := by
  simp -proj only [restRun.sl.r_235, restRun.sl.v3730, restRun.sl.v3725, restRun.sl.v3720, restRun.sl.v3715, restRun.sl.v3710, restRun.sl.r_234, restRun.sl.v3705, restRun.sl.v3700, restRun.sl.v3694, restRun.sl.r_232, restRun.sl.v3619, restRun.sl.v3614, restRun.sl.v3609, restRun.sl.v3604, restRun.sl.r_231, restRun.sl.v3599, restRun.sl.v3594, restRun.sl.v3589, restRun.sl.v3583]
  simp only [H16_70_eq, H16_80_eq, acc3_eq]
  simp only [k0_pay584, k0_pay585, k0_pay599, k0_pay600, redC, redS]
  refine congrArg₂ (fun a b => concatenate S10x256 1 [⟨S10x128, a⟩, ⟨S10x128, b⟩] concatenates_S10x128_S10x128_S10x256_d1) ?_ ?_
  · iterate 8 refine congrArg₂ addf ?_ (congrArg (fun v => shapeCast S10x128 v shapeCasts_S1x10x128_S10x128) ?_)
    · rfl
    all_goals exact readRed (S := 4) arg16.view 3 0 _ (by decide) (by decide) (by decide) _ _ _ _ _ _ _ _
  · iterate 8 refine congrArg₂ addf ?_ (congrArg (fun v => shapeCast S10x128 v shapeCasts_S1x10x128_S10x128) ?_)
    · rfl
    all_goals exact readRed (S := 4) arg16.view 3 1 _ (by decide) (by decide) (by decide) _ _ _ _ _ _ _ _

end Cert.GateUpIdeal.Hand

end
-- ==== Proof.GateUpIdeal.Block.lean ====
/- What a grid point stores into the first output's block. -/
module

public import proofs.«01_k».proof.Proof.GateUpIdeal.Held
public import proofs.«01_k».proof.Proof.GateUpIdeal.Sums

@[expose] public section

set_option maxRecDepth 16384
set_option maxHeartbeats 400000

noncomputable section

namespace Cert.GateUpIdeal.Hand

open Idealize.ShloMosaic Cert.GateUpIdeal.Gen Cert.Mx

/-- The low-rank part of half `t`: the masked product with the adapters' second factor. -/
def loraV (M : Vec Ideal S2x10x192 .bf16) (x9 : Vec Ideal S3x2x64x512 .bf16) (t : Fin 2) (b : Fin 10) (f : Fin 512) : EReal :=
  ∑ j : Fin 192, M (ix3 t b j) * x9 (ix4 ⟨j.val / 64, by omega⟩ t ⟨j.val % 64, by omega⟩ f)

/-- The block's element: the gate times its logistic times the up projection. -/
def outV (X : Fin 10 → ℕ → EReal) (x4 x5 : Vec Ideal S1536x512 .i8) (x6 x7 : Vec Ideal S96x512 .i8) (x9 : Vec Ideal S3x2x64x512 .bf16) (M : Vec Ideal S2x10x192 .bf16)
    (b : Fin 10) (f : Fin 512) : EReal :=
  (prodV (R := 1536) (C := 512) (SR := 96) (X b) x4 x6 f.val + loraV M x9 0 b f) * Ideal.logistic (prodV (R := 1536) (C := 512) (SR := 96) (X b) x4 x6 f.val + loraV M x9 0 b f)
    * (prodV (R := 1536) (C := 512) (SR := 96) (X b) x5 x7 f.val + loraV M x9 1 b f)

theorem pay450_apply (g u : FVec Ideal S10x256 .f32) (A B : Vec Ideal S3x1x64x256 .bf16) (M0 M1 : Vec Ideal S1x10x192 .bf16) (b : Fin 10) (l : Fin 256) :
    k0_pay450 (F := Ideal) g u A B M0 M1 (ix2 b l)
      = (g (ix2 b l) + ∑ x : Fin 192, M0 (ix3 0 b x) * A (ix4 ⟨x.val / 64, by omega⟩ 0 ⟨x.val % 64, by omega⟩ l))
        * Ideal.logistic (g (ix2 b l) + ∑ x : Fin 192, M0 (ix3 0 b x) * A (ix4 ⟨x.val / 64, by omega⟩ 0 ⟨x.val % 64, by omega⟩ l))
        * (u (ix2 b l) + ∑ x : Fin 192, M1 (ix3 0 b x) * B (ix4 ⟨x.val / 64, by omega⟩ 0 ⟨x.val % 64, by omega⟩ l)) := by
  unfold k0_pay450
  pointwise

theorem pay1_apply (g u : FVec Ideal S10x256 .f32) (A B : Vec Ideal S3x1x64x256 .bf16) (M0 M1 : Vec Ideal S1x10x192 .bf16) :
    k0_pay1 (F := Ideal) g u (k0_pay601 A) B M0 M1 = k0_pay450 (F := Ideal) g u A B M0 M1 := rfl

theorem read13 (arg13 : Memref sig .tc .vmem S2x10x192 .bf16) (harg13 : arg13.IsWhole) (M : Vec Ideal S2x10x192 .bf16) (t : ℕ) (ht : t < 2) (inb) (b : Fin 10) (j : Fin 192) :
    View.readAt (Elt Ideal) arg13.view (Rect.unit (s := S2x10x192) ![t, 0, 0] S1x10x192.size inb).toLoadRect (harg13.unread M) (ix3 0 b j) = M (ix3 ⟨t, ht⟩ b j) := by
  rw [readAt_whole]
  refine congrArg M (funext fun a => Fin.ext ?_)
  match a with
  | ⟨0, _⟩ => rfl
  | ⟨1, _⟩ => exact Eq.trans (show _ = 0 + 1 * b.val from rfl) (by rw [Nat.one_mul, Nat.zero_add]; rfl)
  | ⟨2, _⟩ => exact Eq.trans (show _ = 0 + 1 * j.val from rfl) (by rw [Nat.one_mul, Nat.zero_add]; rfl)

theorem read9 (arg9 : Memref sig .tc .vmem S3x2x64x512 .bf16) (harg9 : arg9.IsWhole) (x9 : Vec Ideal S3x2x64x512 .bf16) (t c : ℕ) (ht : t < 2) (inb) (n : Fin 3) (r : Fin 64) (l : Fin 256)
    (f : Fin 512) (hf : f.val = c + l.val) :
    View.readAt (Elt Ideal) arg9.view (Rect.unit (s := S3x2x64x512) ![0, t, 0, c] S3x1x64x256.size inb).toLoadRect (harg9.unread x9) (ix4 n 0 r l) = x9 (ix4 n ⟨t, ht⟩ r f) := by
  rw [readAt_whole]
  refine congrArg x9 (funext fun a => Fin.ext ?_)
  match a with
  | ⟨0, _⟩ => exact Eq.trans (show _ = 0 + 1 * n.val from rfl) (by rw [Nat.one_mul, Nat.zero_add]; rfl)
  | ⟨1, _⟩ => rfl
  | ⟨2, _⟩ => exact Eq.trans (show _ = 0 + 1 * r.val from rfl) (by rw [Nat.one_mul, Nat.zero_add]; rfl)
  | ⟨3, _⟩ => exact Eq.trans (show _ = c + 1 * l.val from rfl) (by rw [Nat.one_mul, ← hf]; rfl)

/-- The expanded operand's elements are the rows' at their groups. -/
theorem lhsG_apply {N D : ℕ} [NeZero N] [NeZero D] (H : ℕ) (x : Vec Ideal ⟨2, ![10, D]⟩ .bf16) (n : ℕ) (hn : n < N) (b : Fin 10) (g : Fin 8) (k : Fin 256) :
    lhsG (N := N) H x (ix3 (Fin.ofNat N n) ⟨b * 8 + g, by omega⟩ k) = if g.val = k.val % 2 * 4 + k.val / 64 then at2 x b.val (k.val % 2 * H + rowN n k.val) else 0 :=
  tileV_congr H x (b' := b) (g' := g) (n' := n) (k' := k) (Nat.mod_eq_of_lt hn) (show (b.val * 8 + g.val) / 8 = b.val by omega) (show (b.val * 8 + g.val) % 8 = g.val by omega) rfl

/-- A column block of the gate or up product, at a lane. -/
theorem sum_value (x3 : Vec Ideal S10x3072 .bf16) (x : Vec Ideal S1536x512 .i8) (sc : Vec Ideal S96x512 .i8) (hs : ∀ i, 2 ≤ (sc i : BitVec 8).toNat ∧ (sc i : BitVec 8).toNat ≤ 252)
    (c : ℕ) (hc : c / 128 + 1 < 4) (hc2 : c % 128 = 0) (b : Fin 10) (l : Fin 256) :
    redC (accT (F := Ideal) (R := 1536) (C := 512) (N := 12) (Q := 6) (T := 4) x (lhsG (N := 12) 1536 x3) (scG sc) c 11) (ix2 b l)
      = prodV (R := 1536) (C := 512) (SR := 96) (fun d => at2 x3 b.val d) x sc (c + l.val) :=
  block_value (R := 1536) (C := 512) (N := 12) (Q := 6) (T := 4) (SR := 96) x (lhsG (N := 12) 1536 x3) sc c (by decide) hc hc2 (fun d => at2 x3 b.val d) b l
    (fun n hn g k => lhsG_apply 1536 x3 n (by omega) b g k) hs 11 (by decide)

theorem out_piece (X : Fin 10 → ℕ → EReal) (x4 x5 : Vec Ideal S1536x512 .i8) (x6 x7 : Vec Ideal S96x512 .i8) (x9 : Vec Ideal S3x2x64x512 .bf16) (M : Vec Ideal S2x10x192 .bf16) (c : ℕ) (hc : c + 256 ≤ 512)
    (g u : FVec Ideal S10x256 .f32) (A B : Vec Ideal S3x1x64x256 .bf16) (M0 M1 : Vec Ideal S1x10x192 .bf16)
    (hg : ∀ b l, g (ix2 b l) = prodV (R := 1536) (C := 512) (SR := 96) (X b) x4 x6 (c + l.val)) (hu : ∀ b l, u (ix2 b l) = prodV (R := 1536) (C := 512) (SR := 96) (X b) x5 x7 (c + l.val))
    (hA : ∀ n r (l : Fin 256), A (ix4 n 0 r l) = x9 (ix4 n 0 r ⟨c + l.val, by omega⟩)) (hB : ∀ n r (l : Fin 256), B (ix4 n 0 r l) = x9 (ix4 n 1 r ⟨c + l.val, by omega⟩))
    (h0 : ∀ b j, M0 (ix3 0 b j) = M (ix3 0 b j)) (h1 : ∀ b j, M1 (ix3 0 b j) = M (ix3 1 b j)) (inb)
    (y : (Rect.unit (s := S10x512) ![0, c] S10x256.size inb).shape.Idx) :
    k0_pay450 (F := Ideal) g u A B M0 M1 y = (fun y : S10x512.Idx => outV X x4 x5 x6 x7 x9 M (y 0) (y 1)) ((Rect.unit (s := S10x512) ![0, c] S10x256.size inb).emb y) := by
  have l0 : (y 0).val < 10 := (y 0).isLt
  have l1 : (y 1).val < 256 := (y 1).isLt
  have e : (y : S10x256.Idx) = ix2 ⟨(y 0).val, l0⟩ ⟨(y 1).val, l1⟩ := by
    funext a
    match a with
    | ⟨0, _⟩ => rfl
    | ⟨1, _⟩ => rfl
  refine (congrArg (k0_pay450 (F := Ideal) g u A B M0 M1) e).trans ((pay450_apply g u A B M0 M1 _ _).trans ?_)
  simp only [hg, hu, hA, hB, h0, h1]
  refine Eq.trans (b := outV X x4 x5 x6 x7 x9 M ⟨(y 0).val, l0⟩ ⟨c + (y 1).val, by omega⟩) rfl (congrArg₂ (outV X x4 x5 x6 x7 x9 M) (Fin.ext ?_) (Fin.ext ?_))
  · exact (show (y 0).val = 0 + 1 * (y 0).val by omega)
  · exact (show c + (y 1).val = c + 1 * (y 1).val by omega)

variable (m : (ℓ : Loc nD τ sig) → Buf (Elt Ideal) ℓ) (c : Dev nD)

theorem blk0_eq (t : Fin cfg0.N) (h6 : ∀ i, 2 ≤ (iblk m c 5 t i : BitVec 8).toNat ∧ (iblk m c 5 t i : BitVec 8).toNat ≤ 252) (h7 : ∀ i, 2 ≤ (iblk m c 6 t i : BitVec 8).toNat ∧ (iblk m c 6 t i : BitVec 8).toNat ≤ 252)
    (b : Fin 10) (f : Fin 512) :
    blk0 m c t (ix2 b f) = outV (fun b d => at2 (R := 10) (C := 3072) (iblk m c 2 p0) b.val d) (iblk m c 3 t) (iblk m c 4 t) (iblk m c 5 t) (iblk m c 6 t) (iblk m c 8 t) (lora0 m c) b f := by
  refine View.canon_apply_of_pieces (fun y : S10x512.Idx => outV (fun b d => at2 (R := 10) (C := 3072) (iblk m c 2 p0) b.val d) (iblk m c 3 t) (iblk m c 4 t) (iblk m c 5 t) (iblk m c 6 t) (iblk m c 8 t) (lora0 m c) (y 0) (y 1)) _ ?_ (ix2 b f) (cover_blk m c t (ix2 b f))
  unfold restL restRun
  dsimp only
  rw [sum0_eq, sum1_eq, sum2_eq, sum3_eq]
  unfold restRun.sl.r_131 restRun.sl.r_236 restRun.sl.r_237
  rw [pay1_apply, lhs0_eq]
  simp only [List.forall_mem_cons, List.not_mem_nil, false_imp_iff, implies_true, and_true]
  and_intros
  · refine out_piece _ _ _ _ _ _ _ 256 (by decide) _ _ _ _ _ _ ?_ ?_ ?_ ?_ ?_ ?_ _
    · exact fun b l => sum_value _ _ _ h6 256 (by decide) (by decide) b l
    · exact fun b l => sum_value _ _ _ h7 256 (by decide) (by decide) b l
    · exact fun n r l => read9 _ _ _ 0 256 (by decide) _ n r l _ rfl
    · exact fun n r l => read9 _ _ _ 1 256 (by decide) _ n r l _ rfl
    · exact fun b j => read13 _ _ _ 0 (by decide) _ b j
    · exact fun b j => read13 _ _ _ 1 (by decide) _ b j
  · refine out_piece _ _ _ _ _ _ _ 0 (by decide) _ _ _ _ _ _ ?_ ?_ ?_ ?_ ?_ ?_ _
    · exact fun b l => sum_value _ _ _ h6 0 (by decide) (by decide) b l
    · exact fun b l => sum_value _ _ _ h7 0 (by decide) (by decide) b l
    · exact fun n r l => read9 _ _ _ 0 0 (by decide) _ n r l _ rfl
    · exact fun n r l => read9 _ _ _ 1 0 (by decide) _ n r l _ rfl
    · exact fun b j => read13 _ _ _ 0 (by decide) _ b j
    · exact fun b j => read13 _ _ _ 1 (by decide) _ b j

end Cert.GateUpIdeal.Hand

end
-- ==== Proof.GateUpIdeal.Arrays.lean ====
/- The output arrays after the run, in terms of the argument arrays. -/
module

public import proofs.«01_k».proof.Proof.GateUpIdeal.Block
public import Idealize.ShloMosaic.Lib.Pipeline.ValueKit

@[expose] public section

set_option maxRecDepth 16384
set_option maxHeartbeats 400000

noncomputable section

namespace Cert.GateUpIdeal.Hand

open Idealize.ShloMosaic Cert.GateUpIdeal.Gen Cert.Mx

variable (m : (ℓ : Loc nD τ sig) → Buf (Elt Ideal) ℓ) (c : Dev nD)

theorem idx3 : ∀ t : Fin cfg0.N, (cfg0.win 3).index t 0 = 0 ∧ (cfg0.win 3).index t 1 = t.val := by decide +kernel
theorem idx4 : ∀ t : Fin cfg0.N, (cfg0.win 4).index t 0 = 0 ∧ (cfg0.win 4).index t 1 = 32 + t.val := by decide +kernel
theorem idx5 : ∀ t : Fin cfg0.N, (cfg0.win 5).index t 0 = 0 ∧ (cfg0.win 5).index t 1 = t.val := by decide +kernel
theorem idx6 : ∀ t : Fin cfg0.N, (cfg0.win 6).index t 0 = 0 ∧ (cfg0.win 6).index t 1 = 32 + t.val := by decide +kernel
theorem idx8 : ∀ t : Fin cfg0.N, (cfg0.win 8).index t 0 = 0 ∧ (cfg0.win 8).index t 1 = 0 ∧ (cfg0.win 8).index t 2 = 0 ∧ (cfg0.win 8).index t 3 = t.val := by decide +kernel

theorem t_lt (t : Fin cfg0.N) : t.val < 32 := lt_of_lt_of_eq t.isLt N_0

theorem idx0 : ∀ t : Fin cfg0.N, (cfg0.win 0).index t 0 = 0 := by decide +kernel
theorem idx1 : ∀ t : Fin cfg0.N, (cfg0.win 1).index t 0 = 0 := by decide +kernel
theorem idx2 : ∀ t : Fin cfg0.N, (cfg0.win 2).index t 0 = 0 ∧ (cfg0.win 2).index t 1 = 0 := by decide +kernel
theorem idx7 : ∀ t : Fin cfg0.N, (cfg0.win 7).index t 0 = 0 ∧ (cfg0.win 7).index t 1 = 0 ∧ (cfg0.win 7).index t 2 = 0 := by decide +kernel
theorem idx9 : ∀ t : Fin cfg0.N, (cfg0.win 9).index t 0 = 0 ∧ (cfg0.win 9).index t 1 = t.val := by decide +kernel
theorem idx10 : ∀ t : Fin cfg0.N, (cfg0.win 10).index t 0 = 0 ∧ (cfg0.win 10).index t 1 = 0 := by decide +kernel

theorem blk_ids (b : Fin 10) : iblk m c 0 p0 (ix1 b) = m ((c.tc : Thread nD τ).loc main_arg1) (ix1 b) := by
  blk_ext [iblk, V_main_arg1, idx0 p0]
theorem blk_scal (n : Fin 3) : iblk m c 1 p0 (ix1 n) = m ((c.tc : Thread nD τ).loc main_arg6) (ix1 n) := by
  blk_ext [iblk, V_main_arg6, idx1 p0]
theorem blk_x (b : Fin 10) (d : Fin 3072) : iblk m c 2 p0 (ix2 b d) = m ((c.tc : Thread nD τ).loc main_arg0) (ix3 b 0 d) := by
  blk_ext! [iblk, idx2 p0]
theorem blk_gcode (t : Fin cfg0.N) (d : Fin 1536) (f : Fin 512) :
    iblk m c 3 t (ix2 d f) = m ((c.tc : Thread nD τ).loc main_arg2) (ix2 d ⟨512 * t.val + f.val, by have := t_lt t; omega⟩) := by
  blk_ext [iblk, V_main_arg2, idx3 t]
theorem blk_ucode (t : Fin cfg0.N) (d : Fin 1536) (f : Fin 512) :
    iblk m c 4 t (ix2 d f) = m ((c.tc : Thread nD τ).loc main_arg2) (ix2 d ⟨16384 + 512 * t.val + f.val, by have := t_lt t; omega⟩) := by
  blk_ext [iblk, V_main_arg2, idx4 t]
theorem blk_gscl (t : Fin cfg0.N) (d : Fin 96) (f : Fin 512) :
    iblk m c 5 t (ix2 d f) = m ((c.tc : Thread nD τ).loc main_arg3) (ix2 d ⟨512 * t.val + f.val, by have := t_lt t; omega⟩) := by
  blk_ext [iblk, V_main_arg3, idx5 t]
theorem blk_uscl (t : Fin cfg0.N) (d : Fin 96) (f : Fin 512) :
    iblk m c 6 t (ix2 d f) = m ((c.tc : Thread nD τ).loc main_arg3) (ix2 d ⟨16384 + 512 * t.val + f.val, by have := t_lt t; omega⟩) := by
  blk_ext [iblk, V_main_arg3, idx6 t]
theorem blk_lora_a (n : Fin 3) (d : Fin 3072) (r : Fin 128) : iblk m c 7 p0 (ix3 n d r) = m ((c.tc : Thread nD τ).loc main_arg4) (ix3 n d r) := by
  blk_ext [iblk, V_main_arg4, idx7 p0]
theorem blk_lora_b (t : Fin cfg0.N) (n : Fin 3) (h : Fin 2) (r : Fin 64) (f : Fin 512) :
    iblk m c 8 t (ix4 n h r f) = m ((c.tc : Thread nD τ).loc main_arg5) (ix4 n h r ⟨512 * t.val + f.val, by have := t_lt t; omega⟩) := by
  blk_ext [iblk, V_main_arg5, idx8 t]

/-- The activations as rows. -/
def rows (a0 : Vec Ideal S10x1x3072 .bf16) : Vec Ideal S10x3072 .bf16 := fun y => a0 (ix3 (y 0) 0 (y 1))

/-- The gate (`h = 0`) or up (`h = 1`) projection with its low-rank part, of the argument arrays. -/
def gV (a0 : Vec Ideal S10x1x3072 .bf16) (a1 : Vec Ideal S10 .i32) (a2 : Vec Ideal S1536x32768 .i8) (a3 : Vec Ideal S96x32768 .i8) (a4 : Vec Ideal S3x3072x128 .bf16)
    (a5 : Vec Ideal S3x2x64x16384 .bf16) (a6 : Vec Ideal S3 .f32) (h : Fin 2) (b : Fin 10) (j : Fin 16384) : EReal :=
  prodV (R := 1536) (C := 32768) (SR := 96) (fun d => at2 (R := 10) (C := 3072) (rows a0) b.val d) a2 a3 (16384 * h.val + j.val)
    + ∑ k : Fin 192, loraG a1 a6 (rows a0) a4 (ix3 h b k) * a5 (ix4 ⟨k.val / 64, by omega⟩ h ⟨k.val % 64, by omega⟩ j)

/-- A code or scale block's element is the array's at the block's column. -/
theorem at2_blk {R C D : ℕ} [NeZero R] [NeZero C] [NeZero D] {α : Type} (x : (⟨2, ![R, C]⟩ : Shape).Idx → α) (a : (⟨2, ![R, D]⟩ : Shape).Idx → α) (o : ℕ) (ho : o + C ≤ D)
    (h : ∀ (d : Fin R) (f : Fin C), x (ix2 d f) = a (ix2 d ⟨o + f.val, by omega⟩)) (d : ℕ) (f : Fin C) : at2 x d f.val = at2 a d (o + f.val) := by
  unfold at2
  have e1 : Fin.ofNat C f.val = f := Fin.ext (Nat.mod_eq_of_lt f.isLt)
  have e2 : Fin.ofNat D (o + f.val) = ⟨o + f.val, by omega⟩ := Fin.ext (Nat.mod_eq_of_lt (by omega))
  rw [e1, e2, h]

theorem prodV_congr {R C D SR : ℕ} [NeZero R] [NeZero C] [NeZero D] [NeZero SR] (X Y : ℕ → EReal) (x : Vec Ideal ⟨2, ![R, C]⟩ .i8) (sc : Vec Ideal ⟨2, ![SR, C]⟩ .i8)
    (a : Vec Ideal ⟨2, ![R, D]⟩ .i8) (ac : Vec Ideal ⟨2, ![SR, D]⟩ .i8) (f g : ℕ) (hX : ∀ d, X d = Y d) (hx : ∀ d, at2 x d f = at2 a d g) (hs : ∀ d, at2 sc d f = at2 ac d g) :
    prodV X x sc f = prodV Y a ac g := by
  unfold prodV
  simp only [hX, hx, hs]

theorem rows_eq : iblk m c 2 p0 = rows (m ((c.tc : Thread nD τ).loc main_arg0)) := by
  funext (y : S10x3072.Idx)
  have e : y = ix2 (y 0) (y 1) := by
    funext a
    match a with
    | ⟨0, _⟩ => rfl
    | ⟨1, _⟩ => rfl
  exact (congrArg (iblk m c 2 p0) e).trans (blk_x m c (y 0) (y 1))

theorem ids_eq' : iblk m c 0 p0 = m ((c.tc : Thread nD τ).loc main_arg1) := by
  funext (y : S10.Idx)
  have e : y = ix1 (y 0) := by
    funext a
    match a with
    | ⟨0, _⟩ => rfl
  rw [e]
  exact blk_ids m c (y 0)

theorem scal_eq : iblk m c 1 p0 = m ((c.tc : Thread nD τ).loc main_arg6) := by
  funext (y : S3.Idx)
  have e : y = ix1 (y 0) := by
    funext a
    match a with
    | ⟨0, _⟩ => rfl
  rw [e]
  exact blk_scal m c (y 0)

theorem lora_a_eq : iblk m c 7 p0 = m ((c.tc : Thread nD τ).loc main_arg4) := by
  funext (y : S3x3072x128.Idx)
  have e : y = ix3 (y 0) (y 1) (y 2) := by
    funext a
    match a with
    | ⟨0, _⟩ => rfl
    | ⟨1, _⟩ => rfl
    | ⟨2, _⟩ => rfl
  rw [e]
  exact blk_lora_a m c (y 0) (y 1) (y 2)

/-- The first output, at an index. -/
def hV (b : Fin 10) (j : Fin 16384) : EReal :=
  let g := gV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
  g 0 b j * Ideal.logistic (g 0 b j) * g 1 b j

theorem blk0_apply (hs : ∀ i, 2 ≤ (m ((c.tc : Thread nD τ).loc main_arg3) i : BitVec 8).toNat ∧ (m ((c.tc : Thread nD τ).loc main_arg3) i : BitVec 8).toNat ≤ 252) (t : Fin cfg0.N) (b : Fin 10) (f : Fin 512) :
    blk0 m c t (ix2 b f) = hV m c b ⟨512 * t.val + f.val, by have := t_lt t; omega⟩ := by
  have e2 : ∀ {n : ℕ} (y : (⟨2, ![n, 512]⟩ : Shape).Idx), y = ix2 (y 0) (y 1) := fun y => by
    funext a
    match a with
    | ⟨0, _⟩ => rfl
    | ⟨1, _⟩ => rfl
  have ht := t_lt t
  rw [blk0_eq m c t (fun i => by rw [e2 (n := 96) i]; exact (blk_gscl m c t (i 0) (i 1)).symm ▸ hs _) (fun i => by rw [e2 (n := 96) i]; exact (blk_uscl m c t (i 0) (i 1)).symm ▸ hs _)]
  unfold outV
  rw [lora0_eq, rows_eq, ids_eq', scal_eq, lora_a_eq,
    prodV_congr (D := 32768) _ (fun d => at2 (R := 10) (C := 3072) (rows (m ((c.tc : Thread nD τ).loc main_arg0))) b.val d) (iblk m c 3 t) (iblk m c 5 t) (m ((c.tc : Thread nD τ).loc main_arg2)) (m ((c.tc : Thread nD τ).loc main_arg3)) f.val (512 * t.val + f.val) (fun _ => rfl)
      (fun d => at2_blk _ _ (512 * t.val) (by omega) (blk_gcode m c t) d f) (fun d => at2_blk _ _ (512 * t.val) (by omega) (blk_gscl m c t) d f),
    prodV_congr (D := 32768) _ (fun d => at2 (R := 10) (C := 3072) (rows (m ((c.tc : Thread nD τ).loc main_arg0))) b.val d) (iblk m c 4 t) (iblk m c 6 t) (m ((c.tc : Thread nD τ).loc main_arg2)) (m ((c.tc : Thread nD τ).loc main_arg3)) f.val (16384 + 512 * t.val + f.val) (fun _ => rfl)
      (fun d => at2_blk _ _ (16384 + 512 * t.val) (by omega) (blk_ucode m c t) d f) (fun d => at2_blk _ _ (16384 + 512 * t.val) (by omega) (blk_uscl m c t) d f)]
  unfold loraV
  simp only [blk_lora_b]
  unfold hV gV
  dsimp only
  rw [show 16384 * (0 : Fin 2).val + (512 * t.val + f.val) = 512 * t.val + f.val by show 16384 * 0 + _ = _; omega,
    show 16384 * (1 : Fin 2).val + (512 * t.val + f.val) = 16384 + 512 * t.val + f.val by show 16384 * 1 + _ = _; omega]

/-- The first output array after the run. -/
theorem arr0 (hs : ∀ i, 2 ≤ (m ((c.tc : Thread nD τ).loc main_arg3) i : BitVec 8).toNat ∧ (m ((c.tc : Thread nD τ).loc main_arg3) i : BitVec 8).toNat ≤ 252) :
    (dats m 0 c).arrAt 9 (cfgs 0).N = fun y : S10x16384.Idx => hV m c (y 0) (y 1) := by
  refine (dats m 0 c).arrAt_eq_of_covers 9 _ (by decide +kernel) fun t hf y => ?_
  blk_simp
  rw [after0_9]
  have e : (y : S10x512.Idx) = ix2 ((y : S10x512.Idx) 0) ((y : S10x512.Idx) 1) := by
    funext a
    match a with
    | ⟨0, _⟩ => rfl
    | ⟨1, _⟩ => rfl
  refine (congrArg (blk0 m c t) e).trans ((blk0_apply m c hs t _ _).trans (congrArg₂ (hV m c) (Fin.ext ?_) (Fin.ext ?_)))
  · blk_simp [idx9 t]
  · blk_simp [idx9 t]
    dsimp only
    omega

/-- The second output array after the run. -/
theorem arr1 : (dats m 0 c).arrAt 10 (cfgs 0).N
    = fun y : S10x128.Idx => sV (m ((c.tc : Thread nD τ).loc main_arg1)) (m ((c.tc : Thread nD τ).loc main_arg6)) (rows (m ((c.tc : Thread nD τ).loc main_arg0))) (m ((c.tc : Thread nD τ).loc main_arg4)) (y 0) (y 1) := by
  refine (dats m 0 c).arrAt_eq_of_covers 10 _ (by decide +kernel) fun t hf y => ?_
  blk_simp
  rw [after0_10]
  have e : (y : S10x128.Idx) = ix2 ((y : S10x128.Idx) 0) ((y : S10x128.Idx) 1) := by
    funext a
    match a with
    | ⟨0, _⟩ => rfl
    | ⟨1, _⟩ => rfl
  refine (congrArg (snd0 m c) e).trans ((snd0_eq m c _ _).trans ?_)
  rw [rows_eq, ids_eq', scal_eq, lora_a_eq]
  refine congrArg₂ (sV _ _ _ _) (Fin.ext ?_) (Fin.ext ?_)
  · blk_simp [idx10 t]
  · blk_simp [idx10 t]

end Cert.GateUpIdeal.Hand

end
-- ==== Proof.GateUpIdeal.Ref.lean ====
/- The reference's results at an index, in terms of the argument arrays. -/
module

public import proofs.«01_k».proof.Proof.GateUpIdeal.Arrays
public import proofs.«01_k».proof.Proof.Gen.GateUpReferenceIdeal.Read
public import Idealize.ShloMosaic.Lib.StableHlo.Predicate

@[expose] public section

set_option maxRecDepth 16384
set_option maxHeartbeats 400000

noncomputable section

namespace Cert.GateUpReferenceIdeal.Hand

open Idealize.ShloMosaic Cert.GateUpReferenceIdeal Cert.GateUpReferenceIdeal.Read Cert.Mx
open Cert.GateUpIdeal.Hand (pick3 sV mV loraG rows gV)

variable (x0 : Vec Ideal S10x1x3072 .bf16) (x1 : Vec Ideal S10 .i32) (x2 : Vec Ideal S1536x32768 .i8) (x3 : Vec Ideal S96x32768 .i8)
  (x4 : Vec Ideal S3x3072x128 .bf16) (x5 : Vec Ideal S3x2x64x16384 .bf16) (x6 : Vec Ideal S3 .f32)

/-! ## The weights -/

theorem w_lo (hs : ∀ i, 2 ≤ (x3 i : BitVec 8).toNat ∧ (x3 i : BitVec 8).toNat ≤ 252) (d : Fin 1536) (c : Fin 32768) :
    val_main_v42 (F := Ideal) x2 x3 (ix2 d c) = codeV (x2 (ix2 d c)) 0 * scl (x3 (ix2 ⟨d.val / 32, by omega⟩ c)) := by
  have e1 : idx_main_v15 (idx_main_v42 (ix2 d c)) = ix2 d c := by
    funext a
    match a with
    | ⟨0, _⟩ => exact Fin.ext (show (((d.val * 32768 + c.val) / 1048576 * 32 + (d.val * 32768 + c.val) / 32768 % 32) * 32768 + (d.val * 32768 + c.val) % 32768) / 32768 = d.val by omega)
    | ⟨1, _⟩ => exact Fin.ext (show (((d.val * 32768 + c.val) / 1048576 * 32 + (d.val * 32768 + c.val) / 32768 % 32) * 32768 + (d.val * 32768 + c.val) % 32768) % 32768 = c.val by omega)
  have e2 : idx_main_v14 (idx_main_v16 (idx_main_v25 (idx_main_v42 (ix2 d c)))) = ix2 ⟨d.val / 32, by omega⟩ c := by
    funext a
    match a with
    | ⟨0, _⟩ => exact Fin.ext (show (d.val * 32768 + c.val) / 1048576 = d.val / 32 by omega)
    | ⟨1, _⟩ => exact Fin.ext (show (d.val * 32768 + c.val) % 32768 = c.val by omega)
  refine Eq.trans ?_ (refW_eq (x2 (ix2 d c)) (x3 (ix2 ⟨d.val / 32, by omega⟩ c)) 0 (hs _).1 (hs _).2)
  simp only [val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_c_apply, val_main_c_0_apply, val_main_c_1_apply, val_main_c_2_apply, val_main_c_3_apply, val_main_c_4_apply, val_main_c_5_apply, val_main_c_6_apply, val_main_c_7_apply, val_main_c_8_apply, val_main_c_9_apply, val_main_c_10_apply, val_main_c_11_apply, val_main_c_12_apply, val_main_c_13_apply, val_main_c_14_apply, val_main_c_15_apply, val_main_c_16_apply, val_main_c_17_apply, val_main_c_18_apply, val_main_c_19_apply, val_main_c_20_apply, val_main_c_21_apply, val_main_c_22_apply, val_main_c_23_apply, val_main_c_24_apply, val_main_call1_v0_apply, val_main_call1_v1_apply, val_main_call2_v0_apply, val_main_call2_v1_apply, val_main_call3_v0_apply, val_main_call3_v1_apply, val_main_call4_v0_apply, val_main_call4_v1_apply]
  rw [e1, e2]
  rfl

theorem w_hi (hs : ∀ i, 2 ≤ (x3 i : BitVec 8).toNat ∧ (x3 i : BitVec 8).toNat ≤ 252) (d : Fin 1536) (c : Fin 32768) :
    val_main_v73 (F := Ideal) x2 x3 (ix2 d c) = codeV (x2 (ix2 d c)) 1 * scl (x3 (ix2 ⟨48 + d.val / 32, by omega⟩ c)) := by
  have e1 : idx_main_v46 (idx_main_v73 (ix2 d c)) = ix2 d c := by
    funext a
    match a with
    | ⟨0, _⟩ => exact Fin.ext (show (((d.val * 32768 + c.val) / 1048576 * 32 + (d.val * 32768 + c.val) / 32768 % 32) * 32768 + (d.val * 32768 + c.val) % 32768) / 32768 = d.val by omega)
    | ⟨1, _⟩ => exact Fin.ext (show (((d.val * 32768 + c.val) / 1048576 * 32 + (d.val * 32768 + c.val) / 32768 % 32) * 32768 + (d.val * 32768 + c.val) % 32768) % 32768 = c.val by omega)
  have e2 : idx_main_v45 (idx_main_v47 (idx_main_v56 (idx_main_v73 (ix2 d c)))) = ix2 ⟨48 + d.val / 32, by omega⟩ c := by
    funext a
    match a with
    | ⟨0, _⟩ => exact Fin.ext (show 48 + (d.val * 32768 + c.val) / 1048576 = 48 + d.val / 32 by omega)
    | ⟨1, _⟩ => exact Fin.ext (show (d.val * 32768 + c.val) % 32768 = c.val by omega)
  refine Eq.trans ?_ (refW_eq (x2 (ix2 d c)) (x3 (ix2 ⟨48 + d.val / 32, by omega⟩ c)) 1 (hs _).1 (hs _).2)
  simp only [val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_c_apply, val_main_c_0_apply, val_main_c_1_apply, val_main_c_2_apply, val_main_c_3_apply, val_main_c_4_apply, val_main_c_5_apply, val_main_c_6_apply, val_main_c_7_apply, val_main_c_8_apply, val_main_c_9_apply, val_main_c_10_apply, val_main_c_11_apply, val_main_c_12_apply, val_main_c_13_apply, val_main_c_14_apply, val_main_c_15_apply, val_main_c_16_apply, val_main_c_17_apply, val_main_c_18_apply, val_main_c_19_apply, val_main_c_20_apply, val_main_c_21_apply, val_main_c_22_apply, val_main_c_23_apply, val_main_c_24_apply, val_main_call1_v0_apply, val_main_call1_v1_apply, val_main_call2_v0_apply, val_main_call2_v1_apply, val_main_call3_v0_apply, val_main_call3_v1_apply, val_main_call4_v0_apply, val_main_call4_v1_apply]
  rw [e1, e2, nib_hi_host]
  rfl

/-! ## The main product -/

theorem at2_fin {R C : ℕ} [NeZero R] [NeZero C] {α : Type} (x : (⟨2, ![R, C]⟩ : Shape).Idx → α) (r : Fin R) (c : Fin C) (r' : ℕ) (h : r' = r.val) : at2 x r' c.val = x (ix2 r c) := by
  unfold at2
  refine congrArg₂ (fun r c => x (ix2 r c)) (Fin.ext ?_) (Fin.ext ?_)
  · exact (Nat.mod_eq_of_lt (h ▸ r.isLt)).trans h
  · exact Nat.mod_eq_of_lt c.isLt

theorem prod_eq (hs : ∀ i, 2 ≤ (x3 i : BitVec 8).toNat ∧ (x3 i : BitVec 8).toNat ≤ 252) (b : Fin 10) (c : Fin 32768) :
    val_main_v78 (F := Ideal) x0 x2 x3 (ix2 b c) = prodV (R := 1536) (C := 32768) (SR := 96) (fun d => at2 (R := 10) (C := 3072) (rows x0) b.val d) x2 x3 c.val := by
  rw [val_main_v78_apply, val_main_v75_apply, val_main_v77_apply]
  unfold prodV
  rw [Finset.sum_range, Finset.sum_range]
  refine congrArg₂ (fun a b : EReal => a + b) (Finset.sum_congr rfl fun d _ => ?_) (Finset.sum_congr rfl fun d _ => ?_)
  · have e1 : lidx_main_v75 (ix2 b c) d = ix2 b d := by
      funext a
      match a with
      | ⟨0, _⟩ => rfl
      | ⟨1, _⟩ => rfl
    have e2 : ridx_main_v75 (ix2 b c) d = ix2 d c := by
      funext a
      match a with
      | ⟨0, _⟩ => rfl
      | ⟨1, _⟩ => rfl
    have e3 : idx_main_v0 (idx_main_v74 (ix2 b d)) = ix3 b 0 ⟨d.val, by omega⟩ := by
      funext a
      match a with
      | ⟨0, _⟩ => exact Fin.ext (show (b.val * 3072 + d.val) / 3072 = b.val by omega)
      | ⟨1, _⟩ => rfl
      | ⟨2, _⟩ => exact Fin.ext (show (b.val * 3072 + d.val) % 3072 = d.val by omega)
    rw [e1, e2, w_lo x2 x3 hs, val_main_v74_apply, val_main_v0_apply, e3, at2_fin x2 d c _ rfl, at2_fin x3 ⟨d.val / 32, by omega⟩ c _ rfl]
    exact congrArg (fun z : EReal => z * _) (at2_fin (rows x0) b ⟨d.val, by omega⟩ b.val rfl).symm
  · have e1 : lidx_main_v77 (ix2 b c) d = ix2 b d := by
      funext a
      match a with
      | ⟨0, _⟩ => rfl
      | ⟨1, _⟩ => rfl
    have e2 : ridx_main_v77 (ix2 b c) d = ix2 d c := by
      funext a
      match a with
      | ⟨0, _⟩ => rfl
      | ⟨1, _⟩ => rfl
    have e3 : idx_main_v0 (idx_main_v76 (ix2 b d)) = ix3 b 0 ⟨1536 + d.val, by omega⟩ := by
      funext a
      match a with
      | ⟨0, _⟩ => exact Fin.ext (show (b.val * 3072 + (1536 + d.val)) / 3072 = b.val by omega)
      | ⟨1, _⟩ => rfl
      | ⟨2, _⟩ => exact Fin.ext (show (b.val * 3072 + (1536 + d.val)) % 3072 = 1536 + d.val by omega)
    rw [e1, e2, w_hi x2 x3 hs, val_main_v76_apply, val_main_v0_apply, e3, at2_fin x2 d c _ rfl, at2_fin x3 ⟨48 + d.val / 32, by omega⟩ c _ rfl]
    exact congrArg (fun z : EReal => z * _) (at2_fin (rows x0) b ⟨1536 + d.val, by omega⟩ b.val rfl).symm

/-! ## The adapters -/

/-- The one-hot row of an adapter index. -/
theorem hot_eq (b : Fin 10) (n : Fin 3) : val_main_v1 (F := Ideal) x1 (ix2 b n) = if x1 (ix1 b) = BitVec.ofNat 32 n.val then 1 else 0 := by
  simp only [val_main_v1_apply, val_main_call0_v4_apply, val_main_call0_v3_apply, val_main_call0_v2_apply, val_main_call0_v1_apply, val_main_call0_v0_apply]
  have e : idx_main_call0_v0 (idx_main_call0_v2 (ix2 b n)) = ix1 b := by
    funext a
    match a with
    | ⟨0, _⟩ => rfl
  rw [e]
  show ((((IntOp.cmpi .eq (x1 (ix1 b)) (BitVec.ofNat 32 n.val)).toNat : ℝ)) : EReal) = _
  by_cases h : x1 (ix1 b) = BitVec.ofNat 32 n.val
  · rw [if_pos h, h]
    simp [IntOp.cmpi]
  · rw [if_neg h]
    simp [IntOp.cmpi, h]

/-- The scaling looked up by an adapter index in range. -/
theorem scal_of (b : Fin 10) (n : Fin 3) (h : x1 (ix1 b) = BitVec.ofNat 32 n.val) : val_main_v9 (F := Ideal) x1 x6 (ix1 b) = x6 (ix1 n) := by
  have e : (ix1 b : S10.Idx) = Shape.Idx.ofFin b := by
    funext a
    match a with
    | ⟨0, _⟩ => rfl
  have e8 : val_main_v8 (F := Ideal) x1 (StableHlo.Predicate.ixP b) = BitVec.ofNat 32 n.val := by
    simp only [val_main_v8_apply, val_main_v7_apply, val_main_v4_apply, val_main_v6_apply, val_main_v3_apply, val_main_v5_apply, val_main_c_apply, val_main_c_0_apply]
    have e : idx_main_v8 (StableHlo.Predicate.ixP b) = ix1 b := by
      funext a
      match a with
      | ⟨0, _⟩ => rfl
    rw [e, h]
    clear h
    revert n
    decide +kernel
  unfold val_main_v9
  refine (congrArg (Host.gather gather_S3_S10x1_S10_n_0_n_n_0_1_1 x6 (val_main_v8 (F := Ideal) x1)) e).trans
    ((StableHlo.Predicate.gather_take gather_S3_S10x1_S10_n_0_n_n_0_1_1 rfl rfl rfl rfl x6 (val_main_v8 (F := Ideal) x1) b (by decide)).trans ?_)
  refine congrArg x6 (funext fun a => ?_)
  match a with
  | ⟨0, _⟩ =>
    refine Fin.ext ?_
    show min (val_main_v8 (F := Ideal) x1 (StableHlo.Predicate.ixP b)).toInt.toNat (3 - 1) = n.val
    rw [e8]
    clear e8 h
    revert n
    decide +kernel

/-- A one-hot row's product, scaled, picks the adapter's. -/
theorem hot_pick (i : BitVec 32) (f h : Fin 3 → EReal) (g : EReal) (hg : ∀ n : Fin 3, i = BitVec.ofNat 32 n.val → g = h n) :
    (∑ n : Fin 3, (if i = BitVec.ofNat 32 n.val then (1 : EReal) else 0) * f n) * g = pick3 i f * pick3 i h := by
  rw [Fin.sum_univ_three]
  show ((if i = 0#32 then (1 : EReal) else 0) * f 0 + (if i = 1#32 then (1 : EReal) else 0) * f 1 + (if i = 2#32 then (1 : EReal) else 0) * f 2) * g = _
  unfold pick3
  by_cases h2 : i = 2#32
  · rw [hg 2 h2]
    subst h2
    simp
  by_cases h1 : i = 1#32
  · rw [hg 1 h1]
    subst h1
    simp
  by_cases h0 : i = 0#32
  · rw [hg 0 h0]
    subst h0
    simp
  simp [h0, h1, h2]

/-- The second result at an index. -/
theorem s_eq (b : Fin 10) (r : Fin 128) : val_main_v84 (F := Ideal) x0 x1 x4 x6 (ix2 b r) = sV x1 x6 (rows x0) x4 b r := by
  rw [val_main_v84_apply, val_main_v83_apply, val_main_v80_apply, val_main_v82_apply, val_main_v81_apply]
  have e1 : idx_main_v81 (idx_main_v82 (ix2 b r)) = ix1 b := by
    funext a
    match a with
    | ⟨0, _⟩ => rfl
  have e2 : ∀ n : Fin 3, lidx_main_v80 (ix2 b r) n = ix2 b n := fun n => by
    funext a
    match a with
    | ⟨0, _⟩ => rfl
    | ⟨1, _⟩ => rfl
  have e3 : ∀ n : Fin 3, val_main_v79 (F := Ideal) x0 x4 (ridx_main_v80 (ix2 b r) n) = ∑ d : Fin 3072, rows x0 (ix2 b d) * x4 (ix3 n d r) := fun n => by
    rw [val_main_v79_apply]
    refine Finset.sum_congr rfl fun d _ => ?_
    have f1 : idx_main_v0 (lidx_main_v79 (ridx_main_v80 (ix2 b r) n) d) = ix3 b 0 d := by
      funext a
      match a with
      | ⟨0, _⟩ => exact Fin.ext (show (b.val * 3072 + d.val) / 3072 = b.val by omega)
      | ⟨1, _⟩ => rfl
      | ⟨2, _⟩ => exact Fin.ext (show (b.val * 3072 + d.val) % 3072 = d.val by omega)
    have f2 : ridx_main_v79 (ridx_main_v80 (ix2 b r) n) d = ix3 n d r := by
      funext a
      match a with
      | ⟨0, _⟩ => rfl
      | ⟨1, _⟩ => rfl
      | ⟨2, _⟩ => rfl
    rw [val_main_v0_apply, f1, f2]
    rfl
  rw [e1]
  simp only [e2, e3, hot_eq]
  show (∑ n : Fin 3, (if x1 (ix1 b) = BitVec.ofNat 32 n.val then (1 : EReal) else 0) * ∑ d : Fin 3072, rows x0 (ix2 b d) * x4 (ix3 n d r)) * val_main_v9 (F := Ideal) x1 x6 (ix1 b) = _
  exact hot_pick (x1 (ix1 b)) (fun n => ∑ d : Fin 3072, rows x0 (ix2 b d) * x4 (ix3 n d r)) (fun n => x6 (ix1 n)) _ (scal_of x1 x6 b)

/-- The one-hot spread of a row's low-rank product. -/
theorem spread_eq (b : Fin 10) (n : Fin 3) (h : Fin 2) (r : Fin 64) :
    val_main_v89 (F := Ideal) x0 x1 x4 x6 (ix4 b n h r) = if x1 (ix1 b) = BitVec.ofNat 32 n.val then sV x1 x6 (rows x0) x4 b (Fin.ofNat 128 (64 * h.val + r.val)) else 0 := by
  rw [val_main_v89_apply, val_main_v87_apply, val_main_v88_apply, val_main_v86_apply, val_main_v85_apply, val_main_v2_apply]
  have e1 : idx_main_v85 (idx_main_v87 (ix4 b n h r)) = ix2 b n := by
    funext a
    match a with
    | ⟨0, _⟩ => rfl
    | ⟨1, _⟩ => rfl
  have e2 : idx_main_v86 (idx_main_v88 (ix4 b n h r)) = ix2 b (Fin.ofNat 128 (64 * h.val + r.val)) := by
    funext a
    match a with
    | ⟨0, _⟩ => exact Fin.ext (show (((b.val * 1 + 0) * 2 + h.val) * 64 + r.val) / 128 = b.val by omega)
    | ⟨1, _⟩ => exact Fin.ext (show (((b.val * 1 + 0) * 2 + h.val) * 64 + r.val) % 128 = (64 * h.val + r.val) % 128 by omega)
  rw [e1, e2, s_eq]
  show val_main_v1 (F := Ideal) x1 (ix2 b n) * _ = _
  rw [hot_eq]
  by_cases h : x1 (ix1 b) = BitVec.ofNat 32 n.val
  · rw [if_pos h, if_pos h, one_mul]
  · rw [if_neg h, if_neg h, zero_mul]

/-- The low-rank part at an index. -/
theorem lora_eq (b : Fin 10) (h : Fin 2) (j : Fin 16384) : val_main_v91 (F := Ideal) x0 x1 x4 x5 x6 (ix3 b h j)
    = ∑ k : Fin 192, loraG x1 x6 (rows x0) x4 (ix3 h b k) * x5 (ix4 ⟨k.val / 64, by omega⟩ h ⟨k.val % 64, by omega⟩ j) := by
  simp only [val_main_v91_apply]
  have e : idx_main_v91 (ix3 b h j) = ix3 h j b := by
    funext a
    match a with
    | ⟨0, _⟩ => rfl
    | ⟨1, _⟩ => rfl
    | ⟨2, _⟩ => rfl
  rw [e]
  unfold val_main_v90
  pointwise
  refine Fin.sum_mul_add_congr (fun n r hl => ?_)
  rw [spread_eq, mul_comm]
  refine congrArg₂ (fun a b : EReal => a * b) ?_ (congrArg₂ (fun n r => x5 (ix4 n h r j)) (Fin.ext ?_) (Fin.ext ?_))
  · show _ = mV x1 x6 (rows x0) x4 h.val b ⟨n.val * 64 + r.val, hl⟩
    unfold mV
    rw [show (n.val * 64 + r.val) / 64 = n.val by omega, show (n.val * 64 + r.val) % 64 = r.val by omega]
  · exact (show n.val = (n.val * 64 + r.val) / 64 by omega)
  · exact (show r.val = (n.val * 64 + r.val) % 64 by omega)

/-! ## The first result -/

theorem gu_eq (hs : ∀ i, 2 ≤ (x3 i : BitVec 8).toNat ∧ (x3 i : BitVec 8).toNat ≤ 252) (b : Fin 10) (h : Fin 2) (j : Fin 16384) :
    val_main_v93 (F := Ideal) x0 x1 x2 x3 x4 x5 x6 (ix3 b h j) = gV x0 x1 x2 x3 x4 x5 x6 h b j := by
  rw [val_main_v93_apply, val_main_v92_apply, lora_eq]
  have e : idx_main_v92 (ix3 b h j) = ix2 b ⟨16384 * h.val + j.val, by omega⟩ := by
    funext a
    match a with
    | ⟨0, _⟩ => exact Fin.ext (show ((b.val * 2 + h.val) * 16384 + j.val) / 32768 = b.val by omega)
    | ⟨1, _⟩ => exact Fin.ext (show ((b.val * 2 + h.val) * 16384 + j.val) % 32768 = 16384 * h.val + j.val by omega)
  rw [e, prod_eq x0 x2 x3 hs]
  rfl

theorem h_eq (hs : ∀ i, 2 ≤ (x3 i : BitVec 8).toNat ∧ (x3 i : BitVec 8).toNat ≤ 252) (b : Fin 10) (j : Fin 16384) :
    val_main_v106 (F := Ideal) x0 x1 x2 x3 x4 x5 x6 (ix2 b j)
      = gV x0 x1 x2 x3 x4 x5 x6 0 b j * Ideal.logistic (gV x0 x1 x2 x3 x4 x5 x6 0 b j) * gV x0 x1 x2 x3 x4 x5 x6 1 b j := by
  have e0 : idx_main_v94 (idx_main_v95 (ix2 b j)) = ix3 b 0 j := by
    funext a
    match a with
    | ⟨0, _⟩ => exact Fin.ext (show (b.val * 16384 + j.val) / 16384 = b.val by omega)
    | ⟨1, _⟩ => rfl
    | ⟨2, _⟩ => exact Fin.ext (show (b.val * 16384 + j.val) % 16384 = j.val by omega)
  have e1 : idx_main_v96 (idx_main_v97 (ix2 b j)) = ix3 b 1 j := by
    funext a
    match a with
    | ⟨0, _⟩ => exact Fin.ext (show (b.val * 16384 + j.val) / 16384 = b.val by omega)
    | ⟨1, _⟩ => rfl
    | ⟨2, _⟩ => exact Fin.ext (show (b.val * 16384 + j.val) % 16384 = j.val by omega)
  have k0 : val_main_v95 (F := Ideal) x0 x1 x2 x3 x4 x5 x6 (ix2 b j) = gV x0 x1 x2 x3 x4 x5 x6 0 b j := by
    rw [val_main_v95_apply, val_main_v94_apply, e0, gu_eq x0 x1 x2 x3 x4 x5 x6 hs]
  have k1 : val_main_v97 (F := Ideal) x0 x1 x2 x3 x4 x5 x6 (ix2 b j) = gV x0 x1 x2 x3 x4 x5 x6 1 b j := by
    rw [val_main_v97_apply, val_main_v96_apply, e1, gu_eq x0 x1 x2 x3 x4 x5 x6 hs]
  simp only [val_main_v106_apply, val_main_v105_apply, val_main_v104_apply, val_main_v103_apply, val_main_v102_apply, val_main_v101_apply, val_main_v100_apply, val_main_v99_apply, val_main_v98_apply, val_main_cst_apply, val_main_cst_25_apply, k0, k1]
  pointwise
  rfl

end Cert.GateUpReferenceIdeal.Hand

end
-- ==== Proof.GateUpIdeal.Claim.lean ====
/- The gate-and-up claims: the two frames under the precondition, and the equality of the kernel's results with the reference's. -/
module

public import proofs.«01_k».proof.Defs
public import proofs.«01_k».proof.Proof.Gen.Pre_scales_gate_up
public import proofs.«01_k».proof.Proof.GateUpIdeal.Arrays
public import proofs.«01_k».proof.Proof.GateUpIdeal.Ref
public import proofs.«01_k».proof.Proof.Gen.GateUpReferenceIdeal.Run

@[expose] public section

set_option maxRecDepth 16384
set_option maxHeartbeats 400000

noncomputable section

namespace Cert.GateUpClaims

open Idealize.ShloMosaic Idealize.ShloMosaic.TcCoe Idealize.SL.Sem Cert.Mx
open Cert.GateUpIdeal.Hand (sV rows gV hV arr0 arr1)

/-- The precondition read at an element: every scale code is at least 2 and at most 252. -/
theorem scales_of (m : (ℓ : Loc Cert.GateUpIdeal.nD Cert.GateUpIdeal.τ Cert.GateUpIdeal.sig) → Buf (Elt Ideal) ℓ)
    (h : Cert.Pre_GateUpIdeal_scales_gate_up m) (c : Dev Cert.GateUpIdeal.nD) (i : Cert.GateUpIdeal.S96x32768.Idx) :
    2 ≤ (m ((c.tc : Thread Cert.GateUpIdeal.nD Cert.GateUpIdeal.τ).loc Cert.GateUpIdeal.main_arg3) i : BitVec 8).toNat
      ∧ (m ((c.tc : Thread Cert.GateUpIdeal.nD Cert.GateUpIdeal.τ).loc Cert.GateUpIdeal.main_arg3) i : BitVec 8).toNat ≤ 252 :=
  ⟨IntOp.cmpi_uge.1 (congrFun (h c).1 i), IntOp.cmpi_ule.1 (congrFun (h c).2 i)⟩

/-- The reference's frame: its run read at the arguments; it declares no semaphore. -/
theorem ref_frame : Cert.quiescent_GateUpReferenceIdeal := fun m g _ =>
  (θ_run Cert.GateUpReferenceIdeal.defs _ _).mono (fun r h => ⟨fun c => (h c).2.2,
      Idealize.ShloMosaic.sem_eq_zero_of_no_sems (by decide) r.2⟩)
    (Cert.GateUpReferenceIdeal.Value.run (F := Ideal) m g)

theorem algebraic : Cert.algebraic_GateUpIdeal_GateUpReferenceIdeal_pre_scales_gate_up := by
  intro m g m' g' hp hag
  refine ⟨fun c => (fun y : Cert.GateUpIdeal.S10x16384.Idx => hV m c (y 0) (y 1)),
    fun c => (fun y : Cert.GateUpIdeal.S10x128.Idx => sV (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg6)) (rows (m ((c.tc : Thread Cert.GateUpIdeal.nD Cert.GateUpIdeal.τ).loc Cert.GateUpIdeal.main_arg0))) (m ((c.tc : Thread Cert.GateUpIdeal.nD Cert.GateUpIdeal.τ).loc Cert.GateUpIdeal.main_arg4)) (y 0) (y 1)), ?_, ?_⟩
  · refine (θ_run _ _ _).mono (fun r h c => ?_) (θ_run_and (Cert.GateUpIdeal.Hand.run_main m g) (Cert.GateUpIdeal.Hand.frame m g))
    exact ⟨(h.1.out_eq c 9).trans (arr0 m c (scales_of m hp c)), (h.1.out_eq c 10).trans (arr1 m c), h.2.1 c⟩
  · refine (θ_run _ _ _).mono (fun r h c => ?_) (Cert.GateUpReferenceIdeal.Value.run (F := Ideal) m' g')
    obtain ⟨h0, h1, hargs⟩ := h c
    obtain ⟨a0, a1, a2, a3, a4, a5, a6⟩ := hag c
    refine ⟨h0.trans ?_, h1.trans ?_, hargs⟩
    · rw [Cert.GateUpReferenceIdeal.Read.val_main_v106_eq, a0, a1, a2, a3, a4, a5, a6]
      refine funext fun (y : Cert.GateUpIdeal.S10x16384.Idx) => ?_
      have e : y = ix2 (y 0) (y 1) := by
        funext a
        match a with
        | ⟨0, _⟩ => rfl
        | ⟨1, _⟩ => rfl
      exact (congrArg _ e).trans (Cert.GateUpReferenceIdeal.Hand.h_eq _ _ _ _ _ _ _ (scales_of m hp c) (y 0) (y 1))
    · refine (Cert.GateUpReferenceIdeal.Read.val_main_v84_eq _ _ _ _).trans ?_
      rw [a0, a1, a4, a6]
      refine funext fun (y : Cert.GateUpIdeal.S10x128.Idx) => ?_
      have e : y = ix2 (y 0) (y 1) := by
        funext a
        match a with
        | ⟨0, _⟩ => rfl
        | ⟨1, _⟩ => rfl
      exact (congrArg _ e).trans (Cert.GateUpReferenceIdeal.Hand.s_eq _ _ _ _ (y 0) (y 1))

end Cert.GateUpClaims
-- ==== Proof.DownIdeal.Body.lean ====
/- The kernel body of `DownIdeal` cut at its first conditional: `initProg`, what the first grid point does before the rest
   (the skeleton's own text), and `restProg`, what every grid point does. -/
module

public import proofs.«01_k».proof.Proof.Gen.DownIdeal.Skeleton

@[expose] public section

set_option maxRecDepth 65536
set_option maxHeartbeats 4000000

noncomputable section

namespace Cert.DownIdeal.Hand

open Idealize.ShloMosaic Idealize.ShloMosaic.TcCoe Cert.DownIdeal.Gen
open Idealize.SL.Sem

variable {F : FTy → Type} [FloatOps F]

/-- What the first grid point does before the rest. -/
def initProg (i : grid0.Coords) (arg1 : Memref sig .tc .smem S10 .i32) (harg1 : arg1.IsWhole) (arg2 : Memref sig .tc .smem S3 .f32) (harg2 : arg2.IsWhole) (arg3 : Memref sig .tc .vmem S10x16384 .bf16) (harg3 : arg3.IsWhole) (arg4 : Memref sig .tc .vmem S8192x256 .i8) (harg4 : arg4.IsWhole) (arg5 : Memref sig .tc .vmem S512x256 .i8) (harg5 : arg5.IsWhole) (arg6 : Memref sig .tc .vmem S3x64x16384 .bf16) (harg6 : arg6.IsWhole) (arg7 : Memref sig .tc .vmem S3x64x256 .bf16) (harg7 : arg7.IsWhole) (arg8 : Memref sig .tc .vmem S10x256 .bf16) (harg8 : arg8.IsWhole) (arg9 : Memref sig .tc .vmem S10x64 .bf16) (harg9 : arg9.IsWhole) (arg10 : Memref sig .tc .vmem S64x80x256 .bf16) (harg10 : arg10.IsWhole) (arg11 : Memref sig .tc .vmem S10x192 .bf16) (harg11 : arg11.IsWhole) (arg12 : Memref sig .tc .vmem S32x2x16x128 .f32) (harg12 : arg12.IsWhole) (arg13 : Memref sig .tc .vmem S2x96x128 .f32) (harg13 : arg13.IsWhole) :
    Prog (TpuEff nD τ sig (Elt F) Λ₀ .tc) PUnit := do
  let v16152 : FVec F S10x192 .bf16 ← k0_part273 i arg1 harg1 arg2 harg2 arg3 harg3 arg4 harg4 arg5 harg5 arg6 harg6 arg7 harg7 arg8 harg8 arg9 harg9 arg10 harg10 arg11 harg11 arg12 harg12 arg13 harg13
  Prog.lift (.store arg11 (Rect.unit (s := S10x192) ![0, 0] S10x192.size inb_S10x192_S10x192_0_0) v16152 Finset.univ (View.stores_vmem h_S10x192 (harg11.storeExact_slice rfl _ packedbf16_S10x192_S10x192_0_0) (fun _ => rfl)) (.inl rfl))
  pure ⟨⟩

/-- Part 274 without its conditional. -/
def rest274 (i : grid0.Coords) (arg1 : Memref sig .tc .smem S10 .i32) (harg1 : arg1.IsWhole) (arg2 : Memref sig .tc .smem S3 .f32) (harg2 : arg2.IsWhole) (arg3 : Memref sig .tc .vmem S10x16384 .bf16) (harg3 : arg3.IsWhole) (arg4 : Memref sig .tc .vmem S8192x256 .i8) (harg4 : arg4.IsWhole) (arg5 : Memref sig .tc .vmem S512x256 .i8) (harg5 : arg5.IsWhole) (arg6 : Memref sig .tc .vmem S3x64x16384 .bf16) (harg6 : arg6.IsWhole) (arg7 : Memref sig .tc .vmem S3x64x256 .bf16) (harg7 : arg7.IsWhole) (arg8 : Memref sig .tc .vmem S10x256 .bf16) (harg8 : arg8.IsWhole) (arg9 : Memref sig .tc .vmem S10x64 .bf16) (harg9 : arg9.IsWhole) (arg10 : Memref sig .tc .vmem S64x80x256 .bf16) (harg10 : arg10.IsWhole) (arg11 : Memref sig .tc .vmem S10x192 .bf16) (harg11 : arg11.IsWhole) (arg12 : Memref sig .tc .vmem S32x2x16x128 .f32) (harg12 : arg12.IsWhole) (arg13 : Memref sig .tc .vmem S2x96x128 .f32) (harg13 : arg13.IsWhole) :
    Prog (TpuEff nD τ sig (Elt F) Λ₀ .tc) (FVec F S512x128 .f32) := do
  let v3 : Vec F S512x128 .i8 ← Prog.lift (.load arg5 (Rect.unit (s := S512x256) ![0, 0] S512x128.size inb_S512x256_S512x128_0_0).toLoadRect (View.loadsAt_vmem h_S512x128))
  let v9 : Vec F S1x1x8x128 .f32 ← Prog.lift (.load arg12 (Rect.unit (s := S32x2x16x128) ![0, 0, 0, 0] S1x1x8x128.size inb_S32x2x16x128_S1x1x8x128_0_0_0_0).toLoadRect (View.loadsAt_vmem h_S1x1x8x128))
  Prog.lift (.store arg12 (Rect.unit (s := S32x2x16x128) ![0, 0, 0, 0] S1x1x8x128.size inb_S32x2x16x128_S1x1x8x128_0_0_0_0) (k0_pay951 v3) Finset.univ (View.stores_vmem_bits_univ h_S1x1x8x128 rfl) (.inl rfl))
  let v13 : Vec F S1x1x8x128 .f32 ← Prog.lift (.load arg12 (Rect.unit (s := S32x2x16x128) ![0, 0, 8, 0] S1x1x8x128.size inb_S32x2x16x128_S1x1x8x128_0_0_8_0).toLoadRect (View.loadsAt_vmem h_S1x1x8x128))
  Prog.lift (.store arg12 (Rect.unit (s := S32x2x16x128) ![0, 0, 8, 0] S1x1x8x128.size inb_S32x2x16x128_S1x1x8x128_0_0_8_0) (k0_pay952 v3) Finset.univ (View.stores_vmem_bits_univ h_S1x1x8x128 rfl) (.inl rfl))
  let v17 : Vec F S1x1x8x128 .f32 ← Prog.lift (.load arg12 (Rect.unit (s := S32x2x16x128) ![1, 0, 0, 0] S1x1x8x128.size inb_S32x2x16x128_S1x1x8x128_1_0_0_0).toLoadRect (View.loadsAt_vmem h_S1x1x8x128))
  Prog.lift (.store arg12 (Rect.unit (s := S32x2x16x128) ![1, 0, 0, 0] S1x1x8x128.size inb_S32x2x16x128_S1x1x8x128_1_0_0_0) (k0_pay953 v3) Finset.univ (View.stores_vmem_bits_univ h_S1x1x8x128 rfl) (.inl rfl))
  let v21 : Vec F S1x1x8x128 .f32 ← Prog.lift (.load arg12 (Rect.unit (s := S32x2x16x128) ![1, 0, 8, 0] S1x1x8x128.size inb_S32x2x16x128_S1x1x8x128_1_0_8_0).toLoadRect (View.loadsAt_vmem h_S1x1x8x128))
  Prog.lift (.store arg12 (Rect.unit (s := S32x2x16x128) ![1, 0, 8, 0] S1x1x8x128.size inb_S32x2x16x128_S1x1x8x128_1_0_8_0) (k0_pay954 v3) Finset.univ (View.stores_vmem_bits_univ h_S1x1x8x128 rfl) (.inl rfl))
  let v25 : Vec F S1x1x8x128 .f32 ← Prog.lift (.load arg12 (Rect.unit (s := S32x2x16x128) ![2, 0, 0, 0] S1x1x8x128.size inb_S32x2x16x128_S1x1x8x128_2_0_0_0).toLoadRect (View.loadsAt_vmem h_S1x1x8x128))
  Prog.lift (.store arg12 (Rect.unit (s := S32x2x16x128) ![2, 0, 0, 0] S1x1x8x128.size inb_S32x2x16x128_S1x1x8x128_2_0_0_0) (k0_pay955 v3) Finset.univ (View.stores_vmem_bits_univ h_S1x1x8x128 rfl) (.inl rfl))
  pure (k0_pay950 v3)

/-- Part 385 without the conditional. -/
def rest385 (i : grid0.Coords) (arg1 : Memref sig .tc .smem S10 .i32) (harg1 : arg1.IsWhole) (arg2 : Memref sig .tc .smem S3 .f32) (harg2 : arg2.IsWhole) (arg3 : Memref sig .tc .vmem S10x16384 .bf16) (harg3 : arg3.IsWhole) (arg4 : Memref sig .tc .vmem S8192x256 .i8) (harg4 : arg4.IsWhole) (arg5 : Memref sig .tc .vmem S512x256 .i8) (harg5 : arg5.IsWhole) (arg6 : Memref sig .tc .vmem S3x64x16384 .bf16) (harg6 : arg6.IsWhole) (arg7 : Memref sig .tc .vmem S3x64x256 .bf16) (harg7 : arg7.IsWhole) (arg8 : Memref sig .tc .vmem S10x256 .bf16) (harg8 : arg8.IsWhole) (arg9 : Memref sig .tc .vmem S10x64 .bf16) (harg9 : arg9.IsWhole) (arg10 : Memref sig .tc .vmem S64x80x256 .bf16) (harg10 : arg10.IsWhole) (arg11 : Memref sig .tc .vmem S10x192 .bf16) (harg11 : arg11.IsWhole) (arg12 : Memref sig .tc .vmem S32x2x16x128 .f32) (harg12 : arg12.IsWhole) (arg13 : Memref sig .tc .vmem S2x96x128 .f32) (harg13 : arg13.IsWhole) :
    Prog (TpuEff nD τ sig (Elt F) Λ₀ .tc) (Σ' (v1973 : FVec F S10x8x256 .f32) (v2001 : IVec S256x256 32), IVec S256x256 1) := do
  let v7 : FVec F S512x128 .f32 ← rest274 i arg1 harg1 arg2 harg2 arg3 harg3 arg4 harg4 arg5 harg5 arg6 harg6 arg7 harg7 arg8 harg8 arg9 harg9 arg10 harg10 arg11 harg11 arg12 harg12 arg13 harg13
  let ⟨v52, v53⟩ : Σ' (v52 : FVec F S8x128 .f32), Vec F S1x1x8x128 .f32 ← k0_part275 i arg1 harg1 arg2 harg2 arg3 harg3 arg4 harg4 arg5 harg5 arg6 harg6 arg7 harg7 arg8 harg8 arg9 harg9 arg10 harg10 arg11 harg11 arg12 harg12 arg13 harg13 v7
  let v80 : FVec F S8x128 .f32 ← k0_part276 i arg1 harg1 arg2 harg2 arg3 harg3 arg4 harg4 arg5 harg5 arg6 harg6 arg7 harg7 arg8 harg8 arg9 harg9 arg10 harg10 arg11 harg11 arg12 harg12 arg13 harg13 v7 v52 v53
  k0_part277 i arg1 harg1 arg2 harg2 arg3 harg3 arg4 harg4 arg5 harg5 arg6 harg6 arg7 harg7 arg8 harg8 arg9 harg9 arg10 harg10 arg11 harg11 arg12 harg12 arg13 harg13 v7 v80
  let ⟨v132, v133⟩ : Σ' (v132 : FVec F S8x128 .f32), Vec F S1x1x8x128 .f32 ← k0_part278 i arg1 harg1 arg2 harg2 arg3 harg3 arg4 harg4 arg5 harg5 arg6 harg6 arg7 harg7 arg8 harg8 arg9 harg9 arg10 harg10 arg11 harg11 arg12 harg12 arg13 harg13 v7
  let v160 : FVec F S8x128 .f32 ← k0_part279 i arg1 harg1 arg2 harg2 arg3 harg3 arg4 harg4 arg5 harg5 arg6 harg6 arg7 harg7 arg8 harg8 arg9 harg9 arg10 harg10 arg11 harg11 arg12 harg12 arg13 harg13 v7 v132 v133
  k0_part280 i arg1 harg1 arg2 harg2 arg3 harg3 arg4 harg4 arg5 harg5 arg6 harg6 arg7 harg7 arg8 harg8 arg9 harg9 arg10 harg10 arg11 harg11 arg12 harg12 arg13 harg13 v7 v160
  let ⟨v212, v213⟩ : Σ' (v212 : FVec F S8x128 .f32), Vec F S1x1x8x128 .f32 ← k0_part281 i arg1 harg1 arg2 harg2 arg3 harg3 arg4 harg4 arg5 harg5 arg6 harg6 arg7 harg7 arg8 harg8 arg9 harg9 arg10 harg10 arg11 harg11 arg12 harg12 arg13 harg13 v7
  let v240 : FVec F S8x128 .f32 ← k0_part282 i arg1 harg1 arg2 harg2 arg3 harg3 arg4 harg4 arg5 harg5 arg6 harg6 arg7 harg7 arg8 harg8 arg9 harg9 arg10 harg10 arg11 harg11 arg12 harg12 arg13 harg13 v7 v212 v213
  let ⟨v268, v269⟩ : Σ' (v268 : FVec F S512x128 .f32), FVec F S8x128 .f32 ← k0_part283 i arg1 harg1 arg2 harg2 arg3 harg3 arg4 harg4 arg5 harg5 arg6 harg6 arg7 harg7 arg8 harg8 arg9 harg9 arg10 harg10 arg11 harg11 arg12 harg12 arg13 harg13 v7 v240
  let v293 : FVec F S8x128 .f32 ← k0_part284 i arg1 harg1 arg2 harg2 arg3 harg3 arg4 harg4 arg5 harg5 arg6 harg6 arg7 harg7 arg8 harg8 arg9 harg9 arg10 harg10 arg11 harg11 arg12 harg12 arg13 harg13 v268 v269
  let v321 : FVec F S8x128 .f32 ← k0_part285 i arg1 harg1 arg2 harg2 arg3 harg3 arg4 harg4 arg5 harg5 arg6 harg6 arg7 harg7 arg8 harg8 arg9 harg9 arg10 harg10 arg11 harg11 arg12 harg12 arg13 harg13 v268 v293
  let v349 : FVec F S8x128 .f32 ← k0_part286 i arg1 harg1 arg2 harg2 arg3 harg3 arg4 harg4 arg5 harg5 arg6 harg6 arg7 harg7 arg8 harg8 arg9 harg9 arg10 harg10 arg11 harg11 arg12 harg12 arg13 harg13 v268 v321
  let v373 : FVec F S8x128 .f32 ← k0_part287 i arg1 harg1 arg2 harg2 arg3 harg3 arg4 harg4 arg5 harg5 arg6 harg6 arg7 harg7 arg8 harg8 arg9 harg9 arg10 harg10 arg11 harg11 arg12 harg12 arg13 harg13 v268 v349
  let v401 : FVec F S8x128 .f32 ← k0_part288 i arg1 harg1 arg2 harg2 arg3 harg3 arg4 harg4 arg5 harg5 arg6 harg6 arg7 harg7 arg8 harg8 arg9 harg9 arg10 harg10 arg11 harg11 arg12 harg12 arg13 harg13 v268 v373
  let v429 : FVec F S8x128 .f32 ← k0_part289 i arg1 harg1 arg2 harg2 arg3 harg3 arg4 harg4 arg5 harg5 arg6 harg6 arg7 harg7 arg8 harg8 arg9 harg9 arg10 harg10 arg11 harg11 arg12 harg12 arg13 harg13 v268 v401
  let v453 : FVec F S8x128 .f32 ← k0_part290 i arg1 harg1 arg2 harg2 arg3 harg3 arg4 harg4 arg5 harg5 arg6 harg6 arg7 harg7 arg8 harg8 arg9 harg9 arg10 harg10 arg11 harg11 arg12 harg12 arg13 harg13 v268 v429
  let v481 : FVec F S8x128 .f32 ← k0_part291 i arg1 harg1 arg2 harg2 arg3 harg3 arg4 harg4 arg5 harg5 arg6 harg6 arg7 harg7 arg8 harg8 arg9 harg9 arg10 harg10 arg11 harg11 arg12 harg12 arg13 harg13 v268 v453
  let v509 : FVec F S8x128 .f32 ← k0_part292 i arg1 harg1 arg2 harg2 arg3 harg3 arg4 harg4 arg5 harg5 arg6 harg6 arg7 harg7 arg8 harg8 arg9 harg9 arg10 harg10 arg11 harg11 arg12 harg12 arg13 harg13 v268 v481
  let ⟨v538, c7_i32⟩ : Σ' (v538 : IVec S256x256 32), BitVec 32 ← k0_part293 i arg1 harg1 arg2 harg2 arg3 harg3 arg4 harg4 arg5 harg5 arg6 harg6 arg7 harg7 arg8 harg8 arg9 harg9 arg10 harg10 arg11 harg11 arg12 harg12 arg13 harg13 v268 v509
  let ⟨v573, v574⟩ : Σ' (v573 : FVec F S10x8x256 .f32), Vec F S32x256 .i8 ← k0_part294 i arg1 harg1 arg2 harg2 arg3 harg3 arg4 harg4 arg5 harg5 arg6 harg6 arg7 harg7 arg8 harg8 arg9 harg9 arg10 harg10 arg11 harg11 arg12 harg12 arg13 harg13 v538 c7_i32
  let v613 : FVec F S80x256 .f32 ← k0_part295 i arg1 harg1 arg2 harg2 arg3 harg3 arg4 harg4 arg5 harg5 arg6 harg6 arg7 harg7 arg8 harg8 arg9 harg9 arg10 harg10 arg11 harg11 arg12 harg12 arg13 harg13 v574
  let ⟨v623, v637, v639, v641, v643, v648, c6_i32_547⟩ : Σ' (v623 : FVec F S10x8x256 .f32) (v637 : IVec S256x256 32) (v639 : IVec S256x256 32) (v641 : IVec S256x256 1) (v643 : IVec S256x256 1) (v648 : IVec S256x256 32), BitVec 32 ← k0_part296 i arg1 harg1 arg2 harg2 arg3 harg3 arg4 harg4 arg5 harg5 arg6 harg6 arg7 harg7 arg8 harg8 arg9 harg9 arg10 harg10 arg11 harg11 arg12 harg12 arg13 harg13 v573 v613
  let ⟨v673, v681, v683⟩ : Σ' (v673 : FVec F S10x8x256 .f32) (v681 : IVec S128x256 32), IVec S128x256 32 ← k0_part297 i arg1 harg1 arg2 harg2 arg3 harg3 arg4 harg4 arg5 harg5 arg6 harg6 arg7 harg7 arg8 harg8 arg9 harg9 arg10 harg10 arg11 harg11 arg12 harg12 arg13 harg13 v623 v637 v639 v641 v643 v648 c6_i32_547
  let ⟨v719, v721⟩ : Σ' (v719 : FVec F S10x8x256 .f32), FVec F S10x8x256 .f32 ← k0_part298 i arg1 harg1 arg2 harg2 arg3 harg3 arg4 harg4 arg5 harg5 arg6 harg6 arg7 harg7 arg8 harg8 arg9 harg9 arg10 harg10 arg11 harg11 arg12 harg12 arg13 harg13 v681 v683
  let ⟨v723, v759⟩ : Σ' (v723 : FVec F S10x8x256 .f32), FVec F S256x256 .f32 ← k0_part299 i arg1 harg1 arg2 harg2 arg3 harg3 arg4 harg4 arg5 harg5 arg6 harg6 arg7 harg7 arg8 harg8 arg9 harg9 arg10 harg10 arg11 harg11 arg12 harg12 arg13 harg13 v673 v719 v721
  let ⟨v773, v787, v789, v791, v793, v795⟩ : Σ' (v773 : FVec F S10x8x256 .f32) (v787 : IVec S256x256 32) (v789 : IVec S256x256 32) (v791 : IVec S256x256 1) (v793 : IVec S256x256 1), IVec S256x256 1 ← k0_part300 i arg1 harg1 arg2 harg2 arg3 harg3 arg4 harg4 arg5 harg5 arg6 harg6 arg7 harg7 arg8 harg8 arg9 harg9 arg10 harg10 arg11 harg11 arg12 harg12 arg13 harg13 v723 v759
  let ⟨v823, v829⟩ : Σ' (v823 : FVec F S10x8x256 .f32), IVec S128x256 32 ← k0_part301 i arg1 harg1 arg2 harg2 arg3 harg3 arg4 harg4 arg5 harg5 arg6 harg6 arg7 harg7 arg8 harg8 arg9 harg9 arg10 harg10 arg11 harg11 arg12 harg12 arg13 harg13 v773 v787 v789 v791 v793 v795
  let ⟨v863, v865⟩ : Σ' (v863 : FVec F S80x256 .f32), FVec F S8x128 .f32 ← k0_part302 i arg1 harg1 arg2 harg2 arg3 harg3 arg4 harg4 arg5 harg5 arg6 harg6 arg7 harg7 arg8 harg8 arg9 harg9 arg10 harg10 arg11 harg11 arg12 harg12 arg13 harg13 v829
  let ⟨v873, v906⟩ : Σ' (v873 : FVec F S10x8x256 .f32), IVec S256x256 32 ← k0_part303 i arg1 harg1 arg2 harg2 arg3 harg3 arg4 harg4 arg5 harg5 arg6 harg6 arg7 harg7 arg8 harg8 arg9 harg9 arg10 harg10 arg11 harg11 arg12 harg12 arg13 harg13 v823 v863 v865
  let ⟨v923, v937, v939, v941⟩ : Σ' (v923 : FVec F S10x8x256 .f32) (v937 : IVec S256x256 32) (v939 : IVec S256x256 32), IVec S256x256 1 ← k0_part304 i arg1 harg1 arg2 harg2 arg3 harg3 arg4 harg4 arg5 harg5 arg6 harg6 arg7 harg7 arg8 harg8 arg9 harg9 arg10 harg10 arg11 harg11 arg12 harg12 arg13 harg13 v873 v906
  let ⟨v973, v974, v975⟩ : Σ' (v973 : FVec F S10x8x256 .f32) (v974 : Vec F S32x256 .i8), Vec F S32x256 .i8 ← k0_part305 i arg1 harg1 arg2 harg2 arg3 harg3 arg4 harg4 arg5 harg5 arg6 harg6 arg7 harg7 arg8 harg8 arg9 harg9 arg10 harg10 arg11 harg11 arg12 harg12 arg13 harg13 v923 v937 v939 v941
  let v1013 : FVec F S80x256 .f32 ← k0_part306 i arg1 harg1 arg2 harg2 arg3 harg3 arg4 harg4 arg5 harg5 arg6 harg6 arg7 harg7 arg8 harg8 arg9 harg9 arg10 harg10 arg11 harg11 arg12 harg12 arg13 harg13 v974 v975
  let ⟨v1023, v1037, v1051, c8_i32_772⟩ : Σ' (v1023 : FVec F S10x8x256 .f32) (v1037 : IVec S256x256 32) (v1051 : IVec S256x256 32), BitVec 32 ← k0_part307 i arg1 harg1 arg2 harg2 arg3 harg3 arg4 harg4 arg5 harg5 arg6 harg6 arg7 harg7 arg8 harg8 arg9 harg9 arg10 harg10 arg11 harg11 arg12 harg12 arg13 harg13 v973 v1013
  let ⟨v1073, v1087⟩ : Σ' (v1073 : FVec F S10x8x256 .f32), IVec S256x256 32 ← k0_part308 i arg1 harg1 arg2 harg2 arg3 harg3 arg4 harg4 arg5 harg5 arg6 harg6 arg7 harg7 arg8 harg8 arg9 harg9 arg10 harg10 arg11 harg11 arg12 harg12 arg13 harg13 v1023 v1037 v1051 c8_i32_772
  let v1123 : FVec F S10x8x256 .f32 ← k0_part309 i arg1 harg1 arg2 harg2 arg3 harg3 arg4 harg4 arg5 harg5 arg6 harg6 arg7 harg7 arg8 harg8 arg9 harg9 arg10 harg10 arg11 harg11 arg12 harg12 arg13 harg13 v1073 v1087
  let ⟨v1161, v1162⟩ : Σ' (v1161 : FVec F S80x256 .bf16), FVec F S256x256 .fp8e4m3 ← k0_part310 i arg1 harg1 arg2 harg2 arg3 harg3 arg4 harg4 arg5 harg5 arg6 harg6 arg7 harg7 arg8 harg8 arg9 harg9 arg10 harg10 arg11 harg11 arg12 harg12 arg13 harg13
  let ⟨v1173, v1187, v1189, v1191, v1193, v1195, v1196, v1197⟩ : Σ' (v1173 : FVec F S10x8x256 .f32) (v1187 : IVec S256x256 32) (v1189 : IVec S256x256 32) (v1191 : IVec S256x256 1) (v1193 : IVec S256x256 1) (v1195 : IVec S256x256 1) (v1196 : IVec S256x256 32), IVec S256x256 32 ← k0_part311 i arg1 harg1 arg2 harg2 arg3 harg3 arg4 harg4 arg5 harg5 arg6 harg6 arg7 harg7 arg8 harg8 arg9 harg9 arg10 harg10 arg11 harg11 arg12 harg12 arg13 harg13 v1123 v1161 v1162
  let ⟨v1223, v1229, v1231, c4_i32_876⟩ : Σ' (v1223 : FVec F S10x8x256 .f32) (v1229 : IVec S128x256 32) (v1231 : IVec S128x256 32), BitVec 32 ← k0_part312 i arg1 harg1 arg2 harg2 arg3 harg3 arg4 harg4 arg5 harg5 arg6 harg6 arg7 harg7 arg8 harg8 arg9 harg9 arg10 harg10 arg11 harg11 arg12 harg12 arg13 harg13 v1173 v1187 v1189 v1191 v1193 v1195 v1196 v1197
  let ⟨v1268, v1269⟩ : Σ' (v1268 : FVec F S8x256 .f32), FVec F S10x8x256 .f32 ← k0_part313 i arg1 harg1 arg2 harg2 arg3 harg3 arg4 harg4 arg5 harg5 arg6 harg6 arg7 harg7 arg8 harg8 arg9 harg9 arg10 harg10 arg11 harg11 arg12 harg12 arg13 harg13 v1229 v1231 c4_i32_876
  let ⟨v1273, v1309⟩ : Σ' (v1273 : FVec F S10x8x256 .f32), FVec F S256x256 .f32 ← k0_part314 i arg1 harg1 arg2 harg2 arg3 harg3 arg4 harg4 arg5 harg5 arg6 harg6 arg7 harg7 arg8 harg8 arg9 harg9 arg10 harg10 arg11 harg11 arg12 harg12 arg13 harg13 v1223 v1268 v1269
  let ⟨v1323, v1337, v1339, v1341, v1343, c6_i32_936⟩ : Σ' (v1323 : FVec F S10x8x256 .f32) (v1337 : IVec S256x256 32) (v1339 : IVec S256x256 32) (v1341 : IVec S256x256 1) (v1343 : IVec S256x256 1), BitVec 32 ← k0_part315 i arg1 harg1 arg2 harg2 arg3 harg3 arg4 harg4 arg5 harg5 arg6 harg6 arg7 harg7 arg8 harg8 arg9 harg9 arg10 harg10 arg11 harg11 arg12 harg12 arg13 harg13 v1273 v1309
  let ⟨v1373, v1374, v1375, v1376, v1377⟩ : Σ' (v1373 : FVec F S10x8x256 .f32) (v1374 : Vec F S32x256 .i8) (v1375 : Vec F S32x256 .i8) (v1376 : Vec F S32x256 .i8), Vec F S32x256 .i8 ← k0_part316 i arg1 harg1 arg2 harg2 arg3 harg3 arg4 harg4 arg5 harg5 arg6 harg6 arg7 harg7 arg8 harg8 arg9 harg9 arg10 harg10 arg11 harg11 arg12 harg12 arg13 harg13 v1323 v1337 v1339 v1341 v1343 c6_i32_936
  let ⟨v1413, v1415⟩ : Σ' (v1413 : FVec F S80x256 .f32), FVec F S8x128 .f32 ← k0_part317 i arg1 harg1 arg2 harg2 arg3 harg3 arg4 harg4 arg5 harg5 arg6 harg6 arg7 harg7 arg8 harg8 arg9 harg9 arg10 harg10 arg11 harg11 arg12 harg12 arg13 harg13 v1374 v1375 v1376 v1377
  let ⟨v1423, v1451, v1453, v1454⟩ : Σ' (v1423 : FVec F S10x8x256 .f32) (v1451 : IVec S256x256 32) (v1453 : IVec S256x256 1), IVec S256x256 32 ← k0_part318 i arg1 harg1 arg2 harg2 arg3 harg3 arg4 harg4 arg5 harg5 arg6 harg6 arg7 harg7 arg8 harg8 arg9 harg9 arg10 harg10 arg11 harg11 arg12 harg12 arg13 harg13 v1373 v1413 v1415
  let ⟨v1473, v1487, v1489, c5_i32_1018⟩ : Σ' (v1473 : FVec F S10x8x256 .f32) (v1487 : IVec S256x256 32) (v1489 : IVec S256x256 32), BitVec 32 ← k0_part319 i arg1 harg1 arg2 harg2 arg3 harg3 arg4 harg4 arg5 harg5 arg6 harg6 arg7 harg7 arg8 harg8 arg9 harg9 arg10 harg10 arg11 harg11 arg12 harg12 arg13 harg13 v1423 v1451 v1453 v1454
  let ⟨v1523, v1524, v1525⟩ : Σ' (v1523 : FVec F S10x8x256 .f32) (v1524 : Vec F S32x256 .i8), Vec F S32x256 .i8 ← k0_part320 i arg1 harg1 arg2 harg2 arg3 harg3 arg4 harg4 arg5 harg5 arg6 harg6 arg7 harg7 arg8 harg8 arg9 harg9 arg10 harg10 arg11 harg11 arg12 harg12 arg13 harg13 v1473 v1487 v1489 c5_i32_1018
  let v1563 : FVec F S80x256 .f32 ← k0_part321 i arg1 harg1 arg2 harg2 arg3 harg3 arg4 harg4 arg5 harg5 arg6 harg6 arg7 harg7 arg8 harg8 arg9 harg9 arg10 harg10 arg11 harg11 arg12 harg12 arg13 harg13 v1524 v1525
  let ⟨v1573, v1587, v1589, v1591, v1600⟩ : Σ' (v1573 : FVec F S10x8x256 .f32) (v1587 : IVec S256x256 32) (v1589 : IVec S256x256 32) (v1591 : IVec S256x256 1), IVec S256x256 32 ← k0_part322 i arg1 harg1 arg2 harg2 arg3 harg3 arg4 harg4 arg5 harg5 arg6 harg6 arg7 harg7 arg8 harg8 arg9 harg9 arg10 harg10 arg11 harg11 arg12 harg12 arg13 harg13 v1523 v1563
  let ⟨v1623, v1634, v1635⟩ : Σ' (v1623 : FVec F S10x8x256 .f32) (v1634 : IVec S128x1x256 32), IVec S128x1x256 32 ← k0_part323 i arg1 harg1 arg2 harg2 arg3 harg3 arg4 harg4 arg5 harg5 arg6 harg6 arg7 harg7 arg8 harg8 arg9 harg9 arg10 harg10 arg11 harg11 arg12 harg12 arg13 harg13 v1573 v1587 v1589 v1591 v1600
  let v1673 : FVec F S10x8x256 .f32 ← k0_part324 i arg1 harg1 arg2 harg2 arg3 harg3 arg4 harg4 arg5 harg5 arg6 harg6 arg7 harg7 arg8 harg8 arg9 harg9 arg10 harg10 arg11 harg11 arg12 harg12 arg13 harg13 v1623 v1634 v1635
  let ⟨v1709, v1710⟩ : Σ' (v1709 : FVec F S256x256 .f32), Vec F S1x80x256 .bf16 ← k0_part325 i arg1 harg1 arg2 harg2 arg3 harg3 arg4 harg4 arg5 harg5 arg6 harg6 arg7 harg7 arg8 harg8 arg9 harg9 arg10 harg10 arg11 harg11 arg12 harg12 arg13 harg13
  let ⟨v1723, v1737, v1739, v1741, v1743, v1745, c8_i32_1161, c12_i32_1162⟩ : Σ' (v1723 : FVec F S10x8x256 .f32) (v1737 : IVec S256x256 32) (v1739 : IVec S256x256 32) (v1741 : IVec S256x256 1) (v1743 : IVec S256x256 1) (v1745 : IVec S256x256 1) (c8_i32_1161 : BitVec 32), BitVec 32 ← k0_part326 i arg1 harg1 arg2 harg2 arg3 harg3 arg4 harg4 arg5 harg5 arg6 harg6 arg7 harg7 arg8 harg8 arg9 harg9 arg10 harg10 arg11 harg11 arg12 harg12 arg13 harg13 v1673 v1709 v1710
  let ⟨v1773, v1779, v1780⟩ : Σ' (v1773 : FVec F S10x8x256 .f32) (v1779 : IVec S128x256 32), IVec S128x256 32 ← k0_part327 i arg1 harg1 arg2 harg2 arg3 harg3 arg4 harg4 arg5 harg5 arg6 harg6 arg7 harg7 arg8 harg8 arg9 harg9 arg10 harg10 arg11 harg11 arg12 harg12 arg13 harg13 v1723 v1737 v1739 v1741 v1743 v1745 c8_i32_1161 c12_i32_1162
  let ⟨v1813, v1815, v1817⟩ : Σ' (v1813 : FVec F S80x256 .f32) (v1815 : FVec F S8x128 .f32), FVec F S8x128 .f32 ← k0_part328 i arg1 harg1 arg2 harg2 arg3 harg3 arg4 harg4 arg5 harg5 arg6 harg6 arg7 harg7 arg8 harg8 arg9 harg9 arg10 harg10 arg11 harg11 arg12 harg12 arg13 harg13 v1779 v1780
  let ⟨v1823, v1857, cst_1222⟩ : Σ' (v1823 : FVec F S10x8x256 .f32) (v1857 : FVec F S256x256 .f32), F .f32 ← k0_part329 i arg1 harg1 arg2 harg2 arg3 harg3 arg4 harg4 arg5 harg5 arg6 harg6 arg7 harg7 arg8 harg8 arg9 harg9 arg10 harg10 arg11 harg11 arg12 harg12 arg13 harg13 v1773 v1813 v1815 v1817
  let ⟨v1873, v1887, v1889, v1891, v1892⟩ : Σ' (v1873 : FVec F S10x8x256 .f32) (v1887 : IVec S256x256 32) (v1889 : IVec S256x256 32) (v1891 : IVec S256x256 1), IVec S256x256 32 ← k0_part330 i arg1 harg1 arg2 harg2 arg3 harg3 arg4 harg4 arg5 harg5 arg6 harg6 arg7 harg7 arg8 harg8 arg9 harg9 arg10 harg10 arg11 harg11 arg12 harg12 arg13 harg13 v1823 v1857 cst_1222
  let ⟨v1923, v1924, v1925, v1926⟩ : Σ' (v1923 : FVec F S10x8x256 .f32) (v1924 : Vec F S32x256 .i8) (v1925 : Vec F S32x256 .i8), Vec F S32x256 .i8 ← k0_part331 i arg1 harg1 arg2 harg2 arg3 harg3 arg4 harg4 arg5 harg5 arg6 harg6 arg7 harg7 arg8 harg8 arg9 harg9 arg10 harg10 arg11 harg11 arg12 harg12 arg13 harg13 v1873 v1887 v1889 v1891 v1892
  let ⟨v1963, v1965⟩ : Σ' (v1963 : FVec F S80x256 .f32), FVec F S8x128 .f32 ← k0_part332 i arg1 harg1 arg2 harg2 arg3 harg3 arg4 harg4 arg5 harg5 arg6 harg6 arg7 harg7 arg8 harg8 arg9 harg9 arg10 harg10 arg11 harg11 arg12 harg12 arg13 harg13 v1924 v1925 v1926
  let ⟨v1973, v2001, v2003⟩ : Σ' (v1973 : FVec F S10x8x256 .f32) (v2001 : IVec S256x256 32), IVec S256x256 1 ← k0_part333 i arg1 harg1 arg2 harg2 arg3 harg3 arg4 harg4 arg5 harg5 arg6 harg6 arg7 harg7 arg8 harg8 arg9 harg9 arg10 harg10 arg11 harg11 arg12 harg12 arg13 harg13 v1923 v1963 v1965
  pure ⟨v1973, v2001, v2003⟩

/-- What every grid point does. -/
def restProg (i : grid0.Coords) (arg1 : Memref sig .tc .smem S10 .i32) (harg1 : arg1.IsWhole) (arg2 : Memref sig .tc .smem S3 .f32) (harg2 : arg2.IsWhole) (arg3 : Memref sig .tc .vmem S10x16384 .bf16) (harg3 : arg3.IsWhole) (arg4 : Memref sig .tc .vmem S8192x256 .i8) (harg4 : arg4.IsWhole) (arg5 : Memref sig .tc .vmem S512x256 .i8) (harg5 : arg5.IsWhole) (arg6 : Memref sig .tc .vmem S3x64x16384 .bf16) (harg6 : arg6.IsWhole) (arg7 : Memref sig .tc .vmem S3x64x256 .bf16) (harg7 : arg7.IsWhole) (arg8 : Memref sig .tc .vmem S10x256 .bf16) (harg8 : arg8.IsWhole) (arg9 : Memref sig .tc .vmem S10x64 .bf16) (harg9 : arg9.IsWhole) (arg10 : Memref sig .tc .vmem S64x80x256 .bf16) (harg10 : arg10.IsWhole) (arg11 : Memref sig .tc .vmem S10x192 .bf16) (harg11 : arg11.IsWhole) (arg12 : Memref sig .tc .vmem S32x2x16x128 .f32) (harg12 : arg12.IsWhole) (arg13 : Memref sig .tc .vmem S2x96x128 .f32) (harg13 : arg13.IsWhole) :
    Prog (TpuEff nD τ sig (Elt F) Λ₀ .tc) PUnit := do
  let ⟨v1973, v2001, v2003⟩ : Σ' (v1973 : FVec F S10x8x256 .f32) (v2001 : IVec S256x256 32), IVec S256x256 1 ← rest385 i arg1 harg1 arg2 harg2 arg3 harg3 arg4 harg4 arg5 harg5 arg6 harg6 arg7 harg7 arg8 harg8 arg9 harg9 arg10 harg10 arg11 harg11 arg12 harg12 arg13 harg13
  let ⟨v3798, v3855⟩ : Σ' (v3798 : FVec F S10x128 .f32), FVec F S10x128 .f32 ← k0_part386 i arg1 harg1 arg2 harg2 arg3 harg3 arg4 harg4 arg5 harg5 arg6 harg6 arg7 harg7 arg8 harg8 arg9 harg9 arg10 harg10 arg11 harg11 arg12 harg12 arg13 harg13 v1973 v2001 v2003
  let v3856 : Vec F S1x10x128 .f32 ← Prog.lift (.load arg13 (⟨![1, 2, 0], S1x10x128.size, ![1, 9, 1], inb_S2x96x128_S1x10x128_1_2_0_s_1_9_1⟩ : LoadRect S2x96x128) (View.loadsAt_vmem h_S1x10x128))
  let v3859 : Vec F S1x10x128 .f32 ← Prog.lift (.load arg13 (⟨![1, 3, 0], S1x10x128.size, ![1, 9, 1], inb_S2x96x128_S1x10x128_1_3_0_s_1_9_1⟩ : LoadRect S2x96x128) (View.loadsAt_vmem h_S1x10x128))
  let v3862 : Vec F S1x10x128 .f32 ← Prog.lift (.load arg13 (⟨![1, 4, 0], S1x10x128.size, ![1, 9, 1], inb_S2x96x128_S1x10x128_1_4_0_s_1_9_1⟩ : LoadRect S2x96x128) (View.loadsAt_vmem h_S1x10x128))
  let v3865 : Vec F S1x10x128 .f32 ← Prog.lift (.load arg13 (⟨![1, 5, 0], S1x10x128.size, ![1, 9, 1], inb_S2x96x128_S1x10x128_1_5_0_s_1_9_1⟩ : LoadRect S2x96x128) (View.loadsAt_vmem h_S1x10x128))
  let v3868 : Vec F S1x10x128 .f32 ← Prog.lift (.load arg13 (⟨![1, 6, 0], S1x10x128.size, ![1, 9, 1], inb_S2x96x128_S1x10x128_1_6_0_s_1_9_1⟩ : LoadRect S2x96x128) (View.loadsAt_vmem h_S1x10x128))
  let v3871 : Vec F S1x10x128 .f32 ← Prog.lift (.load arg13 (⟨![1, 7, 0], S1x10x128.size, ![1, 9, 1], inb_S2x96x128_S1x10x128_1_7_0_s_1_9_1⟩ : LoadRect S2x96x128) (View.loadsAt_vmem h_S1x10x128))
  let v3875 : Vec F S10x192 .bf16 ← Prog.lift (.load arg11 (Rect.unit (s := S10x192) ![0, 0] S10x192.size inb_S10x192_S10x192_0_0).toLoadRect (View.loadsAt_vmem h_S10x192))
  let v3876 : Vec F S3x64x256 .bf16 ← Prog.lift (.load arg7 (Rect.unit (s := S3x64x256) ![0, 0, 0] S3x64x256.size inb_S3x64x256_S3x64x256_0_0_0).toLoadRect (View.loadsAt_vmem h_S3x64x256))
  let v3881 : Vec F S10x256 .bf16 ← Prog.lift (.load arg8 (Rect.unit (s := S10x256) ![0, 0] S10x256.size inb_S10x256_S10x256_0_0).toLoadRect (View.loadsAt_vmem h_S10x256))
  Prog.lift (.store arg8 (Rect.unit (s := S10x256) ![0, 0] S10x256.size inb_S10x256_S10x256_0_0) (k0_pay1 v3798 v3855 v3856 v3859 v3862 v3865 v3868 v3871 v3875 v3876) Finset.univ (View.stores_vmem h_S10x256 (harg8.storeExact_slice rfl _ packedbf16_S10x256_S10x256_0_0) (fun _ => rfl)) (.inl rfl))
  pure ⟨⟩

end Cert.DownIdeal.Hand

end
-- ==== Proof.DownIdeal.Cut.lean ====
/- The kernel body at the first grid point and at the later ones. -/
module

public import proofs.«01_k».proof.Proof.DownIdeal.Body

@[expose] public section

set_option maxRecDepth 65536
set_option maxHeartbeats 4000000

noncomputable section

namespace Cert.DownIdeal.Hand

open Idealize.ShloMosaic Idealize.ShloMosaic.TcCoe Cert.DownIdeal.Gen
open Idealize.SL.Sem

variable {F : FTy → Type} [FloatOps F]

theorem part274_first (i : grid0.Coords) (arg1 : Memref sig .tc .smem S10 .i32) (harg1 : arg1.IsWhole) (arg2 : Memref sig .tc .smem S3 .f32) (harg2 : arg2.IsWhole) (arg3 : Memref sig .tc .vmem S10x16384 .bf16) (harg3 : arg3.IsWhole) (arg4 : Memref sig .tc .vmem S8192x256 .i8) (harg4 : arg4.IsWhole) (arg5 : Memref sig .tc .vmem S512x256 .i8) (harg5 : arg5.IsWhole) (arg6 : Memref sig .tc .vmem S3x64x16384 .bf16) (harg6 : arg6.IsWhole) (arg7 : Memref sig .tc .vmem S3x64x256 .bf16) (harg7 : arg7.IsWhole) (arg8 : Memref sig .tc .vmem S10x256 .bf16) (harg8 : arg8.IsWhole) (arg9 : Memref sig .tc .vmem S10x64 .bf16) (harg9 : arg9.IsWhole) (arg10 : Memref sig .tc .vmem S64x80x256 .bf16) (harg10 : arg10.IsWhole) (arg11 : Memref sig .tc .vmem S10x192 .bf16) (harg11 : arg11.IsWhole) (arg12 : Memref sig .tc .vmem S32x2x16x128 .f32) (harg12 : arg12.IsWhole) (arg13 : Memref sig .tc .vmem S2x96x128 .f32) (harg13 : arg13.IsWhole) (h : k0_cond1 i = 1#1) :
    k0_part274 (F := F) i arg1 harg1 arg2 harg2 arg3 harg3 arg4 harg4 arg5 harg5 arg6 harg6 arg7 harg7 arg8 harg8 arg9 harg9 arg10 harg10 arg11 harg11 arg12 harg12 arg13 harg13 = (initProg i arg1 harg1 arg2 harg2 arg3 harg3 arg4 harg4 arg5 harg5 arg6 harg6 arg7 harg7 arg8 harg8 arg9 harg9 arg10 harg10 arg11 harg11 arg12 harg12 arg13 harg13 >>= fun _ => rest274 i arg1 harg1 arg2 harg2 arg3 harg3 arg4 harg4 arg5 harg5 arg6 harg6 arg7 harg7 arg8 harg8 arg9 harg9 arg10 harg10 arg11 harg11 arg12 harg12 arg13 harg13) := by
  rw [k0_part274_eq_skeleton]
  unfold k0_part274_skel initProg rest274
  rw [dif_pos h]
  simp only [Prog.bind_assoc]
  rfl

theorem part385_first (i : grid0.Coords) (arg1 : Memref sig .tc .smem S10 .i32) (harg1 : arg1.IsWhole) (arg2 : Memref sig .tc .smem S3 .f32) (harg2 : arg2.IsWhole) (arg3 : Memref sig .tc .vmem S10x16384 .bf16) (harg3 : arg3.IsWhole) (arg4 : Memref sig .tc .vmem S8192x256 .i8) (harg4 : arg4.IsWhole) (arg5 : Memref sig .tc .vmem S512x256 .i8) (harg5 : arg5.IsWhole) (arg6 : Memref sig .tc .vmem S3x64x16384 .bf16) (harg6 : arg6.IsWhole) (arg7 : Memref sig .tc .vmem S3x64x256 .bf16) (harg7 : arg7.IsWhole) (arg8 : Memref sig .tc .vmem S10x256 .bf16) (harg8 : arg8.IsWhole) (arg9 : Memref sig .tc .vmem S10x64 .bf16) (harg9 : arg9.IsWhole) (arg10 : Memref sig .tc .vmem S64x80x256 .bf16) (harg10 : arg10.IsWhole) (arg11 : Memref sig .tc .vmem S10x192 .bf16) (harg11 : arg11.IsWhole) (arg12 : Memref sig .tc .vmem S32x2x16x128 .f32) (harg12 : arg12.IsWhole) (arg13 : Memref sig .tc .vmem S2x96x128 .f32) (harg13 : arg13.IsWhole) (h : k0_cond1 i = 1#1) :
    k0_part385 (F := F) i arg1 harg1 arg2 harg2 arg3 harg3 arg4 harg4 arg5 harg5 arg6 harg6 arg7 harg7 arg8 harg8 arg9 harg9 arg10 harg10 arg11 harg11 arg12 harg12 arg13 harg13 = (initProg i arg1 harg1 arg2 harg2 arg3 harg3 arg4 harg4 arg5 harg5 arg6 harg6 arg7 harg7 arg8 harg8 arg9 harg9 arg10 harg10 arg11 harg11 arg12 harg12 arg13 harg13 >>= fun _ => rest385 i arg1 harg1 arg2 harg2 arg3 harg3 arg4 harg4 arg5 harg5 arg6 harg6 arg7 harg7 arg8 harg8 arg9 harg9 arg10 harg10 arg11 harg11 arg12 harg12 arg13 harg13) := by
  rw [k0_part385_eq_skeleton]
  unfold k0_part385_skel rest385
  rw [part274_first (h := h), Prog.bind_assoc]

/-- At the first point the body is the rest after the first point's own part. -/
theorem body_first (i : grid0.Coords) (arg1 : Memref sig .tc .smem S10 .i32) (harg1 : arg1.IsWhole) (arg2 : Memref sig .tc .smem S3 .f32) (harg2 : arg2.IsWhole) (arg3 : Memref sig .tc .vmem S10x16384 .bf16) (harg3 : arg3.IsWhole) (arg4 : Memref sig .tc .vmem S8192x256 .i8) (harg4 : arg4.IsWhole) (arg5 : Memref sig .tc .vmem S512x256 .i8) (harg5 : arg5.IsWhole) (arg6 : Memref sig .tc .vmem S3x64x16384 .bf16) (harg6 : arg6.IsWhole) (arg7 : Memref sig .tc .vmem S3x64x256 .bf16) (harg7 : arg7.IsWhole) (arg8 : Memref sig .tc .vmem S10x256 .bf16) (harg8 : arg8.IsWhole) (arg9 : Memref sig .tc .vmem S10x64 .bf16) (harg9 : arg9.IsWhole) (arg10 : Memref sig .tc .vmem S64x80x256 .bf16) (harg10 : arg10.IsWhole) (arg11 : Memref sig .tc .vmem S10x192 .bf16) (harg11 : arg11.IsWhole) (arg12 : Memref sig .tc .vmem S32x2x16x128 .f32) (harg12 : arg12.IsWhole) (arg13 : Memref sig .tc .vmem S2x96x128 .f32) (harg13 : arg13.IsWhole) (h : k0_cond1 i = 1#1) :
    cc0_down (F := F) i arg1 harg1 arg2 harg2 arg3 harg3 arg4 harg4 arg5 harg5 arg6 harg6 arg7 harg7 arg8 harg8 arg9 harg9 arg10 harg10 arg11 harg11 arg12 harg12 arg13 harg13 = (initProg i arg1 harg1 arg2 harg2 arg3 harg3 arg4 harg4 arg5 harg5 arg6 harg6 arg7 harg7 arg8 harg8 arg9 harg9 arg10 harg10 arg11 harg11 arg12 harg12 arg13 harg13 >>= fun _ => restProg i arg1 harg1 arg2 harg2 arg3 harg3 arg4 harg4 arg5 harg5 arg6 harg6 arg7 harg7 arg8 harg8 arg9 harg9 arg10 harg10 arg11 harg11 arg12 harg12 arg13 harg13) := by
  rw [cc0_down_eq_skeleton]
  unfold cc0_down_skel restProg
  rw [part385_first (h := h), Prog.bind_assoc]

theorem part274_later (i : grid0.Coords) (arg1 : Memref sig .tc .smem S10 .i32) (harg1 : arg1.IsWhole) (arg2 : Memref sig .tc .smem S3 .f32) (harg2 : arg2.IsWhole) (arg3 : Memref sig .tc .vmem S10x16384 .bf16) (harg3 : arg3.IsWhole) (arg4 : Memref sig .tc .vmem S8192x256 .i8) (harg4 : arg4.IsWhole) (arg5 : Memref sig .tc .vmem S512x256 .i8) (harg5 : arg5.IsWhole) (arg6 : Memref sig .tc .vmem S3x64x16384 .bf16) (harg6 : arg6.IsWhole) (arg7 : Memref sig .tc .vmem S3x64x256 .bf16) (harg7 : arg7.IsWhole) (arg8 : Memref sig .tc .vmem S10x256 .bf16) (harg8 : arg8.IsWhole) (arg9 : Memref sig .tc .vmem S10x64 .bf16) (harg9 : arg9.IsWhole) (arg10 : Memref sig .tc .vmem S64x80x256 .bf16) (harg10 : arg10.IsWhole) (arg11 : Memref sig .tc .vmem S10x192 .bf16) (harg11 : arg11.IsWhole) (arg12 : Memref sig .tc .vmem S32x2x16x128 .f32) (harg12 : arg12.IsWhole) (arg13 : Memref sig .tc .vmem S2x96x128 .f32) (harg13 : arg13.IsWhole) (h : ¬ k0_cond1 i = 1#1) :
    k0_part274 (F := F) i arg1 harg1 arg2 harg2 arg3 harg3 arg4 harg4 arg5 harg5 arg6 harg6 arg7 harg7 arg8 harg8 arg9 harg9 arg10 harg10 arg11 harg11 arg12 harg12 arg13 harg13 = rest274 i arg1 harg1 arg2 harg2 arg3 harg3 arg4 harg4 arg5 harg5 arg6 harg6 arg7 harg7 arg8 harg8 arg9 harg9 arg10 harg10 arg11 harg11 arg12 harg12 arg13 harg13 := by
  rw [k0_part274_eq_skeleton]
  unfold k0_part274_skel rest274
  rw [dif_neg h]

theorem part385_later (i : grid0.Coords) (arg1 : Memref sig .tc .smem S10 .i32) (harg1 : arg1.IsWhole) (arg2 : Memref sig .tc .smem S3 .f32) (harg2 : arg2.IsWhole) (arg3 : Memref sig .tc .vmem S10x16384 .bf16) (harg3 : arg3.IsWhole) (arg4 : Memref sig .tc .vmem S8192x256 .i8) (harg4 : arg4.IsWhole) (arg5 : Memref sig .tc .vmem S512x256 .i8) (harg5 : arg5.IsWhole) (arg6 : Memref sig .tc .vmem S3x64x16384 .bf16) (harg6 : arg6.IsWhole) (arg7 : Memref sig .tc .vmem S3x64x256 .bf16) (harg7 : arg7.IsWhole) (arg8 : Memref sig .tc .vmem S10x256 .bf16) (harg8 : arg8.IsWhole) (arg9 : Memref sig .tc .vmem S10x64 .bf16) (harg9 : arg9.IsWhole) (arg10 : Memref sig .tc .vmem S64x80x256 .bf16) (harg10 : arg10.IsWhole) (arg11 : Memref sig .tc .vmem S10x192 .bf16) (harg11 : arg11.IsWhole) (arg12 : Memref sig .tc .vmem S32x2x16x128 .f32) (harg12 : arg12.IsWhole) (arg13 : Memref sig .tc .vmem S2x96x128 .f32) (harg13 : arg13.IsWhole) (h : ¬ k0_cond1 i = 1#1) :
    k0_part385 (F := F) i arg1 harg1 arg2 harg2 arg3 harg3 arg4 harg4 arg5 harg5 arg6 harg6 arg7 harg7 arg8 harg8 arg9 harg9 arg10 harg10 arg11 harg11 arg12 harg12 arg13 harg13 = rest385 i arg1 harg1 arg2 harg2 arg3 harg3 arg4 harg4 arg5 harg5 arg6 harg6 arg7 harg7 arg8 harg8 arg9 harg9 arg10 harg10 arg11 harg11 arg12 harg12 arg13 harg13 := by
  rw [k0_part385_eq_skeleton]
  unfold k0_part385_skel rest385
  rw [part274_later (h := h)]

/-- At a later point the body is the rest alone. -/
theorem body_later (i : grid0.Coords) (arg1 : Memref sig .tc .smem S10 .i32) (harg1 : arg1.IsWhole) (arg2 : Memref sig .tc .smem S3 .f32) (harg2 : arg2.IsWhole) (arg3 : Memref sig .tc .vmem S10x16384 .bf16) (harg3 : arg3.IsWhole) (arg4 : Memref sig .tc .vmem S8192x256 .i8) (harg4 : arg4.IsWhole) (arg5 : Memref sig .tc .vmem S512x256 .i8) (harg5 : arg5.IsWhole) (arg6 : Memref sig .tc .vmem S3x64x16384 .bf16) (harg6 : arg6.IsWhole) (arg7 : Memref sig .tc .vmem S3x64x256 .bf16) (harg7 : arg7.IsWhole) (arg8 : Memref sig .tc .vmem S10x256 .bf16) (harg8 : arg8.IsWhole) (arg9 : Memref sig .tc .vmem S10x64 .bf16) (harg9 : arg9.IsWhole) (arg10 : Memref sig .tc .vmem S64x80x256 .bf16) (harg10 : arg10.IsWhole) (arg11 : Memref sig .tc .vmem S10x192 .bf16) (harg11 : arg11.IsWhole) (arg12 : Memref sig .tc .vmem S32x2x16x128 .f32) (harg12 : arg12.IsWhole) (arg13 : Memref sig .tc .vmem S2x96x128 .f32) (harg13 : arg13.IsWhole) (h : ¬ k0_cond1 i = 1#1) :
    cc0_down (F := F) i arg1 harg1 arg2 harg2 arg3 harg3 arg4 harg4 arg5 harg5 arg6 harg6 arg7 harg7 arg8 harg8 arg9 harg9 arg10 harg10 arg11 harg11 arg12 harg12 arg13 harg13 = restProg i arg1 harg1 arg2 harg2 arg3 harg3 arg4 harg4 arg5 harg5 arg6 harg6 arg7 harg7 arg8 harg8 arg9 harg9 arg10 harg10 arg11 harg11 arg12 harg12 arg13 harg13 := by
  rw [cc0_down_eq_skeleton]
  unfold cc0_down_skel restProg
  rw [part385_later (h := h)]

end Cert.DownIdeal.Hand

end
-- ==== Proof.DownIdeal.RestRun.lean ====
/- The rest of the kernel body run once, on any memrefs: what its stores leave in the output block is found by the run. -/
module

public import proofs.«01_k».proof.Proof.DownIdeal.Body
public import Idealize.ShloMosaic.Lib.Pipeline.FrameBody
public import Idealize.ShloMosaic.Lib.Ring
public import Idealize.ShloMosaic.Lib.Tactic
public import proofs.«01_k».proof.Proof.Gen.DownIdeal.Launch
public import proofs.«01_k».proof.Proof.Gen.DownIdeal.Points

@[expose] public section

set_option maxRecDepth 16384

noncomputable section

namespace Cert.DownIdeal.Hand

open Idealize.ShloMosaic Idealize.ShloMosaic.TcCoe Idealize.ShloMosaic.Tactic Cert.DownIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 9000000 in set_option sl_exec.squeezeSlice true in
/-- What the rest of the body stores into the output block, as pieces (last first), with the proof that on memrefs holding the inputs and the two carried scratches it runs to the continuation with those as they were. -/
noncomputable def restRun (c : Dev nD) (i : grid0.Coords) (arg1 : Memref sig .tc .smem S10 .i32) (harg1 : arg1.IsWhole) (arg2 : Memref sig .tc .smem S3 .f32) (harg2 : arg2.IsWhole) (arg3 : Memref sig .tc .vmem S10x16384 .bf16) (harg3 : arg3.IsWhole) (arg4 : Memref sig .tc .vmem S8192x256 .i8) (harg4 : arg4.IsWhole) (arg5 : Memref sig .tc .vmem S512x256 .i8) (harg5 : arg5.IsWhole) (arg6 : Memref sig .tc .vmem S3x64x16384 .bf16) (harg6 : arg6.IsWhole) (arg7 : Memref sig .tc .vmem S3x64x256 .bf16) (harg7 : arg7.IsWhole) (arg8 : Memref sig .tc .vmem S10x256 .bf16) (harg8 : arg8.IsWhole) (arg9 : Memref sig .tc .vmem S10x64 .bf16) (harg9 : arg9.IsWhole) (arg10 : Memref sig .tc .vmem S64x80x256 .bf16) (harg10 : arg10.IsWhole) (arg11 : Memref sig .tc .vmem S10x192 .bf16) (harg11 : arg11.IsWhole) (arg12 : Memref sig .tc .vmem S32x2x16x128 .f32) (harg12 : arg12.IsWhole) (arg13 : Memref sig .tc .vmem S2x96x128 .f32) (harg13 : arg13.IsWhole)
    (x1 : Vec F S10 .i32) (x2 : Vec F S3 .f32) (x3 : Vec F S10x16384 .bf16) (x4 : Vec F S8192x256 .i8) (x5 : Vec F S512x256 .i8) (x6 : Vec F S3x64x16384 .bf16) (x7 : Vec F S3x64x256 .bf16) (x10 : Vec F S64x80x256 .bf16) (x11 : Vec F S10x192 .bf16) :
    { L8 : List (View.Piece (Elt F) S10x256 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg10 fullShare x10 ∗ owns (c : Thread nD τ) arg11 fullShare x11 ∗ (∃ d, owns (c : Thread nD τ) arg8 fullShare d) ∗ (∃ d, owns (c : Thread nD τ) arg12 fullShare d) ∗ (∃ d, owns (c : Thread nD τ) arg13 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg10 fullShare x10 ∗ owns (c : Thread nD τ) arg11 fullShare x11 ∗ (∃ f, arg8.view.loc (c : Thread nD τ) ↦[arg8.view.set]{fullShare} arg8.view.writes (Elt F) f L8) ∗ (∃ d, owns (c : Thread nD τ) arg12 fullShare d) ∗ (∃ d, owns (c : Thread nD τ) arg13 fullShare d)) -∗ K ⟨⟩))
          ⊢ wp frame (wpE (defs₀ (F := F)) Variants.none c none) E (restProg i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    unfold restProg rest385 rest274
    simp only [k0_part386_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f10, %hf10, H10⟩, ⟨%f11, %hf11, H11⟩, ⟨%d8, %f8, -, H8⟩, ⟨%d12, %f12, -, H12⟩, ⟨%d13, %f13, -, H13⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10; obtain rfl := harg11.eq_unread hf11
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H10]
    · iexists _; isplitr; · ipureintro; exact harg10.read_unread _
      iexact H10
    isplitl [H11]
    · iexists _; isplitr; · ipureintro; exact harg11.read_unread _
      iexact H11
    isplitl [H8]
    · iexists _; iexact H8
    isplitl [H12]
    · iexists _, _; isplitr; swap; · iexact H12
      ipureintro; rfl
    iexists _, _; isplitr; swap; · iexact H13
    ipureintro; rfl

end Cert.DownIdeal.Hand

end
-- ==== Proof.DownIdeal.InitRun.lean ====
/- The first grid point's own part run once, on any memrefs: what its stores leave in the carried scratches and in the second output is found by the run. -/
module

public import proofs.«01_k».proof.Proof.DownIdeal.Body
public import Idealize.ShloMosaic.Lib.Pipeline.FrameBody
public import Idealize.ShloMosaic.Lib.Ring
public import Idealize.ShloMosaic.Lib.Tactic
public import proofs.«01_k».proof.Proof.Gen.DownIdeal.Launch
public import proofs.«01_k».proof.Proof.Gen.DownIdeal.Points

@[expose] public section

set_option maxRecDepth 16384

noncomputable section

namespace Cert.DownIdeal.Hand

open Idealize.ShloMosaic Idealize.ShloMosaic.TcCoe Idealize.ShloMosaic.Tactic Cert.DownIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 9000000 in set_option sl_exec.squeezeSlice true in
/-- What the first point's own part stores into the carried scratches and the second output, as pieces (last first), with the proof that it runs to the continuation. -/
noncomputable def initRun (c : Dev nD) (i : grid0.Coords) (arg1 : Memref sig .tc .smem S10 .i32) (harg1 : arg1.IsWhole) (arg2 : Memref sig .tc .smem S3 .f32) (harg2 : arg2.IsWhole) (arg3 : Memref sig .tc .vmem S10x16384 .bf16) (harg3 : arg3.IsWhole) (arg4 : Memref sig .tc .vmem S8192x256 .i8) (harg4 : arg4.IsWhole) (arg5 : Memref sig .tc .vmem S512x256 .i8) (harg5 : arg5.IsWhole) (arg6 : Memref sig .tc .vmem S3x64x16384 .bf16) (harg6 : arg6.IsWhole) (arg7 : Memref sig .tc .vmem S3x64x256 .bf16) (harg7 : arg7.IsWhole) (arg8 : Memref sig .tc .vmem S10x256 .bf16) (harg8 : arg8.IsWhole) (arg9 : Memref sig .tc .vmem S10x64 .bf16) (harg9 : arg9.IsWhole) (arg10 : Memref sig .tc .vmem S64x80x256 .bf16) (harg10 : arg10.IsWhole) (arg11 : Memref sig .tc .vmem S10x192 .bf16) (harg11 : arg11.IsWhole) (arg12 : Memref sig .tc .vmem S32x2x16x128 .f32) (harg12 : arg12.IsWhole) (arg13 : Memref sig .tc .vmem S2x96x128 .f32) (harg13 : arg13.IsWhole)
    (x1 : Vec F S10 .i32) (x2 : Vec F S3 .f32) (x3 : Vec F S10x16384 .bf16) (x6 : Vec F S3x64x16384 .bf16) :
    { L : List (View.Piece (Elt F) S64x80x256 .bf16) × List (View.Piece (Elt F) S10x192 .bf16) × List (View.Piece (Elt F) S10x64 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg6 fullShare x6 ∗ (∃ d, owns (c : Thread nD τ) arg10 fullShare d) ∗ (∃ d, owns (c : Thread nD τ) arg11 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg6 fullShare x6 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (initProg i arg1 harg1 arg2 harg2 arg3 harg3 arg4 harg4 arg5 harg5 arg6 harg6 arg7 harg7 arg8 harg8 arg9 harg9 arg10 harg10 arg11 harg11 arg12 harg12 arg13 harg13) K } := by
  refine ⟨⟨?_, ?_, ?_⟩, fun E K => ?run⟩
  case run =>
    unfold initProg
    simp only [k0_part273_eq_skeleton, k0_part269_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part270_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part271_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part272_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton]
    unfold owns
    iintro ⟨⟨%f1, %hf1, H1⟩, ⟨%f2, %hf2, H2⟩, ⟨%f3, %hf3, H3⟩, ⟨%f6, %hf6, H6⟩, ⟨%d10, %f10, -, H10⟩, ⟨%d11, %f11, -, H11⟩, ⟨%d9, %f9, -, H9⟩, Hk⟩
    obtain rfl := harg1.eq_unread hf1; obtain rfl := harg2.eq_unread hf2; obtain rfl := harg3.eq_unread hf3; obtain rfl := harg6.eq_unread hf6
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H6]
    · iexists _; isplitr; · ipureintro; exact harg6.read_unread _
      iexact H6
    isplitl [H10]
    · iexists _; iexact H10
    isplitl [H11]
    · iexists _; iexact H11
    iexists _; iexact H9

end Cert.DownIdeal.Hand

end
-- ==== Proof.DownIdeal.Frame.lean ====
/- The idealized kernel's frame: what the carried scratches and both outputs hold point by point, the body's obligation at every point, and the run. -/
module

public import proofs.«01_k».proof.Proof.DownIdeal.Cut
public import proofs.«01_k».proof.Proof.DownIdeal.RestRun
public import proofs.«01_k».proof.Proof.DownIdeal.InitRun
public import proofs.«01_k».proof.Proof.Gen.DownIdeal.Frame
public import Idealize.ShloMosaic.Lib.Pipeline.TableIdle
public import Idealize.ShloMosaic.Lib.Claim

@[expose] public section

set_option maxRecDepth 16384

noncomputable section

namespace Cert.DownIdeal.Hand

open Idealize.ShloMosaic Idealize.ShloMosaic.TcCoe Idealize.ShloMosaic.Tactic Cert.DownIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, k0_cond1, e0]
    word_cmp
   : ∀ t : Fin grid0.N, cond0_0 (grid0.coords t) ↔ t.val % 12 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S10 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10x16384 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x256 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x64x16384 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x64x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S10x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S10x64 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S64x80x256 .bf16 := Memref.whole cc0_scratch0
abbrev scM0_1 : Memref sig .tc .vmem S10x192 .bf16 := Memref.whole cc0_scratch1
abbrev scM0_2 : Memref sig .tc .vmem S32x2x16x128 .f32 := Memref.whole cc0_scratch2
abbrev scM0_3 : Memref sig .tc .vmem S2x96x128 .f32 := Memref.whole cc0_scratch3
/-- The scratch `arg10` the kernel carries between points, as a view: what it holds is stated through it. -/
abbrev VS0_0 : View sig .tc .vmem S64x80x256 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## What the carried scratches and the outputs hold -/

/-- The grid's first point. -/
def p0 : Fin cfg0.N := ⟨0, by rw [show cfg0.N = 12 from N_0]; decide⟩

/-- What the first point's own part stores, as pieces. -/
def initL (c : Dev nD) : List (View.Piece (Elt F) S64x80x256 .bf16) × List (View.Piece (Elt F) S10x192 .bf16) × List (View.Piece (Elt F) S10x64 .bf16) :=
  (initRun c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) scM0_0 (Memref.isWhole_whole _) scM0_1 (Memref.isWhole_whole _) scM0_2 (Memref.isWhole_whole _) scM0_3 (Memref.isWhole_whole _) (iblk m c 0 p0) (iblk m c 1 p0) (iblk m c 2 p0) (iblk m c 5 p0)).1

/-- The expanded left operand, stored at the first point and read at every point. -/
def lhs0 (c : Dev nD) : Vec F S64x80x256 .bf16 := View.canon (initL m c).1
/-- The masked low-rank product, stored at the first point and read at every point. -/
def lora0 (c : Dev nD) : Vec F S10x192 .bf16 := View.canon (initL m c).2.1
/-- The second output, stored at the first point. -/
def snd0 (c : Dev nD) : Vec F S10x64 .bf16 := View.canon (initL m c).2.2

/-- What a point stores into the first output's block, as pieces. -/
def restL (c : Dev nD) (t : Fin cfg0.N) : List (View.Piece (Elt F) S10x256 .bf16) :=
  (restRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (lhs0 m c) (lora0 m c)).1

/-- The first output's block after a point. -/
def blk0 (c : Dev nD) (t : Fin cfg0.N) : Vec F S10x256 .bf16 := View.canon (restL m c t)

theorem cover_lhs (c : Dev nD) (y) : ∃ p ∈ (initL m c).1, y ∈ p.1.set :=
  View.cover_of_tiledL (initL m c).1 S1x80x256.size (by unfold initL; sl_kernel_rfl) y
theorem cover_lora (c : Dev nD) (y) : ∃ p ∈ (initL m c).2.1, y ∈ p.1.set :=
  View.cover_of_tiledL (initL m c).2.1 S10x192.size (by unfold initL; sl_kernel_rfl) y
theorem cover_snd (c : Dev nD) (y) : ∃ p ∈ (initL m c).2.2, y ∈ p.1.set :=
  View.cover_of_tiledL (initL m c).2.2 S10x64.size (by unfold initL; sl_kernel_rfl) y
theorem cover_blk (c : Dev nD) (t : Fin cfg0.N) (y) : ∃ p ∈ restL m c t, y ∈ p.1.set :=
  View.cover_of_tiledL (restL m c t) S10x256.size (by unfold restL; sl_kernel_rfl) y

/-- The region invariant before a position: at the first every scratch at anything, later the two carried scratches at their contents. -/
def PhiS (c : Dev nD) : ℕ → sProp 𝕄
  | 0 => Pipeline.ΦA spec0 c
  | _ + 1 => iprop(iprop(owns (c : Thread nD τ) scM0_0 fullShare (lhs0 m c) ∗ owns (c : Thread nD τ) scM0_1 fullShare (lora0 m c) ∗ (∃ d, owns (c : Thread nD τ) scM0_2 fullShare d) ∗ (∃ d, owns (c : Thread nD τ) scM0_3 fullShare d)) ∗ (∃ r, prngReg c r))

theorem PhiS_pos (c : Dev nD) (n : ℕ) (h : n ≠ 0) :
    PhiS m c n = iprop(iprop(owns (c : Thread nD τ) scM0_0 fullShare (lhs0 m c) ∗ owns (c : Thread nD τ) scM0_1 fullShare (lora0 m c) ∗ (∃ d, owns (c : Thread nD τ) scM0_2 fullShare d) ∗ (∃ d, owns (c : Thread nD τ) scM0_3 fullShare d)) ∗ (∃ r, prngReg c r)) := by
  cases n with
  | zero => exact absurd rfl h
  | succ n => rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blk0 m c t
    | ⟨8, _⟩ => snd0 m c
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = blk0 m c t := by dsimp only [dats]
theorem after0_8 (c : Dev nD) (t : Fin cfg0.N) : (dats m 0 c).after 8 t = snd0 m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Output 8's buffer holds something stored since the region's entry at every point but the first. -/
theorem fresh0_8 : ∀ n : ℕ, n ≠ 0 → n < 12 → cfg0.fresh 8 n = false
  | 0, h, _ => absurd rfl h
  | n + 1, _, hn => by
    have hN : cfg0.N = 12 := N_0
    have hn' : n < cfg0.N := by omega
    unfold Pipeline.Cfg.fresh
    rw [dif_pos hn']
    have hfl : (cfg0.win 8).flush ⟨n, hn'⟩ = false :=
      Bool.eq_false_iff.mpr fun h => by have := (flush0_8 _).mp h; dsimp only at this; omega
    rw [hfl, Bool.false_or]
    by_cases hz : n = 0
    · subst hz
      have h0 : cond0_0 (grid0.coords ⟨0, hn'⟩) := (hcond0_0 ⟨0, hn'⟩).mpr rfl
      have hi : cfg0.idle 8 (grid0.coords ⟨0, hn'⟩) = false := by
        show (!(k0_cond1 (grid0.coords ⟨0, hn'⟩) == 1#1)) = false
        have h0' : k0_cond1 (grid0.coords ⟨0, hn'⟩) = 1#1 := h0
        rw [h0']; rfl
      exact Bool.and_eq_false_iff.mpr (Or.inl hi)
    · exact Bool.and_eq_false_iff.mpr (Or.inr (fresh0_8 n hz (by omega)))

theorem before0_8 (c : Dev nD) (t : Fin cfg0.N) (ht : t.val ≠ 0) (d) : (dats m 0 c).before 8 t d = snd0 m c := by
  have hN : cfg0.N = 12 := N_0
  rw [Dat.before_out_traj _ 8 rfl (fun _ _ => rfl) (fun _ _ _ _ => rfl) t.val t rfl d,
    if_neg (by rw [fresh0_8 t.val ht (by have := t.isLt; omega)]; exact Bool.false_ne_true)]
  rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 12800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) from rfl, PhiS_pos m c (t.val + 1) (Nat.succ_ne_zero _)]
  rw [show (dats m 0 c).Φ t.castSucc = PhiS m c t.val from rfl]
  have hN : t.val < 12 := lt_of_lt_of_eq t.isLt (show cfg0.N = 12 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from rfl, after0_7]
  by_cases h0 : t.val = 0
  · obtain rfl : t = p0 := Fin.ext h0
    have hc : k0_cond1 (grid0.coords p0) = 1#1 := (hcond0_0 p0).mpr rfl
    rw [show (dats m 0 c).leavesExact 8 p0 = owns (c : Thread nD τ) (ms0_8 p0) fullShare ((dats m 0 c).after 8 p0) from by
      unfold Dat.leavesExact
      rw [show cfg0.idle 8 (grid0.coords p0) = false from by
        show (!(k0_cond1 (grid0.coords p0) == 1#1)) = false
        rw [hc]; rfl], after0_8]
    rw [show PhiS m c (p0 : Fin cfg0.N).val = Pipeline.ΦA spec0 c from rfl, PhiA0_eq]
    rw [body_first _ _ _ _ _ _ _ _ _ _ _ _ _ _ _ _ _ _ _ _ _ _ _ _ _ _ _ hc, wp_bind]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((initRun c (grid0.coords p0) _ _ _ _ _ _ _ _ _ _ _ _ _ _ _ _ _ _ _ _ _ _ _ _ _ _ (iblk m c 0 p0) (iblk m c 1 p0) (iblk m c 2 p0) (iblk m c 5 p0)).2 Set.univ _)
    isplitl [H0]; · iexact H0
    isplitl [H1]; · iexact H1
    isplitl [H2]; · iexact H2
    isplitl [H5]; · iexact H5
    isplitl [HS0]; · iexact HS0
    isplitl [HS1]; · iexact HS1
    isplitl [H8]; · iexists _; iexact H8
    iintro ⟨H0, H1, H2, H5, ⟨%e0, HS0⟩, ⟨%e1, HS1⟩, ⟨%e2, H8⟩⟩
    ihave HS0 := (show _ ⊢ owns (c : Thread nD τ) scM0_0 fullShare (lhs0 m c) from by
      iintro H; unfold owns; iexists _; isplitr
      swap; · iexact H
      ipureintro; exact View.read_writes_eq_canon _ _ _ (cover_lhs m c)) $$ HS0
    ihave HS1 := (show _ ⊢ owns (c : Thread nD τ) scM0_1 fullShare (lora0 m c) from by
      iintro H; unfold owns; iexists _; isplitr
      swap; · iexact H
      ipureintro; exact View.read_writes_eq_canon _ _ _ (cover_lora m c)) $$ HS1
    ihave H8 := (show _ ⊢ owns (c : Thread nD τ) (ms0_8 p0) fullShare (snd0 m c) from by
      iintro H; unfold owns; iexists _; isplitr
      swap; · iexact H
      ipureintro; exact View.read_writes_eq_canon _ _ _ (cover_snd m c)) $$ H8
    iapply ((restRun c (grid0.coords p0) _ _ _ _ _ _ _ _ _ _ _ _ _ _ _ _ _ _ _ _ _ _ _ _ _ _ (iblk m c 0 p0) (iblk m c 1 p0) (iblk m c 2 p0) (iblk m c 3 p0) (iblk m c 4 p0) (iblk m c 5 p0) (iblk m c 6 p0) (lhs0 m c) (lora0 m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [H7]; · iexists _; iexact H7
    isplitl [HS2]; · iexact HS2
    isplitl [HS3]; · iexact HS3
    iintro ⟨H0, H1, H2, H3, H4, H5, H6, HS0, HS1, ⟨%er, H7⟩, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_eq_canon _ _ _ (cover_blk m c p0)
    iexact H8
  · have hc : ¬ k0_cond1 (grid0.coords t) = 1#1 := fun h => h0 (by have := (hcond0_0 t).mp h; omega)
    rw [PhiS_pos m c t.val h0]
    simp only [before0_8 m c t h0]
    rw [body_later _ _ _ _ _ _ _ _ _ _ _ _ _ _ _ _ _ _ _ _ _ _ _ _ _ _ _ hc]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((restRun c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (lhs0 m c) (lora0 m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [H7]; · iexists _; iexact H7
    isplitl [HS2]; · iexact HS2
    isplitl [HS3]; · iexact HS3
    iintro ⟨H0, H1, H2, H3, H4, H5, H6, HS0, HS1, ⟨%er, H7⟩, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_eq_canon _ _ _ (cover_blk m c t)
    unfold Dat.leavesExact
    rw [show cfg0.idle 8 (cfg0.grid.coords t) = true from by
      show (!(k0_cond1 (grid0.coords t) == 1#1)) = true
      simpa using hc]
    cases hfl : (cfg0.win 8).flush t
    · dsimp only; iexists d8; rw [before0_8 m c t h0]; iexact H8
    · dsimp only; rw [after0_8]; iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  have hN : cfg0.N = 12 := N_0
  rw [show (dats m 0 c).Φ (Fin.last cfg0.N) = PhiS m c (Fin.last cfg0.N).val from rfl,
    PhiS_pos m c _ (by rw [Fin.val_last]; omega), PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexact HS3
  iexact Hg

set_option backward.isDefEq.respectTransparency.types false in
/-- The launch, with every semaphore counter of the machine at zero at every final state. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch: both outputs as the proof data states them, every other array unchanged. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.DownIdeal.Hand

end
-- ==== Proof.DownIdeal.Same.lean ====
/- No operation was rewritten in the idealization, so the kernel and its idealization are the same program, and the frame
   proved of the one at any float values is the frame of the other. -/
module

public import proofs.«01_k».proof.Defs
public import proofs.«01_k».proof.Proof.Gen.Down
public import proofs.«01_k».proof.Proof.DownIdeal.Frame

@[expose] public section

set_option maxRecDepth 100000
set_option maxHeartbeats 4000000

namespace Cert.DownClaims

open Idealize.ShloMosaic Idealize.SL.Sem

variable {F : FTy → Type} [FloatOps F]

theorem defs₀_eq : Cert.Down.defs₀ (F := F) = Cert.DownIdeal.defs₀ (F := F) := by
  refine congrArg Defs.onTc (funext fun (l : Fin 1) => funext fun a => ?_)
  match l with
  | 0 => rfl

theorem defs_eq : Cert.Down.defs (F := F) = Cert.DownIdeal.defs (F := F) :=
  congrArg (Pipeline.defs _) defs₀_eq

theorem main_eq : Cert.Down.main (F := F) = Cert.DownIdeal.main (F := F) := rfl

/-- The kernel's frame. -/
theorem bits_frame : Cert.quiescent_Down := fun m g _ => by
  rw [defs_eq, main_eq]
  exact Cert.DownIdeal.Hand.frame (F := Bits) m g

end Cert.DownClaims
-- ==== Proof.Mx.Flat.lean ====
/- The down kernel's column scratch, which has no slots: what its stores leave, and what its strided loads read. -/
module

public import proofs.«01_k».proof.Proof.Mx.Read

@[expose] public section

set_option maxRecDepth 16384

noncomputable section

namespace Cert.Mx

open Idealize.ShloMosaic Cert.GateUpIdeal Cert.GateUpIdeal.Gen

variable {F : FTy → Type} [FloatOps F]

/-- The store of row block `b` of a half. -/
def flatPiece (h b : ℕ) (hh : h < 2) (hb : b < 10) (acc : FVec F S10x8x256 .f32) : View.Piece (Elt F) S2x96x128 .f32 :=
  ⟨redRect h b hh hb, redPay acc b h hb hh⟩

/-- The ten stores of one half, last first. -/
def flatPieces (h : ℕ) (hh : h < 2) (acc : FVec F S10x8x256 .f32) : List (View.Piece (Elt F) S2x96x128 .f32) :=
  [flatPiece h 9 hh (by omega) acc, flatPiece h 8 hh (by omega) acc, flatPiece h 7 hh (by omega) acc, flatPiece h 6 hh (by omega) acc,
   flatPiece h 5 hh (by omega) acc, flatPiece h 4 hh (by omega) acc, flatPiece h 3 hh (by omega) acc, flatPiece h 2 hh (by omega) acc,
   flatPiece h 1 hh (by omega) acc, flatPiece h 0 hh (by omega) acc]

theorem mem_flatPieces (h b : ℕ) (hh : h < 2) (hb : b < 10) (acc : FVec F S10x8x256 .f32) :
    flatPiece h b hh hb acc ∈ flatPieces h hh acc := by
  have : b = 0 ∨ b = 1 ∨ b = 2 ∨ b = 3 ∨ b = 4 ∨ b = 5 ∨ b = 6 ∨ b = 7 ∨ b = 8 ∨ b = 9 := by omega
  rcases this with rfl | rfl | rfl | rfl | rfl | rfl | rfl | rfl | rfl | rfl <;> simp [flatPieces]

theorem of_mem_flatPieces (h : ℕ) (hh : h < 2) (acc : FVec F S10x8x256 .f32) {p : View.Piece (Elt F) S2x96x128 .f32}
    (hp : p ∈ flatPieces h hh acc) : ∃ (b : ℕ) (hb : b < 10), p = flatPiece h b hh hb acc := by
  simp only [flatPieces, List.mem_cons, List.not_mem_nil, or_false] at hp
  rcases hp with h | h | h | h | h | h | h | h | h | h <;> exact ⟨_, _, h⟩

/-- The scratch as a function of the accumulator: row `9 b + g`. -/
def flatG (acc : FVec F S10x8x256 .f32) : Vec F S2x96x128 .f32 :=
  fun y => acc (ix3 (Fin.ofNat 10 ((y 1).val / 9)) (Fin.ofNat 8 ((y 1).val % 9)) (Fin.ofNat 256 (128 * (y 0).val + (y 2).val)))

theorem flatPiece_agrees (h b : ℕ) (hh : h < 2) (hb : b < 10) (acc : FVec F S10x8x256 .f32) (x : S1x8x128.Idx) :
    redPay acc b h hb hh x = flatG acc ((redRect h b hh hb).emb x) := by
  have l0 : (x 0).val < 1 := (x 0).isLt
  have l1 : (x 1).val < 8 := (x 1).isLt
  have l2 : (x 2).val < 128 := (x 2).isLt
  rw [redPay_apply]
  have y0 : (((redRect h b hh hb).emb x) 0).val = h + 1 * (x 0).val := rfl
  have y1 : (((redRect h b hh hb).emb x) 1).val = 9 * b + 1 * (x 1).val := rfl
  have y2 : (((redRect h b hh hb).emb x) 2).val = 0 + 1 * (x 2).val := rfl
  unfold flatG
  congr 1
  funext a
  apply Fin.ext
  match a with
  | ⟨0, _⟩ => show b = (_ / 9) % 10; rw [y1]; omega
  | ⟨1, _⟩ => show (x 1).val = (_ % 9) % 8; rw [y1]; omega
  | ⟨2, _⟩ => show 128 * h + (x 2).val = (128 * _ + _) % 256; rw [y0, y2]; omega

/-- The strided load of a group's rows reads them off the accumulator. -/
theorem readFlat {sig : RefSig} {κ : Kind} {sp : Space} (v : View sig κ sp S2x96x128 .f32) (h g : ℕ) (hh : h < 2) (hg : g < 8)
    (acc : FVec F S10x8x256 .f32) (T : List (View.Piece (Elt F) S2x96x128 .f32)) (inb) :
    v.readCov (flatPieces h hh acc ++ T) (⟨![h, g, 0], S1x10x128.size, ![1, 9, 1], inb⟩ : LoadRect S2x96x128) = redLd acc h g := by
  rw [View.readCov_eq_canon']
  funext (x : S1x10x128.Idx)
  have l0 : (x 0).val < 1 := (x 0).isLt
  have l1 : (x 1).val < 10 := (x 1).isLt
  have l2 : (x 2).val < 128 := (x 2).isLt
  show View.canon _ ((⟨![h, g, 0], S1x10x128.size, ![1, 9, 1], inb⟩ : LoadRect S2x96x128).idx x) = _
  generalize hy : (⟨![h, g, 0], S1x10x128.size, ![1, 9, 1], inb⟩ : LoadRect S2x96x128).idx x = y
  have y0 : (y 0).val = h := by rw [← hy]; show h + 1 * (x 0).val = h; omega
  have y1 : (y 1).val = g + 9 * (x 1).val := by rw [← hy]; show g + 9 * (x 1).val = _; omega
  have y2 : (y 2).val = (x 2).val := by rw [← hy]; show 0 + 1 * (x 2).val = _; omega
  rw [canon_append_of_pieces (flatG acc)]
  · unfold flatG redLd
    congr 1
    funext a
    apply Fin.ext
    match a with
    | ⟨0, _⟩ => show (_ / 9) % 10 = (x 1).val; rw [y1]; omega
    | ⟨1, _⟩ => show (_ % 9) % 8 = g % 8; rw [y1]; omega
    | ⟨2, _⟩ => show (128 * _ + _) % 256 = _ % 256; rw [y0, y2]
  · intro p hp
    obtain ⟨b, hb, rfl⟩ := of_mem_flatPieces h hh acc hp
    exact flatPiece_agrees h b hh hb acc
  · refine ⟨_, mem_flatPieces h (x 1).val hh l1 acc, (LoadRect.mem_set _).mpr fun a => ?_⟩
    match a with
    | ⟨0, _⟩ => exact ⟨0, Nat.one_pos, by show (y 0).val = h + 1 * 0; omega⟩
    | ⟨1, _⟩ => exact ⟨g, hg, by show (y 1).val = 9 * (x 1).val + 1 * g; omega⟩
    | ⟨2, _⟩ => exact ⟨(x 2).val, l2, by show (y 2).val = 0 + 1 * (x 2).val; omega⟩

end Cert.Mx

end
-- ==== Proof.DownIdeal.Scale.lean ====
/- The values that the run found in the scale scratch, read as the block product's. -/
module

public import proofs.«01_k».proof.Proof.DownIdeal.RestRun
public import proofs.«01_k».proof.Proof.Mx.Flat

@[expose] public section

set_option maxRecDepth 16384
set_option maxHeartbeats 1000000

noncomputable section

namespace Cert.DownIdeal.Hand

open Idealize.ShloMosaic Cert.DownIdeal.Gen Cert.Mx

variable {F : FTy → Type} [FloatOps F]

/-- The scale scratch. -/
theorem scl_eq (c : Dev nD) (arg5 : Memref sig .tc .vmem S512x256 .i8) (harg5 : arg5.IsWhole) (x5 : Vec F S512x256 .i8) : View.canon (restRun.sl.H12_128 c arg5 harg5 x5) = scG (Q := 32) (T := 2) (R := 512) (C := 256) x5 := by
  funext y
  have hc := View.cover_of_tiledL (s := S32x2x16x128) (restRun.sl.H12_128 c arg5 harg5 x5) S1x1x8x128.size (by unfold restRun.sl.H12_128; sl_kernel_rfl) y
  refine View.canon_apply_of_pieces (scG (Q := 32) (T := 2) (R := 512) (C := 256) x5) _ ?_ y hc
  clear hc
  simp only [restRun.sl.H12_128, restRun.sl.r, restRun.sl.r_1, restRun.sl.r_2, restRun.sl.r_3, restRun.sl.r_4, restRun.sl.r_5, restRun.sl.r_7, restRun.sl.r_6, restRun.sl.r_8, restRun.sl.r_9, restRun.sl.r_10, restRun.sl.r_11, restRun.sl.r_12, restRun.sl.r_13, restRun.sl.r_14, restRun.sl.r_15, restRun.sl.r_16]
  simp only [k0_pay950, k0_pay951, k0_pay952, k0_pay953, k0_pay954, k0_pay955, k0_pay956, k0_pay957, k0_pay958, k0_pay959, k0_pay960, k0_pay961, k0_pay962, k0_pay963, k0_pay964, k0_pay965, k0_pay966, k0_pay967, k0_pay968, k0_pay969, k0_pay970, k0_pay971, k0_pay972, k0_pay973, k0_pay974, k0_pay975, k0_pay976, k0_pay977, k0_pay978, k0_pay979, k0_pay980, k0_pay981, k0_pay982, k0_pay983, k0_pay984, k0_pay985, k0_pay986, k0_pay987, k0_pay988, k0_pay989, k0_pay990, k0_pay991, k0_pay992, k0_pay993, k0_pay994, k0_pay995, k0_pay996, k0_pay997, k0_pay998, k0_pay999, k0_pay1000, k0_pay1001, k0_pay1002, k0_pay1003, k0_pay1004, k0_pay1005, k0_pay1006, k0_pay1007, k0_pay1008, k0_pay1009, k0_pay1010, k0_pay1011, k0_pay1012, k0_pay1013, k0_pay1014, k0_pay1015, k0_pay1016, k0_pay1017, k0_pay1018, k0_pay1019, k0_pay1020, k0_pay1021, k0_pay1022, k0_pay1023, k0_pay1024, k0_pay1025, k0_pay1026, k0_pay1027, k0_pay1028, k0_pay1029, k0_pay1030, k0_pay1031, k0_pay1032, k0_pay1033, k0_pay1034, k0_pay1035, k0_pay1036, k0_pay1037, k0_pay1038, k0_pay1039, k0_pay1040, k0_pay1041, k0_pay1042, k0_pay1043, k0_pay1044, k0_pay1045, k0_pay1046, k0_pay1047, k0_pay1048, k0_pay1049, k0_pay1050, k0_pay1051, k0_pay1052, k0_pay1053, k0_pay1054, k0_pay1055, k0_pay1056, k0_pay1057, k0_pay1058, k0_pay1059, k0_pay1060, k0_pay1061, k0_pay1062, k0_pay1063, k0_pay1064, k0_pay1065, k0_pay1066, k0_pay1067, k0_pay1068, k0_pay1069, k0_pay1070, k0_pay1071, k0_pay1072, k0_pay1073, k0_pay1074, k0_pay1075, k0_pay1076, k0_pay1077, k0_pay1078, k0_pay1079, k0_pay1080, k0_pay1081, k0_pay1082, k0_pay1083, k0_pay1084, k0_pay1085, k0_pay1086, k0_pay1087, k0_pay1088, k0_pay1089, k0_pay1090, k0_pay1091, k0_pay1092, k0_pay1093, k0_pay1094, k0_pay1095, readAt_scT (R := 512) (C := 256)]
  simp only [List.forall_mem_cons, List.not_mem_nil, false_imp_iff, implies_true, and_true]
  and_intros <;> exact scPiece_agrees (Q := 32) (T := 2) (R := 512) (C := 256) _ _ _ _ _ _ (by decide) (by decide) (by decide) (by decide) (by decide) (by decide) (by decide) _ _ _

end Cert.DownIdeal.Hand

end
-- ==== Proof.DownIdeal.Acc.lean ====
/- The accumulator, tile by tile. -/
module

public import proofs.«01_k».proof.Proof.DownIdeal.Scale

@[expose] public section

set_option maxRecDepth 16384
set_option maxHeartbeats 1000000

noncomputable section

namespace Cert.DownIdeal.Hand

open Idealize.ShloMosaic Cert.DownIdeal.Gen Cert.Mx

variable {F : FTy → Type} [FloatOps F]

/-- One more tile. -/
theorem accT_step (x4 : Vec F S8192x256 .i8) (x5 : Vec F S512x256 .i8) (x10 : Vec F S64x80x256 .bf16) (n : ℕ) {w : FVec F S10x8x256 .f32}
    (h : w = addf (accT (R := 8192) (C := 256) (N := 64) (Q := 32) (T := 2) x4 x10 (scG x5) 0 n) (tileC (R := 8192) (C := 256) (N := 64) (Q := 32) (T := 2) x4 x10 (scG x5) 0 (n + 1))) : w = accT (R := 8192) (C := 256) (N := 64) (Q := 32) (T := 2) x4 x10 (scG x5) 0 (n + 1) := h

theorem acc0_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_18 c arg4 harg4 arg5 harg5 arg10 harg10 arg12 x4 x5 x10 = accT (R := 8192) (C := 256) (N := 64) (Q := 32) (T := 2) x4 x10 (scG x5) 0 0 := by
  show _ = tileC (R := 8192) (C := 256) (N := 64) (Q := 32) (T := 2) x4 x10 (scG x5) 0 0
  simp only [restRun.sl.r_18, restRun.sl.v567, restRun.sl.v565, restRun.sl.r_17]
  simp only [readAt_slab (R := 8192) (C := 256), readAt_lhsT (N := 64), readCov_sclT (Q := 32) (T := 2), Nat.reduceLT, scl_eq]
  simp only [k0_pay1096, k0_pay1097, tileC, contrib, wTile, Cert.GateUpIdeal.Gen.k0_pay344, Nat.reduceMul, Nat.reduceAdd, Nat.reduceDiv, Nat.reduceMod]
  rfl

theorem acc1_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_21 c arg4 harg4 arg5 harg5 arg10 harg10 arg12 x4 x5 x10 = accT (R := 8192) (C := 256) (N := 64) (Q := 32) (T := 2) x4 x10 (scG x5) 0 1 := by
  refine accT_step x4 x5 x10 0 ?_
  simp only [restRun.sl.r_21, restRun.sl.v616, restRun.sl.v614, restRun.sl.r_20, restRun.sl.r_19]
  rw [acc0_eq]
  generalize accT (R := 8192) (C := 256) (N := 64) (Q := 32) (T := 2) x4 x10 (scG x5) 0 0 = a
  simp only [readAt_slab (R := 8192) (C := 256), readAt_lhsT (N := 64), readCov_sclT (Q := 32) (T := 2), Nat.reduceLT, scl_eq]
  simp only [k0_pay1098, k0_pay1099, tileC, contrib, wTile, Cert.GateUpIdeal.Gen.k0_pay344, Nat.reduceMul, Nat.reduceAdd, Nat.reduceDiv, Nat.reduceMod]
  rfl

theorem acc2_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_27 c arg4 harg4 arg5 harg5 arg10 harg10 arg12 x4 x5 x10 = accT (R := 8192) (C := 256) (N := 64) (Q := 32) (T := 2) x4 x10 (scG x5) 0 2 := by
  refine accT_step x4 x5 x10 1 ?_
  simp only [restRun.sl.r_27, restRun.sl.v666, restRun.sl.v664, restRun.sl.r_26, restRun.sl.r_25, restRun.sl.r_24, restRun.sl.r_23, restRun.sl.r_22]
  rw [acc1_eq]
  generalize accT (R := 8192) (C := 256) (N := 64) (Q := 32) (T := 2) x4 x10 (scG x5) 0 1 = a
  simp only [readAt_slab (R := 8192) (C := 256), readAt_lhsT (N := 64), readCov_sclT (Q := 32) (T := 2), Nat.reduceLT, scl_eq]
  simp only [k0_pay1100, k0_pay1101, k0_pay1102, k0_pay1103, k0_pay1104, k0_pay1105, tileC, contrib, wTile, Cert.GateUpIdeal.Gen.k0_pay344, Nat.reduceMul, Nat.reduceAdd, Nat.reduceDiv, Nat.reduceMod]
  rfl

theorem acc3_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_32 c arg4 harg4 arg5 harg5 arg10 harg10 arg12 x4 x5 x10 = accT (R := 8192) (C := 256) (N := 64) (Q := 32) (T := 2) x4 x10 (scG x5) 0 3 := by
  refine accT_step x4 x5 x10 2 ?_
  simp only [restRun.sl.r_32, restRun.sl.r_31, restRun.sl.v716, restRun.sl.v714, restRun.sl.r_30, restRun.sl.r_29, restRun.sl.r_28]
  rw [acc2_eq]
  generalize accT (R := 8192) (C := 256) (N := 64) (Q := 32) (T := 2) x4 x10 (scG x5) 0 2 = a
  simp only [readAt_slab (R := 8192) (C := 256), readAt_lhsT (N := 64), readCov_sclT (Q := 32) (T := 2), Nat.reduceLT, scl_eq]
  simp only [k0_pay1106, k0_pay1107, k0_pay1108, k0_pay1109, k0_pay1110, k0_pay1111, tileC, contrib, wTile, Cert.GateUpIdeal.Gen.k0_pay344, Nat.reduceMul, Nat.reduceAdd, Nat.reduceDiv, Nat.reduceMod]
  rfl

theorem acc4_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_34 c arg4 harg4 arg5 harg5 arg10 harg10 arg12 x4 x5 x10 = accT (R := 8192) (C := 256) (N := 64) (Q := 32) (T := 2) x4 x10 (scG x5) 0 4 := by
  refine accT_step x4 x5 x10 3 ?_
  simp only [restRun.sl.r_34, restRun.sl.v766, restRun.sl.v764, restRun.sl.r_33]
  rw [acc3_eq]
  generalize accT (R := 8192) (C := 256) (N := 64) (Q := 32) (T := 2) x4 x10 (scG x5) 0 3 = a
  simp only [readAt_slab (R := 8192) (C := 256), readAt_lhsT (N := 64), readCov_sclT (Q := 32) (T := 2), Nat.reduceLT, scl_eq]
  simp only [k0_pay1112, k0_pay1113, tileC, contrib, wTile, Cert.GateUpIdeal.Gen.k0_pay344, Nat.reduceMul, Nat.reduceAdd, Nat.reduceDiv, Nat.reduceMod]
  rfl

theorem acc5_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_40 c arg4 harg4 arg5 harg5 arg10 harg10 arg12 x4 x5 x10 = accT (R := 8192) (C := 256) (N := 64) (Q := 32) (T := 2) x4 x10 (scG x5) 0 5 := by
  refine accT_step x4 x5 x10 4 ?_
  simp only [restRun.sl.r_40, restRun.sl.v816, restRun.sl.v814, restRun.sl.r_39, restRun.sl.r_38, restRun.sl.r_37, restRun.sl.r_36, restRun.sl.r_35]
  rw [acc4_eq]
  generalize accT (R := 8192) (C := 256) (N := 64) (Q := 32) (T := 2) x4 x10 (scG x5) 0 4 = a
  simp only [readAt_slab (R := 8192) (C := 256), readAt_lhsT (N := 64), readCov_sclT (Q := 32) (T := 2), Nat.reduceLT, scl_eq]
  simp only [k0_pay1114, k0_pay1115, k0_pay1116, k0_pay1117, k0_pay1118, k0_pay1119, tileC, contrib, wTile, Cert.GateUpIdeal.Gen.k0_pay344, Nat.reduceMul, Nat.reduceAdd, Nat.reduceDiv, Nat.reduceMod]
  rfl

theorem acc6_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_44 c arg4 harg4 arg5 harg5 arg10 harg10 arg12 x4 x5 x10 = accT (R := 8192) (C := 256) (N := 64) (Q := 32) (T := 2) x4 x10 (scG x5) 0 6 := by
  refine accT_step x4 x5 x10 5 ?_
  simp only [restRun.sl.r_44, restRun.sl.v866, restRun.sl.r_43, restRun.sl.v864, restRun.sl.r_42, restRun.sl.r_41]
  rw [acc5_eq]
  generalize accT (R := 8192) (C := 256) (N := 64) (Q := 32) (T := 2) x4 x10 (scG x5) 0 5 = a
  simp only [readAt_slab (R := 8192) (C := 256), readAt_lhsT (N := 64), readCov_sclT (Q := 32) (T := 2), Nat.reduceLT, scl_eq]
  simp only [k0_pay1120, k0_pay1121, k0_pay1122, k0_pay1123, tileC, contrib, wTile, Cert.GateUpIdeal.Gen.k0_pay344, Nat.reduceMul, Nat.reduceAdd, Nat.reduceDiv, Nat.reduceMod]
  rfl

theorem acc7_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_46 c arg4 harg4 arg5 harg5 arg10 harg10 arg12 x4 x5 x10 = accT (R := 8192) (C := 256) (N := 64) (Q := 32) (T := 2) x4 x10 (scG x5) 0 7 := by
  refine accT_step x4 x5 x10 6 ?_
  simp only [restRun.sl.r_46, restRun.sl.v916, restRun.sl.v914, restRun.sl.r_45]
  rw [acc6_eq]
  generalize accT (R := 8192) (C := 256) (N := 64) (Q := 32) (T := 2) x4 x10 (scG x5) 0 6 = a
  simp only [readAt_slab (R := 8192) (C := 256), readAt_lhsT (N := 64), readCov_sclT (Q := 32) (T := 2), Nat.reduceLT, scl_eq]
  simp only [k0_pay1124, k0_pay1125, tileC, contrib, wTile, Cert.GateUpIdeal.Gen.k0_pay344, Nat.reduceMul, Nat.reduceAdd, Nat.reduceDiv, Nat.reduceMod]
  rfl

theorem acc8_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_50 c arg4 harg4 arg5 harg5 arg10 harg10 arg12 x4 x5 x10 = accT (R := 8192) (C := 256) (N := 64) (Q := 32) (T := 2) x4 x10 (scG x5) 0 8 := by
  refine accT_step x4 x5 x10 7 ?_
  simp only [restRun.sl.r_50, restRun.sl.v966, restRun.sl.v964, restRun.sl.r_49, restRun.sl.r_48, restRun.sl.r_47]
  rw [acc7_eq]
  generalize accT (R := 8192) (C := 256) (N := 64) (Q := 32) (T := 2) x4 x10 (scG x5) 0 7 = a
  simp only [readAt_slab (R := 8192) (C := 256), readAt_lhsT (N := 64), readCov_sclT (Q := 32) (T := 2), Nat.reduceLT, scl_eq]
  simp only [k0_pay1126, k0_pay1127, k0_pay1128, k0_pay1129, tileC, contrib, wTile, Cert.GateUpIdeal.Gen.k0_pay344, Nat.reduceMul, Nat.reduceAdd, Nat.reduceDiv, Nat.reduceMod]
  rfl

theorem acc9_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_54 c arg4 harg4 arg5 harg5 arg10 harg10 arg12 x4 x5 x10 = accT (R := 8192) (C := 256) (N := 64) (Q := 32) (T := 2) x4 x10 (scG x5) 0 9 := by
  refine accT_step x4 x5 x10 8 ?_
  simp only [restRun.sl.r_54, restRun.sl.v1016, restRun.sl.v1014, restRun.sl.r_53, restRun.sl.r_52, restRun.sl.r_51]
  rw [acc8_eq]
  generalize accT (R := 8192) (C := 256) (N := 64) (Q := 32) (T := 2) x4 x10 (scG x5) 0 8 = a
  simp only [readAt_slab (R := 8192) (C := 256), readAt_lhsT (N := 64), readCov_sclT (Q := 32) (T := 2), Nat.reduceLT, scl_eq]
  simp only [k0_pay1130, k0_pay1131, tileC, contrib, wTile, Cert.GateUpIdeal.Gen.k0_pay344, Nat.reduceMul, Nat.reduceAdd, Nat.reduceDiv, Nat.reduceMod]
  rfl

theorem acc10_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_57 c arg4 harg4 arg5 harg5 arg10 harg10 arg12 x4 x5 x10 = accT (R := 8192) (C := 256) (N := 64) (Q := 32) (T := 2) x4 x10 (scG x5) 0 10 := by
  refine accT_step x4 x5 x10 9 ?_
  simp only [restRun.sl.r_57, restRun.sl.v1066, restRun.sl.v1064, restRun.sl.r_56, restRun.sl.r_55]
  rw [acc9_eq]
  generalize accT (R := 8192) (C := 256) (N := 64) (Q := 32) (T := 2) x4 x10 (scG x5) 0 9 = a
  simp only [readAt_slab (R := 8192) (C := 256), readAt_lhsT (N := 64), readCov_sclT (Q := 32) (T := 2), Nat.reduceLT, scl_eq]
  simp only [k0_pay1132, k0_pay1133, k0_pay1134, tileC, contrib, wTile, Cert.GateUpIdeal.Gen.k0_pay344, Nat.reduceMul, Nat.reduceAdd, Nat.reduceDiv, Nat.reduceMod]
  rfl

theorem acc11_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_59 c arg4 harg4 arg5 harg5 arg10 harg10 arg12 x4 x5 x10 = accT (R := 8192) (C := 256) (N := 64) (Q := 32) (T := 2) x4 x10 (scG x5) 0 11 := by
  refine accT_step x4 x5 x10 10 ?_
  simp only [restRun.sl.r_59, restRun.sl.v1116, restRun.sl.v1114, restRun.sl.r_58]
  rw [acc10_eq]
  generalize accT (R := 8192) (C := 256) (N := 64) (Q := 32) (T := 2) x4 x10 (scG x5) 0 10 = a
  simp only [readAt_slab (R := 8192) (C := 256), readAt_lhsT (N := 64), readCov_sclT (Q := 32) (T := 2), Nat.reduceLT, scl_eq]
  simp only [k0_pay1135, k0_pay1136, tileC, contrib, wTile, Cert.GateUpIdeal.Gen.k0_pay344, Nat.reduceMul, Nat.reduceAdd, Nat.reduceDiv, Nat.reduceMod]
  rfl

theorem acc12_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_62 c arg4 harg4 arg5 harg5 arg10 harg10 arg12 x4 x5 x10 = accT (R := 8192) (C := 256) (N := 64) (Q := 32) (T := 2) x4 x10 (scG x5) 0 12 := by
  refine accT_step x4 x5 x10 11 ?_
  simp only [restRun.sl.r_62, restRun.sl.v1166, restRun.sl.v1164, restRun.sl.r_61, restRun.sl.r_60]
  rw [acc11_eq]
  generalize accT (R := 8192) (C := 256) (N := 64) (Q := 32) (T := 2) x4 x10 (scG x5) 0 11 = a
  simp only [readAt_slab (R := 8192) (C := 256), readAt_lhsT (N := 64), readCov_sclT (Q := 32) (T := 2), Nat.reduceLT, scl_eq]
  simp only [k0_pay1137, k0_pay1138, k0_pay1139, tileC, contrib, wTile, Cert.GateUpIdeal.Gen.k0_pay344, Nat.reduceMul, Nat.reduceAdd, Nat.reduceDiv, Nat.reduceMod]
  rfl

theorem acc13_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_68 c arg4 harg4 arg5 harg5 arg10 harg10 arg12 x4 x5 x10 = accT (R := 8192) (C := 256) (N := 64) (Q := 32) (T := 2) x4 x10 (scG x5) 0 13 := by
  refine accT_step x4 x5 x10 12 ?_
  simp only [restRun.sl.r_68, restRun.sl.v1216, restRun.sl.v1214, restRun.sl.r_67, restRun.sl.r_66, restRun.sl.r_65, restRun.sl.r_64, restRun.sl.r_63]
  rw [acc12_eq]
  generalize accT (R := 8192) (C := 256) (N := 64) (Q := 32) (T := 2) x4 x10 (scG x5) 0 12 = a
  simp only [readAt_slab (R := 8192) (C := 256), readAt_lhsT (N := 64), readCov_sclT (Q := 32) (T := 2), Nat.reduceLT, scl_eq]
  simp only [k0_pay1140, k0_pay1141, k0_pay1142, k0_pay1143, k0_pay1144, k0_pay1145, k0_pay1146, k0_pay1147, tileC, contrib, wTile, Cert.GateUpIdeal.Gen.k0_pay344, Nat.reduceMul, Nat.reduceAdd, Nat.reduceDiv, Nat.reduceMod]
  rfl

theorem acc14_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_73 c arg4 harg4 arg5 harg5 arg10 harg10 arg12 x4 x5 x10 = accT (R := 8192) (C := 256) (N := 64) (Q := 32) (T := 2) x4 x10 (scG x5) 0 14 := by
  refine accT_step x4 x5 x10 13 ?_
  simp only [restRun.sl.r_73, restRun.sl.r_72, restRun.sl.r_70, restRun.sl.r_69, restRun.sl.r_71, restRun.sl.v1266, restRun.sl.v1264]
  rw [acc13_eq]
  generalize accT (R := 8192) (C := 256) (N := 64) (Q := 32) (T := 2) x4 x10 (scG x5) 0 13 = a
  simp only [readAt_slab (R := 8192) (C := 256), readAt_lhsT (N := 64), readCov_sclT (Q := 32) (T := 2), Nat.reduceLT, scl_eq]
  simp only [k0_pay1148, k0_pay1149, k0_pay1150, k0_pay1151, k0_pay1152, tileC, contrib, wTile, Cert.GateUpIdeal.Gen.k0_pay344, Nat.reduceMul, Nat.reduceAdd, Nat.reduceDiv, Nat.reduceMod]
  rfl

theorem acc15_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_75 c arg4 harg4 arg5 harg5 arg10 harg10 arg12 x4 x5 x10 = accT (R := 8192) (C := 256) (N := 64) (Q := 32) (T := 2) x4 x10 (scG x5) 0 15 := by
  refine accT_step x4 x5 x10 14 ?_
  simp only [restRun.sl.r_75, restRun.sl.v1316, restRun.sl.v1314, restRun.sl.r_74]
  rw [acc14_eq]
  generalize accT (R := 8192) (C := 256) (N := 64) (Q := 32) (T := 2) x4 x10 (scG x5) 0 14 = a
  simp only [readAt_slab (R := 8192) (C := 256), readAt_lhsT (N := 64), readCov_sclT (Q := 32) (T := 2), Nat.reduceLT, scl_eq]
  simp only [k0_pay1153, k0_pay1154, tileC, contrib, wTile, Cert.GateUpIdeal.Gen.k0_pay344, Nat.reduceMul, Nat.reduceAdd, Nat.reduceDiv, Nat.reduceMod]
  rfl

theorem acc16_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_80 c arg4 harg4 arg5 harg5 arg10 harg10 arg12 x4 x5 x10 = accT (R := 8192) (C := 256) (N := 64) (Q := 32) (T := 2) x4 x10 (scG x5) 0 16 := by
  refine accT_step x4 x5 x10 15 ?_
  simp only [restRun.sl.r_80, restRun.sl.v1366, restRun.sl.v1364, restRun.sl.r_79, restRun.sl.r_78, restRun.sl.r_77, restRun.sl.r_76]
  rw [acc15_eq]
  generalize accT (R := 8192) (C := 256) (N := 64) (Q := 32) (T := 2) x4 x10 (scG x5) 0 15 = a
  simp only [readAt_slab (R := 8192) (C := 256), readAt_lhsT (N := 64), readCov_sclT (Q := 32) (T := 2), Nat.reduceLT, scl_eq]
  simp only [k0_pay1155, k0_pay1156, k0_pay1157, k0_pay1158, k0_pay1159, tileC, contrib, wTile, Cert.GateUpIdeal.Gen.k0_pay344, Nat.reduceMul, Nat.reduceAdd, Nat.reduceDiv, Nat.reduceMod]
  rfl

theorem acc17_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_87 c arg4 harg4 arg5 harg5 arg10 harg10 arg12 x4 x5 x10 = accT (R := 8192) (C := 256) (N := 64) (Q := 32) (T := 2) x4 x10 (scG x5) 0 17 := by
  refine accT_step x4 x5 x10 16 ?_
  simp only [restRun.sl.r_87, restRun.sl.v1416, restRun.sl.r_86, restRun.sl.v1414, restRun.sl.r_85, restRun.sl.r_84, restRun.sl.r_83, restRun.sl.r_82, restRun.sl.r_81]
  rw [acc16_eq]
  generalize accT (R := 8192) (C := 256) (N := 64) (Q := 32) (T := 2) x4 x10 (scG x5) 0 16 = a
  simp only [readAt_slab (R := 8192) (C := 256), readAt_lhsT (N := 64), readCov_sclT (Q := 32) (T := 2), Nat.reduceLT, scl_eq]
  simp only [k0_pay1160, k0_pay1161, k0_pay1162, tileC, contrib, wTile, Cert.GateUpIdeal.Gen.k0_pay344, Nat.reduceMul, Nat.reduceAdd, Nat.reduceDiv, Nat.reduceMod]
  rfl

theorem acc18_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_90 c arg4 harg4 arg5 harg5 arg10 harg10 arg12 x4 x5 x10 = accT (R := 8192) (C := 256) (N := 64) (Q := 32) (T := 2) x4 x10 (scG x5) 0 18 := by
  refine accT_step x4 x5 x10 17 ?_
  simp only [restRun.sl.r_90, restRun.sl.v1466, restRun.sl.v1464, restRun.sl.r_89, restRun.sl.r_88]
  rw [acc17_eq]
  generalize accT (R := 8192) (C := 256) (N := 64) (Q := 32) (T := 2) x4 x10 (scG x5) 0 17 = a
  simp only [readAt_slab (R := 8192) (C := 256), readAt_lhsT (N := 64), readCov_sclT (Q := 32) (T := 2), Nat.reduceLT, scl_eq]
  simp only [k0_pay1163, k0_pay1164, k0_pay1165, k0_pay1166, k0_pay1167, tileC, contrib, wTile, Cert.GateUpIdeal.Gen.k0_pay344, Nat.reduceMul, Nat.reduceAdd, Nat.reduceDiv, Nat.reduceMod]
  rfl

theorem acc19_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_93 c arg4 harg4 arg5 harg5 arg10 harg10 arg12 x4 x5 x10 = accT (R := 8192) (C := 256) (N := 64) (Q := 32) (T := 2) x4 x10 (scG x5) 0 19 := by
  refine accT_step x4 x5 x10 18 ?_
  simp only [restRun.sl.r_93, restRun.sl.v1516, restRun.sl.v1514, restRun.sl.r_92, restRun.sl.r_91]
  rw [acc18_eq]
  generalize accT (R := 8192) (C := 256) (N := 64) (Q := 32) (T := 2) x4 x10 (scG x5) 0 18 = a
  simp only [readAt_slab (R := 8192) (C := 256), readAt_lhsT (N := 64), readCov_sclT (Q := 32) (T := 2), Nat.reduceLT, scl_eq]
  simp only [k0_pay1168, k0_pay1169, k0_pay1170, tileC, contrib, wTile, Cert.GateUpIdeal.Gen.k0_pay344, Nat.reduceMul, Nat.reduceAdd, Nat.reduceDiv, Nat.reduceMod]
  rfl

theorem acc20_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_97 c arg4 harg4 arg5 harg5 arg10 harg10 arg12 x4 x5 x10 = accT (R := 8192) (C := 256) (N := 64) (Q := 32) (T := 2) x4 x10 (scG x5) 0 20 := by
  refine accT_step x4 x5 x10 19 ?_
  simp only [restRun.sl.r_97, restRun.sl.v1566, restRun.sl.v1564, restRun.sl.r_96, restRun.sl.r_95, restRun.sl.r_94]
  rw [acc19_eq]
  generalize accT (R := 8192) (C := 256) (N := 64) (Q := 32) (T := 2) x4 x10 (scG x5) 0 19 = a
  simp only [readAt_slab (R := 8192) (C := 256), readAt_lhsT (N := 64), readCov_sclT (Q := 32) (T := 2), Nat.reduceLT, scl_eq]
  simp only [k0_pay1171, k0_pay1172, tileC, contrib, wTile, Cert.GateUpIdeal.Gen.k0_pay344, Nat.reduceMul, Nat.reduceAdd, Nat.reduceDiv, Nat.reduceMod]
  rfl

theorem acc21_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_102 c arg4 harg4 arg5 harg5 arg10 harg10 arg12 x4 x5 x10 = accT (R := 8192) (C := 256) (N := 64) (Q := 32) (T := 2) x4 x10 (scG x5) 0 21 := by
  refine accT_step x4 x5 x10 20 ?_
  simp only [restRun.sl.r_102, restRun.sl.v1616, restRun.sl.v1614, restRun.sl.r_101, restRun.sl.r_100, restRun.sl.r_99, restRun.sl.r_98]
  rw [acc20_eq]
  generalize accT (R := 8192) (C := 256) (N := 64) (Q := 32) (T := 2) x4 x10 (scG x5) 0 20 = a
  simp only [readAt_slab (R := 8192) (C := 256), readAt_lhsT (N := 64), readCov_sclT (Q := 32) (T := 2), Nat.reduceLT, scl_eq]
  simp only [k0_pay1173, k0_pay1174, k0_pay1175, k0_pay1176, k0_pay1177, tileC, contrib, wTile, Cert.GateUpIdeal.Gen.k0_pay344, Nat.reduceMul, Nat.reduceAdd, Nat.reduceDiv, Nat.reduceMod]
  rfl

theorem acc22_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_105 c arg4 harg4 arg5 harg5 arg10 harg10 arg12 x4 x5 x10 = accT (R := 8192) (C := 256) (N := 64) (Q := 32) (T := 2) x4 x10 (scG x5) 0 22 := by
  refine accT_step x4 x5 x10 21 ?_
  simp only [restRun.sl.r_105, restRun.sl.v1666, restRun.sl.v1664, restRun.sl.r_104, restRun.sl.r_103]
  rw [acc21_eq]
  generalize accT (R := 8192) (C := 256) (N := 64) (Q := 32) (T := 2) x4 x10 (scG x5) 0 21 = a
  simp only [readAt_slab (R := 8192) (C := 256), readAt_lhsT (N := 64), readCov_sclT (Q := 32) (T := 2), Nat.reduceLT, scl_eq]
  simp only [k0_pay1178, k0_pay1179, k0_pay1180, k0_pay1181, tileC, contrib, wTile, Cert.GateUpIdeal.Gen.k0_pay344, Nat.reduceMul, Nat.reduceAdd, Nat.reduceDiv, Nat.reduceMod]
  rfl

theorem acc23_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_108 c arg4 harg4 arg5 harg5 arg10 harg10 arg12 x4 x5 x10 = accT (R := 8192) (C := 256) (N := 64) (Q := 32) (T := 2) x4 x10 (scG x5) 0 23 := by
  refine accT_step x4 x5 x10 22 ?_
  simp only [restRun.sl.r_108, restRun.sl.v1716, restRun.sl.v1714, restRun.sl.r_107, restRun.sl.r_106]
  rw [acc22_eq]
  generalize accT (R := 8192) (C := 256) (N := 64) (Q := 32) (T := 2) x4 x10 (scG x5) 0 22 = a
  simp only [readAt_slab (R := 8192) (C := 256), readAt_lhsT (N := 64), readCov_sclT (Q := 32) (T := 2), Nat.reduceLT, scl_eq]
  simp only [k0_pay1182, k0_pay1183, tileC, contrib, wTile, Cert.GateUpIdeal.Gen.k0_pay344, Nat.reduceMul, Nat.reduceAdd, Nat.reduceDiv, Nat.reduceMod]
  rfl

theorem acc24_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_114 c arg4 harg4 arg5 harg5 arg10 harg10 arg12 x4 x5 x10 = accT (R := 8192) (C := 256) (N := 64) (Q := 32) (T := 2) x4 x10 (scG x5) 0 24 := by
  refine accT_step x4 x5 x10 23 ?_
  simp only [restRun.sl.r_114, restRun.sl.v1766, restRun.sl.v1764, restRun.sl.r_113, restRun.sl.r_112, restRun.sl.r_111, restRun.sl.r_110, restRun.sl.r_109]
  rw [acc23_eq]
  generalize accT (R := 8192) (C := 256) (N := 64) (Q := 32) (T := 2) x4 x10 (scG x5) 0 23 = a
  simp only [readAt_slab (R := 8192) (C := 256), readAt_lhsT (N := 64), readCov_sclT (Q := 32) (T := 2), Nat.reduceLT, scl_eq]
  simp only [k0_pay1184, k0_pay1185, k0_pay1186, k0_pay1187, k0_pay1188, k0_pay1189, tileC, contrib, wTile, Cert.GateUpIdeal.Gen.k0_pay344, Nat.reduceMul, Nat.reduceAdd, Nat.reduceDiv, Nat.reduceMod]
  rfl

theorem acc25_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_119 c arg4 harg4 arg5 harg5 arg10 harg10 arg12 x4 x5 x10 = accT (R := 8192) (C := 256) (N := 64) (Q := 32) (T := 2) x4 x10 (scG x5) 0 25 := by
  refine accT_step x4 x5 x10 24 ?_
  simp only [restRun.sl.r_119, restRun.sl.r_118, restRun.sl.v1816, restRun.sl.r_117, restRun.sl.v1814, restRun.sl.r_116, restRun.sl.r_115]
  rw [acc24_eq]
  generalize accT (R := 8192) (C := 256) (N := 64) (Q := 32) (T := 2) x4 x10 (scG x5) 0 24 = a
  simp only [readAt_slab (R := 8192) (C := 256), readAt_lhsT (N := 64), readCov_sclT (Q := 32) (T := 2), Nat.reduceLT, scl_eq]
  simp only [k0_pay1190, k0_pay1191, k0_pay1192, k0_pay1193, k0_pay1194, k0_pay1195, tileC, contrib, wTile, Cert.GateUpIdeal.Gen.k0_pay344, Nat.reduceMul, Nat.reduceAdd, Nat.reduceDiv, Nat.reduceMod]
  rfl

theorem acc26_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_121 c arg4 harg4 arg5 harg5 arg10 harg10 arg12 x4 x5 x10 = accT (R := 8192) (C := 256) (N := 64) (Q := 32) (T := 2) x4 x10 (scG x5) 0 26 := by
  refine accT_step x4 x5 x10 25 ?_
  simp only [restRun.sl.r_121, restRun.sl.v1866, restRun.sl.v1864, restRun.sl.cst_1222, restRun.sl.r_120]
  rw [acc25_eq]
  generalize accT (R := 8192) (C := 256) (N := 64) (Q := 32) (T := 2) x4 x10 (scG x5) 0 25 = a
  simp only [readAt_slab (R := 8192) (C := 256), readAt_lhsT (N := 64), readCov_sclT (Q := 32) (T := 2), Nat.reduceLT, scl_eq]
  simp only [k0_pay1196, k0_pay1197, tileC, contrib, wTile, Cert.GateUpIdeal.Gen.k0_pay344, Nat.reduceMul, Nat.reduceAdd, Nat.reduceDiv, Nat.reduceMod]
  rfl

theorem acc27_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_125 c arg4 harg4 arg5 harg5 arg10 harg10 arg12 x4 x5 x10 = accT (R := 8192) (C := 256) (N := 64) (Q := 32) (T := 2) x4 x10 (scG x5) 0 27 := by
  refine accT_step x4 x5 x10 26 ?_
  simp only [restRun.sl.r_125, restRun.sl.v1916, restRun.sl.v1914, restRun.sl.r_124, restRun.sl.r_123, restRun.sl.r_122]
  rw [acc26_eq]
  generalize accT (R := 8192) (C := 256) (N := 64) (Q := 32) (T := 2) x4 x10 (scG x5) 0 26 = a
  simp only [readAt_slab (R := 8192) (C := 256), readAt_lhsT (N := 64), readCov_sclT (Q := 32) (T := 2), Nat.reduceLT, scl_eq]
  simp only [k0_pay1198, k0_pay1199, k0_pay1200, k0_pay1201, k0_pay1202, tileC, contrib, wTile, Cert.GateUpIdeal.Gen.k0_pay344, Nat.reduceMul, Nat.reduceAdd, Nat.reduceDiv, Nat.reduceMod]
  rfl

theorem acc28_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_131 c arg4 harg4 arg5 harg5 arg10 harg10 arg12 x4 x5 x10 = accT (R := 8192) (C := 256) (N := 64) (Q := 32) (T := 2) x4 x10 (scG x5) 0 28 := by
  refine accT_step x4 x5 x10 27 ?_
  simp only [restRun.sl.r_131, restRun.sl.v1966, restRun.sl.r_130, restRun.sl.v1964, restRun.sl.r_129, restRun.sl.r_128, restRun.sl.r_127, restRun.sl.r_126]
  rw [acc27_eq]
  generalize accT (R := 8192) (C := 256) (N := 64) (Q := 32) (T := 2) x4 x10 (scG x5) 0 27 = a
  simp only [readAt_slab (R := 8192) (C := 256), readAt_lhsT (N := 64), readCov_sclT (Q := 32) (T := 2), Nat.reduceLT, scl_eq]
  simp only [k0_pay1203, k0_pay1204, k0_pay1205, tileC, contrib, wTile, Cert.GateUpIdeal.Gen.k0_pay344, Nat.reduceMul, Nat.reduceAdd, Nat.reduceDiv, Nat.reduceMod]
  rfl

theorem acc29_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_134 c arg4 harg4 arg5 harg5 arg10 harg10 arg12 x4 x5 x10 = accT (R := 8192) (C := 256) (N := 64) (Q := 32) (T := 2) x4 x10 (scG x5) 0 29 := by
  refine accT_step x4 x5 x10 28 ?_
  simp only [restRun.sl.r_134, restRun.sl.v2016, restRun.sl.v2014, restRun.sl.r_133, restRun.sl.r_132]
  rw [acc28_eq]
  generalize accT (R := 8192) (C := 256) (N := 64) (Q := 32) (T := 2) x4 x10 (scG x5) 0 28 = a
  simp only [readAt_slab (R := 8192) (C := 256), readAt_lhsT (N := 64), readCov_sclT (Q := 32) (T := 2), Nat.reduceLT, scl_eq]
  simp only [k0_pay1206, k0_pay1207, k0_pay1208, k0_pay1209, tileC, contrib, wTile, Cert.GateUpIdeal.Gen.k0_pay344, Nat.reduceMul, Nat.reduceAdd, Nat.reduceDiv, Nat.reduceMod]
  rfl

theorem acc30_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_136 c arg4 harg4 arg5 harg5 arg10 harg10 arg12 x4 x5 x10 = accT (R := 8192) (C := 256) (N := 64) (Q := 32) (T := 2) x4 x10 (scG x5) 0 30 := by
  refine accT_step x4 x5 x10 29 ?_
  simp only [restRun.sl.r_136, restRun.sl.v2066, restRun.sl.v2064, restRun.sl.r_135]
  rw [acc29_eq]
  generalize accT (R := 8192) (C := 256) (N := 64) (Q := 32) (T := 2) x4 x10 (scG x5) 0 29 = a
  simp only [readAt_slab (R := 8192) (C := 256), readAt_lhsT (N := 64), readCov_sclT (Q := 32) (T := 2), Nat.reduceLT, scl_eq]
  simp only [k0_pay1210, k0_pay1211, k0_pay1212, tileC, contrib, wTile, Cert.GateUpIdeal.Gen.k0_pay344, Nat.reduceMul, Nat.reduceAdd, Nat.reduceDiv, Nat.reduceMod]
  rfl

theorem acc31_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_139 c arg4 harg4 arg5 harg5 arg10 harg10 arg12 x4 x5 x10 = accT (R := 8192) (C := 256) (N := 64) (Q := 32) (T := 2) x4 x10 (scG x5) 0 31 := by
  refine accT_step x4 x5 x10 30 ?_
  simp only [restRun.sl.r_139, restRun.sl.v2116, restRun.sl.v2114, restRun.sl.r_138, restRun.sl.r_137]
  rw [acc30_eq]
  generalize accT (R := 8192) (C := 256) (N := 64) (Q := 32) (T := 2) x4 x10 (scG x5) 0 30 = a
  simp only [readAt_slab (R := 8192) (C := 256), readAt_lhsT (N := 64), readCov_sclT (Q := 32) (T := 2), Nat.reduceLT, scl_eq]
  simp only [k0_pay1213, k0_pay1214, tileC, contrib, wTile, Cert.GateUpIdeal.Gen.k0_pay344, Nat.reduceMul, Nat.reduceAdd, Nat.reduceDiv, Nat.reduceMod]
  rfl

theorem acc32_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_145 c arg4 harg4 arg5 harg5 arg10 harg10 arg12 x4 x5 x10 = accT (R := 8192) (C := 256) (N := 64) (Q := 32) (T := 2) x4 x10 (scG x5) 0 32 := by
  refine accT_step x4 x5 x10 31 ?_
  simp only [restRun.sl.r_145, restRun.sl.v2166, restRun.sl.v2164, restRun.sl.r_144, restRun.sl.r_143, restRun.sl.r_142, restRun.sl.r_141, restRun.sl.r_140]
  rw [acc31_eq]
  generalize accT (R := 8192) (C := 256) (N := 64) (Q := 32) (T := 2) x4 x10 (scG x5) 0 31 = a
  simp only [readAt_slab (R := 8192) (C := 256), readAt_lhsT (N := 64), readCov_sclT (Q := 32) (T := 2), Nat.reduceLT, scl_eq]
  simp only [k0_pay1215, k0_pay1216, k0_pay1217, k0_pay1218, k0_pay1219, k0_pay1220, tileC, contrib, wTile, Cert.GateUpIdeal.Gen.k0_pay344, Nat.reduceMul, Nat.reduceAdd, Nat.reduceDiv, Nat.reduceMod]
  rfl

theorem acc33_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_150 c arg4 harg4 arg5 harg5 arg10 harg10 arg12 x4 x5 x10 = accT (R := 8192) (C := 256) (N := 64) (Q := 32) (T := 2) x4 x10 (scG x5) 0 33 := by
  refine accT_step x4 x5 x10 32 ?_
  simp only [restRun.sl.r_150, restRun.sl.r_149, restRun.sl.v2216, restRun.sl.v2214, restRun.sl.r_148, restRun.sl.r_147, restRun.sl.r_146]
  rw [acc32_eq]
  generalize accT (R := 8192) (C := 256) (N := 64) (Q := 32) (T := 2) x4 x10 (scG x5) 0 32 = a
  simp only [readAt_slab (R := 8192) (C := 256), readAt_lhsT (N := 64), readCov_sclT (Q := 32) (T := 2), Nat.reduceLT, scl_eq]
  simp only [k0_pay1221, k0_pay1222, k0_pay1223, k0_pay1224, k0_pay1225, k0_pay1226, tileC, contrib, wTile, Cert.GateUpIdeal.Gen.k0_pay344, Nat.reduceMul, Nat.reduceAdd, Nat.reduceDiv, Nat.reduceMod]
  rfl

theorem acc34_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_152 c arg4 harg4 arg5 harg5 arg10 harg10 arg12 x4 x5 x10 = accT (R := 8192) (C := 256) (N := 64) (Q := 32) (T := 2) x4 x10 (scG x5) 0 34 := by
  refine accT_step x4 x5 x10 33 ?_
  simp only [restRun.sl.r_152, restRun.sl.v2266, restRun.sl.v2264, restRun.sl.r_151]
  rw [acc33_eq]
  generalize accT (R := 8192) (C := 256) (N := 64) (Q := 32) (T := 2) x4 x10 (scG x5) 0 33 = a
  simp only [readAt_slab (R := 8192) (C := 256), readAt_lhsT (N := 64), readCov_sclT (Q := 32) (T := 2), Nat.reduceLT, scl_eq]
  simp only [k0_pay1227, k0_pay1228, tileC, contrib, wTile, Cert.GateUpIdeal.Gen.k0_pay344, Nat.reduceMul, Nat.reduceAdd, Nat.reduceDiv, Nat.reduceMod]
  rfl

theorem acc35_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_158 c arg4 harg4 arg5 harg5 arg10 harg10 arg12 x4 x5 x10 = accT (R := 8192) (C := 256) (N := 64) (Q := 32) (T := 2) x4 x10 (scG x5) 0 35 := by
  refine accT_step x4 x5 x10 34 ?_
  simp only [restRun.sl.r_158, restRun.sl.v2316, restRun.sl.v2314, restRun.sl.r_157, restRun.sl.r_156, restRun.sl.r_155, restRun.sl.r_154, restRun.sl.r_153]
  rw [acc34_eq]
  generalize accT (R := 8192) (C := 256) (N := 64) (Q := 32) (T := 2) x4 x10 (scG x5) 0 34 = a
  simp only [readAt_slab (R := 8192) (C := 256), readAt_lhsT (N := 64), readCov_sclT (Q := 32) (T := 2), Nat.reduceLT, scl_eq]
  simp only [k0_pay1229, k0_pay1230, k0_pay1231, k0_pay1232, k0_pay1233, k0_pay1234, tileC, contrib, wTile, Cert.GateUpIdeal.Gen.k0_pay344, Nat.reduceMul, Nat.reduceAdd, Nat.reduceDiv, Nat.reduceMod]
  rfl

theorem acc36_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_162 c arg4 harg4 arg5 harg5 arg10 harg10 arg12 x4 x5 x10 = accT (R := 8192) (C := 256) (N := 64) (Q := 32) (T := 2) x4 x10 (scG x5) 0 36 := by
  refine accT_step x4 x5 x10 35 ?_
  simp only [restRun.sl.r_162, restRun.sl.v2366, restRun.sl.r_161, restRun.sl.v2364, restRun.sl.r_160, restRun.sl.r_159]
  rw [acc35_eq]
  generalize accT (R := 8192) (C := 256) (N := 64) (Q := 32) (T := 2) x4 x10 (scG x5) 0 35 = a
  simp only [readAt_slab (R := 8192) (C := 256), readAt_lhsT (N := 64), readCov_sclT (Q := 32) (T := 2), Nat.reduceLT, scl_eq]
  simp only [k0_pay1235, k0_pay1236, k0_pay1237, k0_pay1238, tileC, contrib, wTile, Cert.GateUpIdeal.Gen.k0_pay344, Nat.reduceMul, Nat.reduceAdd, Nat.reduceDiv, Nat.reduceMod]
  rfl

theorem acc37_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_164 c arg4 harg4 arg5 harg5 arg10 harg10 arg12 x4 x5 x10 = accT (R := 8192) (C := 256) (N := 64) (Q := 32) (T := 2) x4 x10 (scG x5) 0 37 := by
  refine accT_step x4 x5 x10 36 ?_
  simp only [restRun.sl.r_164, restRun.sl.v2416, restRun.sl.v2414, restRun.sl.r_163]
  rw [acc36_eq]
  generalize accT (R := 8192) (C := 256) (N := 64) (Q := 32) (T := 2) x4 x10 (scG x5) 0 36 = a
  simp only [readAt_slab (R := 8192) (C := 256), readAt_lhsT (N := 64), readCov_sclT (Q := 32) (T := 2), Nat.reduceLT, scl_eq]
  simp only [k0_pay1239, k0_pay1240, tileC, contrib, wTile, Cert.GateUpIdeal.Gen.k0_pay344, Nat.reduceMul, Nat.reduceAdd, Nat.reduceDiv, Nat.reduceMod]
  rfl

theorem acc38_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_168 c arg4 harg4 arg5 harg5 arg10 harg10 arg12 x4 x5 x10 = accT (R := 8192) (C := 256) (N := 64) (Q := 32) (T := 2) x4 x10 (scG x5) 0 38 := by
  refine accT_step x4 x5 x10 37 ?_
  simp only [restRun.sl.r_168, restRun.sl.v2466, restRun.sl.v2464, restRun.sl.r_167, restRun.sl.r_166, restRun.sl.r_165]
  rw [acc37_eq]
  generalize accT (R := 8192) (C := 256) (N := 64) (Q := 32) (T := 2) x4 x10 (scG x5) 0 37 = a
  simp only [readAt_slab (R := 8192) (C := 256), readAt_lhsT (N := 64), readCov_sclT (Q := 32) (T := 2), Nat.reduceLT, scl_eq]
  simp only [k0_pay1241, k0_pay1242, k0_pay1243, k0_pay1244, tileC, contrib, wTile, Cert.GateUpIdeal.Gen.k0_pay344, Nat.reduceMul, Nat.reduceAdd, Nat.reduceDiv, Nat.reduceMod]
  rfl

theorem acc39_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_172 c arg4 harg4 arg5 harg5 arg10 harg10 arg12 x4 x5 x10 = accT (R := 8192) (C := 256) (N := 64) (Q := 32) (T := 2) x4 x10 (scG x5) 0 39 := by
  refine accT_step x4 x5 x10 38 ?_
  simp only [restRun.sl.r_172, restRun.sl.v2516, restRun.sl.v2514, restRun.sl.r_171, restRun.sl.r_170, restRun.sl.r_169]
  rw [acc38_eq]
  generalize accT (R := 8192) (C := 256) (N := 64) (Q := 32) (T := 2) x4 x10 (scG x5) 0 38 = a
  simp only [readAt_slab (R := 8192) (C := 256), readAt_lhsT (N := 64), readCov_sclT (Q := 32) (T := 2), Nat.reduceLT, scl_eq]
  simp only [k0_pay1245, k0_pay1246, tileC, contrib, wTile, Cert.GateUpIdeal.Gen.k0_pay344, Nat.reduceMul, Nat.reduceAdd, Nat.reduceDiv, Nat.reduceMod]
  rfl

theorem acc40_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_175 c arg4 harg4 arg5 harg5 arg10 harg10 arg12 x4 x5 x10 = accT (R := 8192) (C := 256) (N := 64) (Q := 32) (T := 2) x4 x10 (scG x5) 0 40 := by
  refine accT_step x4 x5 x10 39 ?_
  simp only [restRun.sl.r_175, restRun.sl.v2566, restRun.sl.v2564, restRun.sl.r_174, restRun.sl.r_173]
  rw [acc39_eq]
  generalize accT (R := 8192) (C := 256) (N := 64) (Q := 32) (T := 2) x4 x10 (scG x5) 0 39 = a
  simp only [readAt_slab (R := 8192) (C := 256), readAt_lhsT (N := 64), readCov_sclT (Q := 32) (T := 2), Nat.reduceLT, scl_eq]
  simp only [k0_pay1247, k0_pay1248, k0_pay1249, tileC, contrib, wTile, Cert.GateUpIdeal.Gen.k0_pay344, Nat.reduceMul, Nat.reduceAdd, Nat.reduceDiv, Nat.reduceMod]
  rfl

theorem acc41_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_177 c arg4 harg4 arg5 harg5 arg10 harg10 arg12 x4 x5 x10 = accT (R := 8192) (C := 256) (N := 64) (Q := 32) (T := 2) x4 x10 (scG x5) 0 41 := by
  refine accT_step x4 x5 x10 40 ?_
  simp only [restRun.sl.r_177, restRun.sl.v2616, restRun.sl.v2614, restRun.sl.r_176]
  rw [acc40_eq]
  generalize accT (R := 8192) (C := 256) (N := 64) (Q := 32) (T := 2) x4 x10 (scG x5) 0 40 = a
  simp only [readAt_slab (R := 8192) (C := 256), readAt_lhsT (N := 64), readCov_sclT (Q := 32) (T := 2), Nat.reduceLT, scl_eq]
  simp only [k0_pay1250, k0_pay1251, tileC, contrib, wTile, Cert.GateUpIdeal.Gen.k0_pay344, Nat.reduceMul, Nat.reduceAdd, Nat.reduceDiv, Nat.reduceMod]
  rfl

theorem acc42_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_180 c arg4 harg4 arg5 harg5 arg10 harg10 arg12 x4 x5 x10 = accT (R := 8192) (C := 256) (N := 64) (Q := 32) (T := 2) x4 x10 (scG x5) 0 42 := by
  refine accT_step x4 x5 x10 41 ?_
  simp only [restRun.sl.r_180, restRun.sl.v2666, restRun.sl.v2664, restRun.sl.r_179, restRun.sl.r_178]
  rw [acc41_eq]
  generalize accT (R := 8192) (C := 256) (N := 64) (Q := 32) (T := 2) x4 x10 (scG x5) 0 41 = a
  simp only [readAt_slab (R := 8192) (C := 256), readAt_lhsT (N := 64), readCov_sclT (Q := 32) (T := 2), Nat.reduceLT, scl_eq]
  simp only [k0_pay1252, k0_pay1253, k0_pay1254, tileC, contrib, wTile, Cert.GateUpIdeal.Gen.k0_pay344, Nat.reduceMul, Nat.reduceAdd, Nat.reduceDiv, Nat.reduceMod]
  rfl

theorem acc43_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_186 c arg4 harg4 arg5 harg5 arg10 harg10 arg12 x4 x5 x10 = accT (R := 8192) (C := 256) (N := 64) (Q := 32) (T := 2) x4 x10 (scG x5) 0 43 := by
  refine accT_step x4 x5 x10 42 ?_
  simp only [restRun.sl.r_186, restRun.sl.v2716, restRun.sl.v2714, restRun.sl.r_185, restRun.sl.r_184, restRun.sl.r_183, restRun.sl.r_182, restRun.sl.r_181]
  rw [acc42_eq]
  generalize accT (R := 8192) (C := 256) (N := 64) (Q := 32) (T := 2) x4 x10 (scG x5) 0 42 = a
  simp only [readAt_slab (R := 8192) (C := 256), readAt_lhsT (N := 64), readCov_sclT (Q := 32) (T := 2), Nat.reduceLT, scl_eq]
  simp only [k0_pay1255, k0_pay1256, k0_pay1257, k0_pay1258, k0_pay1259, k0_pay1260, k0_pay1261, k0_pay1262, tileC, contrib, wTile, Cert.GateUpIdeal.Gen.k0_pay344, Nat.reduceMul, Nat.reduceAdd, Nat.reduceDiv, Nat.reduceMod]
  rfl

theorem acc44_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_191 c arg4 harg4 arg5 harg5 arg10 harg10 arg12 x4 x5 x10 = accT (R := 8192) (C := 256) (N := 64) (Q := 32) (T := 2) x4 x10 (scG x5) 0 44 := by
  refine accT_step x4 x5 x10 43 ?_
  simp only [restRun.sl.r_191, restRun.sl.r_190, restRun.sl.r_188, restRun.sl.r_187, restRun.sl.r_189, restRun.sl.v2766, restRun.sl.v2764]
  rw [acc43_eq]
  generalize accT (R := 8192) (C := 256) (N := 64) (Q := 32) (T := 2) x4 x10 (scG x5) 0 43 = a
  simp only [readAt_slab (R := 8192) (C := 256), readAt_lhsT (N := 64), readCov_sclT (Q := 32) (T := 2), Nat.reduceLT, scl_eq]
  simp only [k0_pay1263, k0_pay1264, k0_pay1265, k0_pay1266, k0_pay1267, tileC, contrib, wTile, Cert.GateUpIdeal.Gen.k0_pay344, Nat.reduceMul, Nat.reduceAdd, Nat.reduceDiv, Nat.reduceMod]
  rfl

theorem acc45_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_193 c arg4 harg4 arg5 harg5 arg10 harg10 arg12 x4 x5 x10 = accT (R := 8192) (C := 256) (N := 64) (Q := 32) (T := 2) x4 x10 (scG x5) 0 45 := by
  refine accT_step x4 x5 x10 44 ?_
  simp only [restRun.sl.r_193, restRun.sl.v2816, restRun.sl.v2814, restRun.sl.r_192]
  rw [acc44_eq]
  generalize accT (R := 8192) (C := 256) (N := 64) (Q := 32) (T := 2) x4 x10 (scG x5) 0 44 = a
  simp only [readAt_slab (R := 8192) (C := 256), readAt_lhsT (N := 64), readCov_sclT (Q := 32) (T := 2), Nat.reduceLT, scl_eq]
  simp only [k0_pay1268, k0_pay1269, tileC, contrib, wTile, Cert.GateUpIdeal.Gen.k0_pay344, Nat.reduceMul, Nat.reduceAdd, Nat.reduceDiv, Nat.reduceMod]
  rfl

theorem acc46_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_198 c arg4 harg4 arg5 harg5 arg10 harg10 arg12 x4 x5 x10 = accT (R := 8192) (C := 256) (N := 64) (Q := 32) (T := 2) x4 x10 (scG x5) 0 46 := by
  refine accT_step x4 x5 x10 45 ?_
  simp only [restRun.sl.r_198, restRun.sl.v2866, restRun.sl.v2864, restRun.sl.r_197, restRun.sl.r_196, restRun.sl.r_195, restRun.sl.r_194]
  rw [acc45_eq]
  generalize accT (R := 8192) (C := 256) (N := 64) (Q := 32) (T := 2) x4 x10 (scG x5) 0 45 = a
  simp only [readAt_slab (R := 8192) (C := 256), readAt_lhsT (N := 64), readCov_sclT (Q := 32) (T := 2), Nat.reduceLT, scl_eq]
  simp only [k0_pay1270, k0_pay1271, k0_pay1272, k0_pay1273, k0_pay1274, tileC, contrib, wTile, Cert.GateUpIdeal.Gen.k0_pay344, Nat.reduceMul, Nat.reduceAdd, Nat.reduceDiv, Nat.reduceMod]
  rfl

theorem acc47_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_205 c arg4 harg4 arg5 harg5 arg10 harg10 arg12 x4 x5 x10 = accT (R := 8192) (C := 256) (N := 64) (Q := 32) (T := 2) x4 x10 (scG x5) 0 47 := by
  refine accT_step x4 x5 x10 46 ?_
  simp only [restRun.sl.r_205, restRun.sl.v2916, restRun.sl.r_204, restRun.sl.v2914, restRun.sl.r_203, restRun.sl.r_202, restRun.sl.r_201, restRun.sl.r_200, restRun.sl.r_199]
  rw [acc46_eq]
  generalize accT (R := 8192) (C := 256) (N := 64) (Q := 32) (T := 2) x4 x10 (scG x5) 0 46 = a
  simp only [readAt_slab (R := 8192) (C := 256), readAt_lhsT (N := 64), readCov_sclT (Q := 32) (T := 2), Nat.reduceLT, scl_eq]
  simp only [k0_pay1275, k0_pay1276, k0_pay1277, tileC, contrib, wTile, Cert.GateUpIdeal.Gen.k0_pay344, Nat.reduceMul, Nat.reduceAdd, Nat.reduceDiv, Nat.reduceMod]
  rfl

theorem acc48_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_208 c arg4 harg4 arg5 harg5 arg10 harg10 arg12 x4 x5 x10 = accT (R := 8192) (C := 256) (N := 64) (Q := 32) (T := 2) x4 x10 (scG x5) 0 48 := by
  refine accT_step x4 x5 x10 47 ?_
  simp only [restRun.sl.r_208, restRun.sl.v2966, restRun.sl.v2964, restRun.sl.r_207, restRun.sl.r_206]
  rw [acc47_eq]
  generalize accT (R := 8192) (C := 256) (N := 64) (Q := 32) (T := 2) x4 x10 (scG x5) 0 47 = a
  simp only [readAt_slab (R := 8192) (C := 256), readAt_lhsT (N := 64), readCov_sclT (Q := 32) (T := 2), Nat.reduceLT, scl_eq]
  simp only [k0_pay1278, k0_pay1279, k0_pay1280, k0_pay1281, k0_pay1282, tileC, contrib, wTile, Cert.GateUpIdeal.Gen.k0_pay344, Nat.reduceMul, Nat.reduceAdd, Nat.reduceDiv, Nat.reduceMod]
  rfl

theorem acc49_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_211 c arg4 harg4 arg5 harg5 arg10 harg10 arg12 x4 x5 x10 = accT (R := 8192) (C := 256) (N := 64) (Q := 32) (T := 2) x4 x10 (scG x5) 0 49 := by
  refine accT_step x4 x5 x10 48 ?_
  simp only [restRun.sl.r_211, restRun.sl.v3016, restRun.sl.v3014, restRun.sl.r_210, restRun.sl.r_209]
  rw [acc48_eq]
  generalize accT (R := 8192) (C := 256) (N := 64) (Q := 32) (T := 2) x4 x10 (scG x5) 0 48 = a
  simp only [readAt_slab (R := 8192) (C := 256), readAt_lhsT (N := 64), readCov_sclT (Q := 32) (T := 2), Nat.reduceLT, scl_eq]
  simp only [k0_pay1283, k0_pay1284, k0_pay1285, tileC, contrib, wTile, Cert.GateUpIdeal.Gen.k0_pay344, Nat.reduceMul, Nat.reduceAdd, Nat.reduceDiv, Nat.reduceMod]
  rfl

theorem acc50_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_215 c arg4 harg4 arg5 harg5 arg10 harg10 arg12 x4 x5 x10 = accT (R := 8192) (C := 256) (N := 64) (Q := 32) (T := 2) x4 x10 (scG x5) 0 50 := by
  refine accT_step x4 x5 x10 49 ?_
  simp only [restRun.sl.r_215, restRun.sl.v3066, restRun.sl.v3064, restRun.sl.r_214, restRun.sl.r_213, restRun.sl.r_212]
  rw [acc49_eq]
  generalize accT (R := 8192) (C := 256) (N := 64) (Q := 32) (T := 2) x4 x10 (scG x5) 0 49 = a
  simp only [readAt_slab (R := 8192) (C := 256), readAt_lhsT (N := 64), readCov_sclT (Q := 32) (T := 2), Nat.reduceLT, scl_eq]
  simp only [k0_pay1286, k0_pay1287, tileC, contrib, wTile, Cert.GateUpIdeal.Gen.k0_pay344, Nat.reduceMul, Nat.reduceAdd, Nat.reduceDiv, Nat.reduceMod]
  rfl

theorem acc51_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_220 c arg4 harg4 arg5 harg5 arg10 harg10 arg12 x4 x5 x10 = accT (R := 8192) (C := 256) (N := 64) (Q := 32) (T := 2) x4 x10 (scG x5) 0 51 := by
  refine accT_step x4 x5 x10 50 ?_
  simp only [restRun.sl.r_220, restRun.sl.v3116, restRun.sl.v3114, restRun.sl.r_219, restRun.sl.r_218, restRun.sl.r_217, restRun.sl.r_216]
  rw [acc50_eq]
  generalize accT (R := 8192) (C := 256) (N := 64) (Q := 32) (T := 2) x4 x10 (scG x5) 0 50 = a
  simp only [readAt_slab (R := 8192) (C := 256), readAt_lhsT (N := 64), readCov_sclT (Q := 32) (T := 2), Nat.reduceLT, scl_eq]
  simp only [k0_pay1288, k0_pay1289, k0_pay1290, k0_pay1291, k0_pay1292, tileC, contrib, wTile, Cert.GateUpIdeal.Gen.k0_pay344, Nat.reduceMul, Nat.reduceAdd, Nat.reduceDiv, Nat.reduceMod]
  rfl

theorem acc52_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_223 c arg4 harg4 arg5 harg5 arg10 harg10 arg12 x4 x5 x10 = accT (R := 8192) (C := 256) (N := 64) (Q := 32) (T := 2) x4 x10 (scG x5) 0 52 := by
  refine accT_step x4 x5 x10 51 ?_
  simp only [restRun.sl.r_223, restRun.sl.v3166, restRun.sl.v3164, restRun.sl.r_222, restRun.sl.r_221]
  rw [acc51_eq]
  generalize accT (R := 8192) (C := 256) (N := 64) (Q := 32) (T := 2) x4 x10 (scG x5) 0 51 = a
  simp only [readAt_slab (R := 8192) (C := 256), readAt_lhsT (N := 64), readCov_sclT (Q := 32) (T := 2), Nat.reduceLT, scl_eq]
  simp only [k0_pay1293, k0_pay1294, k0_pay1295, k0_pay1296, tileC, contrib, wTile, Cert.GateUpIdeal.Gen.k0_pay344, Nat.reduceMul, Nat.reduceAdd, Nat.reduceDiv, Nat.reduceMod]
  rfl

theorem acc53_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_226 c arg4 harg4 arg5 harg5 arg10 harg10 arg12 x4 x5 x10 = accT (R := 8192) (C := 256) (N := 64) (Q := 32) (T := 2) x4 x10 (scG x5) 0 53 := by
  refine accT_step x4 x5 x10 52 ?_
  simp only [restRun.sl.r_226, restRun.sl.v3216, restRun.sl.v3214, restRun.sl.r_225, restRun.sl.r_224]
  rw [acc52_eq]
  generalize accT (R := 8192) (C := 256) (N := 64) (Q := 32) (T := 2) x4 x10 (scG x5) 0 52 = a
  simp only [readAt_slab (R := 8192) (C := 256), readAt_lhsT (N := 64), readCov_sclT (Q := 32) (T := 2), Nat.reduceLT, scl_eq]
  simp only [k0_pay1297, k0_pay1298, tileC, contrib, wTile, Cert.GateUpIdeal.Gen.k0_pay344, Nat.reduceMul, Nat.reduceAdd, Nat.reduceDiv, Nat.reduceMod]
  rfl

theorem acc54_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_232 c arg4 harg4 arg5 harg5 arg10 harg10 arg12 x4 x5 x10 = accT (R := 8192) (C := 256) (N := 64) (Q := 32) (T := 2) x4 x10 (scG x5) 0 54 := by
  refine accT_step x4 x5 x10 53 ?_
  simp only [restRun.sl.r_232, restRun.sl.v3266, restRun.sl.v3264, restRun.sl.r_231, restRun.sl.r_230, restRun.sl.r_229, restRun.sl.r_228, restRun.sl.r_227]
  rw [acc53_eq]
  generalize accT (R := 8192) (C := 256) (N := 64) (Q := 32) (T := 2) x4 x10 (scG x5) 0 53 = a
  simp only [readAt_slab (R := 8192) (C := 256), readAt_lhsT (N := 64), readCov_sclT (Q := 32) (T := 2), Nat.reduceLT, scl_eq]
  simp only [k0_pay1299, k0_pay1300, k0_pay1301, k0_pay1302, k0_pay1303, k0_pay1304, tileC, contrib, wTile, Cert.GateUpIdeal.Gen.k0_pay344, Nat.reduceMul, Nat.reduceAdd, Nat.reduceDiv, Nat.reduceMod]
  rfl

theorem acc55_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_237 c arg4 harg4 arg5 harg5 arg10 harg10 arg12 x4 x5 x10 = accT (R := 8192) (C := 256) (N := 64) (Q := 32) (T := 2) x4 x10 (scG x5) 0 55 := by
  refine accT_step x4 x5 x10 54 ?_
  simp only [restRun.sl.r_237, restRun.sl.r_236, restRun.sl.v3316, restRun.sl.r_235, restRun.sl.v3314, restRun.sl.r_234, restRun.sl.r_233]
  rw [acc54_eq]
  generalize accT (R := 8192) (C := 256) (N := 64) (Q := 32) (T := 2) x4 x10 (scG x5) 0 54 = a
  simp only [readAt_slab (R := 8192) (C := 256), readAt_lhsT (N := 64), readCov_sclT (Q := 32) (T := 2), Nat.reduceLT, scl_eq]
  simp only [k0_pay1305, k0_pay1306, k0_pay1307, k0_pay1308, k0_pay1309, k0_pay1310, tileC, contrib, wTile, Cert.GateUpIdeal.Gen.k0_pay344, Nat.reduceMul, Nat.reduceAdd, Nat.reduceDiv, Nat.reduceMod]
  rfl

theorem acc56_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_239 c arg4 harg4 arg5 harg5 arg10 harg10 arg12 x4 x5 x10 = accT (R := 8192) (C := 256) (N := 64) (Q := 32) (T := 2) x4 x10 (scG x5) 0 56 := by
  refine accT_step x4 x5 x10 55 ?_
  simp only [restRun.sl.r_239, restRun.sl.v3366, restRun.sl.v3364, restRun.sl.cst_1222, restRun.sl.r_238]
  rw [acc55_eq]
  generalize accT (R := 8192) (C := 256) (N := 64) (Q := 32) (T := 2) x4 x10 (scG x5) 0 55 = a
  simp only [readAt_slab (R := 8192) (C := 256), readAt_lhsT (N := 64), readCov_sclT (Q := 32) (T := 2), Nat.reduceLT, scl_eq]
  simp only [k0_pay1311, k0_pay1312, tileC, contrib, wTile, Cert.GateUpIdeal.Gen.k0_pay344, Nat.reduceMul, Nat.reduceAdd, Nat.reduceDiv, Nat.reduceMod]
  rfl

theorem acc57_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_243 c arg4 harg4 arg5 harg5 arg10 harg10 arg12 x4 x5 x10 = accT (R := 8192) (C := 256) (N := 64) (Q := 32) (T := 2) x4 x10 (scG x5) 0 57 := by
  refine accT_step x4 x5 x10 56 ?_
  simp only [restRun.sl.r_243, restRun.sl.v3416, restRun.sl.v3414, restRun.sl.r_242, restRun.sl.r_241, restRun.sl.r_240]
  rw [acc56_eq]
  generalize accT (R := 8192) (C := 256) (N := 64) (Q := 32) (T := 2) x4 x10 (scG x5) 0 56 = a
  simp only [readAt_slab (R := 8192) (C := 256), readAt_lhsT (N := 64), readCov_sclT (Q := 32) (T := 2), Nat.reduceLT, scl_eq]
  simp only [k0_pay1313, k0_pay1314, k0_pay1315, k0_pay1316, k0_pay1317, tileC, contrib, wTile, Cert.GateUpIdeal.Gen.k0_pay344, Nat.reduceMul, Nat.reduceAdd, Nat.reduceDiv, Nat.reduceMod]
  rfl

theorem acc58_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_249 c arg4 harg4 arg5 harg5 arg10 harg10 arg12 x4 x5 x10 = accT (R := 8192) (C := 256) (N := 64) (Q := 32) (T := 2) x4 x10 (scG x5) 0 58 := by
  refine accT_step x4 x5 x10 57 ?_
  simp only [restRun.sl.r_249, restRun.sl.v3466, restRun.sl.r_248, restRun.sl.v3464, restRun.sl.r_247, restRun.sl.r_246, restRun.sl.r_245, restRun.sl.r_244]
  rw [acc57_eq]
  generalize accT (R := 8192) (C := 256) (N := 64) (Q := 32) (T := 2) x4 x10 (scG x5) 0 57 = a
  simp only [readAt_slab (R := 8192) (C := 256), readAt_lhsT (N := 64), readCov_sclT (Q := 32) (T := 2), Nat.reduceLT, scl_eq]
  simp only [k0_pay1318, k0_pay1319, k0_pay1320, tileC, contrib, wTile, Cert.GateUpIdeal.Gen.k0_pay344, Nat.reduceMul, Nat.reduceAdd, Nat.reduceDiv, Nat.reduceMod]
  rfl

theorem acc59_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_252 c arg4 harg4 arg5 harg5 arg10 harg10 arg12 x4 x5 x10 = accT (R := 8192) (C := 256) (N := 64) (Q := 32) (T := 2) x4 x10 (scG x5) 0 59 := by
  refine accT_step x4 x5 x10 58 ?_
  simp only [restRun.sl.r_252, restRun.sl.v3516, restRun.sl.v3514, restRun.sl.r_251, restRun.sl.r_250]
  rw [acc58_eq]
  generalize accT (R := 8192) (C := 256) (N := 64) (Q := 32) (T := 2) x4 x10 (scG x5) 0 58 = a
  simp only [readAt_slab (R := 8192) (C := 256), readAt_lhsT (N := 64), readCov_sclT (Q := 32) (T := 2), Nat.reduceLT, scl_eq]
  simp only [k0_pay1321, k0_pay1322, k0_pay1323, k0_pay1324, tileC, contrib, wTile, Cert.GateUpIdeal.Gen.k0_pay344, Nat.reduceMul, Nat.reduceAdd, Nat.reduceDiv, Nat.reduceMod]
  rfl

theorem acc60_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_254 c arg4 harg4 arg5 harg5 arg10 harg10 arg12 x4 x5 x10 = accT (R := 8192) (C := 256) (N := 64) (Q := 32) (T := 2) x4 x10 (scG x5) 0 60 := by
  refine accT_step x4 x5 x10 59 ?_
  simp only [restRun.sl.r_254, restRun.sl.v3566, restRun.sl.v3564, restRun.sl.r_253]
  rw [acc59_eq]
  generalize accT (R := 8192) (C := 256) (N := 64) (Q := 32) (T := 2) x4 x10 (scG x5) 0 59 = a
  simp only [readAt_slab (R := 8192) (C := 256), readAt_lhsT (N := 64), readCov_sclT (Q := 32) (T := 2), Nat.reduceLT, scl_eq]
  simp only [k0_pay1325, k0_pay1326, k0_pay1327, tileC, contrib, wTile, Cert.GateUpIdeal.Gen.k0_pay344, Nat.reduceMul, Nat.reduceAdd, Nat.reduceDiv, Nat.reduceMod]
  rfl

theorem acc61_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_257 c arg4 harg4 arg5 harg5 arg10 harg10 arg12 x4 x5 x10 = accT (R := 8192) (C := 256) (N := 64) (Q := 32) (T := 2) x4 x10 (scG x5) 0 61 := by
  refine accT_step x4 x5 x10 60 ?_
  simp only [restRun.sl.r_257, restRun.sl.v3616, restRun.sl.v3614, restRun.sl.r_256, restRun.sl.r_255]
  rw [acc60_eq]
  generalize accT (R := 8192) (C := 256) (N := 64) (Q := 32) (T := 2) x4 x10 (scG x5) 0 60 = a
  simp only [readAt_slab (R := 8192) (C := 256), readAt_lhsT (N := 64), readCov_sclT (Q := 32) (T := 2), Nat.reduceLT, scl_eq]
  simp only [k0_pay1328, k0_pay1329, tileC, contrib, wTile, Cert.GateUpIdeal.Gen.k0_pay344, Nat.reduceMul, Nat.reduceAdd, Nat.reduceDiv, Nat.reduceMod]
  rfl

theorem acc62_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_263 c arg4 harg4 arg5 harg5 arg10 harg10 arg12 x4 x5 x10 = accT (R := 8192) (C := 256) (N := 64) (Q := 32) (T := 2) x4 x10 (scG x5) 0 62 := by
  refine accT_step x4 x5 x10 61 ?_
  simp only [restRun.sl.r_263, restRun.sl.v3666, restRun.sl.v3664, restRun.sl.r_262, restRun.sl.r_261, restRun.sl.r_260, restRun.sl.r_259, restRun.sl.r_258]
  rw [acc61_eq]
  generalize accT (R := 8192) (C := 256) (N := 64) (Q := 32) (T := 2) x4 x10 (scG x5) 0 61 = a
  simp only [readAt_slab (R := 8192) (C := 256), readAt_lhsT (N := 64), readCov_sclT (Q := 32) (T := 2), Nat.reduceLT, scl_eq]
  simp only [k0_pay1330, k0_pay1331, k0_pay1332, k0_pay1333, k0_pay1334, k0_pay1335, tileC, contrib, wTile, Cert.GateUpIdeal.Gen.k0_pay344, Nat.reduceMul, Nat.reduceAdd, Nat.reduceDiv, Nat.reduceMod]
  rfl

theorem acc63_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.r_268 c arg4 harg4 arg5 harg5 arg10 harg10 arg12 x4 x5 x10 = accT (R := 8192) (C := 256) (N := 64) (Q := 32) (T := 2) x4 x10 (scG x5) 0 63 := by
  refine accT_step x4 x5 x10 62 ?_
  simp only [restRun.sl.r_268, restRun.sl.r_267, restRun.sl.v3716, restRun.sl.v3714, restRun.sl.r_266, restRun.sl.r_265, restRun.sl.r_264]
  rw [acc62_eq]
  generalize accT (R := 8192) (C := 256) (N := 64) (Q := 32) (T := 2) x4 x10 (scG x5) 0 62 = a
  simp only [readAt_slab (R := 8192) (C := 256), readAt_lhsT (N := 64), readCov_sclT (Q := 32) (T := 2), Nat.reduceLT, scl_eq]
  simp only [k0_pay1336, k0_pay1337, k0_pay1338, k0_pay1339, k0_pay1340, k0_pay1341, tileC, contrib, wTile, Cert.GateUpIdeal.Gen.k0_pay344, Nat.reduceMul, Nat.reduceAdd, Nat.reduceDiv, Nat.reduceMod]
  rfl

end Cert.DownIdeal.Hand

end
-- ==== Proof.DownIdeal.Sums.lean ====
/- The column block of a grid point: the accumulator summed over its groups through the column scratch. -/
module

public import proofs.«01_k».proof.Proof.DownIdeal.Acc
public import proofs.«01_k».proof.Proof.Mx.Flat

@[expose] public section

set_option maxRecDepth 16384
set_option maxHeartbeats 1000000

noncomputable section

namespace Cert.DownIdeal.Hand

open Idealize.ShloMosaic Cert.DownIdeal.Gen Cert.Mx

variable {F : FTy → Type} [FloatOps F]

/-- One more tile. -/
theorem H13_10_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.H13_10 c arg4 harg4 arg5 harg5 arg10 harg10 arg12 x4 x5 x10 = flatPieces 0 (by decide) (restRun.sl.r_268 c arg4 harg4 arg5 harg5 arg10 harg10 arg12 x4 x5 x10) ++ [] := by
  simp only [restRun.sl.H13_10, restRun.sl.r_269, restRun.sl.r_268]
  simp only [k0_pay1341, k0_pay1342, k0_pay1343, k0_pay1344, k0_pay1345, k0_pay1346, k0_pay1347, k0_pay1348, k0_pay1349, k0_pay1350, k0_pay1351, k0_pay1352]
  rfl

theorem H13_20_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (x4 : Vec F S8192x256 .i8) (x5 : Vec F S512x256 .i8) (x10 : Vec F S64x80x256 .bf16) : restRun.sl.H13_20 c arg4 harg4 arg5 harg5 arg10 harg10 arg12 x4 x5 x10 = flatPieces 1 (by decide) (restRun.sl.r_268 c arg4 harg4 arg5 harg5 arg10 harg10 arg12 x4 x5 x10) ++ restRun.sl.H13_10 c arg4 harg4 arg5 harg5 arg10 harg10 arg12 x4 x5 x10 := by
  simp only [restRun.sl.H13_20, restRun.sl.r_272]
  simp only [k0_pay1355, k0_pay1356, k0_pay1357, k0_pay1358, k0_pay1359, k0_pay1360, k0_pay1361, k0_pay1362, k0_pay1363, k0_pay1364, k0_pay1365]
  rfl

/-- The first half of the column block, its groups summed. -/
theorem half0_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (arg13 : Memref sig .tc .vmem S2x96x128 .f32) (x4 : Vec F S8192x256 .i8) (x5 : Vec F S512x256 .i8) (x10 : Vec F S64x80x256 .bf16) : restRun.sl.r_271 c arg4 harg4 arg5 harg5 arg10 harg10 arg12 arg13 x4 x5 x10 = redS (accT (R := 8192) (C := 256) (N := 64) (Q := 32) (T := 2) x4 x10 (scG x5) 0 63) 0 8 := by
  simp -proj only [restRun.sl.r_271, restRun.sl.r_270, restRun.sl.v3774, restRun.sl.v3778, restRun.sl.v3781, restRun.sl.v3784, restRun.sl.v3787, restRun.sl.v3790, restRun.sl.v3793, restRun.sl.v3796]
  simp only [H13_10_eq, acc63_eq]
  simp only [k0_pay1353, k0_pay1354, redS]
  iterate 8 refine congrArg₂ addf ?_ (congrArg (fun v => shapeCast S10x128 v shapeCasts_S1x10x128_S10x128) ?_)
  · rfl
  all_goals exact readFlat arg13.view 0 _ (by decide) (by decide) _ _ _

/-- The block of a point: the two halves side by side, the low-rank product added, rounded. -/
def lastV (p : FVec F S10x256 .f32) (M : Vec F S10x192 .bf16) (B : Vec F S3x64x256 .bf16) : FVec F S10x256 .bf16 :=
  truncf .bf16 (addf p (matmul dot_S10x192_S192x256_S10x256_1_0_0_1_n_n none M (shapeCast S192x256 B shapeCasts_S3x64x256_S192x256) (constant S10x256 .f32 0x00000000#32))) bitsLt_bf16_f32

theorem out_eq (c : Dev nD) (arg4 : Memref sig .tc .vmem S8192x256 .i8) (harg4 : arg4.IsWhole) (arg5 : Memref sig .tc .vmem S512x256 .i8) (harg5 : arg5.IsWhole) (arg10 : Memref sig .tc .vmem S64x80x256 .bf16) (harg10 : arg10.IsWhole) (arg12 : Memref sig .tc .vmem S32x2x16x128 .f32) (arg13 : Memref sig .tc .vmem S2x96x128 .f32) (x4 : Vec F S8192x256 .i8) (x5 : Vec F S512x256 .i8) (x10 : Vec F S64x80x256 .bf16) (M : Vec F S10x192 .bf16) (B : Vec F S3x64x256 .bf16) :
    k0_pay1 (restRun.sl.r_271 c arg4 harg4 arg5 harg5 arg10 harg10 arg12 arg13 x4 x5 x10) (restRun.sl.r_274 c arg4 harg4 arg5 harg5 arg10 harg10 arg12 arg13 x4 x5 x10) (restRun.sl.v3856 c arg4 harg4 arg5 harg5 arg10 harg10 arg12 arg13 x4 x5 x10) (restRun.sl.v3859 c arg4 harg4 arg5 harg5 arg10 harg10 arg12 arg13 x4 x5 x10) (restRun.sl.v3862 c arg4 harg4 arg5 harg5 arg10 harg10 arg12 arg13 x4 x5 x10) (restRun.sl.v3865 c arg4 harg4 arg5 harg5 arg10 harg10 arg12 arg13 x4 x5 x10) (restRun.sl.v3868 c arg4 harg4 arg5 harg5 arg10 harg10 arg12 arg13 x4 x5 x10) (restRun.sl.v3871 c arg4 harg4 arg5 harg5 arg10 harg10 arg12 arg13 x4 x5 x10) M B = lastV (redC (accT (R := 8192) (C := 256) (N := 64) (Q := 32) (T := 2) x4 x10 (scG x5) 0 63)) M B := by
  simp only [half0_eq]
  simp -proj only [restRun.sl.r_274, restRun.sl.r_273, restRun.sl.v3849, restRun.sl.v3853, restRun.sl.v3856, restRun.sl.v3859, restRun.sl.v3862, restRun.sl.v3865, restRun.sl.v3868, restRun.sl.v3871]
  simp only [H13_20_eq, acc63_eq]
  simp only [k0_pay1, k0_pay1366, k0_pay1367]
  refine congrArg (fun p : FVec F S10x128 .f32 => lastV (concatenate S10x256 1 [⟨S10x128, redS (accT (R := 8192) (C := 256) (N := 64) (Q := 32) (T := 2) x4 x10 (scG x5) 0 63) 0 8⟩, ⟨S10x128, p⟩] concatenates_S10x128_S10x128_S10x256_d1) M B) ?_
  simp only [redS]
  iterate 8 refine congrArg₂ addf ?_ (congrArg (fun v => shapeCast S10x128 v shapeCasts_S1x10x128_S10x128) ?_)
  · rfl
  all_goals exact readFlat arg13.view 1 _ (by decide) (by decide) _ _ _

end Cert.DownIdeal.Hand

end
-- ==== Proof.DownIdeal.Read.lean ====
/- A load of 256 columns of the hidden activations. -/
module

public import proofs.«01_k».proof.Proof.DownIdeal.InitRun
public import proofs.«01_k».proof.Proof.Mx.Lhs

@[expose] public section

set_option maxRecDepth 16384
set_option maxHeartbeats 400000

noncomputable section

namespace Cert.DownIdeal.Hand

open Idealize.ShloMosaic Cert.DownIdeal.Gen Cert.Mx

theorem read3_at (arg3 : Memref sig .tc .vmem S10x16384 .bf16) (harg3 : arg3.IsWhole) (x3 : Vec Ideal S10x16384 .bf16) (c : ℕ) (inb) (b : Fin 10) (k : Fin 256) :
    View.readAt (Elt Ideal) arg3.view (Rect.unit (s := S10x16384) ![0, c] S10x256.size inb).toLoadRect (harg3.unread x3) (ix2 b k) = at2 x3 b.val (c + k.val) := by
  rw [readAt_whole]
  have h1 : c + 256 ≤ 16384 := inb 1
  have hb := b.isLt
  have hk := k.isLt
  unfold at2
  refine congrArg x3 (funext fun a => Fin.ext ?_)
  match a with
  | ⟨0, _⟩ => exact Eq.trans (show _ = 0 + 1 * b.val from rfl) (by rw [Nat.one_mul, Nat.zero_add]; exact (Nat.mod_eq_of_lt hb).symm)
  | ⟨1, _⟩ => exact Eq.trans (show _ = c + 1 * k.val from rfl) (by rw [Nat.one_mul]; exact (Nat.mod_eq_of_lt (by omega)).symm)

/-- A block of 256 columns of the rows. -/
def colsAt (x3 : Vec Ideal S10x16384 .bf16) (c : ℕ) : Vec Ideal S10x256 .bf16 := fun y => at2 x3 (y 0).val (c + (y 1).val)

theorem colsAt_apply (x3 : Vec Ideal S10x16384 .bf16) (c : ℕ) (b : Fin 10) (k : Fin 256) : colsAt x3 c (ix2 b k) = at2 x3 b.val (c + k.val) := rfl

theorem read3 (arg3 : Memref sig .tc .vmem S10x16384 .bf16) (harg3 : arg3.IsWhole) (x3 : Vec Ideal S10x16384 .bf16) (c : ℕ) (inb) :
    View.readAt (Elt Ideal) arg3.view (Rect.unit (s := S10x16384) ![0, c] ![10, 256] inb).toLoadRect (harg3.unread x3) = colsAt x3 c := by
  funext (y : S10x256.Idx)
  have e : y = ix2 (y 0) (y 1) := by
    funext a
    match a with
    | ⟨0, _⟩ => rfl
    | ⟨1, _⟩ => rfl
  rw [e]
  exact read3_at arg3 harg3 x3 c inb (y 0) (y 1)

theorem zero_f32 : (FloatOps.ofBits .f32 0#32 : Ideal .f32) = (0 : EReal) := by
  pointwise

/-- A tile as stored: the mask says which group's row holds a column, and the rest is zero. -/
theorem tail_apply (M : IVec S8x256 1) (W : FVec Ideal S10x256 .f32) (z : EReal) (b : Fin 10) (g : Fin 8) (k : Fin 256) (h1 h2 h3 h4 h5 h6 h7 h8 h9) :
    shapeCast S1x80x256 (truncf (F := Ideal) .bf16 (shapeCast S80x256 (select (broadcastTo S10x8x256 (shapeCast S1x8x256 (shapeCast S1x8x256 M h1) h2) h3)
      (broadcastTo S10x8x256 (shapeCast S10x1x256 (shapeCast S10x1x256 W h4) h5) h6) (broadcast S10x8x256 z : FVec Ideal S10x8x256 .f32)) h7) h8) h9 (ix3 0 ⟨b.val * 8 + g.val, by omega⟩ k)
      = Scalar.select (M (ix2 g k)) (W (ix2 b k)) z := by
  pointwise

theorem tile_of (x3 : Vec Ideal S10x16384 .bf16) (n : ℕ) (M : IVec S8x256 1) (W : FVec Ideal S10x256 .f32) (z : EReal) (b : Fin 10) (g : Fin 8) (k : Fin 256) (h1 h2 h3 h4 h5 h6 h7 h8 h9) (hz : z = 0)
    (hM : M (ix2 g k) = if g.val = k.val % 2 * 4 + k.val / 64 then 1#1 else 0#1)
    (hW : W (ix2 b k) = at2 x3 b.val (k.val % 2 * 8192 + rowN n k.val)) :
    shapeCast S1x80x256 (truncf (F := Ideal) .bf16 (shapeCast S80x256 (select (broadcastTo S10x8x256 (shapeCast S1x8x256 (shapeCast S1x8x256 M h1) h2) h3)
      (broadcastTo S10x8x256 (shapeCast S10x1x256 (shapeCast S10x1x256 W h4) h5) h6) (broadcast S10x8x256 z : FVec Ideal S10x8x256 .f32)) h7) h8) h9 (ix3 0 ⟨b.val * 8 + g.val, by omega⟩ k)
      = tileV 8192 x3 n b g k := by
  rw [tail_apply, hz]
  exact pick_mask _ _ _ hM fun _ => hW

end Cert.DownIdeal.Hand

end
-- ==== Proof.DownIdeal.Gather.lean ====
/- The gather by which a tile of the expanded left operand takes its columns. -/
module

public import proofs.«01_k».proof.Proof.DownIdeal.Read

@[expose] public section

set_option maxRecDepth 16384
set_option maxHeartbeats 1600000

noncomputable section

namespace Cert.DownIdeal.Hand

open Idealize.ShloMosaic Cert.DownIdeal.Gen Cert.Mx

theorem gather_half0 (A B : Vec Ideal S10x256 .bf16) (S O : IVec S10x128 32) (b : Fin 10) (l : Fin 128) (a : ℕ) (ha : a < 2)
    (hS : ∀ l : Fin 128, S (ix2 b l) = srcW a l) (hO : ∀ l : Fin 128, O (ix2 b l) = oddW l) (e s0 q1 q2) :
    (select (cmpi .eq O (broadcast S10x128 1#32))
        (dynamicGather 1 (extractStridedSlice S10x128 ![0, 0] (extf (F := Ideal) (φ := .bf16) .f32 B e) s0) (shapeCast S10x128 (shapeCast S10x128x1 S q1) q2))
        (dynamicGather 1 (extractStridedSlice S10x128 ![0, 0] (extf (F := Ideal) (φ := .bf16) .f32 A e) s0) (shapeCast S10x128 (shapeCast S10x128x1 S q1) q2)) : FVec Ideal S10x128 .f32) (ix2 b l)
      = if l.val % 2 = 1 then B (ix2 b ⟨32 * (a + 2 * (l.val / 64)) + l.val % 64 / 2, by omega⟩) else A (ix2 b ⟨32 * (a + 2 * (l.val / 64)) + l.val % 64 / 2, by omega⟩) := by
  pointwise
  simp only [hS, hO, sel_odd, srcW_toNat _ ha]

theorem gather_half1 (A B : Vec Ideal S10x256 .bf16) (S O : IVec S10x128 32) (b : Fin 10) (l : Fin 128) (a : ℕ) (ha : a < 2)
    (hS : ∀ l : Fin 128, S (ix2 b l) = srcW a l) (hO : ∀ l : Fin 128, O (ix2 b l) = oddW l) (e s128 q1 q2) :
    (select (cmpi .eq O (broadcast S10x128 1#32))
        (dynamicGather 1 (extractStridedSlice S10x128 ![0, 128] (extf (F := Ideal) (φ := .bf16) .f32 B e) s128) (shapeCast S10x128 (shapeCast S10x128x1 S q1) q2))
        (dynamicGather 1 (extractStridedSlice S10x128 ![0, 128] (extf (F := Ideal) (φ := .bf16) .f32 A e) s128) (shapeCast S10x128 (shapeCast S10x128x1 S q1) q2)) : FVec Ideal S10x128 .f32) (ix2 b l)
      = if l.val % 2 = 1 then B (ix2 b ⟨128 + (32 * (a + 2 * (l.val / 64)) + l.val % 64 / 2), by omega⟩) else A (ix2 b ⟨128 + (32 * (a + 2 * (l.val / 64)) + l.val % 64 / 2), by omega⟩) := by
  pointwise
  simp only [hS, hO, sel_odd, srcW_toNat _ ha]

theorem cat_apply (P Q : FVec Ideal S10x128 .f32) (b : Fin 10) (k : Fin 256) (hc) :
    (concatenate S10x256 1 [⟨S10x128, P⟩, ⟨S10x128, Q⟩] hc : FVec Ideal S10x256 .f32) (ix2 b k) = if h : k.val < 128 then P (ix2 b ⟨k.val, h⟩) else Q (ix2 b ⟨k.val - 128, by omega⟩) := by
  pointwise

theorem gather_tile (x3 : Vec Ideal S10x16384 .bf16) (n : ℕ) (c1 c2 : ℕ) (S O : IVec S10x128 32) (b : Fin 10) (k : Fin 256) (a : ℕ) (ha : a < 2) (hn : n % 2 = a) (h1 : c1 = 256 * (n / 2)) (h2 : c2 = 8192 + 256 * (n / 2))
    (hS : ∀ l : Fin 128, S (ix2 b l) = srcW a l) (hO : ∀ l : Fin 128, O (ix2 b l) = oddW l) (e s0 s128 q1 q2 hc) :
    (concatenate S10x256 1 [⟨S10x128, select (cmpi .eq O (broadcast S10x128 1#32))
        (dynamicGather 1 (extractStridedSlice S10x128 ![0, 0] (extf (F := Ideal) (φ := .bf16) .f32 (colsAt x3 c2) e) s0) (shapeCast S10x128 (shapeCast S10x128x1 S q1) q2))
        (dynamicGather 1 (extractStridedSlice S10x128 ![0, 0] (extf (F := Ideal) (φ := .bf16) .f32 (colsAt x3 c1) e) s0) (shapeCast S10x128 (shapeCast S10x128x1 S q1) q2))⟩,
      ⟨S10x128, select (cmpi .eq O (broadcast S10x128 1#32))
        (dynamicGather 1 (extractStridedSlice S10x128 ![0, 128] (extf (F := Ideal) (φ := .bf16) .f32 (colsAt x3 c2) e) s128) (shapeCast S10x128 (shapeCast S10x128x1 S q1) q2))
        (dynamicGather 1 (extractStridedSlice S10x128 ![0, 128] (extf (F := Ideal) (φ := .bf16) .f32 (colsAt x3 c1) e) s128) (shapeCast S10x128 (shapeCast S10x128x1 S q1) q2))⟩] hc : FVec Ideal S10x256 .f32) (ix2 b k)
      = at2 x3 b.val (k.val % 2 * 8192 + rowN n k.val) := by
  have hk := k.isLt
  subst hn h1 h2
  rw [cat_apply]
  split_ifs with h
  · rw [gather_half0 _ _ S O b _ _ ha hS hO]
    split_ifs with h' <;> exact (colsAt_apply x3 _ b _).trans (congrArg (at2 x3 b.val) (by unfold rowN; dsimp only at h' ⊢; omega))
  · rw [gather_half1 _ _ S O b _ _ ha hS hO]
    split_ifs with h' <;> exact (colsAt_apply x3 _ b _).trans (congrArg (at2 x3 b.val) (by unfold rowN; dsimp only at h' ⊢; omega))

end Cert.DownIdeal.Hand

end
-- ==== Proof.DownIdeal.Lhs0.lean ====
/- Tiles 0 to 7 that the first grid point stores into the expanded left operand. -/
module

public import proofs.«01_k».proof.Proof.DownIdeal.Gather

@[expose] public section

set_option maxRecDepth 16384
set_option maxHeartbeats 400000

noncomputable section

namespace Cert.DownIdeal.Hand

open Idealize.ShloMosaic Cert.DownIdeal.Gen Cert.Mx

/-- The lanes' sources and their parities. -/
theorem lanes0 (b : Fin 10) : (∀ l : Fin 128, initRun.sl.v3981 (ix2 b l) = srcW 0 l)
    ∧ (∀ l : Fin 128, initRun.sl.v4169 (ix2 b l) = srcW 1 l)
    ∧ (∀ l : Fin 128, initRun.sl.v4361 (ix2 b l) = srcW 0 l)
    ∧ (∀ l : Fin 128, initRun.sl.v4549 (ix2 b l) = srcW 1 l)
    ∧ (∀ l : Fin 128, initRun.sl.v4741 (ix2 b l) = srcW 0 l)
    ∧ (∀ l : Fin 128, initRun.sl.v4929 (ix2 b l) = srcW 1 l)
    ∧ (∀ l : Fin 128, initRun.sl.v5121 (ix2 b l) = srcW 0 l)
    ∧ (∀ l : Fin 128, initRun.sl.v5309 (ix2 b l) = srcW 1 l)
    ∧ (∀ l : Fin 128, initRun.sl.v3973 (ix2 b l) = oddW l)
    ∧ (∀ l : Fin 128, initRun.sl.v5301 (ix2 b l) = oddW l) := by
  refine ⟨?_, ?_, ?_, ?_, ?_, ?_, ?_, ?_, ?_, ?_⟩ <;> intro l <;>
    simp only [initRun.sl.v3981, initRun.sl.v3956, initRun.sl.v3933, initRun.sl.v3932, initRun.sl.v3930, initRun.sl.v3928, initRun.sl.v3926, initRun.sl.v3923, initRun.sl.v3955, initRun.sl.v3947, initRun.sl.v3952, initRun.sl.v3948, initRun.sl.v3940, initRun.sl.v3937, initRun.sl.v3980, initRun.sl.v3979, initRun.sl.v3978, initRun.sl.v4169, initRun.sl.v4144, initRun.sl.v4120, initRun.sl.v3886, initRun.sl.v4119, initRun.sl.v4110, initRun.sl.v4116, initRun.sl.v4112, initRun.sl.v4143, initRun.sl.v4140, initRun.sl.v4136, initRun.sl.v4128, initRun.sl.v4125, initRun.sl.v4168, initRun.sl.v4166, initRun.sl.v4361, initRun.sl.v4337, initRun.sl.v4336, initRun.sl.v4312, initRun.sl.v4311, initRun.sl.v4302, initRun.sl.v4308, initRun.sl.v4304, initRun.sl.v4335, initRun.sl.v4332, initRun.sl.v4328, initRun.sl.v4320, initRun.sl.v4317, initRun.sl.v4295, initRun.sl.v4294, initRun.sl.v4549, initRun.sl.v4525, initRun.sl.v4482, initRun.sl.v4478, initRun.sl.v4741, initRun.sl.v4717, initRun.sl.v4674, initRun.sl.v4670, initRun.sl.v4667, initRun.sl.v4929, initRun.sl.v4905, initRun.sl.v4862, initRun.sl.v4858, initRun.sl.v4850, initRun.sl.v4842, initRun.sl.v5121, initRun.sl.v5096, initRun.sl.v5072, initRun.sl.v5069, initRun.sl.v5095, initRun.sl.v5092, initRun.sl.v5088, initRun.sl.v5080, initRun.sl.v5077, initRun.sl.v5120, initRun.sl.v5118, initRun.sl.v5309, initRun.sl.v5285, initRun.sl.v5284, initRun.sl.v5260, initRun.sl.v5214, initRun.sl.v5259, initRun.sl.v5234, initRun.sl.v5256, initRun.sl.v5252, initRun.sl.v5283, initRun.sl.v5280, initRun.sl.v5276, initRun.sl.v5268, initRun.sl.v5265, initRun.sl.v5242, initRun.sl.v5238, initRun.sl.v5237, initRun.sl.v5230, initRun.sl.v5222, initRun.sl.v5219, initRun.sl.v3973, initRun.sl.v3972, initRun.sl.v3963, initRun.sl.v3969, initRun.sl.v3965, initRun.sl.v5301, initRun.sl.v5300, initRun.sl.v5291, initRun.sl.v5297, initRun.sl.v5293, k0_pay4, k0_pay5, k0_pay6, k0_pay16, k0_pay17, k0_pay27, k0_pay28, k0_pay41, k0_pay42, k0_pay61, k0_pay62, k0_pay76, k0_pay77, k0_pay78, k0_pay91, k0_pay92, k0_pay93, k0_pay94, k0_pay95] <;>
    pointwise <;> revert l <;> decide +kernel

theorem tile0 (c : Dev nD) (arg3 : Memref sig .tc .vmem S10x16384 .bf16) (harg3 : arg3.IsWhole) (x3 : Vec Ideal S10x16384 .bf16) (b : Fin 10) (g : Fin 8) (k : Fin 256) :
    (k0_pay15 (initRun.sl.r_2 c arg3 harg3 x3) initRun.sl.cst_2406 initRun.sl.r_3) (ix3 0 ⟨b.val * 8 + g.val, by omega⟩ k) = tileV 8192 x3 0 b g k := by
  obtain ⟨h0, h1, h2, h3, h4, h5, h6, h7, h8, h9⟩ := lanes0 b
  simp only [initRun.sl.r_2, initRun.sl.v4014, initRun.sl.v4013, initRun.sl.v4003, initRun.sl.v3983, initRun.sl.v3995, initRun.sl.r, initRun.sl.v4012, initRun.sl.v4004, initRun.sl.r_1, initRun.sl.v3947, initRun.sl.v3994, initRun.sl.v3984, initRun.sl.v3976, initRun.sl.v3993, initRun.sl.v3985, initRun.sl.cst_2406, initRun.sl.r_3, initRun.sl.v4016, initRun.sl.v4015, k0_pay2, k0_pay3, k0_pay13, k0_pay14, k0_pay15]
  rw [read3 arg3 harg3 x3 0 inb_S10x16384_S10x256_0_0, read3 arg3 harg3 x3 8192 inb_S10x16384_S10x256_0_8192]
  refine tile_of x3 0 _ _ _ b g k _ _ _ _ _ _ _ _ _ zero_f32 ?_ ?_
  · revert g k
    decide +kernel
  · exact gather_tile x3 0 _ _ _ _ b k 0 (by decide) (by decide) (by decide) (by decide) h0 h8 _ _ _ _ _ _

theorem tile1 (c : Dev nD) (arg3 : Memref sig .tc .vmem S10x16384 .bf16) (harg3 : arg3.IsWhole) (x3 : Vec Ideal S10x16384 .bf16) (b : Fin 10) (g : Fin 8) (k : Fin 256) :
    (k0_pay24 (initRun.sl.v4202 c arg3 harg3 x3) (cmpi CmpIPredicate.eq initRun.sl.v4016 initRun.sl.v4247)) (ix3 0 ⟨b.val * 8 + g.val, by omega⟩ k) = tileV 8192 x3 1 b g k := by
  obtain ⟨h0, h1, h2, h3, h4, h5, h6, h7, h8, h9⟩ := lanes0 b
  simp only [initRun.sl.v4202, initRun.sl.v4201, initRun.sl.v4191, initRun.sl.v4171, initRun.sl.v3995, initRun.sl.r, initRun.sl.v4200, initRun.sl.v4004, initRun.sl.r_1, initRun.sl.v3947, initRun.sl.v4182, initRun.sl.v4172, initRun.sl.v3976, initRun.sl.v4181, initRun.sl.v3985, initRun.sl.v4016, initRun.sl.v4247, initRun.sl.v4246, initRun.sl.v4223, initRun.sl.v4015, initRun.sl.v4245, initRun.sl.v4237, initRun.sl.v4242, initRun.sl.v4209, initRun.sl.v4238, initRun.sl.v4230, initRun.sl.v4227, initRun.sl.v4221, initRun.sl.v4220, initRun.sl.v4207, initRun.sl.v4219, initRun.sl.v4210, initRun.sl.v4216, initRun.sl.v4214, initRun.sl.v4212, k0_pay2, k0_pay3, k0_pay24]
  rw [read3 arg3 harg3 x3 0 inb_S10x16384_S10x256_0_0, read3 arg3 harg3 x3 8192 inb_S10x16384_S10x256_0_8192]
  refine tile_of x3 1 _ _ _ b g k _ _ _ _ _ _ _ _ _ zero_f32 ?_ ?_
  · revert g k
    decide +kernel
  · exact gather_tile x3 1 _ _ _ _ b k 1 (by decide) (by decide) (by decide) (by decide) h1 h8 _ _ _ _ _ _

theorem tile2 (c : Dev nD) (arg3 : Memref sig .tc .vmem S10x16384 .bf16) (harg3 : arg3.IsWhole) (x3 : Vec Ideal S10x16384 .bf16) (b : Fin 10) (g : Fin 8) (k : Fin 256) :
    (k0_pay40 (initRun.sl.v4394 c arg3 harg3 x3) initRun.sl.v4015 initRun.sl.v4016 (muli initRun.sl.v4220 initRun.sl.v4221) (64#32) (divsi initRun.sl.v4015 initRun.sl.v4223) (subi initRun.sl.v4227 initRun.sl.v4230) initRun.sl.v4237) (ix3 0 ⟨b.val * 8 + g.val, by omega⟩ k) = tileV 8192 x3 2 b g k := by
  obtain ⟨h0, h1, h2, h3, h4, h5, h6, h7, h8, h9⟩ := lanes0 b
  simp only [initRun.sl.v4394, initRun.sl.v4393, initRun.sl.v4383, initRun.sl.v4363, initRun.sl.v4375, initRun.sl.r_4, initRun.sl.v4392, initRun.sl.v4384, initRun.sl.r_5, initRun.sl.v3947, initRun.sl.v4374, initRun.sl.v4364, initRun.sl.v4356, initRun.sl.v4373, initRun.sl.v4365, initRun.sl.v4015, initRun.sl.v4016, initRun.sl.v4220, initRun.sl.v4207, initRun.sl.v4219, initRun.sl.v4210, initRun.sl.v4209, initRun.sl.v4216, initRun.sl.v4214, initRun.sl.v4212, initRun.sl.v4221, initRun.sl.v4223, initRun.sl.v4227, initRun.sl.v4230, initRun.sl.v4237, k0_pay25, k0_pay26, k0_pay40]
  rw [read3 arg3 harg3 x3 256 inb_S10x16384_S10x256_0_256, read3 arg3 harg3 x3 8448 inb_S10x16384_S10x256_0_8448]
  refine tile_of x3 2 _ _ _ b g k _ _ _ _ _ _ _ _ _ zero_f32 ?_ ?_
  · revert g k
    decide +kernel
  · exact gather_tile x3 2 _ _ _ _ b k 0 (by decide) (by decide) (by decide) (by decide) h2 h8 _ _ _ _ _ _

theorem tile3 (c : Dev nD) (arg3 : Memref sig .tc .vmem S10x16384 .bf16) (harg3 : arg3.IsWhole) (x3 : Vec Ideal S10x16384 .bf16) (b : Fin 10) (g : Fin 8) (k : Fin 256) :
    (k0_pay58 (initRun.sl.v4582 c arg3 harg3 x3) initRun.sl.v4015 initRun.sl.v4016 (muli initRun.sl.v4220 initRun.sl.v4221) (64#32) (divsi initRun.sl.v4015 initRun.sl.v4223) (subi initRun.sl.v4227 initRun.sl.v4230) 1#32) (ix3 0 ⟨b.val * 8 + g.val, by omega⟩ k) = tileV 8192 x3 3 b g k := by
  obtain ⟨h0, h1, h2, h3, h4, h5, h6, h7, h8, h9⟩ := lanes0 b
  simp only [initRun.sl.v4582, initRun.sl.v4581, initRun.sl.v4571, initRun.sl.v4551, initRun.sl.v4375, initRun.sl.r_4, initRun.sl.v4580, initRun.sl.v4384, initRun.sl.r_5, initRun.sl.v3947, initRun.sl.v4562, initRun.sl.v4552, initRun.sl.v4356, initRun.sl.v4561, initRun.sl.v4365, initRun.sl.v4015, initRun.sl.v4016, initRun.sl.v4220, initRun.sl.v4207, initRun.sl.v4219, initRun.sl.v4210, initRun.sl.v4209, initRun.sl.v4216, initRun.sl.v4214, initRun.sl.v4212, initRun.sl.v4221, initRun.sl.v4223, initRun.sl.v4227, initRun.sl.v4230, k0_pay25, k0_pay26, k0_pay58]
  rw [read3 arg3 harg3 x3 256 inb_S10x16384_S10x256_0_256, read3 arg3 harg3 x3 8448 inb_S10x16384_S10x256_0_8448]
  refine tile_of x3 3 _ _ _ b g k _ _ _ _ _ _ _ _ _ zero_f32 ?_ ?_
  · revert g k
    decide +kernel
  · exact gather_tile x3 3 _ _ _ _ b k 1 (by decide) (by decide) (by decide) (by decide) h3 h8 _ _ _ _ _ _

theorem tile4 (c : Dev nD) (arg3 : Memref sig .tc .vmem S10x16384 .bf16) (harg3 : arg3.IsWhole) (x3 : Vec Ideal S10x16384 .bf16) (b : Fin 10) (g : Fin 8) (k : Fin 256) :
    (k0_pay75 (initRun.sl.v4774 c arg3 harg3 x3) initRun.sl.v4015 initRun.sl.v4016 (muli initRun.sl.v4220 initRun.sl.v4221) (64#32) initRun.sl.v4223) (ix3 0 ⟨b.val * 8 + g.val, by omega⟩ k) = tileV 8192 x3 4 b g k := by
  obtain ⟨h0, h1, h2, h3, h4, h5, h6, h7, h8, h9⟩ := lanes0 b
  simp only [initRun.sl.v4774, initRun.sl.v4773, initRun.sl.v4763, initRun.sl.v4743, initRun.sl.v4755, initRun.sl.r_6, initRun.sl.v4772, initRun.sl.v4764, initRun.sl.r_7, initRun.sl.v3947, initRun.sl.v4754, initRun.sl.v4744, initRun.sl.v4736, initRun.sl.v4753, initRun.sl.v4745, initRun.sl.v4015, initRun.sl.v4016, initRun.sl.v4220, initRun.sl.v4207, initRun.sl.v4219, initRun.sl.v4210, initRun.sl.v4209, initRun.sl.v4216, initRun.sl.v4214, initRun.sl.v4212, initRun.sl.v4221, initRun.sl.v4223, k0_pay59, k0_pay60, k0_pay75]
  rw [read3 arg3 harg3 x3 512 inb_S10x16384_S10x256_0_512, read3 arg3 harg3 x3 8704 inb_S10x16384_S10x256_0_8704]
  refine tile_of x3 4 _ _ _ b g k _ _ _ _ _ _ _ _ _ zero_f32 ?_ ?_
  · revert g k
    decide +kernel
  · exact gather_tile x3 4 _ _ _ _ b k 0 (by decide) (by decide) (by decide) (by decide) h4 h8 _ _ _ _ _ _

theorem tile5 (c : Dev nD) (arg3 : Memref sig .tc .vmem S10x16384 .bf16) (harg3 : arg3.IsWhole) (x3 : Vec Ideal S10x16384 .bf16) (b : Fin 10) (g : Fin 8) (k : Fin 256) :
    (k0_pay88 (initRun.sl.v4962 c arg3 harg3 x3) initRun.sl.v4015 initRun.sl.v4016 initRun.sl.v4220) (ix3 0 ⟨b.val * 8 + g.val, by omega⟩ k) = tileV 8192 x3 5 b g k := by
  obtain ⟨h0, h1, h2, h3, h4, h5, h6, h7, h8, h9⟩ := lanes0 b
  simp only [initRun.sl.v4962, initRun.sl.v4961, initRun.sl.v4951, initRun.sl.v4931, initRun.sl.v4755, initRun.sl.r_6, initRun.sl.v4960, initRun.sl.v4764, initRun.sl.r_7, initRun.sl.v3947, initRun.sl.v4942, initRun.sl.v4932, initRun.sl.v4736, initRun.sl.v4941, initRun.sl.v4745, initRun.sl.v4015, initRun.sl.v4016, initRun.sl.v4220, initRun.sl.v4207, initRun.sl.v4219, initRun.sl.v4210, initRun.sl.v4209, initRun.sl.v4216, initRun.sl.v4214, initRun.sl.v4212, k0_pay59, k0_pay60, k0_pay88]
  rw [read3 arg3 harg3 x3 512 inb_S10x16384_S10x256_0_512, read3 arg3 harg3 x3 8704 inb_S10x16384_S10x256_0_8704]
  refine tile_of x3 5 _ _ _ b g k _ _ _ _ _ _ _ _ _ zero_f32 ?_ ?_
  · revert g k
    decide +kernel
  · exact gather_tile x3 5 _ _ _ _ b k 1 (by decide) (by decide) (by decide) (by decide) h5 h8 _ _ _ _ _ _

theorem tile6 (c : Dev nD) (arg3 : Memref sig .tc .vmem S10x16384 .bf16) (harg3 : arg3.IsWhole) (x3 : Vec Ideal S10x16384 .bf16) (b : Fin 10) (g : Fin 8) (k : Fin 256) :
    (initRun.sl.v5213 c arg3 harg3 x3) (ix3 0 ⟨b.val * 8 + g.val, by omega⟩ k) = tileV 8192 x3 6 b g k := by
  obtain ⟨h0, h1, h2, h3, h4, h5, h6, h7, h8, h9⟩ := lanes0 b
  simp only [initRun.sl.v5213, initRun.sl.r_10, initRun.sl.v4209, initRun.sl.v4207, initRun.sl.v4015, initRun.sl.v4016, initRun.sl.v5154, initRun.sl.v5153, initRun.sl.v5143, initRun.sl.v5123, initRun.sl.v5135, initRun.sl.r_8, initRun.sl.v5152, initRun.sl.v5144, initRun.sl.r_9, initRun.sl.v3947, initRun.sl.v5134, initRun.sl.v5124, initRun.sl.v5116, initRun.sl.v5133, initRun.sl.v5125, k0_pay89, k0_pay90, k0_pay101]
  rw [read3 arg3 harg3 x3 768 inb_S10x16384_S10x256_0_768, read3 arg3 harg3 x3 8960 inb_S10x16384_S10x256_0_8960]
  refine tile_of x3 6 _ _ _ b g k _ _ _ _ _ _ _ _ _ zero_f32 ?_ ?_
  · revert g k
    decide +kernel
  · exact gather_tile x3 6 _ _ _ _ b k 0 (by decide) (by decide) (by decide) (by decide) h6 h8 _ _ _ _ _ _

theorem tile7 (c : Dev nD) (arg3 : Memref sig .tc .vmem S10x16384 .bf16) (harg3 : arg3.IsWhole) (x3 : Vec Ideal S10x16384 .bf16) (b : Fin 10) (g : Fin 8) (k : Fin 256) :
    (k0_pay114 initRun.sl.cst_2406 initRun.sl.r_11 (initRun.sl.r_12 c arg3 harg3 x3)) (ix3 0 ⟨b.val * 8 + g.val, by omega⟩ k) = tileV 8192 x3 7 b g k := by
  obtain ⟨h0, h1, h2, h3, h4, h5, h6, h7, h8, h9⟩ := lanes0 b
  simp only [initRun.sl.cst_2406, initRun.sl.r_11, initRun.sl.v4016, initRun.sl.v4015, initRun.sl.r_12, initRun.sl.v5342, initRun.sl.v5341, initRun.sl.v5331, initRun.sl.v5311, initRun.sl.v5135, initRun.sl.r_8, initRun.sl.v5340, initRun.sl.v5144, initRun.sl.r_9, initRun.sl.v3947, initRun.sl.v5322, initRun.sl.v5312, initRun.sl.v5116, initRun.sl.v5321, initRun.sl.v5125, k0_pay89, k0_pay90, k0_pay112, k0_pay113, k0_pay114]
  rw [read3 arg3 harg3 x3 768 inb_S10x16384_S10x256_0_768, read3 arg3 harg3 x3 8960 inb_S10x16384_S10x256_0_8960]
  refine tile_of x3 7 _ _ _ b g k _ _ _ _ _ _ _ _ _ zero_f32 ?_ ?_
  · revert g k
    decide +kernel
  · exact gather_tile x3 7 _ _ _ _ b k 1 (by decide) (by decide) (by decide) (by decide) h7 h9 _ _ _ _ _ _

end Cert.DownIdeal.Hand

end
-- ==== Proof.DownIdeal.Lhs1.lean ====
/- Tiles 8 to 15 that the first grid point stores into the expanded left operand. -/
module

public import proofs.«01_k».proof.Proof.DownIdeal.Gather

@[expose] public section

set_option maxRecDepth 16384
set_option maxHeartbeats 400000

noncomputable section

namespace Cert.DownIdeal.Hand

open Idealize.ShloMosaic Cert.DownIdeal.Gen Cert.Mx

/-- The lanes' sources and their parities. -/
theorem lanes8 (b : Fin 10) : (∀ l : Fin 128, initRun.sl.v5501 (ix2 b l) = srcW 0 l)
    ∧ (∀ l : Fin 128, initRun.sl.v5689 (ix2 b l) = srcW 1 l)
    ∧ (∀ l : Fin 128, initRun.sl.v5881 (ix2 b l) = srcW 0 l)
    ∧ (∀ l : Fin 128, initRun.sl.v6069 (ix2 b l) = srcW 1 l)
    ∧ (∀ l : Fin 128, initRun.sl.v6261 (ix2 b l) = srcW 0 l)
    ∧ (∀ l : Fin 128, initRun.sl.v5309 (ix2 b l) = srcW 1 l)
    ∧ (∀ l : Fin 128, initRun.sl.v6641 (ix2 b l) = srcW 0 l)
    ∧ (∀ l : Fin 128, initRun.sl.v6829 (ix2 b l) = srcW 1 l)
    ∧ (∀ l : Fin 128, initRun.sl.v3973 (ix2 b l) = oddW l)
    ∧ (∀ l : Fin 128, initRun.sl.v5301 (ix2 b l) = oddW l) := by
  refine ⟨?_, ?_, ?_, ?_, ?_, ?_, ?_, ?_, ?_, ?_⟩ <;> intro l <;>
    simp only [initRun.sl.v5501, initRun.sl.v5477, initRun.sl.v4336, initRun.sl.v3933, initRun.sl.v4312, initRun.sl.v3930, initRun.sl.v3886, initRun.sl.v4311, initRun.sl.v4302, initRun.sl.v3923, initRun.sl.v4308, initRun.sl.v3926, initRun.sl.v4304, initRun.sl.v4335, initRun.sl.v3947, initRun.sl.v4332, initRun.sl.v4328, initRun.sl.v4320, initRun.sl.v4317, initRun.sl.v3979, initRun.sl.v5689, initRun.sl.v5624, initRun.sl.v4295, initRun.sl.v5688, initRun.sl.v5686, initRun.sl.v5881, initRun.sl.v5857, initRun.sl.v5814, initRun.sl.v5810, initRun.sl.v6069, initRun.sl.v6045, initRun.sl.v6002, initRun.sl.v5998, initRun.sl.v5995, initRun.sl.v6261, initRun.sl.v6237, initRun.sl.v6194, initRun.sl.v6190, initRun.sl.v6182, initRun.sl.v6174, initRun.sl.v6171, initRun.sl.v5309, initRun.sl.v5285, initRun.sl.v5284, initRun.sl.v5260, initRun.sl.v5214, initRun.sl.v5259, initRun.sl.v5234, initRun.sl.v5256, initRun.sl.v5252, initRun.sl.v5283, initRun.sl.v5280, initRun.sl.v5276, initRun.sl.v5268, initRun.sl.v5265, initRun.sl.v5242, initRun.sl.v5238, initRun.sl.v5237, initRun.sl.v5230, initRun.sl.v5222, initRun.sl.v5219, initRun.sl.v6641, initRun.sl.v6640, initRun.sl.v6638, initRun.sl.v6829, initRun.sl.v6828, initRun.sl.v6826, initRun.sl.v3973, initRun.sl.v3972, initRun.sl.v3963, initRun.sl.v3969, initRun.sl.v3965, initRun.sl.v5301, initRun.sl.v5300, initRun.sl.v5291, initRun.sl.v5297, initRun.sl.v5293, k0_pay117, k0_pay118, k0_pay132, k0_pay145, k0_pay146, k0_pay160, k0_pay161, k0_pay178, k0_pay204, k0_pay214] <;>
    pointwise <;> revert l <;> decide +kernel

theorem tile8 (c : Dev nD) (arg3 : Memref sig .tc .vmem S10x16384 .bf16) (harg3 : arg3.IsWhole) (x3 : Vec Ideal S10x16384 .bf16) (b : Fin 10) (g : Fin 8) (k : Fin 256) :
    (k0_pay131 (initRun.sl.v5534 c arg3 harg3 x3) initRun.sl.v4016 (muli initRun.sl.v4220 initRun.sl.v4221) (divsi initRun.sl.v4015 initRun.sl.v4223) initRun.sl.v4238 initRun.sl.v4242) (ix3 0 ⟨b.val * 8 + g.val, by omega⟩ k) = tileV 8192 x3 8 b g k := by
  obtain ⟨h0, h1, h2, h3, h4, h5, h6, h7, h8, h9⟩ := lanes8 b
  simp only [initRun.sl.v5534, initRun.sl.v5533, initRun.sl.v5523, initRun.sl.v5503, initRun.sl.v5515, initRun.sl.r_13, initRun.sl.v5532, initRun.sl.v5524, initRun.sl.r_14, initRun.sl.v3947, initRun.sl.v5514, initRun.sl.v5504, initRun.sl.v5496, initRun.sl.v5513, initRun.sl.v5505, initRun.sl.v4016, initRun.sl.v4220, initRun.sl.v4207, initRun.sl.v4015, initRun.sl.v4219, initRun.sl.v4210, initRun.sl.v4209, initRun.sl.v4216, initRun.sl.v4214, initRun.sl.v4212, initRun.sl.v4221, initRun.sl.v4223, initRun.sl.v4238, initRun.sl.v4237, initRun.sl.v4230, initRun.sl.v4227, initRun.sl.v4242, k0_pay115, k0_pay116, k0_pay131]
  rw [read3 arg3 harg3 x3 1024 inb_S10x16384_S10x256_0_1024, read3 arg3 harg3 x3 9216 inb_S10x16384_S10x256_0_9216]
  refine tile_of x3 8 _ _ _ b g k _ _ _ _ _ _ _ _ _ zero_f32 ?_ ?_
  · revert g k
    decide +kernel
  · exact gather_tile x3 8 _ _ _ _ b k 0 (by decide) (by decide) (by decide) (by decide) h0 h8 _ _ _ _ _ _

theorem tile9 (c : Dev nD) (arg3 : Memref sig .tc .vmem S10x16384 .bf16) (harg3 : arg3.IsWhole) (x3 : Vec Ideal S10x16384 .bf16) (b : Fin 10) (g : Fin 8) (k : Fin 256) :
    (k0_pay142 (initRun.sl.v5722 c arg3 harg3 x3) initRun.sl.v4015 initRun.sl.v4016 (muli initRun.sl.v4220 initRun.sl.v4221) (64#32) (divsi initRun.sl.v4015 initRun.sl.v4223) initRun.sl.v4238) (ix3 0 ⟨b.val * 8 + g.val, by omega⟩ k) = tileV 8192 x3 9 b g k := by
  obtain ⟨h0, h1, h2, h3, h4, h5, h6, h7, h8, h9⟩ := lanes8 b
  simp only [initRun.sl.v5722, initRun.sl.v5721, initRun.sl.v5711, initRun.sl.v5691, initRun.sl.v5515, initRun.sl.r_13, initRun.sl.v5720, initRun.sl.v5524, initRun.sl.r_14, initRun.sl.v3947, initRun.sl.v5702, initRun.sl.v5692, initRun.sl.v5496, initRun.sl.v5701, initRun.sl.v5505, initRun.sl.v4015, initRun.sl.v4016, initRun.sl.v4220, initRun.sl.v4207, initRun.sl.v4219, initRun.sl.v4210, initRun.sl.v4209, initRun.sl.v4216, initRun.sl.v4214, initRun.sl.v4212, initRun.sl.v4221, initRun.sl.v4223, initRun.sl.v4238, initRun.sl.v4237, initRun.sl.v4230, initRun.sl.v4227, k0_pay115, k0_pay116, k0_pay142]
  rw [read3 arg3 harg3 x3 1024 inb_S10x16384_S10x256_0_1024, read3 arg3 harg3 x3 9216 inb_S10x16384_S10x256_0_9216]
  refine tile_of x3 9 _ _ _ b g k _ _ _ _ _ _ _ _ _ zero_f32 ?_ ?_
  · revert g k
    decide +kernel
  · exact gather_tile x3 9 _ _ _ _ b k 1 (by decide) (by decide) (by decide) (by decide) h1 h8 _ _ _ _ _ _

theorem tile10 (c : Dev nD) (arg3 : Memref sig .tc .vmem S10x16384 .bf16) (harg3 : arg3.IsWhole) (x3 : Vec Ideal S10x16384 .bf16) (b : Fin 10) (g : Fin 8) (k : Fin 256) :
    (k0_pay159 (initRun.sl.v5914 c arg3 harg3 x3) initRun.sl.v4015 initRun.sl.v4016 (muli initRun.sl.v4220 initRun.sl.v4221) (64#32) (divsi initRun.sl.v4015 initRun.sl.v4223) initRun.sl.v4227 0#32) (ix3 0 ⟨b.val * 8 + g.val, by omega⟩ k) = tileV 8192 x3 10 b g k := by
  obtain ⟨h0, h1, h2, h3, h4, h5, h6, h7, h8, h9⟩ := lanes8 b
  simp only [initRun.sl.v5914, initRun.sl.v5913, initRun.sl.v5903, initRun.sl.v5883, initRun.sl.v5895, initRun.sl.r_15, initRun.sl.v5912, initRun.sl.v5904, initRun.sl.r_16, initRun.sl.v3947, initRun.sl.v5894, initRun.sl.v5884, initRun.sl.v5876, initRun.sl.v5893, initRun.sl.v5885, initRun.sl.v4015, initRun.sl.v4016, initRun.sl.v4220, initRun.sl.v4207, initRun.sl.v4219, initRun.sl.v4210, initRun.sl.v4209, initRun.sl.v4216, initRun.sl.v4214, initRun.sl.v4212, initRun.sl.v4221, initRun.sl.v4223, initRun.sl.v4227, k0_pay143, k0_pay144, k0_pay159]
  rw [read3 arg3 harg3 x3 1280 inb_S10x16384_S10x256_0_1280, read3 arg3 harg3 x3 9472 inb_S10x16384_S10x256_0_9472]
  refine tile_of x3 10 _ _ _ b g k _ _ _ _ _ _ _ _ _ zero_f32 ?_ ?_
  · revert g k
    decide +kernel
  · exact gather_tile x3 10 _ _ _ _ b k 0 (by decide) (by decide) (by decide) (by decide) h2 h8 _ _ _ _ _ _

theorem tile11 (c : Dev nD) (arg3 : Memref sig .tc .vmem S10x16384 .bf16) (harg3 : arg3.IsWhole) (x3 : Vec Ideal S10x16384 .bf16) (b : Fin 10) (g : Fin 8) (k : Fin 256) :
    (k0_pay175 (initRun.sl.v6102 c arg3 harg3 x3) initRun.sl.v4015 initRun.sl.v4016 (muli initRun.sl.v4220 initRun.sl.v4221) (64#32) (divsi initRun.sl.v4015 initRun.sl.v4223)) (ix3 0 ⟨b.val * 8 + g.val, by omega⟩ k) = tileV 8192 x3 11 b g k := by
  obtain ⟨h0, h1, h2, h3, h4, h5, h6, h7, h8, h9⟩ := lanes8 b
  simp only [initRun.sl.v6102, initRun.sl.v6101, initRun.sl.v6091, initRun.sl.v6071, initRun.sl.v5895, initRun.sl.r_15, initRun.sl.v6100, initRun.sl.v5904, initRun.sl.r_16, initRun.sl.v3947, initRun.sl.v6082, initRun.sl.v6072, initRun.sl.v5876, initRun.sl.v6081, initRun.sl.v5885, initRun.sl.v4015, initRun.sl.v4016, initRun.sl.v4220, initRun.sl.v4207, initRun.sl.v4219, initRun.sl.v4210, initRun.sl.v4209, initRun.sl.v4216, initRun.sl.v4214, initRun.sl.v4212, initRun.sl.v4221, initRun.sl.v4223, k0_pay143, k0_pay144, k0_pay175]
  rw [read3 arg3 harg3 x3 1280 inb_S10x16384_S10x256_0_1280, read3 arg3 harg3 x3 9472 inb_S10x16384_S10x256_0_9472]
  refine tile_of x3 11 _ _ _ b g k _ _ _ _ _ _ _ _ _ zero_f32 ?_ ?_
  · revert g k
    decide +kernel
  · exact gather_tile x3 11 _ _ _ _ b k 1 (by decide) (by decide) (by decide) (by decide) h3 h8 _ _ _ _ _ _

theorem tile12 (c : Dev nD) (arg3 : Memref sig .tc .vmem S10x16384 .bf16) (harg3 : arg3.IsWhole) (x3 : Vec Ideal S10x16384 .bf16) (b : Fin 10) (g : Fin 8) (k : Fin 256) :
    (initRun.sl.r_19 c arg3 harg3 x3) (ix3 0 ⟨b.val * 8 + g.val, by omega⟩ k) = tileV 8192 x3 12 b g k := by
  obtain ⟨h0, h1, h2, h3, h4, h5, h6, h7, h8, h9⟩ := lanes8 b
  simp only [initRun.sl.r_19, initRun.sl.v4212, initRun.sl.v4209, initRun.sl.v4207, initRun.sl.v4015, initRun.sl.v4210, initRun.sl.v4016, initRun.sl.v6294, initRun.sl.v6293, initRun.sl.v6283, initRun.sl.v6263, initRun.sl.v6275, initRun.sl.r_17, initRun.sl.v6292, initRun.sl.v6284, initRun.sl.r_18, initRun.sl.v3947, initRun.sl.v6274, initRun.sl.v6264, initRun.sl.v6256, initRun.sl.v6273, initRun.sl.v6265, k0_pay176, k0_pay177, k0_pay189]
  rw [read3 arg3 harg3 x3 1536 inb_S10x16384_S10x256_0_1536, read3 arg3 harg3 x3 9728 inb_S10x16384_S10x256_0_9728]
  refine tile_of x3 12 _ _ _ b g k _ _ _ _ _ _ _ _ _ zero_f32 ?_ ?_
  · revert g k
    decide +kernel
  · exact gather_tile x3 12 _ _ _ _ b k 0 (by decide) (by decide) (by decide) (by decide) h4 h8 _ _ _ _ _ _

theorem tile13 (c : Dev nD) (arg3 : Memref sig .tc .vmem S10x16384 .bf16) (harg3 : arg3.IsWhole) (x3 : Vec Ideal S10x16384 .bf16) (b : Fin 10) (g : Fin 8) (k : Fin 256) :
    (k0_pay201 (initRun.sl.r_20 c arg3 harg3 x3)) (ix3 0 ⟨b.val * 8 + g.val, by omega⟩ k) = tileV 8192 x3 13 b g k := by
  obtain ⟨h0, h1, h2, h3, h4, h5, h6, h7, h8, h9⟩ := lanes8 b
  simp only [initRun.sl.r_20, initRun.sl.v4210, initRun.sl.v4209, initRun.sl.v4207, initRun.sl.v4015, initRun.sl.v4016, initRun.sl.v6482, initRun.sl.v6481, initRun.sl.v6471, initRun.sl.v5311, initRun.sl.v6275, initRun.sl.r_17, initRun.sl.v6480, initRun.sl.v6284, initRun.sl.r_18, initRun.sl.v3947, initRun.sl.v6462, initRun.sl.v6452, initRun.sl.v6256, initRun.sl.v6461, initRun.sl.v6265, k0_pay176, k0_pay177, k0_pay200, k0_pay201]
  rw [read3 arg3 harg3 x3 1536 inb_S10x16384_S10x256_0_1536, read3 arg3 harg3 x3 9728 inb_S10x16384_S10x256_0_9728]
  refine tile_of x3 13 _ _ _ b g k _ _ _ _ _ _ _ _ _ zero_f32 ?_ ?_
  · revert g k
    decide +kernel
  · exact gather_tile x3 13 _ _ _ _ b k 1 (by decide) (by decide) (by decide) (by decide) h5 h9 _ _ _ _ _ _

theorem tile14 (c : Dev nD) (arg3 : Memref sig .tc .vmem S10x16384 .bf16) (harg3 : arg3.IsWhole) (x3 : Vec Ideal S10x16384 .bf16) (b : Fin 10) (g : Fin 8) (k : Fin 256) :
    (k0_pay213 (initRun.sl.v6674 c arg3 harg3 x3) initRun.sl.v4016 initRun.sl.v4247) (ix3 0 ⟨b.val * 8 + g.val, by omega⟩ k) = tileV 8192 x3 14 b g k := by
  obtain ⟨h0, h1, h2, h3, h4, h5, h6, h7, h8, h9⟩ := lanes8 b
  simp only [initRun.sl.v6674, initRun.sl.v6673, initRun.sl.v6663, initRun.sl.v6643, initRun.sl.v6655, initRun.sl.r_21, initRun.sl.v6672, initRun.sl.v6664, initRun.sl.r_22, initRun.sl.v3947, initRun.sl.v6654, initRun.sl.v6644, initRun.sl.v6636, initRun.sl.v6653, initRun.sl.v6645, initRun.sl.v4016, initRun.sl.v4247, initRun.sl.v4246, initRun.sl.v4223, initRun.sl.v4015, initRun.sl.v4245, initRun.sl.v4237, initRun.sl.v4242, initRun.sl.v4209, initRun.sl.v4238, initRun.sl.v4230, initRun.sl.v4227, initRun.sl.v4221, initRun.sl.v4220, initRun.sl.v4207, initRun.sl.v4219, initRun.sl.v4210, initRun.sl.v4216, initRun.sl.v4214, initRun.sl.v4212, k0_pay202, k0_pay203, k0_pay213]
  rw [read3 arg3 harg3 x3 1792 inb_S10x16384_S10x256_0_1792, read3 arg3 harg3 x3 9984 inb_S10x16384_S10x256_0_9984]
  refine tile_of x3 14 _ _ _ b g k _ _ _ _ _ _ _ _ _ zero_f32 ?_ ?_
  · revert g k
    decide +kernel
  · exact gather_tile x3 14 _ _ _ _ b k 0 (by decide) (by decide) (by decide) (by decide) h6 h8 _ _ _ _ _ _

theorem tile15 (c : Dev nD) (arg3 : Memref sig .tc .vmem S10x16384 .bf16) (harg3 : arg3.IsWhole) (x3 : Vec Ideal S10x16384 .bf16) (b : Fin 10) (g : Fin 8) (k : Fin 256) :
    (k0_pay227 (initRun.sl.v6862 c arg3 harg3 x3) initRun.sl.v4016 (muli initRun.sl.v4220 initRun.sl.v4221) (divsi initRun.sl.v4015 initRun.sl.v4223) (andi initRun.sl.v4238 initRun.sl.v4242)) (ix3 0 ⟨b.val * 8 + g.val, by omega⟩ k) = tileV 8192 x3 15 b g k := by
  obtain ⟨h0, h1, h2, h3, h4, h5, h6, h7, h8, h9⟩ := lanes8 b
  simp only [initRun.sl.v6862, initRun.sl.v6861, initRun.sl.v6851, initRun.sl.v6831, initRun.sl.v6655, initRun.sl.r_21, initRun.sl.v6860, initRun.sl.v6664, initRun.sl.r_22, initRun.sl.v3947, initRun.sl.v6842, initRun.sl.v6832, initRun.sl.v6636, initRun.sl.v6841, initRun.sl.v6645, initRun.sl.v4016, initRun.sl.v4220, initRun.sl.v4207, initRun.sl.v4015, initRun.sl.v4219, initRun.sl.v4210, initRun.sl.v4209, initRun.sl.v4216, initRun.sl.v4214, initRun.sl.v4212, initRun.sl.v4221, initRun.sl.v4223, initRun.sl.v4238, initRun.sl.v4237, initRun.sl.v4230, initRun.sl.v4227, initRun.sl.v4242, k0_pay202, k0_pay203, k0_pay227]
  rw [read3 arg3 harg3 x3 1792 inb_S10x16384_S10x256_0_1792, read3 arg3 harg3 x3 9984 inb_S10x16384_S10x256_0_9984]
  refine tile_of x3 15 _ _ _ b g k _ _ _ _ _ _ _ _ _ zero_f32 ?_ ?_
  · revert g k
    decide +kernel
  · exact gather_tile x3 15 _ _ _ _ b k 1 (by decide) (by decide) (by decide) (by decide) h7 h8 _ _ _ _ _ _

end Cert.DownIdeal.Hand

end
-- ==== Proof.DownIdeal.Lhs2.lean ====
/- Tiles 16 to 23 that the first grid point stores into the expanded left operand. -/
module

public import proofs.«01_k».proof.Proof.DownIdeal.Gather

@[expose] public section

set_option maxRecDepth 16384
set_option maxHeartbeats 400000

noncomputable section

namespace Cert.DownIdeal.Hand

open Idealize.ShloMosaic Cert.DownIdeal.Gen Cert.Mx

/-- The lanes' sources and their parities. -/
theorem lanes16 (b : Fin 10) : (∀ l : Fin 128, initRun.sl.v7021 (ix2 b l) = srcW 0 l)
    ∧ (∀ l : Fin 128, initRun.sl.v7209 (ix2 b l) = srcW 1 l)
    ∧ (∀ l : Fin 128, initRun.sl.v7401 (ix2 b l) = srcW 0 l)
    ∧ (∀ l : Fin 128, initRun.sl.v7589 (ix2 b l) = srcW 1 l)
    ∧ (∀ l : Fin 128, initRun.sl.v7781 (ix2 b l) = srcW 0 l)
    ∧ (∀ l : Fin 128, initRun.sl.v7969 (ix2 b l) = srcW 1 l)
    ∧ (∀ l : Fin 128, initRun.sl.v8161 (ix2 b l) = srcW 0 l)
    ∧ (∀ l : Fin 128, initRun.sl.v8349 (ix2 b l) = srcW 1 l)
    ∧ (∀ l : Fin 128, initRun.sl.v3973 (ix2 b l) = oddW l) := by
  refine ⟨?_, ?_, ?_, ?_, ?_, ?_, ?_, ?_, ?_⟩ <;> intro l <;>
    simp only [initRun.sl.v7021, initRun.sl.v6997, initRun.sl.v4336, initRun.sl.v3933, initRun.sl.v4312, initRun.sl.v3930, initRun.sl.v3886, initRun.sl.v4311, initRun.sl.v4302, initRun.sl.v3923, initRun.sl.v4308, initRun.sl.v3926, initRun.sl.v4304, initRun.sl.v4335, initRun.sl.v3947, initRun.sl.v4332, initRun.sl.v4328, initRun.sl.v4320, initRun.sl.v4317, initRun.sl.v4295, initRun.sl.v6954, initRun.sl.v6950, initRun.sl.v3979, initRun.sl.v7209, initRun.sl.v7185, initRun.sl.v7142, initRun.sl.v7138, initRun.sl.v7134, initRun.sl.v7401, initRun.sl.v7377, initRun.sl.v7334, initRun.sl.v7330, initRun.sl.v7322, initRun.sl.v7314, initRun.sl.v7589, initRun.sl.v7565, initRun.sl.v7522, initRun.sl.v7518, initRun.sl.v6182, initRun.sl.v6174, initRun.sl.v6171, initRun.sl.v7781, initRun.sl.v7756, initRun.sl.v7732, initRun.sl.v7728, initRun.sl.v7755, initRun.sl.v7752, initRun.sl.v7748, initRun.sl.v7740, initRun.sl.v7737, initRun.sl.v7780, initRun.sl.v7778, initRun.sl.v7969, initRun.sl.v7944, initRun.sl.v7920, initRun.sl.v7919, initRun.sl.v7910, initRun.sl.v7916, initRun.sl.v7912, initRun.sl.v7943, initRun.sl.v7940, initRun.sl.v7936, initRun.sl.v7928, initRun.sl.v7925, initRun.sl.v7968, initRun.sl.v7966, initRun.sl.v8161, initRun.sl.v8137, initRun.sl.v8094, initRun.sl.v8349, initRun.sl.v8325, initRun.sl.v8282, initRun.sl.v8278, initRun.sl.v3973, initRun.sl.v3972, initRun.sl.v3963, initRun.sl.v3969, initRun.sl.v3965, k0_pay230, k0_pay231, k0_pay248, k0_pay249, k0_pay250, k0_pay267, k0_pay268, k0_pay269, k0_pay283, k0_pay299, k0_pay300, k0_pay301, k0_pay311, k0_pay312, k0_pay322, k0_pay323, k0_pay336, k0_pay337] <;>
    pointwise <;> revert l <;> decide +kernel

theorem tile16 (c : Dev nD) (arg3 : Memref sig .tc .vmem S10x16384 .bf16) (harg3 : arg3.IsWhole) (x3 : Vec Ideal S10x16384 .bf16) (b : Fin 10) (g : Fin 8) (k : Fin 256) :
    (k0_pay247 (initRun.sl.v7054 c arg3 harg3 x3) initRun.sl.v4015 initRun.sl.v4016 (muli initRun.sl.v4220 initRun.sl.v4221) (64#32) (divsi initRun.sl.v4015 initRun.sl.v4223) (subi initRun.sl.v4227 initRun.sl.v4230) 1#1) (ix3 0 ⟨b.val * 8 + g.val, by omega⟩ k) = tileV 8192 x3 16 b g k := by
  obtain ⟨h0, h1, h2, h3, h4, h5, h6, h7, h8⟩ := lanes16 b
  simp only [initRun.sl.v7054, initRun.sl.v7053, initRun.sl.v7043, initRun.sl.v7023, initRun.sl.v7035, initRun.sl.r_23, initRun.sl.v7052, initRun.sl.v7044, initRun.sl.r_24, initRun.sl.v3947, initRun.sl.v7034, initRun.sl.v7024, initRun.sl.v7016, initRun.sl.v7033, initRun.sl.v7025, initRun.sl.v4015, initRun.sl.v4016, initRun.sl.v4220, initRun.sl.v4207, initRun.sl.v4219, initRun.sl.v4210, initRun.sl.v4209, initRun.sl.v4216, initRun.sl.v4214, initRun.sl.v4212, initRun.sl.v4221, initRun.sl.v4223, initRun.sl.v4227, initRun.sl.v4230, k0_pay228, k0_pay229, k0_pay247]
  rw [read3 arg3 harg3 x3 2048 inb_S10x16384_S10x256_0_2048, read3 arg3 harg3 x3 10240 inb_S10x16384_S10x256_0_10240]
  refine tile_of x3 16 _ _ _ b g k _ _ _ _ _ _ _ _ _ zero_f32 ?_ ?_
  · revert g k
    decide +kernel
  · exact gather_tile x3 16 _ _ _ _ b k 0 (by decide) (by decide) (by decide) (by decide) h0 h8 _ _ _ _ _ _

theorem tile17 (c : Dev nD) (arg3 : Memref sig .tc .vmem S10x16384 .bf16) (harg3 : arg3.IsWhole) (x3 : Vec Ideal S10x16384 .bf16) (b : Fin 10) (g : Fin 8) (k : Fin 256) :
    (k0_pay264 (initRun.sl.v7242 c arg3 harg3 x3) initRun.sl.v4015 initRun.sl.v4016 (muli initRun.sl.v4220 initRun.sl.v4221) (64#32) (divsi initRun.sl.v4015 initRun.sl.v4223) initRun.sl.v4227 initRun.sl.v4209) (ix3 0 ⟨b.val * 8 + g.val, by omega⟩ k) = tileV 8192 x3 17 b g k := by
  obtain ⟨h0, h1, h2, h3, h4, h5, h6, h7, h8⟩ := lanes16 b
  simp only [initRun.sl.v7242, initRun.sl.v7241, initRun.sl.v7231, initRun.sl.v7211, initRun.sl.v7035, initRun.sl.r_23, initRun.sl.v7240, initRun.sl.v7044, initRun.sl.r_24, initRun.sl.v3947, initRun.sl.v7222, initRun.sl.v7212, initRun.sl.v7016, initRun.sl.v7221, initRun.sl.v7025, initRun.sl.v4015, initRun.sl.v4016, initRun.sl.v4220, initRun.sl.v4207, initRun.sl.v4219, initRun.sl.v4210, initRun.sl.v4209, initRun.sl.v4216, initRun.sl.v4214, initRun.sl.v4212, initRun.sl.v4221, initRun.sl.v4223, initRun.sl.v4227, k0_pay228, k0_pay229, k0_pay264]
  rw [read3 arg3 harg3 x3 2048 inb_S10x16384_S10x256_0_2048, read3 arg3 harg3 x3 10240 inb_S10x16384_S10x256_0_10240]
  refine tile_of x3 17 _ _ _ b g k _ _ _ _ _ _ _ _ _ zero_f32 ?_ ?_
  · revert g k
    decide +kernel
  · exact gather_tile x3 17 _ _ _ _ b k 1 (by decide) (by decide) (by decide) (by decide) h1 h8 _ _ _ _ _ _

theorem tile18 (c : Dev nD) (arg3 : Memref sig .tc .vmem S10x16384 .bf16) (harg3 : arg3.IsWhole) (x3 : Vec Ideal S10x16384 .bf16) (b : Fin 10) (g : Fin 8) (k : Fin 256) :
    (k0_pay282 (initRun.sl.v7434 c arg3 harg3 x3) initRun.sl.v4015 initRun.sl.v4016 (remsi initRun.sl.v4015 initRun.sl.v4207) (andi initRun.sl.v4216 initRun.sl.v4210) initRun.sl.v4219) (ix3 0 ⟨b.val * 8 + g.val, by omega⟩ k) = tileV 8192 x3 18 b g k := by
  obtain ⟨h0, h1, h2, h3, h4, h5, h6, h7, h8⟩ := lanes16 b
  simp only [initRun.sl.v7434, initRun.sl.v7433, initRun.sl.v7423, initRun.sl.v7403, initRun.sl.v7415, initRun.sl.r_25, initRun.sl.v7432, initRun.sl.v7424, initRun.sl.r_26, initRun.sl.v3947, initRun.sl.v7414, initRun.sl.v7404, initRun.sl.v7396, initRun.sl.v7413, initRun.sl.v7405, initRun.sl.v4015, initRun.sl.v4016, initRun.sl.v4207, initRun.sl.v4216, initRun.sl.v4214, initRun.sl.v4212, initRun.sl.v4209, initRun.sl.v4210, initRun.sl.v4219, k0_pay265, k0_pay266, k0_pay282]
  rw [read3 arg3 harg3 x3 2304 inb_S10x16384_S10x256_0_2304, read3 arg3 harg3 x3 10496 inb_S10x16384_S10x256_0_10496]
  refine tile_of x3 18 _ _ _ b g k _ _ _ _ _ _ _ _ _ zero_f32 ?_ ?_
  · revert g k
    decide +kernel
  · exact gather_tile x3 18 _ _ _ _ b k 0 (by decide) (by decide) (by decide) (by decide) h2 h8 _ _ _ _ _ _

theorem tile19 (c : Dev nD) (arg3 : Memref sig .tc .vmem S10x16384 .bf16) (harg3 : arg3.IsWhole) (x3 : Vec Ideal S10x16384 .bf16) (b : Fin 10) (g : Fin 8) (k : Fin 256) :
    (k0_pay296 (initRun.sl.v7622 c arg3 harg3 x3) initRun.sl.v4015 initRun.sl.v4016 (2#32) (remsi initRun.sl.v4015 initRun.sl.v4207) initRun.sl.v4210 initRun.sl.v4212 initRun.sl.v4214) (ix3 0 ⟨b.val * 8 + g.val, by omega⟩ k) = tileV 8192 x3 19 b g k := by
  obtain ⟨h0, h1, h2, h3, h4, h5, h6, h7, h8⟩ := lanes16 b
  simp only [initRun.sl.v7622, initRun.sl.v7621, initRun.sl.v7611, initRun.sl.v7591, initRun.sl.v7415, initRun.sl.r_25, initRun.sl.v7620, initRun.sl.v7424, initRun.sl.r_26, initRun.sl.v3947, initRun.sl.v7602, initRun.sl.v7592, initRun.sl.v7396, initRun.sl.v7601, initRun.sl.v7405, initRun.sl.v4015, initRun.sl.v4016, initRun.sl.v4207, initRun.sl.v4210, initRun.sl.v4209, initRun.sl.v4212, initRun.sl.v4214, k0_pay265, k0_pay266, k0_pay296]
  rw [read3 arg3 harg3 x3 2304 inb_S10x16384_S10x256_0_2304, read3 arg3 harg3 x3 10496 inb_S10x16384_S10x256_0_10496]
  refine tile_of x3 19 _ _ _ b g k _ _ _ _ _ _ _ _ _ zero_f32 ?_ ?_
  · revert g k
    decide +kernel
  · exact gather_tile x3 19 _ _ _ _ b k 1 (by decide) (by decide) (by decide) (by decide) h3 h8 _ _ _ _ _ _

theorem tile20 (c : Dev nD) (arg3 : Memref sig .tc .vmem S10x16384 .bf16) (harg3 : arg3.IsWhole) (x3 : Vec Ideal S10x16384 .bf16) (b : Fin 10) (g : Fin 8) (k : Fin 256) :
    (k0_pay310 (initRun.sl.r_29 c arg3 harg3 x3) initRun.sl.cst_2406 initRun.sl.r_30) (ix3 0 ⟨b.val * 8 + g.val, by omega⟩ k) = tileV 8192 x3 20 b g k := by
  obtain ⟨h0, h1, h2, h3, h4, h5, h6, h7, h8⟩ := lanes16 b
  simp only [initRun.sl.r_29, initRun.sl.v7814, initRun.sl.v7813, initRun.sl.v7803, initRun.sl.v7783, initRun.sl.v7795, initRun.sl.r_27, initRun.sl.v7812, initRun.sl.v7804, initRun.sl.r_28, initRun.sl.v3947, initRun.sl.v7794, initRun.sl.v7784, initRun.sl.v7776, initRun.sl.v7793, initRun.sl.v7785, initRun.sl.cst_2406, initRun.sl.r_30, initRun.sl.v4016, initRun.sl.v4015, k0_pay297, k0_pay298, k0_pay308, k0_pay309, k0_pay310]
  rw [read3 arg3 harg3 x3 2560 inb_S10x16384_S10x256_0_2560, read3 arg3 harg3 x3 10752 inb_S10x16384_S10x256_0_10752]
  refine tile_of x3 20 _ _ _ b g k _ _ _ _ _ _ _ _ _ zero_f32 ?_ ?_
  · revert g k
    decide +kernel
  · exact gather_tile x3 20 _ _ _ _ b k 0 (by decide) (by decide) (by decide) (by decide) h4 h8 _ _ _ _ _ _

theorem tile21 (c : Dev nD) (arg3 : Memref sig .tc .vmem S10x16384 .bf16) (harg3 : arg3.IsWhole) (x3 : Vec Ideal S10x16384 .bf16) (b : Fin 10) (g : Fin 8) (k : Fin 256) :
    (k0_pay319 (initRun.sl.v8002 c arg3 harg3 x3) (cmpi CmpIPredicate.eq initRun.sl.v4016 initRun.sl.v4247)) (ix3 0 ⟨b.val * 8 + g.val, by omega⟩ k) = tileV 8192 x3 21 b g k := by
  obtain ⟨h0, h1, h2, h3, h4, h5, h6, h7, h8⟩ := lanes16 b
  simp only [initRun.sl.v8002, initRun.sl.v8001, initRun.sl.v7991, initRun.sl.v7971, initRun.sl.v7795, initRun.sl.r_27, initRun.sl.v8000, initRun.sl.v7804, initRun.sl.r_28, initRun.sl.v3947, initRun.sl.v7982, initRun.sl.v7972, initRun.sl.v7776, initRun.sl.v7981, initRun.sl.v7785, initRun.sl.v4016, initRun.sl.v4247, initRun.sl.v4246, initRun.sl.v4223, initRun.sl.v4015, initRun.sl.v4245, initRun.sl.v4237, initRun.sl.v4242, initRun.sl.v4209, initRun.sl.v4238, initRun.sl.v4230, initRun.sl.v4227, initRun.sl.v4221, initRun.sl.v4220, initRun.sl.v4207, initRun.sl.v4219, initRun.sl.v4210, initRun.sl.v4216, initRun.sl.v4214, initRun.sl.v4212, k0_pay297, k0_pay298, k0_pay319]
  rw [read3 arg3 harg3 x3 2560 inb_S10x16384_S10x256_0_2560, read3 arg3 harg3 x3 10752 inb_S10x16384_S10x256_0_10752]
  refine tile_of x3 21 _ _ _ b g k _ _ _ _ _ _ _ _ _ zero_f32 ?_ ?_
  · revert g k
    decide +kernel
  · exact gather_tile x3 21 _ _ _ _ b k 1 (by decide) (by decide) (by decide) (by decide) h5 h8 _ _ _ _ _ _

theorem tile22 (c : Dev nD) (arg3 : Memref sig .tc .vmem S10x16384 .bf16) (harg3 : arg3.IsWhole) (x3 : Vec Ideal S10x16384 .bf16) (b : Fin 10) (g : Fin 8) (k : Fin 256) :
    (k0_pay335 (initRun.sl.v8194 c arg3 harg3 x3) initRun.sl.v4015 initRun.sl.v4016 (muli initRun.sl.v4220 initRun.sl.v4221) (64#32) (divsi initRun.sl.v4015 initRun.sl.v4223) (subi initRun.sl.v4227 initRun.sl.v4230) initRun.sl.v4237) (ix3 0 ⟨b.val * 8 + g.val, by omega⟩ k) = tileV 8192 x3 22 b g k := by
  obtain ⟨h0, h1, h2, h3, h4, h5, h6, h7, h8⟩ := lanes16 b
  simp only [initRun.sl.v8194, initRun.sl.v8193, initRun.sl.v8183, initRun.sl.v8163, initRun.sl.v8175, initRun.sl.r_31, initRun.sl.v8192, initRun.sl.v8184, initRun.sl.r_32, initRun.sl.v3947, initRun.sl.v8174, initRun.sl.v8164, initRun.sl.v8156, initRun.sl.v8173, initRun.sl.v8165, initRun.sl.v4015, initRun.sl.v4016, initRun.sl.v4220, initRun.sl.v4207, initRun.sl.v4219, initRun.sl.v4210, initRun.sl.v4209, initRun.sl.v4216, initRun.sl.v4214, initRun.sl.v4212, initRun.sl.v4221, initRun.sl.v4223, initRun.sl.v4227, initRun.sl.v4230, initRun.sl.v4237, k0_pay320, k0_pay321, k0_pay335]
  rw [read3 arg3 harg3 x3 2816 inb_S10x16384_S10x256_0_2816, read3 arg3 harg3 x3 11008 inb_S10x16384_S10x256_0_11008]
  refine tile_of x3 22 _ _ _ b g k _ _ _ _ _ _ _ _ _ zero_f32 ?_ ?_
  · revert g k
    decide +kernel
  · exact gather_tile x3 22 _ _ _ _ b k 0 (by decide) (by decide) (by decide) (by decide) h6 h8 _ _ _ _ _ _

theorem tile23 (c : Dev nD) (arg3 : Memref sig .tc .vmem S10x16384 .bf16) (harg3 : arg3.IsWhole) (x3 : Vec Ideal S10x16384 .bf16) (b : Fin 10) (g : Fin 8) (k : Fin 256) :
    (k0_pay353 (initRun.sl.v8382 c arg3 harg3 x3) initRun.sl.v4015 initRun.sl.v4016 (muli initRun.sl.v4220 initRun.sl.v4221) (64#32) (divsi initRun.sl.v4015 initRun.sl.v4223) (subi initRun.sl.v4227 initRun.sl.v4230) 1#32) (ix3 0 ⟨b.val * 8 + g.val, by omega⟩ k) = tileV 8192 x3 23 b g k := by
  obtain ⟨h0, h1, h2, h3, h4, h5, h6, h7, h8⟩ := lanes16 b
  simp only [initRun.sl.v8382, initRun.sl.v8381, initRun.sl.v8371, initRun.sl.v8351, initRun.sl.v8175, initRun.sl.r_31, initRun.sl.v8380, initRun.sl.v8184, initRun.sl.r_32, initRun.sl.v3947, initRun.sl.v8362, initRun.sl.v8352, initRun.sl.v8156, initRun.sl.v8361, initRun.sl.v8165, initRun.sl.v4015, initRun.sl.v4016, initRun.sl.v4220, initRun.sl.v4207, initRun.sl.v4219, initRun.sl.v4210, initRun.sl.v4209, initRun.sl.v4216, initRun.sl.v4214, initRun.sl.v4212, initRun.sl.v4221, initRun.sl.v4223, initRun.sl.v4227, initRun.sl.v4230, k0_pay320, k0_pay321, k0_pay353]
  rw [read3 arg3 harg3 x3 2816 inb_S10x16384_S10x256_0_2816, read3 arg3 harg3 x3 11008 inb_S10x16384_S10x256_0_11008]
  refine tile_of x3 23 _ _ _ b g k _ _ _ _ _ _ _ _ _ zero_f32 ?_ ?_
  · revert g k
    decide +kernel
  · exact gather_tile x3 23 _ _ _ _ b k 1 (by decide) (by decide) (by decide) (by decide) h7 h8 _ _ _ _ _ _

end Cert.DownIdeal.Hand

end
-- ==== Proof.DownIdeal.Lhs3.lean ====
/- Tiles 24 to 31 that the first grid point stores into the expanded left operand. -/
module

public import proofs.«01_k».proof.Proof.DownIdeal.Gather

@[expose] public section

set_option maxRecDepth 16384
set_option maxHeartbeats 400000

noncomputable section

namespace Cert.DownIdeal.Hand

open Idealize.ShloMosaic Cert.DownIdeal.Gen Cert.Mx

/-- The lanes' sources and their parities. -/
theorem lanes24 (b : Fin 10) : (∀ l : Fin 128, initRun.sl.v8541 (ix2 b l) = srcW 0 l)
    ∧ (∀ l : Fin 128, initRun.sl.v8729 (ix2 b l) = srcW 1 l)
    ∧ (∀ l : Fin 128, initRun.sl.v8921 (ix2 b l) = srcW 0 l)
    ∧ (∀ l : Fin 128, initRun.sl.v5309 (ix2 b l) = srcW 1 l)
    ∧ (∀ l : Fin 128, initRun.sl.v9301 (ix2 b l) = srcW 0 l)
    ∧ (∀ l : Fin 128, initRun.sl.v9489 (ix2 b l) = srcW 1 l)
    ∧ (∀ l : Fin 128, initRun.sl.v9681 (ix2 b l) = srcW 0 l)
    ∧ (∀ l : Fin 128, initRun.sl.v9869 (ix2 b l) = srcW 1 l)
    ∧ (∀ l : Fin 128, initRun.sl.v3973 (ix2 b l) = oddW l)
    ∧ (∀ l : Fin 128, initRun.sl.v5301 (ix2 b l) = oddW l) := by
  refine ⟨?_, ?_, ?_, ?_, ?_, ?_, ?_, ?_, ?_, ?_⟩ <;> intro l <;>
    simp only [initRun.sl.v8541, initRun.sl.v8517, initRun.sl.v4336, initRun.sl.v3933, initRun.sl.v4312, initRun.sl.v3930, initRun.sl.v3886, initRun.sl.v4311, initRun.sl.v4302, initRun.sl.v3923, initRun.sl.v4308, initRun.sl.v3926, initRun.sl.v4304, initRun.sl.v4335, initRun.sl.v3947, initRun.sl.v4332, initRun.sl.v4328, initRun.sl.v4320, initRun.sl.v4317, initRun.sl.v4295, initRun.sl.v8474, initRun.sl.v8470, initRun.sl.v8467, initRun.sl.v3979, initRun.sl.v8729, initRun.sl.v8705, initRun.sl.v8662, initRun.sl.v8658, initRun.sl.v8650, initRun.sl.v8642, initRun.sl.v8921, initRun.sl.v8896, initRun.sl.v8872, initRun.sl.v8869, initRun.sl.v8895, initRun.sl.v8892, initRun.sl.v8888, initRun.sl.v8880, initRun.sl.v8877, initRun.sl.v8920, initRun.sl.v8918, initRun.sl.v5309, initRun.sl.v5285, initRun.sl.v5284, initRun.sl.v5260, initRun.sl.v5214, initRun.sl.v5259, initRun.sl.v5234, initRun.sl.v5256, initRun.sl.v5252, initRun.sl.v5283, initRun.sl.v5280, initRun.sl.v5276, initRun.sl.v5268, initRun.sl.v5265, initRun.sl.v5242, initRun.sl.v5238, initRun.sl.v5237, initRun.sl.v5230, initRun.sl.v5222, initRun.sl.v5219, initRun.sl.v9301, initRun.sl.v9277, initRun.sl.v9489, initRun.sl.v9424, initRun.sl.v9488, initRun.sl.v9486, initRun.sl.v9681, initRun.sl.v9657, initRun.sl.v9614, initRun.sl.v9610, initRun.sl.v9869, initRun.sl.v9845, initRun.sl.v9802, initRun.sl.v9798, initRun.sl.v9795, initRun.sl.v3973, initRun.sl.v3972, initRun.sl.v3963, initRun.sl.v3969, initRun.sl.v3965, initRun.sl.v5301, initRun.sl.v5300, initRun.sl.v5291, initRun.sl.v5297, initRun.sl.v5293, k0_pay356, k0_pay357, k0_pay371, k0_pay372, k0_pay373, k0_pay386, k0_pay387, k0_pay388, k0_pay389, k0_pay390, k0_pay412, k0_pay413, k0_pay427, k0_pay440, k0_pay441, k0_pay455, k0_pay456] <;>
    pointwise <;> revert l <;> decide +kernel

theorem tile24 (c : Dev nD) (arg3 : Memref sig .tc .vmem S10x16384 .bf16) (harg3 : arg3.IsWhole) (x3 : Vec Ideal S10x16384 .bf16) (b : Fin 10) (g : Fin 8) (k : Fin 256) :
    (k0_pay370 (initRun.sl.v8574 c arg3 harg3 x3) initRun.sl.v4015 initRun.sl.v4016 (muli initRun.sl.v4220 initRun.sl.v4221) (64#32) initRun.sl.v4223) (ix3 0 ⟨b.val * 8 + g.val, by omega⟩ k) = tileV 8192 x3 24 b g k := by
  obtain ⟨h0, h1, h2, h3, h4, h5, h6, h7, h8, h9⟩ := lanes24 b
  simp only [initRun.sl.v8574, initRun.sl.v8573, initRun.sl.v8563, initRun.sl.v8543, initRun.sl.v8555, initRun.sl.r_33, initRun.sl.v8572, initRun.sl.v8564, initRun.sl.r_34, initRun.sl.v3947, initRun.sl.v8554, initRun.sl.v8544, initRun.sl.v8536, initRun.sl.v8553, initRun.sl.v8545, initRun.sl.v4015, initRun.sl.v4016, initRun.sl.v4220, initRun.sl.v4207, initRun.sl.v4219, initRun.sl.v4210, initRun.sl.v4209, initRun.sl.v4216, initRun.sl.v4214, initRun.sl.v4212, initRun.sl.v4221, initRun.sl.v4223, k0_pay354, k0_pay355, k0_pay370]
  rw [read3 arg3 harg3 x3 3072 inb_S10x16384_S10x256_0_3072, read3 arg3 harg3 x3 11264 inb_S10x16384_S10x256_0_11264]
  refine tile_of x3 24 _ _ _ b g k _ _ _ _ _ _ _ _ _ zero_f32 ?_ ?_
  · revert g k
    decide +kernel
  · exact gather_tile x3 24 _ _ _ _ b k 0 (by decide) (by decide) (by decide) (by decide) h0 h8 _ _ _ _ _ _

theorem tile25 (c : Dev nD) (arg3 : Memref sig .tc .vmem S10x16384 .bf16) (harg3 : arg3.IsWhole) (x3 : Vec Ideal S10x16384 .bf16) (b : Fin 10) (g : Fin 8) (k : Fin 256) :
    (k0_pay383 (initRun.sl.v8762 c arg3 harg3 x3) initRun.sl.v4015 initRun.sl.v4016 initRun.sl.v4220) (ix3 0 ⟨b.val * 8 + g.val, by omega⟩ k) = tileV 8192 x3 25 b g k := by
  obtain ⟨h0, h1, h2, h3, h4, h5, h6, h7, h8, h9⟩ := lanes24 b
  simp only [initRun.sl.v8762, initRun.sl.v8761, initRun.sl.v8751, initRun.sl.v8731, initRun.sl.v8555, initRun.sl.r_33, initRun.sl.v8760, initRun.sl.v8564, initRun.sl.r_34, initRun.sl.v3947, initRun.sl.v8742, initRun.sl.v8732, initRun.sl.v8536, initRun.sl.v8741, initRun.sl.v8545, initRun.sl.v4015, initRun.sl.v4016, initRun.sl.v4220, initRun.sl.v4207, initRun.sl.v4219, initRun.sl.v4210, initRun.sl.v4209, initRun.sl.v4216, initRun.sl.v4214, initRun.sl.v4212, k0_pay354, k0_pay355, k0_pay383]
  rw [read3 arg3 harg3 x3 3072 inb_S10x16384_S10x256_0_3072, read3 arg3 harg3 x3 11264 inb_S10x16384_S10x256_0_11264]
  refine tile_of x3 25 _ _ _ b g k _ _ _ _ _ _ _ _ _ zero_f32 ?_ ?_
  · revert g k
    decide +kernel
  · exact gather_tile x3 25 _ _ _ _ b k 1 (by decide) (by decide) (by decide) (by decide) h1 h8 _ _ _ _ _ _

theorem tile26 (c : Dev nD) (arg3 : Memref sig .tc .vmem S10x16384 .bf16) (harg3 : arg3.IsWhole) (x3 : Vec Ideal S10x16384 .bf16) (b : Fin 10) (g : Fin 8) (k : Fin 256) :
    (initRun.sl.v9013 c arg3 harg3 x3) (ix3 0 ⟨b.val * 8 + g.val, by omega⟩ k) = tileV 8192 x3 26 b g k := by
  obtain ⟨h0, h1, h2, h3, h4, h5, h6, h7, h8, h9⟩ := lanes24 b
  simp only [initRun.sl.v9013, initRun.sl.r_37, initRun.sl.v4209, initRun.sl.v4207, initRun.sl.v4015, initRun.sl.v4016, initRun.sl.v8954, initRun.sl.v8953, initRun.sl.v8943, initRun.sl.v8923, initRun.sl.v8935, initRun.sl.r_35, initRun.sl.v8952, initRun.sl.v8944, initRun.sl.r_36, initRun.sl.v3947, initRun.sl.v8934, initRun.sl.v8924, initRun.sl.v8916, initRun.sl.v8933, initRun.sl.v8925, k0_pay384, k0_pay385, k0_pay396]
  rw [read3 arg3 harg3 x3 3328 inb_S10x16384_S10x256_0_3328, read3 arg3 harg3 x3 11520 inb_S10x16384_S10x256_0_11520]
  refine tile_of x3 26 _ _ _ b g k _ _ _ _ _ _ _ _ _ zero_f32 ?_ ?_
  · revert g k
    decide +kernel
  · exact gather_tile x3 26 _ _ _ _ b k 0 (by decide) (by decide) (by decide) (by decide) h2 h8 _ _ _ _ _ _

theorem tile27 (c : Dev nD) (arg3 : Memref sig .tc .vmem S10x16384 .bf16) (harg3 : arg3.IsWhole) (x3 : Vec Ideal S10x16384 .bf16) (b : Fin 10) (g : Fin 8) (k : Fin 256) :
    (k0_pay409 initRun.sl.cst_2406 initRun.sl.r_38 (initRun.sl.r_39 c arg3 harg3 x3)) (ix3 0 ⟨b.val * 8 + g.val, by omega⟩ k) = tileV 8192 x3 27 b g k := by
  obtain ⟨h0, h1, h2, h3, h4, h5, h6, h7, h8, h9⟩ := lanes24 b
  simp only [initRun.sl.cst_2406, initRun.sl.r_38, initRun.sl.v4016, initRun.sl.v4015, initRun.sl.r_39, initRun.sl.v9142, initRun.sl.v9141, initRun.sl.v9131, initRun.sl.v5311, initRun.sl.v8935, initRun.sl.r_35, initRun.sl.v9140, initRun.sl.v8944, initRun.sl.r_36, initRun.sl.v3947, initRun.sl.v9122, initRun.sl.v9112, initRun.sl.v8916, initRun.sl.v9121, initRun.sl.v8925, k0_pay384, k0_pay385, k0_pay407, k0_pay408, k0_pay409]
  rw [read3 arg3 harg3 x3 3328 inb_S10x16384_S10x256_0_3328, read3 arg3 harg3 x3 11520 inb_S10x16384_S10x256_0_11520]
  refine tile_of x3 27 _ _ _ b g k _ _ _ _ _ _ _ _ _ zero_f32 ?_ ?_
  · revert g k
    decide +kernel
  · exact gather_tile x3 27 _ _ _ _ b k 1 (by decide) (by decide) (by decide) (by decide) h3 h9 _ _ _ _ _ _

theorem tile28 (c : Dev nD) (arg3 : Memref sig .tc .vmem S10x16384 .bf16) (harg3 : arg3.IsWhole) (x3 : Vec Ideal S10x16384 .bf16) (b : Fin 10) (g : Fin 8) (k : Fin 256) :
    (k0_pay426 (initRun.sl.v9334 c arg3 harg3 x3) initRun.sl.v4016 (muli initRun.sl.v4220 initRun.sl.v4221) (divsi initRun.sl.v4015 initRun.sl.v4223) initRun.sl.v4238 initRun.sl.v4242) (ix3 0 ⟨b.val * 8 + g.val, by omega⟩ k) = tileV 8192 x3 28 b g k := by
  obtain ⟨h0, h1, h2, h3, h4, h5, h6, h7, h8, h9⟩ := lanes24 b
  simp only [initRun.sl.v9334, initRun.sl.v9333, initRun.sl.v9323, initRun.sl.v9303, initRun.sl.v9315, initRun.sl.r_40, initRun.sl.v9332, initRun.sl.v9324, initRun.sl.r_41, initRun.sl.v3947, initRun.sl.v9314, initRun.sl.v9304, initRun.sl.v9296, initRun.sl.v9313, initRun.sl.v9305, initRun.sl.v4016, initRun.sl.v4220, initRun.sl.v4207, initRun.sl.v4015, initRun.sl.v4219, initRun.sl.v4210, initRun.sl.v4209, initRun.sl.v4216, initRun.sl.v4214, initRun.sl.v4212, initRun.sl.v4221, initRun.sl.v4223, initRun.sl.v4238, initRun.sl.v4237, initRun.sl.v4230, initRun.sl.v4227, initRun.sl.v4242, k0_pay410, k0_pay411, k0_pay426]
  rw [read3 arg3 harg3 x3 3584 inb_S10x16384_S10x256_0_3584, read3 arg3 harg3 x3 11776 inb_S10x16384_S10x256_0_11776]
  refine tile_of x3 28 _ _ _ b g k _ _ _ _ _ _ _ _ _ zero_f32 ?_ ?_
  · revert g k
    decide +kernel
  · exact gather_tile x3 28 _ _ _ _ b k 0 (by decide) (by decide) (by decide) (by decide) h4 h8 _ _ _ _ _ _

theorem tile29 (c : Dev nD) (arg3 : Memref sig .tc .vmem S10x16384 .bf16) (harg3 : arg3.IsWhole) (x3 : Vec Ideal S10x16384 .bf16) (b : Fin 10) (g : Fin 8) (k : Fin 256) :
    (k0_pay437 (initRun.sl.v9522 c arg3 harg3 x3) initRun.sl.v4015 initRun.sl.v4016 (muli initRun.sl.v4220 initRun.sl.v4221) (64#32) (divsi initRun.sl.v4015 initRun.sl.v4223) initRun.sl.v4238) (ix3 0 ⟨b.val * 8 + g.val, by omega⟩ k) = tileV 8192 x3 29 b g k := by
  obtain ⟨h0, h1, h2, h3, h4, h5, h6, h7, h8, h9⟩ := lanes24 b
  simp only [initRun.sl.v9522, initRun.sl.v9521, initRun.sl.v9511, initRun.sl.v9491, initRun.sl.v9315, initRun.sl.r_40, initRun.sl.v9520, initRun.sl.v9324, initRun.sl.r_41, initRun.sl.v3947, initRun.sl.v9502, initRun.sl.v9492, initRun.sl.v9296, initRun.sl.v9501, initRun.sl.v9305, initRun.sl.v4015, initRun.sl.v4016, initRun.sl.v4220, initRun.sl.v4207, initRun.sl.v4219, initRun.sl.v4210, initRun.sl.v4209, initRun.sl.v4216, initRun.sl.v4214, initRun.sl.v4212, initRun.sl.v4221, initRun.sl.v4223, initRun.sl.v4238, initRun.sl.v4237, initRun.sl.v4230, initRun.sl.v4227, k0_pay410, k0_pay411, k0_pay437]
  rw [read3 arg3 harg3 x3 3584 inb_S10x16384_S10x256_0_3584, read3 arg3 harg3 x3 11776 inb_S10x16384_S10x256_0_11776]
  refine tile_of x3 29 _ _ _ b g k _ _ _ _ _ _ _ _ _ zero_f32 ?_ ?_
  · revert g k
    decide +kernel
  · exact gather_tile x3 29 _ _ _ _ b k 1 (by decide) (by decide) (by decide) (by decide) h5 h8 _ _ _ _ _ _

theorem tile30 (c : Dev nD) (arg3 : Memref sig .tc .vmem S10x16384 .bf16) (harg3 : arg3.IsWhole) (x3 : Vec Ideal S10x16384 .bf16) (b : Fin 10) (g : Fin 8) (k : Fin 256) :
    (k0_pay454 (initRun.sl.v9714 c arg3 harg3 x3) initRun.sl.v4015 initRun.sl.v4016 (muli initRun.sl.v4220 initRun.sl.v4221) (64#32) (divsi initRun.sl.v4015 initRun.sl.v4223) initRun.sl.v4227 0#32) (ix3 0 ⟨b.val * 8 + g.val, by omega⟩ k) = tileV 8192 x3 30 b g k := by
  obtain ⟨h0, h1, h2, h3, h4, h5, h6, h7, h8, h9⟩ := lanes24 b
  simp only [initRun.sl.v9714, initRun.sl.v9713, initRun.sl.v9703, initRun.sl.v9683, initRun.sl.v9695, initRun.sl.r_42, initRun.sl.v9712, initRun.sl.v9704, initRun.sl.r_43, initRun.sl.v3947, initRun.sl.v9694, initRun.sl.v9684, initRun.sl.v9676, initRun.sl.v9693, initRun.sl.v9685, initRun.sl.v4015, initRun.sl.v4016, initRun.sl.v4220, initRun.sl.v4207, initRun.sl.v4219, initRun.sl.v4210, initRun.sl.v4209, initRun.sl.v4216, initRun.sl.v4214, initRun.sl.v4212, initRun.sl.v4221, initRun.sl.v4223, initRun.sl.v4227, k0_pay438, k0_pay439, k0_pay454]
  rw [read3 arg3 harg3 x3 3840 inb_S10x16384_S10x256_0_3840, read3 arg3 harg3 x3 12032 inb_S10x16384_S10x256_0_12032]
  refine tile_of x3 30 _ _ _ b g k _ _ _ _ _ _ _ _ _ zero_f32 ?_ ?_
  · revert g k
    decide +kernel
  · exact gather_tile x3 30 _ _ _ _ b k 0 (by decide) (by decide) (by decide) (by decide) h6 h8 _ _ _ _ _ _

theorem tile31 (c : Dev nD) (arg3 : Memref sig .tc .vmem S10x16384 .bf16) (harg3 : arg3.IsWhole) (x3 : Vec Ideal S10x16384 .bf16) (b : Fin 10) (g : Fin 8) (k : Fin 256) :
    (k0_pay470 (initRun.sl.v9902 c arg3 harg3 x3) initRun.sl.v4015 initRun.sl.v4016 (muli initRun.sl.v4220 initRun.sl.v4221) (64#32) (divsi initRun.sl.v4015 initRun.sl.v4223)) (ix3 0 ⟨b.val * 8 + g.val, by omega⟩ k) = tileV 8192 x3 31 b g k := by
  obtain ⟨h0, h1, h2, h3, h4, h5, h6, h7, h8, h9⟩ := lanes24 b
  simp only [initRun.sl.v9902, initRun.sl.v9901, initRun.sl.v9891, initRun.sl.v9871, initRun.sl.v9695, initRun.sl.r_42, initRun.sl.v9900, initRun.sl.v9704, initRun.sl.r_43, initRun.sl.v3947, initRun.sl.v9882, initRun.sl.v9872, initRun.sl.v9676, initRun.sl.v9881, initRun.sl.v9685, initRun.sl.v4015, initRun.sl.v4016, initRun.sl.v4220, initRun.sl.v4207, initRun.sl.v4219, initRun.sl.v4210, initRun.sl.v4209, initRun.sl.v4216, initRun.sl.v4214, initRun.sl.v4212, initRun.sl.v4221, initRun.sl.v4223, k0_pay438, k0_pay439, k0_pay470]
  rw [read3 arg3 harg3 x3 3840 inb_S10x16384_S10x256_0_3840, read3 arg3 harg3 x3 12032 inb_S10x16384_S10x256_0_12032]
  refine tile_of x3 31 _ _ _ b g k _ _ _ _ _ _ _ _ _ zero_f32 ?_ ?_
  · revert g k
    decide +kernel
  · exact gather_tile x3 31 _ _ _ _ b k 1 (by decide) (by decide) (by decide) (by decide) h7 h8 _ _ _ _ _ _

end Cert.DownIdeal.Hand

end
-- ==== Proof.DownIdeal.Lhs4.lean ====
/- Tiles 32 to 39 that the first grid point stores into the expanded left operand. -/
module

public import proofs.«01_k».proof.Proof.DownIdeal.Gather

@[expose] public section

set_option maxRecDepth 16384
set_option maxHeartbeats 400000

noncomputable section

namespace Cert.DownIdeal.Hand

open Idealize.ShloMosaic Cert.DownIdeal.Gen Cert.Mx

/-- The lanes' sources and their parities. -/
theorem lanes32 (b : Fin 10) : (∀ l : Fin 128, initRun.sl.v10061 (ix2 b l) = srcW 0 l)
    ∧ (∀ l : Fin 128, initRun.sl.v5309 (ix2 b l) = srcW 1 l)
    ∧ (∀ l : Fin 128, initRun.sl.v10441 (ix2 b l) = srcW 0 l)
    ∧ (∀ l : Fin 128, initRun.sl.v10629 (ix2 b l) = srcW 1 l)
    ∧ (∀ l : Fin 128, initRun.sl.v10821 (ix2 b l) = srcW 0 l)
    ∧ (∀ l : Fin 128, initRun.sl.v11009 (ix2 b l) = srcW 1 l)
    ∧ (∀ l : Fin 128, initRun.sl.v11201 (ix2 b l) = srcW 0 l)
    ∧ (∀ l : Fin 128, initRun.sl.v11389 (ix2 b l) = srcW 1 l)
    ∧ (∀ l : Fin 128, initRun.sl.v3973 (ix2 b l) = oddW l)
    ∧ (∀ l : Fin 128, initRun.sl.v5301 (ix2 b l) = oddW l) := by
  refine ⟨?_, ?_, ?_, ?_, ?_, ?_, ?_, ?_, ?_, ?_⟩ <;> intro l <;>
    simp only [initRun.sl.v10061, initRun.sl.v10037, initRun.sl.v4336, initRun.sl.v3933, initRun.sl.v4312, initRun.sl.v3930, initRun.sl.v3886, initRun.sl.v4311, initRun.sl.v4302, initRun.sl.v3923, initRun.sl.v4308, initRun.sl.v3926, initRun.sl.v4304, initRun.sl.v4335, initRun.sl.v3947, initRun.sl.v4332, initRun.sl.v4328, initRun.sl.v4320, initRun.sl.v4317, initRun.sl.v4295, initRun.sl.v9994, initRun.sl.v9990, initRun.sl.v6182, initRun.sl.v6174, initRun.sl.v6171, initRun.sl.v3979, initRun.sl.v5309, initRun.sl.v5285, initRun.sl.v5284, initRun.sl.v5260, initRun.sl.v5214, initRun.sl.v5259, initRun.sl.v5234, initRun.sl.v5256, initRun.sl.v5252, initRun.sl.v5283, initRun.sl.v5280, initRun.sl.v5276, initRun.sl.v5268, initRun.sl.v5265, initRun.sl.v5242, initRun.sl.v5238, initRun.sl.v5237, initRun.sl.v5230, initRun.sl.v5222, initRun.sl.v5219, initRun.sl.v10441, initRun.sl.v10440, initRun.sl.v10438, initRun.sl.v10629, initRun.sl.v10628, initRun.sl.v10626, initRun.sl.v10821, initRun.sl.v10797, initRun.sl.v10754, initRun.sl.v10750, initRun.sl.v11009, initRun.sl.v10985, initRun.sl.v10942, initRun.sl.v10938, initRun.sl.v10934, initRun.sl.v11201, initRun.sl.v11177, initRun.sl.v11134, initRun.sl.v11130, initRun.sl.v11122, initRun.sl.v11114, initRun.sl.v11389, initRun.sl.v11365, initRun.sl.v11322, initRun.sl.v11318, initRun.sl.v3973, initRun.sl.v3972, initRun.sl.v3963, initRun.sl.v3969, initRun.sl.v3965, initRun.sl.v5301, initRun.sl.v5300, initRun.sl.v5291, initRun.sl.v5297, initRun.sl.v5293, k0_pay473, k0_pay499, k0_pay509, k0_pay525, k0_pay526, k0_pay543, k0_pay544, k0_pay545, k0_pay562, k0_pay563, k0_pay564, k0_pay578] <;>
    pointwise <;> revert l <;> decide +kernel

theorem tile32 (c : Dev nD) (arg3 : Memref sig .tc .vmem S10x16384 .bf16) (harg3 : arg3.IsWhole) (x3 : Vec Ideal S10x16384 .bf16) (b : Fin 10) (g : Fin 8) (k : Fin 256) :
    (initRun.sl.r_46 c arg3 harg3 x3) (ix3 0 ⟨b.val * 8 + g.val, by omega⟩ k) = tileV 8192 x3 32 b g k := by
  obtain ⟨h0, h1, h2, h3, h4, h5, h6, h7, h8, h9⟩ := lanes32 b
  simp only [initRun.sl.r_46, initRun.sl.v4212, initRun.sl.v4209, initRun.sl.v4207, initRun.sl.v4015, initRun.sl.v4210, initRun.sl.v4016, initRun.sl.v10094, initRun.sl.v10093, initRun.sl.v10083, initRun.sl.v10063, initRun.sl.v10075, initRun.sl.r_44, initRun.sl.v10092, initRun.sl.v10084, initRun.sl.r_45, initRun.sl.v3947, initRun.sl.v10074, initRun.sl.v10064, initRun.sl.v10056, initRun.sl.v10073, initRun.sl.v10065, k0_pay471, k0_pay472, k0_pay484]
  rw [read3 arg3 harg3 x3 4096 inb_S10x16384_S10x256_0_4096, read3 arg3 harg3 x3 12288 inb_S10x16384_S10x256_0_12288]
  refine tile_of x3 32 _ _ _ b g k _ _ _ _ _ _ _ _ _ zero_f32 ?_ ?_
  · revert g k
    decide +kernel
  · exact gather_tile x3 32 _ _ _ _ b k 0 (by decide) (by decide) (by decide) (by decide) h0 h8 _ _ _ _ _ _

theorem tile33 (c : Dev nD) (arg3 : Memref sig .tc .vmem S10x16384 .bf16) (harg3 : arg3.IsWhole) (x3 : Vec Ideal S10x16384 .bf16) (b : Fin 10) (g : Fin 8) (k : Fin 256) :
    (k0_pay496 (initRun.sl.r_47 c arg3 harg3 x3)) (ix3 0 ⟨b.val * 8 + g.val, by omega⟩ k) = tileV 8192 x3 33 b g k := by
  obtain ⟨h0, h1, h2, h3, h4, h5, h6, h7, h8, h9⟩ := lanes32 b
  simp only [initRun.sl.r_47, initRun.sl.v4210, initRun.sl.v4209, initRun.sl.v4207, initRun.sl.v4015, initRun.sl.v4016, initRun.sl.v10282, initRun.sl.v10281, initRun.sl.v10271, initRun.sl.v5311, initRun.sl.v10075, initRun.sl.r_44, initRun.sl.v10280, initRun.sl.v10084, initRun.sl.r_45, initRun.sl.v3947, initRun.sl.v10262, initRun.sl.v10252, initRun.sl.v10056, initRun.sl.v10261, initRun.sl.v10065, k0_pay471, k0_pay472, k0_pay495, k0_pay496]
  rw [read3 arg3 harg3 x3 4096 inb_S10x16384_S10x256_0_4096, read3 arg3 harg3 x3 12288 inb_S10x16384_S10x256_0_12288]
  refine tile_of x3 33 _ _ _ b g k _ _ _ _ _ _ _ _ _ zero_f32 ?_ ?_
  · revert g k
    decide +kernel
  · exact gather_tile x3 33 _ _ _ _ b k 1 (by decide) (by decide) (by decide) (by decide) h1 h9 _ _ _ _ _ _

theorem tile34 (c : Dev nD) (arg3 : Memref sig .tc .vmem S10x16384 .bf16) (harg3 : arg3.IsWhole) (x3 : Vec Ideal S10x16384 .bf16) (b : Fin 10) (g : Fin 8) (k : Fin 256) :
    (k0_pay508 (initRun.sl.v10474 c arg3 harg3 x3) initRun.sl.v4016 initRun.sl.v4247) (ix3 0 ⟨b.val * 8 + g.val, by omega⟩ k) = tileV 8192 x3 34 b g k := by
  obtain ⟨h0, h1, h2, h3, h4, h5, h6, h7, h8, h9⟩ := lanes32 b
  simp only [initRun.sl.v10474, initRun.sl.v10473, initRun.sl.v10463, initRun.sl.v10443, initRun.sl.v10455, initRun.sl.r_48, initRun.sl.v10472, initRun.sl.v10464, initRun.sl.r_49, initRun.sl.v3947, initRun.sl.v10454, initRun.sl.v10444, initRun.sl.v10436, initRun.sl.v10453, initRun.sl.v10445, initRun.sl.v4016, initRun.sl.v4247, initRun.sl.v4246, initRun.sl.v4223, initRun.sl.v4015, initRun.sl.v4245, initRun.sl.v4237, initRun.sl.v4242, initRun.sl.v4209, initRun.sl.v4238, initRun.sl.v4230, initRun.sl.v4227, initRun.sl.v4221, initRun.sl.v4220, initRun.sl.v4207, initRun.sl.v4219, initRun.sl.v4210, initRun.sl.v4216, initRun.sl.v4214, initRun.sl.v4212, k0_pay497, k0_pay498, k0_pay508]
  rw [read3 arg3 harg3 x3 4352 inb_S10x16384_S10x256_0_4352, read3 arg3 harg3 x3 12544 inb_S10x16384_S10x256_0_12544]
  refine tile_of x3 34 _ _ _ b g k _ _ _ _ _ _ _ _ _ zero_f32 ?_ ?_
  · revert g k
    decide +kernel
  · exact gather_tile x3 34 _ _ _ _ b k 0 (by decide) (by decide) (by decide) (by decide) h2 h8 _ _ _ _ _ _

theorem tile35 (c : Dev nD) (arg3 : Memref sig .tc .vmem S10x16384 .bf16) (harg3 : arg3.IsWhole) (x3 : Vec Ideal S10x16384 .bf16) (b : Fin 10) (g : Fin 8) (k : Fin 256) :
    (k0_pay522 (initRun.sl.v10662 c arg3 harg3 x3) initRun.sl.v4016 (muli initRun.sl.v4220 initRun.sl.v4221) (divsi initRun.sl.v4015 initRun.sl.v4223) (andi initRun.sl.v4238 initRun.sl.v4242)) (ix3 0 ⟨b.val * 8 + g.val, by omega⟩ k) = tileV 8192 x3 35 b g k := by
  obtain ⟨h0, h1, h2, h3, h4, h5, h6, h7, h8, h9⟩ := lanes32 b
  simp only [initRun.sl.v10662, initRun.sl.v10661, initRun.sl.v10651, initRun.sl.v10631, initRun.sl.v10455, initRun.sl.r_48, initRun.sl.v10660, initRun.sl.v10464, initRun.sl.r_49, initRun.sl.v3947, initRun.sl.v10642, initRun.sl.v10632, initRun.sl.v10436, initRun.sl.v10641, initRun.sl.v10445, initRun.sl.v4016, initRun.sl.v4220, initRun.sl.v4207, initRun.sl.v4015, initRun.sl.v4219, initRun.sl.v4210, initRun.sl.v4209, initRun.sl.v4216, initRun.sl.v4214, initRun.sl.v4212, initRun.sl.v4221, initRun.sl.v4223, initRun.sl.v4238, initRun.sl.v4237, initRun.sl.v4230, initRun.sl.v4227, initRun.sl.v4242, k0_pay497, k0_pay498, k0_pay522]
  rw [read3 arg3 harg3 x3 4352 inb_S10x16384_S10x256_0_4352, read3 arg3 harg3 x3 12544 inb_S10x16384_S10x256_0_12544]
  refine tile_of x3 35 _ _ _ b g k _ _ _ _ _ _ _ _ _ zero_f32 ?_ ?_
  · revert g k
    decide +kernel
  · exact gather_tile x3 35 _ _ _ _ b k 1 (by decide) (by decide) (by decide) (by decide) h3 h8 _ _ _ _ _ _

theorem tile36 (c : Dev nD) (arg3 : Memref sig .tc .vmem S10x16384 .bf16) (harg3 : arg3.IsWhole) (x3 : Vec Ideal S10x16384 .bf16) (b : Fin 10) (g : Fin 8) (k : Fin 256) :
    (k0_pay542 (initRun.sl.v10854 c arg3 harg3 x3) initRun.sl.v4015 initRun.sl.v4016 (muli initRun.sl.v4220 initRun.sl.v4221) (64#32) (divsi initRun.sl.v4015 initRun.sl.v4223) (subi initRun.sl.v4227 initRun.sl.v4230) 1#1) (ix3 0 ⟨b.val * 8 + g.val, by omega⟩ k) = tileV 8192 x3 36 b g k := by
  obtain ⟨h0, h1, h2, h3, h4, h5, h6, h7, h8, h9⟩ := lanes32 b
  simp only [initRun.sl.v10854, initRun.sl.v10853, initRun.sl.v10843, initRun.sl.v10823, initRun.sl.v10835, initRun.sl.r_50, initRun.sl.v10852, initRun.sl.v10844, initRun.sl.r_51, initRun.sl.v3947, initRun.sl.v10834, initRun.sl.v10824, initRun.sl.v10816, initRun.sl.v10833, initRun.sl.v10825, initRun.sl.v4015, initRun.sl.v4016, initRun.sl.v4220, initRun.sl.v4207, initRun.sl.v4219, initRun.sl.v4210, initRun.sl.v4209, initRun.sl.v4216, initRun.sl.v4214, initRun.sl.v4212, initRun.sl.v4221, initRun.sl.v4223, initRun.sl.v4227, initRun.sl.v4230, k0_pay523, k0_pay524, k0_pay542]
  rw [read3 arg3 harg3 x3 4608 inb_S10x16384_S10x256_0_4608, read3 arg3 harg3 x3 12800 inb_S10x16384_S10x256_0_12800]
  refine tile_of x3 36 _ _ _ b g k _ _ _ _ _ _ _ _ _ zero_f32 ?_ ?_
  · revert g k
    decide +kernel
  · exact gather_tile x3 36 _ _ _ _ b k 0 (by decide) (by decide) (by decide) (by decide) h4 h8 _ _ _ _ _ _

theorem tile37 (c : Dev nD) (arg3 : Memref sig .tc .vmem S10x16384 .bf16) (harg3 : arg3.IsWhole) (x3 : Vec Ideal S10x16384 .bf16) (b : Fin 10) (g : Fin 8) (k : Fin 256) :
    (k0_pay559 (initRun.sl.v11042 c arg3 harg3 x3) initRun.sl.v4015 initRun.sl.v4016 (muli initRun.sl.v4220 initRun.sl.v4221) (64#32) (divsi initRun.sl.v4015 initRun.sl.v4223) initRun.sl.v4227 initRun.sl.v4209) (ix3 0 ⟨b.val * 8 + g.val, by omega⟩ k) = tileV 8192 x3 37 b g k := by
  obtain ⟨h0, h1, h2, h3, h4, h5, h6, h7, h8, h9⟩ := lanes32 b
  simp only [initRun.sl.v11042, initRun.sl.v11041, initRun.sl.v11031, initRun.sl.v11011, initRun.sl.v10835, initRun.sl.r_50, initRun.sl.v11040, initRun.sl.v10844, initRun.sl.r_51, initRun.sl.v3947, initRun.sl.v11022, initRun.sl.v11012, initRun.sl.v10816, initRun.sl.v11021, initRun.sl.v10825, initRun.sl.v4015, initRun.sl.v4016, initRun.sl.v4220, initRun.sl.v4207, initRun.sl.v4219, initRun.sl.v4210, initRun.sl.v4209, initRun.sl.v4216, initRun.sl.v4214, initRun.sl.v4212, initRun.sl.v4221, initRun.sl.v4223, initRun.sl.v4227, k0_pay523, k0_pay524, k0_pay559]
  rw [read3 arg3 harg3 x3 4608 inb_S10x16384_S10x256_0_4608, read3 arg3 harg3 x3 12800 inb_S10x16384_S10x256_0_12800]
  refine tile_of x3 37 _ _ _ b g k _ _ _ _ _ _ _ _ _ zero_f32 ?_ ?_
  · revert g k
    decide +kernel
  · exact gather_tile x3 37 _ _ _ _ b k 1 (by decide) (by decide) (by decide) (by decide) h5 h8 _ _ _ _ _ _

theorem tile38 (c : Dev nD) (arg3 : Memref sig .tc .vmem S10x16384 .bf16) (harg3 : arg3.IsWhole) (x3 : Vec Ideal S10x16384 .bf16) (b : Fin 10) (g : Fin 8) (k : Fin 256) :
    (k0_pay577 (initRun.sl.v11234 c arg3 harg3 x3) initRun.sl.v4015 initRun.sl.v4016 (remsi initRun.sl.v4015 initRun.sl.v4207) (andi initRun.sl.v4216 initRun.sl.v4210) initRun.sl.v4219) (ix3 0 ⟨b.val * 8 + g.val, by omega⟩ k) = tileV 8192 x3 38 b g k := by
  obtain ⟨h0, h1, h2, h3, h4, h5, h6, h7, h8, h9⟩ := lanes32 b
  simp only [initRun.sl.v11234, initRun.sl.v11233, initRun.sl.v11223, initRun.sl.v11203, initRun.sl.v11215, initRun.sl.r_52, initRun.sl.v11232, initRun.sl.v11224, initRun.sl.r_53, initRun.sl.v3947, initRun.sl.v11214, initRun.sl.v11204, initRun.sl.v11196, initRun.sl.v11213, initRun.sl.v11205, initRun.sl.v4015, initRun.sl.v4016, initRun.sl.v4207, initRun.sl.v4216, initRun.sl.v4214, initRun.sl.v4212, initRun.sl.v4209, initRun.sl.v4210, initRun.sl.v4219, k0_pay560, k0_pay561, k0_pay577]
  rw [read3 arg3 harg3 x3 4864 inb_S10x16384_S10x256_0_4864, read3 arg3 harg3 x3 13056 inb_S10x16384_S10x256_0_13056]
  refine tile_of x3 38 _ _ _ b g k _ _ _ _ _ _ _ _ _ zero_f32 ?_ ?_
  · revert g k
    decide +kernel
  · exact gather_tile x3 38 _ _ _ _ b k 0 (by decide) (by decide) (by decide) (by decide) h6 h8 _ _ _ _ _ _

theorem tile39 (c : Dev nD) (arg3 : Memref sig .tc .vmem S10x16384 .bf16) (harg3 : arg3.IsWhole) (x3 : Vec Ideal S10x16384 .bf16) (b : Fin 10) (g : Fin 8) (k : Fin 256) :
    (k0_pay591 (initRun.sl.v11422 c arg3 harg3 x3) initRun.sl.v4015 initRun.sl.v4016 (2#32) (remsi initRun.sl.v4015 initRun.sl.v4207) initRun.sl.v4210 initRun.sl.v4212 initRun.sl.v4214) (ix3 0 ⟨b.val * 8 + g.val, by omega⟩ k) = tileV 8192 x3 39 b g k := by
  obtain ⟨h0, h1, h2, h3, h4, h5, h6, h7, h8, h9⟩ := lanes32 b
  simp only [initRun.sl.v11422, initRun.sl.v11421, initRun.sl.v11411, initRun.sl.v11391, initRun.sl.v11215, initRun.sl.r_52, initRun.sl.v11420, initRun.sl.v11224, initRun.sl.r_53, initRun.sl.v3947, initRun.sl.v11402, initRun.sl.v11392, initRun.sl.v11196, initRun.sl.v11401, initRun.sl.v11205, initRun.sl.v4015, initRun.sl.v4016, initRun.sl.v4207, initRun.sl.v4210, initRun.sl.v4209, initRun.sl.v4212, initRun.sl.v4214, k0_pay560, k0_pay561, k0_pay591]
  rw [read3 arg3 harg3 x3 4864 inb_S10x16384_S10x256_0_4864, read3 arg3 harg3 x3 13056 inb_S10x16384_S10x256_0_13056]
  refine tile_of x3 39 _ _ _ b g k _ _ _ _ _ _ _ _ _ zero_f32 ?_ ?_
  · revert g k
    decide +kernel
  · exact gather_tile x3 39 _ _ _ _ b k 1 (by decide) (by decide) (by decide) (by decide) h7 h8 _ _ _ _ _ _

end Cert.DownIdeal.Hand

end
-- ==== Proof.DownIdeal.Lhs5.lean ====
/- Tiles 40 to 47 that the first grid point stores into the expanded left operand. -/
module

public import proofs.«01_k».proof.Proof.DownIdeal.Gather

@[expose] public section

set_option maxRecDepth 16384
set_option maxHeartbeats 400000

noncomputable section

namespace Cert.DownIdeal.Hand

open Idealize.ShloMosaic Cert.DownIdeal.Gen Cert.Mx

/-- The lanes' sources and their parities. -/
theorem lanes40 (b : Fin 10) : (∀ l : Fin 128, initRun.sl.v11581 (ix2 b l) = srcW 0 l)
    ∧ (∀ l : Fin 128, initRun.sl.v11769 (ix2 b l) = srcW 1 l)
    ∧ (∀ l : Fin 128, initRun.sl.v11961 (ix2 b l) = srcW 0 l)
    ∧ (∀ l : Fin 128, initRun.sl.v12149 (ix2 b l) = srcW 1 l)
    ∧ (∀ l : Fin 128, initRun.sl.v12341 (ix2 b l) = srcW 0 l)
    ∧ (∀ l : Fin 128, initRun.sl.v12529 (ix2 b l) = srcW 1 l)
    ∧ (∀ l : Fin 128, initRun.sl.v12721 (ix2 b l) = srcW 0 l)
    ∧ (∀ l : Fin 128, initRun.sl.v12909 (ix2 b l) = srcW 1 l)
    ∧ (∀ l : Fin 128, initRun.sl.v3973 (ix2 b l) = oddW l)
    ∧ (∀ l : Fin 128, initRun.sl.v12901 (ix2 b l) = oddW l) := by
  refine ⟨?_, ?_, ?_, ?_, ?_, ?_, ?_, ?_, ?_, ?_⟩ <;> intro l <;>
    simp only [initRun.sl.v11581, initRun.sl.v11556, initRun.sl.v3933, initRun.sl.v11532, initRun.sl.v3930, initRun.sl.v11528, initRun.sl.v3926, initRun.sl.v3923, initRun.sl.v11555, initRun.sl.v3947, initRun.sl.v11552, initRun.sl.v11548, initRun.sl.v11540, initRun.sl.v11537, initRun.sl.v11580, initRun.sl.v3979, initRun.sl.v11578, initRun.sl.v11769, initRun.sl.v11744, initRun.sl.v11720, initRun.sl.v3886, initRun.sl.v11719, initRun.sl.v11710, initRun.sl.v11716, initRun.sl.v11712, initRun.sl.v11743, initRun.sl.v11740, initRun.sl.v11736, initRun.sl.v11728, initRun.sl.v11725, initRun.sl.v11768, initRun.sl.v11766, initRun.sl.v11961, initRun.sl.v11937, initRun.sl.v4336, initRun.sl.v4312, initRun.sl.v4311, initRun.sl.v4302, initRun.sl.v4308, initRun.sl.v4304, initRun.sl.v4335, initRun.sl.v4332, initRun.sl.v4328, initRun.sl.v4320, initRun.sl.v4317, initRun.sl.v4295, initRun.sl.v11894, initRun.sl.v12149, initRun.sl.v12125, initRun.sl.v12082, initRun.sl.v12078, initRun.sl.v12341, initRun.sl.v12317, initRun.sl.v12274, initRun.sl.v12270, initRun.sl.v12267, initRun.sl.v12529, initRun.sl.v12505, initRun.sl.v12462, initRun.sl.v12458, initRun.sl.v12450, initRun.sl.v12442, initRun.sl.v12721, initRun.sl.v12696, initRun.sl.v12672, initRun.sl.v12669, initRun.sl.v12695, initRun.sl.v12692, initRun.sl.v12688, initRun.sl.v12680, initRun.sl.v12677, initRun.sl.v12720, initRun.sl.v12718, initRun.sl.v12909, initRun.sl.v12885, initRun.sl.v12884, initRun.sl.v12860, initRun.sl.v12814, initRun.sl.v12859, initRun.sl.v12834, initRun.sl.v12856, initRun.sl.v12852, initRun.sl.v12883, initRun.sl.v12880, initRun.sl.v12876, initRun.sl.v12868, initRun.sl.v12865, initRun.sl.v12842, initRun.sl.v12838, initRun.sl.v12837, initRun.sl.v12830, initRun.sl.v12822, initRun.sl.v12819, initRun.sl.v3973, initRun.sl.v3972, initRun.sl.v3963, initRun.sl.v3969, initRun.sl.v3965, initRun.sl.v12901, initRun.sl.v12900, initRun.sl.v12891, initRun.sl.v12897, initRun.sl.v12893, k0_pay594, k0_pay595, k0_pay596, k0_pay606, k0_pay607, k0_pay617, k0_pay618, k0_pay631, k0_pay632, k0_pay651, k0_pay652, k0_pay666, k0_pay667, k0_pay668, k0_pay681, k0_pay682, k0_pay683, k0_pay684, k0_pay685] <;>
    pointwise <;> revert l <;> decide +kernel

theorem tile40 (c : Dev nD) (arg3 : Memref sig .tc .vmem S10x16384 .bf16) (harg3 : arg3.IsWhole) (x3 : Vec Ideal S10x16384 .bf16) (b : Fin 10) (g : Fin 8) (k : Fin 256) :
    (k0_pay605 (initRun.sl.r_56 c arg3 harg3 x3) initRun.sl.cst_2406 initRun.sl.r_57) (ix3 0 ⟨b.val * 8 + g.val, by omega⟩ k) = tileV 8192 x3 40 b g k := by
  obtain ⟨h0, h1, h2, h3, h4, h5, h6, h7, h8, h9⟩ := lanes40 b
  simp only [initRun.sl.r_56, initRun.sl.v11614, initRun.sl.v11613, initRun.sl.v11603, initRun.sl.v11583, initRun.sl.v11595, initRun.sl.r_54, initRun.sl.v11612, initRun.sl.v11604, initRun.sl.r_55, initRun.sl.v3947, initRun.sl.v11594, initRun.sl.v11584, initRun.sl.v11576, initRun.sl.v11593, initRun.sl.v11585, initRun.sl.cst_2406, initRun.sl.r_57, initRun.sl.v4016, initRun.sl.v4015, k0_pay592, k0_pay593, k0_pay603, k0_pay604, k0_pay605]
  rw [read3 arg3 harg3 x3 5120 inb_S10x16384_S10x256_0_5120, read3 arg3 harg3 x3 13312 inb_S10x16384_S10x256_0_13312]
  refine tile_of x3 40 _ _ _ b g k _ _ _ _ _ _ _ _ _ zero_f32 ?_ ?_
  · revert g k
    decide +kernel
  · exact gather_tile x3 40 _ _ _ _ b k 0 (by decide) (by decide) (by decide) (by decide) h0 h8 _ _ _ _ _ _

theorem tile41 (c : Dev nD) (arg3 : Memref sig .tc .vmem S10x16384 .bf16) (harg3 : arg3.IsWhole) (x3 : Vec Ideal S10x16384 .bf16) (b : Fin 10) (g : Fin 8) (k : Fin 256) :
    (k0_pay614 (initRun.sl.v11802 c arg3 harg3 x3) (cmpi CmpIPredicate.eq initRun.sl.v4016 initRun.sl.v4247)) (ix3 0 ⟨b.val * 8 + g.val, by omega⟩ k) = tileV 8192 x3 41 b g k := by
  obtain ⟨h0, h1, h2, h3, h4, h5, h6, h7, h8, h9⟩ := lanes40 b
  simp only [initRun.sl.v11802, initRun.sl.v11801, initRun.sl.v11791, initRun.sl.v11771, initRun.sl.v11595, initRun.sl.r_54, initRun.sl.v11800, initRun.sl.v11604, initRun.sl.r_55, initRun.sl.v3947, initRun.sl.v11782, initRun.sl.v11772, initRun.sl.v11576, initRun.sl.v11781, initRun.sl.v11585, initRun.sl.v4016, initRun.sl.v4247, initRun.sl.v4246, initRun.sl.v4223, initRun.sl.v4015, initRun.sl.v4245, initRun.sl.v4237, initRun.sl.v4242, initRun.sl.v4209, initRun.sl.v4238, initRun.sl.v4230, initRun.sl.v4227, initRun.sl.v4221, initRun.sl.v4220, initRun.sl.v4207, initRun.sl.v4219, initRun.sl.v4210, initRun.sl.v4216, initRun.sl.v4214, initRun.sl.v4212, k0_pay592, k0_pay593, k0_pay614]
  rw [read3 arg3 harg3 x3 5120 inb_S10x16384_S10x256_0_5120, read3 arg3 harg3 x3 13312 inb_S10x16384_S10x256_0_13312]
  refine tile_of x3 41 _ _ _ b g k _ _ _ _ _ _ _ _ _ zero_f32 ?_ ?_
  · revert g k
    decide +kernel
  · exact gather_tile x3 41 _ _ _ _ b k 1 (by decide) (by decide) (by decide) (by decide) h1 h8 _ _ _ _ _ _

theorem tile42 (c : Dev nD) (arg3 : Memref sig .tc .vmem S10x16384 .bf16) (harg3 : arg3.IsWhole) (x3 : Vec Ideal S10x16384 .bf16) (b : Fin 10) (g : Fin 8) (k : Fin 256) :
    (k0_pay630 (initRun.sl.v11994 c arg3 harg3 x3) initRun.sl.v4015 initRun.sl.v4016 (muli initRun.sl.v4220 initRun.sl.v4221) (64#32) (divsi initRun.sl.v4015 initRun.sl.v4223) (subi initRun.sl.v4227 initRun.sl.v4230) initRun.sl.v4237) (ix3 0 ⟨b.val * 8 + g.val, by omega⟩ k) = tileV 8192 x3 42 b g k := by
  obtain ⟨h0, h1, h2, h3, h4, h5, h6, h7, h8, h9⟩ := lanes40 b
  simp only [initRun.sl.v11994, initRun.sl.v11993, initRun.sl.v11983, initRun.sl.v11963, initRun.sl.v11975, initRun.sl.r_58, initRun.sl.v11992, initRun.sl.v11984, initRun.sl.r_59, initRun.sl.v3947, initRun.sl.v11974, initRun.sl.v11964, initRun.sl.v11956, initRun.sl.v11973, initRun.sl.v11965, initRun.sl.v4015, initRun.sl.v4016, initRun.sl.v4220, initRun.sl.v4207, initRun.sl.v4219, initRun.sl.v4210, initRun.sl.v4209, initRun.sl.v4216, initRun.sl.v4214, initRun.sl.v4212, initRun.sl.v4221, initRun.sl.v4223, initRun.sl.v4227, initRun.sl.v4230, initRun.sl.v4237, k0_pay615, k0_pay616, k0_pay630]
  rw [read3 arg3 harg3 x3 5376 inb_S10x16384_S10x256_0_5376, read3 arg3 harg3 x3 13568 inb_S10x16384_S10x256_0_13568]
  refine tile_of x3 42 _ _ _ b g k _ _ _ _ _ _ _ _ _ zero_f32 ?_ ?_
  · revert g k
    decide +kernel
  · exact gather_tile x3 42 _ _ _ _ b k 0 (by decide) (by decide) (by decide) (by decide) h2 h8 _ _ _ _ _ _

theorem tile43 (c : Dev nD) (arg3 : Memref sig .tc .vmem S10x16384 .bf16) (harg3 : arg3.IsWhole) (x3 : Vec Ideal S10x16384 .bf16) (b : Fin 10) (g : Fin 8) (k : Fin 256) :
    (k0_pay648 (initRun.sl.v12182 c arg3 harg3 x3) initRun.sl.v4015 initRun.sl.v4016 (muli initRun.sl.v4220 initRun.sl.v4221) (64#32) (divsi initRun.sl.v4015 initRun.sl.v4223) (subi initRun.sl.v4227 initRun.sl.v4230) 1#32) (ix3 0 ⟨b.val * 8 + g.val, by omega⟩ k) = tileV 8192 x3 43 b g k := by
  obtain ⟨h0, h1, h2, h3, h4, h5, h6, h7, h8, h9⟩ := lanes40 b
  simp only [initRun.sl.v12182, initRun.sl.v12181, initRun.sl.v12171, initRun.sl.v12151, initRun.sl.v11975, initRun.sl.r_58, initRun.sl.v12180, initRun.sl.v11984, initRun.sl.r_59, initRun.sl.v3947, initRun.sl.v12162, initRun.sl.v12152, initRun.sl.v11956, initRun.sl.v12161, initRun.sl.v11965, initRun.sl.v4015, initRun.sl.v4016, initRun.sl.v4220, initRun.sl.v4207, initRun.sl.v4219, initRun.sl.v4210, initRun.sl.v4209, initRun.sl.v4216, initRun.sl.v4214, initRun.sl.v4212, initRun.sl.v4221, initRun.sl.v4223, initRun.sl.v4227, initRun.sl.v4230, k0_pay615, k0_pay616, k0_pay648]
  rw [read3 arg3 harg3 x3 5376 inb_S10x16384_S10x256_0_5376, read3 arg3 harg3 x3 13568 inb_S10x16384_S10x256_0_13568]
  refine tile_of x3 43 _ _ _ b g k _ _ _ _ _ _ _ _ _ zero_f32 ?_ ?_
  · revert g k
    decide +kernel
  · exact gather_tile x3 43 _ _ _ _ b k 1 (by decide) (by decide) (by decide) (by decide) h3 h8 _ _ _ _ _ _

theorem tile44 (c : Dev nD) (arg3 : Memref sig .tc .vmem S10x16384 .bf16) (harg3 : arg3.IsWhole) (x3 : Vec Ideal S10x16384 .bf16) (b : Fin 10) (g : Fin 8) (k : Fin 256) :
    (k0_pay665 (initRun.sl.v12374 c arg3 harg3 x3) initRun.sl.v4015 initRun.sl.v4016 (muli initRun.sl.v4220 initRun.sl.v4221) (64#32) initRun.sl.v4223) (ix3 0 ⟨b.val * 8 + g.val, by omega⟩ k) = tileV 8192 x3 44 b g k := by
  obtain ⟨h0, h1, h2, h3, h4, h5, h6, h7, h8, h9⟩ := lanes40 b
  simp only [initRun.sl.v12374, initRun.sl.v12373, initRun.sl.v12363, initRun.sl.v12343, initRun.sl.v12355, initRun.sl.r_60, initRun.sl.v12372, initRun.sl.v12364, initRun.sl.r_61, initRun.sl.v3947, initRun.sl.v12354, initRun.sl.v12344, initRun.sl.v12336, initRun.sl.v12353, initRun.sl.v12345, initRun.sl.v4015, initRun.sl.v4016, initRun.sl.v4220, initRun.sl.v4207, initRun.sl.v4219, initRun.sl.v4210, initRun.sl.v4209, initRun.sl.v4216, initRun.sl.v4214, initRun.sl.v4212, initRun.sl.v4221, initRun.sl.v4223, k0_pay649, k0_pay650, k0_pay665]
  rw [read3 arg3 harg3 x3 5632 inb_S10x16384_S10x256_0_5632, read3 arg3 harg3 x3 13824 inb_S10x16384_S10x256_0_13824]
  refine tile_of x3 44 _ _ _ b g k _ _ _ _ _ _ _ _ _ zero_f32 ?_ ?_
  · revert g k
    decide +kernel
  · exact gather_tile x3 44 _ _ _ _ b k 0 (by decide) (by decide) (by decide) (by decide) h4 h8 _ _ _ _ _ _

theorem tile45 (c : Dev nD) (arg3 : Memref sig .tc .vmem S10x16384 .bf16) (harg3 : arg3.IsWhole) (x3 : Vec Ideal S10x16384 .bf16) (b : Fin 10) (g : Fin 8) (k : Fin 256) :
    (k0_pay678 (initRun.sl.v12562 c arg3 harg3 x3) initRun.sl.v4015 initRun.sl.v4016 initRun.sl.v4220) (ix3 0 ⟨b.val * 8 + g.val, by omega⟩ k) = tileV 8192 x3 45 b g k := by
  obtain ⟨h0, h1, h2, h3, h4, h5, h6, h7, h8, h9⟩ := lanes40 b
  simp only [initRun.sl.v12562, initRun.sl.v12561, initRun.sl.v12551, initRun.sl.v12531, initRun.sl.v12355, initRun.sl.r_60, initRun.sl.v12560, initRun.sl.v12364, initRun.sl.r_61, initRun.sl.v3947, initRun.sl.v12542, initRun.sl.v12532, initRun.sl.v12336, initRun.sl.v12541, initRun.sl.v12345, initRun.sl.v4015, initRun.sl.v4016, initRun.sl.v4220, initRun.sl.v4207, initRun.sl.v4219, initRun.sl.v4210, initRun.sl.v4209, initRun.sl.v4216, initRun.sl.v4214, initRun.sl.v4212, k0_pay649, k0_pay650, k0_pay678]
  rw [read3 arg3 harg3 x3 5632 inb_S10x16384_S10x256_0_5632, read3 arg3 harg3 x3 13824 inb_S10x16384_S10x256_0_13824]
  refine tile_of x3 45 _ _ _ b g k _ _ _ _ _ _ _ _ _ zero_f32 ?_ ?_
  · revert g k
    decide +kernel
  · exact gather_tile x3 45 _ _ _ _ b k 1 (by decide) (by decide) (by decide) (by decide) h5 h8 _ _ _ _ _ _

theorem tile46 (c : Dev nD) (arg3 : Memref sig .tc .vmem S10x16384 .bf16) (harg3 : arg3.IsWhole) (x3 : Vec Ideal S10x16384 .bf16) (b : Fin 10) (g : Fin 8) (k : Fin 256) :
    (initRun.sl.v12813 c arg3 harg3 x3) (ix3 0 ⟨b.val * 8 + g.val, by omega⟩ k) = tileV 8192 x3 46 b g k := by
  obtain ⟨h0, h1, h2, h3, h4, h5, h6, h7, h8, h9⟩ := lanes40 b
  simp only [initRun.sl.v12813, initRun.sl.r_64, initRun.sl.v4209, initRun.sl.v4207, initRun.sl.v4015, initRun.sl.v4016, initRun.sl.v12754, initRun.sl.v12753, initRun.sl.v12743, initRun.sl.v12723, initRun.sl.v12735, initRun.sl.r_62, initRun.sl.v12752, initRun.sl.v12744, initRun.sl.r_63, initRun.sl.v3947, initRun.sl.v12734, initRun.sl.v12724, initRun.sl.v12716, initRun.sl.v12733, initRun.sl.v12725, k0_pay679, k0_pay680, k0_pay691]
  rw [read3 arg3 harg3 x3 5888 inb_S10x16384_S10x256_0_5888, read3 arg3 harg3 x3 14080 inb_S10x16384_S10x256_0_14080]
  refine tile_of x3 46 _ _ _ b g k _ _ _ _ _ _ _ _ _ zero_f32 ?_ ?_
  · revert g k
    decide +kernel
  · exact gather_tile x3 46 _ _ _ _ b k 0 (by decide) (by decide) (by decide) (by decide) h6 h8 _ _ _ _ _ _

theorem tile47 (c : Dev nD) (arg3 : Memref sig .tc .vmem S10x16384 .bf16) (harg3 : arg3.IsWhole) (x3 : Vec Ideal S10x16384 .bf16) (b : Fin 10) (g : Fin 8) (k : Fin 256) :
    (k0_pay704 initRun.sl.cst_2406 initRun.sl.r_65 (initRun.sl.r_66 c arg3 harg3 x3)) (ix3 0 ⟨b.val * 8 + g.val, by omega⟩ k) = tileV 8192 x3 47 b g k := by
  obtain ⟨h0, h1, h2, h3, h4, h5, h6, h7, h8, h9⟩ := lanes40 b
  simp only [initRun.sl.cst_2406, initRun.sl.r_65, initRun.sl.v12944, initRun.sl.v12943, initRun.sl.r_66, initRun.sl.v12942, initRun.sl.v12941, initRun.sl.v12931, initRun.sl.v12911, initRun.sl.v12923, initRun.sl.r_62, initRun.sl.v12940, initRun.sl.v12932, initRun.sl.r_63, initRun.sl.v3947, initRun.sl.v12922, initRun.sl.v12912, initRun.sl.v12904, initRun.sl.v12921, initRun.sl.v12913, k0_pay679, k0_pay680, k0_pay702, k0_pay703, k0_pay704]
  rw [read3 arg3 harg3 x3 5888 inb_S10x16384_S10x256_0_5888, read3 arg3 harg3 x3 14080 inb_S10x16384_S10x256_0_14080]
  refine tile_of x3 47 _ _ _ b g k _ _ _ _ _ _ _ _ _ zero_f32 ?_ ?_
  · revert g k
    decide +kernel
  · exact gather_tile x3 47 _ _ _ _ b k 1 (by decide) (by decide) (by decide) (by decide) h7 h9 _ _ _ _ _ _

end Cert.DownIdeal.Hand

end
-- ==== Proof.DownIdeal.Lhs6.lean ====
/- Tiles 48 to 55 that the first grid point stores into the expanded left operand. -/
module

public import proofs.«01_k».proof.Proof.DownIdeal.Gather

@[expose] public section

set_option maxRecDepth 16384
set_option maxHeartbeats 400000

noncomputable section

namespace Cert.DownIdeal.Hand

open Idealize.ShloMosaic Cert.DownIdeal.Gen Cert.Mx

/-- The lanes' sources and their parities. -/
theorem lanes48 (b : Fin 10) : (∀ l : Fin 128, initRun.sl.v13101 (ix2 b l) = srcW 0 l)
    ∧ (∀ l : Fin 128, initRun.sl.v13289 (ix2 b l) = srcW 1 l)
    ∧ (∀ l : Fin 128, initRun.sl.v13481 (ix2 b l) = srcW 0 l)
    ∧ (∀ l : Fin 128, initRun.sl.v13669 (ix2 b l) = srcW 1 l)
    ∧ (∀ l : Fin 128, initRun.sl.v13861 (ix2 b l) = srcW 0 l)
    ∧ (∀ l : Fin 128, initRun.sl.v12909 (ix2 b l) = srcW 1 l)
    ∧ (∀ l : Fin 128, initRun.sl.v14241 (ix2 b l) = srcW 0 l)
    ∧ (∀ l : Fin 128, initRun.sl.v14429 (ix2 b l) = srcW 1 l)
    ∧ (∀ l : Fin 128, initRun.sl.v13093 (ix2 b l) = oddW l)
    ∧ (∀ l : Fin 128, initRun.sl.v12901 (ix2 b l) = oddW l) := by
  refine ⟨?_, ?_, ?_, ?_, ?_, ?_, ?_, ?_, ?_, ?_⟩ <;> intro l <;>
    simp only [initRun.sl.v13101, initRun.sl.v13077, initRun.sl.v13076, initRun.sl.v3933, initRun.sl.v13052, initRun.sl.v3930, initRun.sl.v3886, initRun.sl.v4311, initRun.sl.v4302, initRun.sl.v3923, initRun.sl.v13048, initRun.sl.v3926, initRun.sl.v4304, initRun.sl.v13075, initRun.sl.v3947, initRun.sl.v13072, initRun.sl.v13068, initRun.sl.v13060, initRun.sl.v13057, initRun.sl.v3979, initRun.sl.v13289, initRun.sl.v13224, initRun.sl.v4295, initRun.sl.v13288, initRun.sl.v13286, initRun.sl.v13481, initRun.sl.v13457, initRun.sl.v13414, initRun.sl.v13410, initRun.sl.v13669, initRun.sl.v13645, initRun.sl.v13602, initRun.sl.v13598, initRun.sl.v13595, initRun.sl.v13861, initRun.sl.v13837, initRun.sl.v13794, initRun.sl.v13790, initRun.sl.v13782, initRun.sl.v13774, initRun.sl.v13771, initRun.sl.v12909, initRun.sl.v12885, initRun.sl.v12884, initRun.sl.v12860, initRun.sl.v12814, initRun.sl.v12859, initRun.sl.v12834, initRun.sl.v12856, initRun.sl.v12852, initRun.sl.v12883, initRun.sl.v12880, initRun.sl.v12876, initRun.sl.v12868, initRun.sl.v12865, initRun.sl.v12842, initRun.sl.v12838, initRun.sl.v12837, initRun.sl.v12830, initRun.sl.v12822, initRun.sl.v12819, initRun.sl.v14241, initRun.sl.v14240, initRun.sl.v14238, initRun.sl.v14429, initRun.sl.v14428, initRun.sl.v14426, initRun.sl.v13093, initRun.sl.v3972, initRun.sl.v3963, initRun.sl.v13089, initRun.sl.v3965, initRun.sl.v12901, initRun.sl.v12900, initRun.sl.v12891, initRun.sl.v12897, initRun.sl.v12893, k0_pay707, k0_pay708, k0_pay722, k0_pay735, k0_pay736, k0_pay750, k0_pay751, k0_pay768, k0_pay794, k0_pay804] <;>
    pointwise <;> revert l <;> decide +kernel

theorem tile48 (c : Dev nD) (arg3 : Memref sig .tc .vmem S10x16384 .bf16) (harg3 : arg3.IsWhole) (x3 : Vec Ideal S10x16384 .bf16) (b : Fin 10) (g : Fin 8) (k : Fin 256) :
    (k0_pay721 (initRun.sl.v13134 c arg3 harg3 x3) initRun.sl.v12944 (muli initRun.sl.v13152 initRun.sl.v4221) (divsi initRun.sl.v12943 initRun.sl.v4223) initRun.sl.v13170 initRun.sl.v13174) (ix3 0 ⟨b.val * 8 + g.val, by omega⟩ k) = tileV 8192 x3 48 b g k := by
  obtain ⟨h0, h1, h2, h3, h4, h5, h6, h7, h8, h9⟩ := lanes48 b
  simp only [initRun.sl.v13134, initRun.sl.v13133, initRun.sl.v13123, initRun.sl.v13103, initRun.sl.v13115, initRun.sl.r_67, initRun.sl.v13132, initRun.sl.v13124, initRun.sl.r_68, initRun.sl.v3947, initRun.sl.v13114, initRun.sl.v13104, initRun.sl.v13096, initRun.sl.v13113, initRun.sl.v13105, initRun.sl.v12944, initRun.sl.v13152, initRun.sl.v4207, initRun.sl.v12943, initRun.sl.v13151, initRun.sl.v13142, initRun.sl.v4209, initRun.sl.v13148, initRun.sl.v4214, initRun.sl.v13144, initRun.sl.v4221, initRun.sl.v4223, initRun.sl.v13170, initRun.sl.v4237, initRun.sl.v13162, initRun.sl.v13159, initRun.sl.v13174, k0_pay705, k0_pay706, k0_pay721]
  rw [read3 arg3 harg3 x3 6144 inb_S10x16384_S10x256_0_6144, read3 arg3 harg3 x3 14336 inb_S10x16384_S10x256_0_14336]
  refine tile_of x3 48 _ _ _ b g k _ _ _ _ _ _ _ _ _ zero_f32 ?_ ?_
  · revert g k
    decide +kernel
  · exact gather_tile x3 48 _ _ _ _ b k 0 (by decide) (by decide) (by decide) (by decide) h0 h8 _ _ _ _ _ _

theorem tile49 (c : Dev nD) (arg3 : Memref sig .tc .vmem S10x16384 .bf16) (harg3 : arg3.IsWhole) (x3 : Vec Ideal S10x16384 .bf16) (b : Fin 10) (g : Fin 8) (k : Fin 256) :
    (k0_pay732 (initRun.sl.v13322 c arg3 harg3 x3) initRun.sl.v12943 initRun.sl.v12944 (muli initRun.sl.v13152 initRun.sl.v4221) (64#32) (divsi initRun.sl.v12943 initRun.sl.v4223) initRun.sl.v13170) (ix3 0 ⟨b.val * 8 + g.val, by omega⟩ k) = tileV 8192 x3 49 b g k := by
  obtain ⟨h0, h1, h2, h3, h4, h5, h6, h7, h8, h9⟩ := lanes48 b
  simp only [initRun.sl.v13322, initRun.sl.v13321, initRun.sl.v13311, initRun.sl.v13291, initRun.sl.v13115, initRun.sl.r_67, initRun.sl.v13320, initRun.sl.v13124, initRun.sl.r_68, initRun.sl.v3947, initRun.sl.v13302, initRun.sl.v13292, initRun.sl.v13096, initRun.sl.v13301, initRun.sl.v13105, initRun.sl.v12943, initRun.sl.v12944, initRun.sl.v13152, initRun.sl.v4207, initRun.sl.v13151, initRun.sl.v13142, initRun.sl.v4209, initRun.sl.v13148, initRun.sl.v4214, initRun.sl.v13144, initRun.sl.v4221, initRun.sl.v4223, initRun.sl.v13170, initRun.sl.v4237, initRun.sl.v13162, initRun.sl.v13159, k0_pay705, k0_pay706, k0_pay732]
  rw [read3 arg3 harg3 x3 6144 inb_S10x16384_S10x256_0_6144, read3 arg3 harg3 x3 14336 inb_S10x16384_S10x256_0_14336]
  refine tile_of x3 49 _ _ _ b g k _ _ _ _ _ _ _ _ _ zero_f32 ?_ ?_
  · revert g k
    decide +kernel
  · exact gather_tile x3 49 _ _ _ _ b k 1 (by decide) (by decide) (by decide) (by decide) h1 h8 _ _ _ _ _ _

theorem tile50 (c : Dev nD) (arg3 : Memref sig .tc .vmem S10x16384 .bf16) (harg3 : arg3.IsWhole) (x3 : Vec Ideal S10x16384 .bf16) (b : Fin 10) (g : Fin 8) (k : Fin 256) :
    (k0_pay749 (initRun.sl.v13514 c arg3 harg3 x3) initRun.sl.v12943 initRun.sl.v12944 (muli initRun.sl.v13152 initRun.sl.v4221) (64#32) (divsi initRun.sl.v12943 initRun.sl.v4223) initRun.sl.v13159 0#32) (ix3 0 ⟨b.val * 8 + g.val, by omega⟩ k) = tileV 8192 x3 50 b g k := by
  obtain ⟨h0, h1, h2, h3, h4, h5, h6, h7, h8, h9⟩ := lanes48 b
  simp only [initRun.sl.v13514, initRun.sl.v13513, initRun.sl.v13503, initRun.sl.v13483, initRun.sl.v13495, initRun.sl.r_69, initRun.sl.v13512, initRun.sl.v13504, initRun.sl.r_70, initRun.sl.v3947, initRun.sl.v13494, initRun.sl.v13484, initRun.sl.v13476, initRun.sl.v13493, initRun.sl.v13485, initRun.sl.v12943, initRun.sl.v12944, initRun.sl.v13152, initRun.sl.v4207, initRun.sl.v13151, initRun.sl.v13142, initRun.sl.v4209, initRun.sl.v13148, initRun.sl.v4214, initRun.sl.v13144, initRun.sl.v4221, initRun.sl.v4223, initRun.sl.v13159, k0_pay733, k0_pay734, k0_pay749]
  rw [read3 arg3 harg3 x3 6400 inb_S10x16384_S10x256_0_6400, read3 arg3 harg3 x3 14592 inb_S10x16384_S10x256_0_14592]
  refine tile_of x3 50 _ _ _ b g k _ _ _ _ _ _ _ _ _ zero_f32 ?_ ?_
  · revert g k
    decide +kernel
  · exact gather_tile x3 50 _ _ _ _ b k 0 (by decide) (by decide) (by decide) (by decide) h2 h8 _ _ _ _ _ _

theorem tile51 (c : Dev nD) (arg3 : Memref sig .tc .vmem S10x16384 .bf16) (harg3 : arg3.IsWhole) (x3 : Vec Ideal S10x16384 .bf16) (b : Fin 10) (g : Fin 8) (k : Fin 256) :
    (k0_pay765 (initRun.sl.v13702 c arg3 harg3 x3) initRun.sl.v12943 initRun.sl.v12944 (muli initRun.sl.v13152 initRun.sl.v4221) (64#32) (divsi initRun.sl.v12943 initRun.sl.v4223)) (ix3 0 ⟨b.val * 8 + g.val, by omega⟩ k) = tileV 8192 x3 51 b g k := by
  obtain ⟨h0, h1, h2, h3, h4, h5, h6, h7, h8, h9⟩ := lanes48 b
  simp only [initRun.sl.v13702, initRun.sl.v13701, initRun.sl.v13691, initRun.sl.v13671, initRun.sl.v13495, initRun.sl.r_69, initRun.sl.v13700, initRun.sl.v13504, initRun.sl.r_70, initRun.sl.v3947, initRun.sl.v13682, initRun.sl.v13672, initRun.sl.v13476, initRun.sl.v13681, initRun.sl.v13485, initRun.sl.v12943, initRun.sl.v12944, initRun.sl.v13152, initRun.sl.v4207, initRun.sl.v13151, initRun.sl.v13142, initRun.sl.v4209, initRun.sl.v13148, initRun.sl.v4214, initRun.sl.v13144, initRun.sl.v4221, initRun.sl.v4223, k0_pay733, k0_pay734, k0_pay765]
  rw [read3 arg3 harg3 x3 6400 inb_S10x16384_S10x256_0_6400, read3 arg3 harg3 x3 14592 inb_S10x16384_S10x256_0_14592]
  refine tile_of x3 51 _ _ _ b g k _ _ _ _ _ _ _ _ _ zero_f32 ?_ ?_
  · revert g k
    decide +kernel
  · exact gather_tile x3 51 _ _ _ _ b k 1 (by decide) (by decide) (by decide) (by decide) h3 h8 _ _ _ _ _ _

theorem tile52 (c : Dev nD) (arg3 : Memref sig .tc .vmem S10x16384 .bf16) (harg3 : arg3.IsWhole) (x3 : Vec Ideal S10x16384 .bf16) (b : Fin 10) (g : Fin 8) (k : Fin 256) :
    (initRun.sl.r_73 c arg3 harg3 x3) (ix3 0 ⟨b.val * 8 + g.val, by omega⟩ k) = tileV 8192 x3 52 b g k := by
  obtain ⟨h0, h1, h2, h3, h4, h5, h6, h7, h8, h9⟩ := lanes48 b
  simp only [initRun.sl.r_73, initRun.sl.v13144, initRun.sl.v4209, initRun.sl.v4207, initRun.sl.v12943, initRun.sl.v13142, initRun.sl.v12944, initRun.sl.v13894, initRun.sl.v13893, initRun.sl.v13883, initRun.sl.v13863, initRun.sl.v13875, initRun.sl.r_71, initRun.sl.v13892, initRun.sl.v13884, initRun.sl.r_72, initRun.sl.v3947, initRun.sl.v13874, initRun.sl.v13864, initRun.sl.v13856, initRun.sl.v13873, initRun.sl.v13865, k0_pay766, k0_pay767, k0_pay779]
  rw [read3 arg3 harg3 x3 6656 inb_S10x16384_S10x256_0_6656, read3 arg3 harg3 x3 14848 inb_S10x16384_S10x256_0_14848]
  refine tile_of x3 52 _ _ _ b g k _ _ _ _ _ _ _ _ _ zero_f32 ?_ ?_
  · revert g k
    decide +kernel
  · exact gather_tile x3 52 _ _ _ _ b k 0 (by decide) (by decide) (by decide) (by decide) h4 h8 _ _ _ _ _ _

theorem tile53 (c : Dev nD) (arg3 : Memref sig .tc .vmem S10x16384 .bf16) (harg3 : arg3.IsWhole) (x3 : Vec Ideal S10x16384 .bf16) (b : Fin 10) (g : Fin 8) (k : Fin 256) :
    (k0_pay791 (initRun.sl.r_74 c arg3 harg3 x3)) (ix3 0 ⟨b.val * 8 + g.val, by omega⟩ k) = tileV 8192 x3 53 b g k := by
  obtain ⟨h0, h1, h2, h3, h4, h5, h6, h7, h8, h9⟩ := lanes48 b
  simp only [initRun.sl.r_74, initRun.sl.v13142, initRun.sl.v4209, initRun.sl.v4207, initRun.sl.v12943, initRun.sl.v12944, initRun.sl.v14082, initRun.sl.v14081, initRun.sl.v14071, initRun.sl.v12911, initRun.sl.v13875, initRun.sl.r_71, initRun.sl.v14080, initRun.sl.v13884, initRun.sl.r_72, initRun.sl.v3947, initRun.sl.v14062, initRun.sl.v14052, initRun.sl.v13856, initRun.sl.v14061, initRun.sl.v13865, k0_pay766, k0_pay767, k0_pay790, k0_pay791]
  rw [read3 arg3 harg3 x3 6656 inb_S10x16384_S10x256_0_6656, read3 arg3 harg3 x3 14848 inb_S10x16384_S10x256_0_14848]
  refine tile_of x3 53 _ _ _ b g k _ _ _ _ _ _ _ _ _ zero_f32 ?_ ?_
  · revert g k
    decide +kernel
  · exact gather_tile x3 53 _ _ _ _ b k 1 (by decide) (by decide) (by decide) (by decide) h5 h9 _ _ _ _ _ _

theorem tile54 (c : Dev nD) (arg3 : Memref sig .tc .vmem S10x16384 .bf16) (harg3 : arg3.IsWhole) (x3 : Vec Ideal S10x16384 .bf16) (b : Fin 10) (g : Fin 8) (k : Fin 256) :
    (k0_pay803 (initRun.sl.v14274 c arg3 harg3 x3) initRun.sl.v12944 initRun.sl.v14319) (ix3 0 ⟨b.val * 8 + g.val, by omega⟩ k) = tileV 8192 x3 54 b g k := by
  obtain ⟨h0, h1, h2, h3, h4, h5, h6, h7, h8, h9⟩ := lanes48 b
  simp only [initRun.sl.v14274, initRun.sl.v14273, initRun.sl.v14263, initRun.sl.v14243, initRun.sl.v14255, initRun.sl.r_75, initRun.sl.v14272, initRun.sl.v14264, initRun.sl.r_76, initRun.sl.v3947, initRun.sl.v14254, initRun.sl.v14244, initRun.sl.v14236, initRun.sl.v14253, initRun.sl.v14245, initRun.sl.v12944, initRun.sl.v14319, initRun.sl.v14318, initRun.sl.v4223, initRun.sl.v12943, initRun.sl.v14317, initRun.sl.v4237, initRun.sl.v13174, initRun.sl.v4209, initRun.sl.v13170, initRun.sl.v13162, initRun.sl.v13159, initRun.sl.v4221, initRun.sl.v13152, initRun.sl.v4207, initRun.sl.v13151, initRun.sl.v13142, initRun.sl.v13148, initRun.sl.v4214, initRun.sl.v13144, k0_pay792, k0_pay793, k0_pay803]
  rw [read3 arg3 harg3 x3 6912 inb_S10x16384_S10x256_0_6912, read3 arg3 harg3 x3 15104 inb_S10x16384_S10x256_0_15104]
  refine tile_of x3 54 _ _ _ b g k _ _ _ _ _ _ _ _ _ zero_f32 ?_ ?_
  · revert g k
    decide +kernel
  · exact gather_tile x3 54 _ _ _ _ b k 0 (by decide) (by decide) (by decide) (by decide) h6 h8 _ _ _ _ _ _

theorem tile55 (c : Dev nD) (arg3 : Memref sig .tc .vmem S10x16384 .bf16) (harg3 : arg3.IsWhole) (x3 : Vec Ideal S10x16384 .bf16) (b : Fin 10) (g : Fin 8) (k : Fin 256) :
    (k0_pay817 (initRun.sl.v14462 c arg3 harg3 x3) initRun.sl.v12944 (muli initRun.sl.v13152 initRun.sl.v4221) (divsi initRun.sl.v12943 initRun.sl.v4223) (andi initRun.sl.v13170 initRun.sl.v13174)) (ix3 0 ⟨b.val * 8 + g.val, by omega⟩ k) = tileV 8192 x3 55 b g k := by
  obtain ⟨h0, h1, h2, h3, h4, h5, h6, h7, h8, h9⟩ := lanes48 b
  simp only [initRun.sl.v14462, initRun.sl.v14461, initRun.sl.v14451, initRun.sl.v14431, initRun.sl.v14255, initRun.sl.r_75, initRun.sl.v14460, initRun.sl.v14264, initRun.sl.r_76, initRun.sl.v3947, initRun.sl.v14442, initRun.sl.v14432, initRun.sl.v14236, initRun.sl.v14441, initRun.sl.v14245, initRun.sl.v12944, initRun.sl.v13152, initRun.sl.v4207, initRun.sl.v12943, initRun.sl.v13151, initRun.sl.v13142, initRun.sl.v4209, initRun.sl.v13148, initRun.sl.v4214, initRun.sl.v13144, initRun.sl.v4221, initRun.sl.v4223, initRun.sl.v13170, initRun.sl.v4237, initRun.sl.v13162, initRun.sl.v13159, initRun.sl.v13174, k0_pay792, k0_pay793, k0_pay817]
  rw [read3 arg3 harg3 x3 6912 inb_S10x16384_S10x256_0_6912, read3 arg3 harg3 x3 15104 inb_S10x16384_S10x256_0_15104]
  refine tile_of x3 55 _ _ _ b g k _ _ _ _ _ _ _ _ _ zero_f32 ?_ ?_
  · revert g k
    decide +kernel
  · exact gather_tile x3 55 _ _ _ _ b k 1 (by decide) (by decide) (by decide) (by decide) h7 h8 _ _ _ _ _ _

end Cert.DownIdeal.Hand

end
-- ==== Proof.DownIdeal.Lhs7.lean ====
/- Tiles 56 to 63 that the first grid point stores into the expanded left operand. -/
module

public import proofs.«01_k».proof.Proof.DownIdeal.Gather

@[expose] public section

set_option maxRecDepth 16384
set_option maxHeartbeats 400000

noncomputable section

namespace Cert.DownIdeal.Hand

open Idealize.ShloMosaic Cert.DownIdeal.Gen Cert.Mx

/-- The lanes' sources and their parities. -/
theorem lanes56 (b : Fin 10) : (∀ l : Fin 128, initRun.sl.v14621 (ix2 b l) = srcW 0 l)
    ∧ (∀ l : Fin 128, initRun.sl.v14809 (ix2 b l) = srcW 1 l)
    ∧ (∀ l : Fin 128, initRun.sl.v15001 (ix2 b l) = srcW 0 l)
    ∧ (∀ l : Fin 128, initRun.sl.v15189 (ix2 b l) = srcW 1 l)
    ∧ (∀ l : Fin 128, initRun.sl.v15381 (ix2 b l) = srcW 0 l)
    ∧ (∀ l : Fin 128, initRun.sl.v15569 (ix2 b l) = srcW 1 l)
    ∧ (∀ l : Fin 128, initRun.sl.v15761 (ix2 b l) = srcW 0 l)
    ∧ (∀ l : Fin 128, initRun.sl.v15949 (ix2 b l) = srcW 1 l)
    ∧ (∀ l : Fin 128, initRun.sl.v13093 (ix2 b l) = oddW l) := by
  refine ⟨?_, ?_, ?_, ?_, ?_, ?_, ?_, ?_, ?_⟩ <;> intro l <;>
    simp only [initRun.sl.v14621, initRun.sl.v14597, initRun.sl.v13076, initRun.sl.v3933, initRun.sl.v13052, initRun.sl.v3930, initRun.sl.v3886, initRun.sl.v4311, initRun.sl.v4302, initRun.sl.v3923, initRun.sl.v13048, initRun.sl.v3926, initRun.sl.v4304, initRun.sl.v13075, initRun.sl.v3947, initRun.sl.v13072, initRun.sl.v13068, initRun.sl.v13060, initRun.sl.v13057, initRun.sl.v4295, initRun.sl.v14554, initRun.sl.v14550, initRun.sl.v3979, initRun.sl.v14809, initRun.sl.v14785, initRun.sl.v14742, initRun.sl.v14738, initRun.sl.v14734, initRun.sl.v15001, initRun.sl.v14977, initRun.sl.v14934, initRun.sl.v14930, initRun.sl.v14922, initRun.sl.v14914, initRun.sl.v15189, initRun.sl.v15165, initRun.sl.v15122, initRun.sl.v15118, initRun.sl.v13782, initRun.sl.v13774, initRun.sl.v13771, initRun.sl.v15381, initRun.sl.v15356, initRun.sl.v15332, initRun.sl.v15328, initRun.sl.v15355, initRun.sl.v15352, initRun.sl.v15348, initRun.sl.v15340, initRun.sl.v15337, initRun.sl.v15380, initRun.sl.v15378, initRun.sl.v15569, initRun.sl.v15544, initRun.sl.v15520, initRun.sl.v15519, initRun.sl.v15510, initRun.sl.v15516, initRun.sl.v15512, initRun.sl.v15543, initRun.sl.v15540, initRun.sl.v15536, initRun.sl.v15528, initRun.sl.v15525, initRun.sl.v15568, initRun.sl.v15566, initRun.sl.v15761, initRun.sl.v15737, initRun.sl.v15694, initRun.sl.v15949, initRun.sl.v15925, initRun.sl.v15882, initRun.sl.v15878, initRun.sl.v13093, initRun.sl.v3972, initRun.sl.v3963, initRun.sl.v13089, initRun.sl.v3965, k0_pay820, k0_pay821, k0_pay838, k0_pay839, k0_pay840, k0_pay857, k0_pay858, k0_pay859, k0_pay873, k0_pay889, k0_pay890, k0_pay891, k0_pay901, k0_pay902, k0_pay912, k0_pay913, k0_pay926, k0_pay927] <;>
    pointwise <;> revert l <;> decide +kernel

theorem tile56 (c : Dev nD) (arg3 : Memref sig .tc .vmem S10x16384 .bf16) (harg3 : arg3.IsWhole) (x3 : Vec Ideal S10x16384 .bf16) (b : Fin 10) (g : Fin 8) (k : Fin 256) :
    (k0_pay837 (initRun.sl.v14654 c arg3 harg3 x3) initRun.sl.v12943 initRun.sl.v12944 (muli initRun.sl.v13152 initRun.sl.v4221) (64#32) (divsi initRun.sl.v12943 initRun.sl.v4223) (subi initRun.sl.v13159 initRun.sl.v13162) 1#1) (ix3 0 ⟨b.val * 8 + g.val, by omega⟩ k) = tileV 8192 x3 56 b g k := by
  obtain ⟨h0, h1, h2, h3, h4, h5, h6, h7, h8⟩ := lanes56 b
  simp only [initRun.sl.v14654, initRun.sl.v14653, initRun.sl.v14643, initRun.sl.v14623, initRun.sl.v14635, initRun.sl.r_77, initRun.sl.v14652, initRun.sl.v14644, initRun.sl.r_78, initRun.sl.v3947, initRun.sl.v14634, initRun.sl.v14624, initRun.sl.v14616, initRun.sl.v14633, initRun.sl.v14625, initRun.sl.v12943, initRun.sl.v12944, initRun.sl.v13152, initRun.sl.v4207, initRun.sl.v13151, initRun.sl.v13142, initRun.sl.v4209, initRun.sl.v13148, initRun.sl.v4214, initRun.sl.v13144, initRun.sl.v4221, initRun.sl.v4223, initRun.sl.v13159, initRun.sl.v13162, k0_pay818, k0_pay819, k0_pay837]
  rw [read3 arg3 harg3 x3 7168 inb_S10x16384_S10x256_0_7168, read3 arg3 harg3 x3 15360 inb_S10x16384_S10x256_0_15360]
  refine tile_of x3 56 _ _ _ b g k _ _ _ _ _ _ _ _ _ zero_f32 ?_ ?_
  · revert g k
    decide +kernel
  · exact gather_tile x3 56 _ _ _ _ b k 0 (by decide) (by decide) (by decide) (by decide) h0 h8 _ _ _ _ _ _

theorem tile57 (c : Dev nD) (arg3 : Memref sig .tc .vmem S10x16384 .bf16) (harg3 : arg3.IsWhole) (x3 : Vec Ideal S10x16384 .bf16) (b : Fin 10) (g : Fin 8) (k : Fin 256) :
    (k0_pay854 (initRun.sl.v14842 c arg3 harg3 x3) initRun.sl.v12943 initRun.sl.v12944 (muli initRun.sl.v13152 initRun.sl.v4221) (64#32) (divsi initRun.sl.v12943 initRun.sl.v4223) initRun.sl.v13159 initRun.sl.v4209) (ix3 0 ⟨b.val * 8 + g.val, by omega⟩ k) = tileV 8192 x3 57 b g k := by
  obtain ⟨h0, h1, h2, h3, h4, h5, h6, h7, h8⟩ := lanes56 b
  simp only [initRun.sl.v14842, initRun.sl.v14841, initRun.sl.v14831, initRun.sl.v14811, initRun.sl.v14635, initRun.sl.r_77, initRun.sl.v14840, initRun.sl.v14644, initRun.sl.r_78, initRun.sl.v3947, initRun.sl.v14822, initRun.sl.v14812, initRun.sl.v14616, initRun.sl.v14821, initRun.sl.v14625, initRun.sl.v12943, initRun.sl.v12944, initRun.sl.v13152, initRun.sl.v4207, initRun.sl.v13151, initRun.sl.v13142, initRun.sl.v4209, initRun.sl.v13148, initRun.sl.v4214, initRun.sl.v13144, initRun.sl.v4221, initRun.sl.v4223, initRun.sl.v13159, k0_pay818, k0_pay819, k0_pay854]
  rw [read3 arg3 harg3 x3 7168 inb_S10x16384_S10x256_0_7168, read3 arg3 harg3 x3 15360 inb_S10x16384_S10x256_0_15360]
  refine tile_of x3 57 _ _ _ b g k _ _ _ _ _ _ _ _ _ zero_f32 ?_ ?_
  · revert g k
    decide +kernel
  · exact gather_tile x3 57 _ _ _ _ b k 1 (by decide) (by decide) (by decide) (by decide) h1 h8 _ _ _ _ _ _

theorem tile58 (c : Dev nD) (arg3 : Memref sig .tc .vmem S10x16384 .bf16) (harg3 : arg3.IsWhole) (x3 : Vec Ideal S10x16384 .bf16) (b : Fin 10) (g : Fin 8) (k : Fin 256) :
    (k0_pay872 (initRun.sl.v15034 c arg3 harg3 x3) initRun.sl.v12943 initRun.sl.v12944 (remsi initRun.sl.v12943 initRun.sl.v4207) (andi initRun.sl.v13148 initRun.sl.v13142) initRun.sl.v13151) (ix3 0 ⟨b.val * 8 + g.val, by omega⟩ k) = tileV 8192 x3 58 b g k := by
  obtain ⟨h0, h1, h2, h3, h4, h5, h6, h7, h8⟩ := lanes56 b
  simp only [initRun.sl.v15034, initRun.sl.v15033, initRun.sl.v15023, initRun.sl.v15003, initRun.sl.v15015, initRun.sl.r_79, initRun.sl.v15032, initRun.sl.v15024, initRun.sl.r_80, initRun.sl.v3947, initRun.sl.v15014, initRun.sl.v15004, initRun.sl.v14996, initRun.sl.v15013, initRun.sl.v15005, initRun.sl.v12943, initRun.sl.v12944, initRun.sl.v4207, initRun.sl.v13148, initRun.sl.v4214, initRun.sl.v13144, initRun.sl.v4209, initRun.sl.v13142, initRun.sl.v13151, k0_pay855, k0_pay856, k0_pay872]
  rw [read3 arg3 harg3 x3 7424 inb_S10x16384_S10x256_0_7424, read3 arg3 harg3 x3 15616 inb_S10x16384_S10x256_0_15616]
  refine tile_of x3 58 _ _ _ b g k _ _ _ _ _ _ _ _ _ zero_f32 ?_ ?_
  · revert g k
    decide +kernel
  · exact gather_tile x3 58 _ _ _ _ b k 0 (by decide) (by decide) (by decide) (by decide) h2 h8 _ _ _ _ _ _

theorem tile59 (c : Dev nD) (arg3 : Memref sig .tc .vmem S10x16384 .bf16) (harg3 : arg3.IsWhole) (x3 : Vec Ideal S10x16384 .bf16) (b : Fin 10) (g : Fin 8) (k : Fin 256) :
    (k0_pay886 (initRun.sl.v15222 c arg3 harg3 x3) initRun.sl.v12943 initRun.sl.v12944 (2#32) (remsi initRun.sl.v12943 initRun.sl.v4207) initRun.sl.v13142 initRun.sl.v13144 initRun.sl.v4214) (ix3 0 ⟨b.val * 8 + g.val, by omega⟩ k) = tileV 8192 x3 59 b g k := by
  obtain ⟨h0, h1, h2, h3, h4, h5, h6, h7, h8⟩ := lanes56 b
  simp only [initRun.sl.v15222, initRun.sl.v15221, initRun.sl.v15211, initRun.sl.v15191, initRun.sl.v15015, initRun.sl.r_79, initRun.sl.v15220, initRun.sl.v15024, initRun.sl.r_80, initRun.sl.v3947, initRun.sl.v15202, initRun.sl.v15192, initRun.sl.v14996, initRun.sl.v15201, initRun.sl.v15005, initRun.sl.v12943, initRun.sl.v12944, initRun.sl.v4207, initRun.sl.v13142, initRun.sl.v4209, initRun.sl.v13144, initRun.sl.v4214, k0_pay855, k0_pay856, k0_pay886]
  rw [read3 arg3 harg3 x3 7424 inb_S10x16384_S10x256_0_7424, read3 arg3 harg3 x3 15616 inb_S10x16384_S10x256_0_15616]
  refine tile_of x3 59 _ _ _ b g k _ _ _ _ _ _ _ _ _ zero_f32 ?_ ?_
  · revert g k
    decide +kernel
  · exact gather_tile x3 59 _ _ _ _ b k 1 (by decide) (by decide) (by decide) (by decide) h3 h8 _ _ _ _ _ _

theorem tile60 (c : Dev nD) (arg3 : Memref sig .tc .vmem S10x16384 .bf16) (harg3 : arg3.IsWhole) (x3 : Vec Ideal S10x16384 .bf16) (b : Fin 10) (g : Fin 8) (k : Fin 256) :
    (k0_pay900 (initRun.sl.r_83 c arg3 harg3 x3) initRun.sl.cst_2406 initRun.sl.r_84) (ix3 0 ⟨b.val * 8 + g.val, by omega⟩ k) = tileV 8192 x3 60 b g k := by
  obtain ⟨h0, h1, h2, h3, h4, h5, h6, h7, h8⟩ := lanes56 b
  simp only [initRun.sl.r_83, initRun.sl.v15414, initRun.sl.v15413, initRun.sl.v15403, initRun.sl.v15383, initRun.sl.v15395, initRun.sl.r_81, initRun.sl.v15412, initRun.sl.v15404, initRun.sl.r_82, initRun.sl.v3947, initRun.sl.v15394, initRun.sl.v15384, initRun.sl.v15376, initRun.sl.v15393, initRun.sl.v15385, initRun.sl.cst_2406, initRun.sl.r_84, initRun.sl.v12944, initRun.sl.v12943, k0_pay887, k0_pay888, k0_pay898, k0_pay899, k0_pay900]
  rw [read3 arg3 harg3 x3 7680 inb_S10x16384_S10x256_0_7680, read3 arg3 harg3 x3 15872 inb_S10x16384_S10x256_0_15872]
  refine tile_of x3 60 _ _ _ b g k _ _ _ _ _ _ _ _ _ zero_f32 ?_ ?_
  · revert g k
    decide +kernel
  · exact gather_tile x3 60 _ _ _ _ b k 0 (by decide) (by decide) (by decide) (by decide) h4 h8 _ _ _ _ _ _

theorem tile61 (c : Dev nD) (arg3 : Memref sig .tc .vmem S10x16384 .bf16) (harg3 : arg3.IsWhole) (x3 : Vec Ideal S10x16384 .bf16) (b : Fin 10) (g : Fin 8) (k : Fin 256) :
    (k0_pay909 (initRun.sl.v15602 c arg3 harg3 x3) (cmpi CmpIPredicate.eq initRun.sl.v12944 initRun.sl.v14319)) (ix3 0 ⟨b.val * 8 + g.val, by omega⟩ k) = tileV 8192 x3 61 b g k := by
  obtain ⟨h0, h1, h2, h3, h4, h5, h6, h7, h8⟩ := lanes56 b
  simp only [initRun.sl.v15602, initRun.sl.v15601, initRun.sl.v15591, initRun.sl.v15571, initRun.sl.v15395, initRun.sl.r_81, initRun.sl.v15600, initRun.sl.v15404, initRun.sl.r_82, initRun.sl.v3947, initRun.sl.v15582, initRun.sl.v15572, initRun.sl.v15376, initRun.sl.v15581, initRun.sl.v15385, initRun.sl.v12944, initRun.sl.v14319, initRun.sl.v14318, initRun.sl.v4223, initRun.sl.v12943, initRun.sl.v14317, initRun.sl.v4237, initRun.sl.v13174, initRun.sl.v4209, initRun.sl.v13170, initRun.sl.v13162, initRun.sl.v13159, initRun.sl.v4221, initRun.sl.v13152, initRun.sl.v4207, initRun.sl.v13151, initRun.sl.v13142, initRun.sl.v13148, initRun.sl.v4214, initRun.sl.v13144, k0_pay887, k0_pay888, k0_pay909]
  rw [read3 arg3 harg3 x3 7680 inb_S10x16384_S10x256_0_7680, read3 arg3 harg3 x3 15872 inb_S10x16384_S10x256_0_15872]
  refine tile_of x3 61 _ _ _ b g k _ _ _ _ _ _ _ _ _ zero_f32 ?_ ?_
  · revert g k
    decide +kernel
  · exact gather_tile x3 61 _ _ _ _ b k 1 (by decide) (by decide) (by decide) (by decide) h5 h8 _ _ _ _ _ _

theorem tile62 (c : Dev nD) (arg3 : Memref sig .tc .vmem S10x16384 .bf16) (harg3 : arg3.IsWhole) (x3 : Vec Ideal S10x16384 .bf16) (b : Fin 10) (g : Fin 8) (k : Fin 256) :
    (k0_pay925 (initRun.sl.v15794 c arg3 harg3 x3) initRun.sl.v12943 initRun.sl.v12944 (muli initRun.sl.v13152 initRun.sl.v4221) (64#32) (divsi initRun.sl.v12943 initRun.sl.v4223) (subi initRun.sl.v13159 initRun.sl.v13162) initRun.sl.v4237) (ix3 0 ⟨b.val * 8 + g.val, by omega⟩ k) = tileV 8192 x3 62 b g k := by
  obtain ⟨h0, h1, h2, h3, h4, h5, h6, h7, h8⟩ := lanes56 b
  simp only [initRun.sl.v15794, initRun.sl.v15793, initRun.sl.v15783, initRun.sl.v15763, initRun.sl.v15775, initRun.sl.r_85, initRun.sl.v15792, initRun.sl.v15784, initRun.sl.r_86, initRun.sl.v3947, initRun.sl.v15774, initRun.sl.v15764, initRun.sl.v15756, initRun.sl.v15773, initRun.sl.v15765, initRun.sl.v12943, initRun.sl.v12944, initRun.sl.v13152, initRun.sl.v4207, initRun.sl.v13151, initRun.sl.v13142, initRun.sl.v4209, initRun.sl.v13148, initRun.sl.v4214, initRun.sl.v13144, initRun.sl.v4221, initRun.sl.v4223, initRun.sl.v13159, initRun.sl.v13162, initRun.sl.v4237, k0_pay910, k0_pay911, k0_pay925]
  rw [read3 arg3 harg3 x3 7936 inb_S10x16384_S10x256_0_7936, read3 arg3 harg3 x3 16128 inb_S10x16384_S10x256_0_16128]
  refine tile_of x3 62 _ _ _ b g k _ _ _ _ _ _ _ _ _ zero_f32 ?_ ?_
  · revert g k
    decide +kernel
  · exact gather_tile x3 62 _ _ _ _ b k 0 (by decide) (by decide) (by decide) (by decide) h6 h8 _ _ _ _ _ _

theorem tile63 (c : Dev nD) (arg3 : Memref sig .tc .vmem S10x16384 .bf16) (harg3 : arg3.IsWhole) (x3 : Vec Ideal S10x16384 .bf16) (b : Fin 10) (g : Fin 8) (k : Fin 256) :
    (k0_pay943 (initRun.sl.v15982 c arg3 harg3 x3) initRun.sl.v12943 initRun.sl.v12944 (muli initRun.sl.v13152 initRun.sl.v4221) (64#32) (divsi initRun.sl.v12943 initRun.sl.v4223) (subi initRun.sl.v13159 initRun.sl.v13162) 1#32) (ix3 0 ⟨b.val * 8 + g.val, by omega⟩ k) = tileV 8192 x3 63 b g k := by
  obtain ⟨h0, h1, h2, h3, h4, h5, h6, h7, h8⟩ := lanes56 b
  simp only [initRun.sl.v15982, initRun.sl.v15981, initRun.sl.v15971, initRun.sl.v15951, initRun.sl.v15775, initRun.sl.r_85, initRun.sl.v15980, initRun.sl.v15784, initRun.sl.r_86, initRun.sl.v3947, initRun.sl.v15962, initRun.sl.v15952, initRun.sl.v15756, initRun.sl.v15961, initRun.sl.v15765, initRun.sl.v12943, initRun.sl.v12944, initRun.sl.v13152, initRun.sl.v4207, initRun.sl.v13151, initRun.sl.v13142, initRun.sl.v4209, initRun.sl.v13148, initRun.sl.v4214, initRun.sl.v13144, initRun.sl.v4221, initRun.sl.v4223, initRun.sl.v13159, initRun.sl.v13162, k0_pay910, k0_pay911, k0_pay943]
  rw [read3 arg3 harg3 x3 7936 inb_S10x16384_S10x256_0_7936, read3 arg3 harg3 x3 16128 inb_S10x16384_S10x256_0_16128]
  refine tile_of x3 63 _ _ _ b g k _ _ _ _ _ _ _ _ _ zero_f32 ?_ ?_
  · revert g k
    decide +kernel
  · exact gather_tile x3 63 _ _ _ _ b k 1 (by decide) (by decide) (by decide) (by decide) h7 h8 _ _ _ _ _ _

end Cert.DownIdeal.Hand

end
-- ==== Proof.DownIdeal.Lora.lean ====
/- What the first grid point stores into the second output and into the masked low-rank scratch. -/
module

public import proofs.«01_k».proof.Proof.DownIdeal.Read
public import proofs.«01_k».proof.Proof.GateUpIdeal.Lora

@[expose] public section

set_option maxRecDepth 32768
set_option maxHeartbeats 1000000

noncomputable section

namespace Cert.DownIdeal.Hand

open Idealize.ShloMosaic Cert.DownIdeal.Gen Cert.Mx
open Cert.GateUpIdeal.Hand (rows10 sel_eq pick3 pick3_eq)

theorem read1 (arg1 : Memref sig .tc .smem S10 .i32) (harg1 : arg1.IsWhole) (x1 : Vec Ideal S10 .i32) (i : ℕ) (hi : i < 10) (inb) (hf) :
    View.readAt (Elt Ideal) arg1.view (Rect.unit (s := S10) ![i] S1.size inb).toLoadRect (harg1.unread x1) (Shape.Idx.first hf) = x1 (ix1 ⟨i, hi⟩) := by
  rw [readAt_whole]
  refine congrArg x1 (funext fun a => Fin.ext ?_)
  match a with
  | ⟨0, _⟩ => rfl

theorem read2 (arg2 : Memref sig .tc .smem S3 .f32) (harg2 : arg2.IsWhole) (x2 : Vec Ideal S3 .f32) (i : ℕ) (hi : i < 3) (inb) (hf) :
    View.readAt (Elt Ideal) arg2.view (Rect.unit (s := S3) ![i] S1.size inb).toLoadRect (harg2.unread x2) (Shape.Idx.first hf) = x2 (ix1 ⟨i, hi⟩) := by
  rw [readAt_whole]
  refine congrArg x2 (funext fun a => Fin.ext ?_)
  match a with
  | ⟨0, _⟩ => rfl

theorem read6 (arg6 : Memref sig .tc .vmem S3x64x16384 .bf16) (harg6 : arg6.IsWhole) (x6 : Vec Ideal S3x64x16384 .bf16) (i : ℕ) (hi : i < 3) (inb) (r : Fin 64) (d : Fin 16384) :
    View.readAt (Elt Ideal) arg6.view (Rect.unit (s := S3x64x16384) ![i, 0, 0] S1x64x16384.size inb).toLoadRect (harg6.unread x6) (ix3 0 r d) = x6 (ix3 ⟨i, hi⟩ r d) := by
  rw [readAt_whole]
  refine congrArg x6 (funext fun a => Fin.ext ?_)
  match a with
  | ⟨0, _⟩ => rfl
  | ⟨1, _⟩ => exact Eq.trans (show _ = 0 + 1 * r.val from rfl) (by rw [Nat.one_mul, Nat.zero_add]; rfl)
  | ⟨2, _⟩ => exact Eq.trans (show _ = 0 + 1 * d.val from rfl) (by rw [Nat.one_mul, Nat.zero_add]; rfl)

theorem readH (arg3 : Memref sig .tc .vmem S10x16384 .bf16) (harg3 : arg3.IsWhole) (x3 : Vec Ideal S10x16384 .bf16) (inb) :
    View.readAt (Elt Ideal) arg3.view (Rect.unit (s := S10x16384) ![0, 0] S10x16384.size inb).toLoadRect (harg3.unread x3) = x3 := by
  funext (y : S10x16384.Idx)
  rw [readAt_whole]
  refine congrArg x3 (funext fun a => Fin.ext ?_)
  match a with
  | ⟨0, _⟩ => exact Eq.trans (show _ = 0 + 1 * (y 0).val from rfl) (by rw [Nat.one_mul, Nat.zero_add]; rfl)
  | ⟨1, _⟩ => exact Eq.trans (show _ = 0 + 1 * (y 1).val from rfl) (by rw [Nat.one_mul, Nat.zero_add]; rfl)

theorem ids_eq (c : Dev nD) (arg1 : Memref sig .tc .smem S10 .i32) (harg1 : arg1.IsWhole) (x1 : Vec Ideal S10 .i32) (b : Fin 10) (l : Fin 64) : initRun.sl.r_98 (F := Ideal) c arg1 harg1 x1 (ix2 b l) = x1 (ix1 b) := by
  simp only [initRun.sl.r_98, initRun.sl.r_97, initRun.sl.r_96, initRun.sl.r_95, initRun.sl.r_94, initRun.sl.r_93, initRun.sl.r_92, initRun.sl.r_91, initRun.sl.r_90, initRun.sl.r_89, initRun.sl.r_88, initRun.sl.r_87, initRun.sl.v16042, k0_pay944, k0_pay945]
  pointwise
  rw [read1 arg1 harg1 x1 0 (by decide), read1 arg1 harg1 x1 1 (by decide), read1 arg1 harg1 x1 2 (by decide), read1 arg1 harg1 x1 3 (by decide), read1 arg1 harg1 x1 4 (by decide), read1 arg1 harg1 x1 5 (by decide), read1 arg1 harg1 x1 6 (by decide), read1 arg1 harg1 x1 7 (by decide), read1 arg1 harg1 x1 8 (by decide), read1 arg1 harg1 x1 9 (by decide)]
  exact rows10 (fun b => x1 (ix1 b)) _ b

/-- A product of an adapter's first factor, at a row and a rank. -/
theorem first_apply (x3 : Vec Ideal S10x16384 .bf16) (V : Vec Ideal S1x64x16384 .bf16) (b : Fin 10) (r : Fin 64) :
    matmul (F := Ideal) (φ₁ := .bf16) (φ₂ := .bf16) dot_S10x16384_S64x16384_S10x64_1_1_0_0_n_n none (x3 : FVec Ideal S10x16384 .bf16) (shapeCast S64x16384 (V : FVec Ideal S1x64x16384 .bf16) shapeCasts_S1x64x16384_S64x16384 : FVec Ideal S64x16384 .bf16) (constant S10x64 .f32 0x00000000#32) (ix2 b r)
      = ∑ d : Fin 16384, x3 (ix2 b d) * V (ix3 0 r d) := by
  pointwise

/-- The first low-rank product of a row, scaled. -/
def sV (x1 : Vec Ideal S10 .i32) (x2 : Vec Ideal S3 .f32) (x3 : Vec Ideal S10x16384 .bf16) (x6 : Vec Ideal S3x64x16384 .bf16) (b : Fin 10) (r : Fin 64) : EReal :=
  pick3 (x1 (ix1 b)) (fun n => ∑ d : Fin 16384, x3 (ix2 b d) * x6 (ix3 n r d)) * pick3 (x1 (ix1 b)) (fun n => x2 (ix1 n))

/-- The word of the second output over any ids, reads and scalings. -/
theorem pay948_apply (I : IVec S10x64 32) (x3 : Vec Ideal S10x16384 .bf16) (V0 V1 V2 : Vec Ideal S1x64x16384 .bf16) (s0 s1 s2 : EReal) (b : Fin 10) (r : Fin 64) (f h : Fin 3 → EReal)
    (f0 : ∑ d : Fin 16384, x3 (ix2 b d) * V0 (ix3 0 r d) = f 0) (f1 : ∑ d : Fin 16384, x3 (ix2 b d) * V1 (ix3 0 r d) = f 1) (f2 : ∑ d : Fin 16384, x3 (ix2 b d) * V2 (ix3 0 r d) = f 2)
    (h0 : s0 = h 0) (h1 : s1 = h 1) (h2 : s2 = h 2) :
    k0_pay948 (F := Ideal) I k0_pay946 x3 (k0_pay947 V0) (constant S10x64 .f32 0x00000000#32) x3 V1 x3 V2 s0 s1 s2 (ix2 b r) = pick3 (I (ix2 b r)) f * pick3 (I (ix2 b r)) h := by
  rw [← first_apply] at f0 f1 f2
  unfold k0_pay948 k0_pay946 k0_pay947
  dsimp only
  generalize matmul (F := Ideal) (φ₁ := .bf16) (φ₂ := .bf16) dot_S10x16384_S64x16384_S10x64_1_1_0_0_n_n none (x3 : FVec Ideal S10x16384 .bf16) (shapeCast S64x16384 (V0 : FVec Ideal S1x64x16384 .bf16) shapeCasts_S1x64x16384_S64x16384 : FVec Ideal S64x16384 .bf16) (constant S10x64 .f32 0x00000000#32) = M0 at f0 ⊢
  generalize matmul (F := Ideal) (φ₁ := .bf16) (φ₂ := .bf16) dot_S10x16384_S64x16384_S10x64_1_1_0_0_n_n none (x3 : FVec Ideal S10x16384 .bf16) (shapeCast S64x16384 (V1 : FVec Ideal S1x64x16384 .bf16) shapeCasts_S1x64x16384_S64x16384 : FVec Ideal S64x16384 .bf16) (constant S10x64 .f32 0x00000000#32) = M1 at f1 ⊢
  generalize matmul (F := Ideal) (φ₁ := .bf16) (φ₂ := .bf16) dot_S10x16384_S64x16384_S10x64_1_1_0_0_n_n none (x3 : FVec Ideal S10x16384 .bf16) (shapeCast S64x16384 (V2 : FVec Ideal S1x64x16384 .bf16) shapeCasts_S1x64x16384_S64x16384 : FVec Ideal S64x16384 .bf16) (constant S10x64 .f32 0x00000000#32) = M2 at f2 ⊢
  pointwise
  rw [f0, f1, f2, h0, h1, h2]
  exact congrArg₂ (fun a b : EReal => a * b) (pick3_eq (I (ix2 b r)) f) (pick3_eq (I (ix2 b r)) h)

theorem snd_eq (c : Dev nD) (arg1 : Memref sig .tc .smem S10 .i32) (harg1 : arg1.IsWhole) (arg2 : Memref sig .tc .smem S3 .f32) (harg2 : arg2.IsWhole) (arg3 : Memref sig .tc .vmem S10x16384 .bf16) (harg3 : arg3.IsWhole) (arg6 : Memref sig .tc .vmem S3x64x16384 .bf16) (harg6 : arg6.IsWhole) (x1 : Vec Ideal S10 .i32) (x2 : Vec Ideal S3 .f32) (x3 : Vec Ideal S10x16384 .bf16) (x6 : Vec Ideal S3x64x16384 .bf16) (b : Fin 10) (r : Fin 64) :
    initRun.sl.r_104 (F := Ideal) c arg1 harg1 arg2 harg2 arg3 harg3 arg6 harg6 x1 x2 x3 x6 (ix2 b r) = sV x1 x2 x3 x6 b r := by
  have hi := ids_eq c arg1 harg1 x1 b r
  simp only [initRun.sl.r_104, initRun.sl.r_99, initRun.sl.r_100, initRun.sl.cst_6056, initRun.sl.r_101, initRun.sl.r_102, initRun.sl.r_103]
  simp only [readH arg3 harg3 x3]
  refine (pay948_apply _ x3 _ _ _ _ _ _ b r (fun n => ∑ d : Fin 16384, x3 (ix2 b d) * x6 (ix3 n r d)) (fun n => x2 (ix1 n)) ?_ ?_ ?_ ?_ ?_ ?_).trans ?_
  · exact Finset.sum_congr rfl fun d _ => congrArg (fun z : EReal => x3 (ix2 b d) * z) (read6 arg6 harg6 x6 0 (by decide) _ r d)
  · exact Finset.sum_congr rfl fun d _ => congrArg (fun z : EReal => x3 (ix2 b d) * z) (read6 arg6 harg6 x6 1 (by decide) _ r d)
  · exact Finset.sum_congr rfl fun d _ => congrArg (fun z : EReal => x3 (ix2 b d) * z) (read6 arg6 harg6 x6 2 (by decide) _ r d)
  · exact read2 arg2 harg2 x2 0 (by decide) _ _
  · exact read2 arg2 harg2 x2 1 (by decide) _ _
  · exact read2 arg2 harg2 x2 2 (by decide) _ _
  rw [hi]
  rfl

/-- The masked product's element: row `b`, column `j`, 64 columns an adapter. -/
def mV (x1 : Vec Ideal S10 .i32) (x2 : Vec Ideal S3 .f32) (x3 : Vec Ideal S10x16384 .bf16) (x6 : Vec Ideal S3x64x16384 .bf16) (b : Fin 10) (j : Fin 192) : EReal :=
  if x1 (ix1 b) = BitVec.ofNat 32 (j.val / 64) then sV x1 x2 x3 x6 b (Fin.ofNat 64 (j.val % 64)) else 0

theorem part_eq (i : BitVec 32) (f : Fin 64 → EReal) (n m j : ℕ) (h1 : n = j / 64) (h2 : m < 64) (h3 : m = j % 64) :
    (if i = BitVec.ofNat 32 n then f ⟨m, h2⟩ else 0) = if i = BitVec.ofNat 32 (j / 64) then f (Fin.ofNat 64 (j % 64)) else 0 := by
  subst h1
  subst h3
  have e : (⟨j % 64, h2⟩ : Fin 64) = Fin.ofNat 64 (j % 64) := Fin.ext (Nat.mod_eq_of_lt h2).symm
  rw [e]

theorem mask_eq (c : Dev nD) (arg1 : Memref sig .tc .smem S10 .i32) (harg1 : arg1.IsWhole) (arg2 : Memref sig .tc .smem S3 .f32) (harg2 : arg2.IsWhole) (arg3 : Memref sig .tc .vmem S10x16384 .bf16) (harg3 : arg3.IsWhole) (arg6 : Memref sig .tc .vmem S3x64x16384 .bf16) (harg6 : arg6.IsWhole) (x1 : Vec Ideal S10 .i32) (x2 : Vec Ideal S3 .f32) (x3 : Vec Ideal S10x16384 .bf16) (x6 : Vec Ideal S3x64x16384 .bf16) (b : Fin 10) (j : Fin 192) :
    initRun.sl.r_105 (F := Ideal) c arg1 harg1 arg2 harg2 arg3 harg3 arg6 harg6 x1 x2 x3 x6 (ix2 b j) = mV x1 x2 x3 x6 b j := by
  have es := snd_eq c arg1 harg1 arg2 harg2 arg3 harg3 arg6 harg6 x1 x2 x3 x6 b
  have ei := ids_eq c arg1 harg1 x1 b
  simp only [initRun.sl.r_105]
  revert es ei
  generalize initRun.sl.r_104 (F := Ideal) c arg1 harg1 arg2 harg2 arg3 harg3 arg6 harg6 x1 x2 x3 x6 = S
  generalize initRun.sl.r_98 (F := Ideal) c arg1 harg1 x1 = I
  intro es ei
  unfold k0_pay949
  pointwise
  simp only [es, ei, sel_eq]
  have hj := j.isLt
  unfold mV
  by_cases h : j.val < 64
  · rw [dif_pos h]
    exact part_eq _ _ 0 _ j.val (by omega) _ (by omega)
  · rw [dif_neg h]
    by_cases h2 : j.val - 64 < 64
    · rw [dif_pos h2]
      exact part_eq _ _ 1 _ j.val (by omega) _ (by omega)
    · rw [dif_neg h2]
      exact part_eq _ _ 2 _ j.val (by omega) _ (by omega)

end Cert.DownIdeal.Hand

end
-- ==== Proof.DownIdeal.Held.lean ====
/- What the carried scratches and the second output hold after the first grid point. -/
module

public import proofs.«01_k».proof.Proof.DownIdeal.Lhs0
public import proofs.«01_k».proof.Proof.DownIdeal.Lhs1
public import proofs.«01_k».proof.Proof.DownIdeal.Lhs2
public import proofs.«01_k».proof.Proof.DownIdeal.Lhs3
public import proofs.«01_k».proof.Proof.DownIdeal.Lhs4
public import proofs.«01_k».proof.Proof.DownIdeal.Lhs5
public import proofs.«01_k».proof.Proof.DownIdeal.Lhs6
public import proofs.«01_k».proof.Proof.DownIdeal.Lhs7
public import proofs.«01_k».proof.Proof.DownIdeal.Lora
public import proofs.«01_k».proof.Proof.DownIdeal.Frame
public import proofs.«01_k».proof.Proof.GateUpIdeal.Held

@[expose] public section

set_option maxRecDepth 16384
set_option maxHeartbeats 8000000

noncomputable section

namespace Cert.DownIdeal.Hand

open Idealize.ShloMosaic Cert.DownIdeal.Gen Cert.Mx
open Cert.GateUpIdeal.Hand (lhsG lhs_piece)

variable (m : (ℓ : Loc nD τ sig) → Buf (Elt Ideal) ℓ) (c : Dev nD)

theorem lhs0_eq : lhs0 m c = lhsG 8192 (iblk m c 2 p0) := by
  funext y
  refine View.canon_apply_of_pieces (lhsG 8192 (iblk m c 2 p0)) _ ?_ y (cover_lhs m c y)
  unfold initL initRun
  dsimp only
  simp only [List.forall_mem_cons, List.not_mem_nil, false_imp_iff, implies_true, and_true]
  refine ⟨lhs_piece _ _ _ 63 _ fun b g k => tile63 c _ _ _ b g k, ?_⟩
  refine ⟨lhs_piece _ _ _ 62 _ fun b g k => tile62 c _ _ _ b g k, ?_⟩
  refine ⟨lhs_piece _ _ _ 61 _ fun b g k => tile61 c _ _ _ b g k, ?_⟩
  refine ⟨lhs_piece _ _ _ 60 _ fun b g k => tile60 c _ _ _ b g k, ?_⟩
  refine ⟨lhs_piece _ _ _ 59 _ fun b g k => tile59 c _ _ _ b g k, ?_⟩
  refine ⟨lhs_piece _ _ _ 58 _ fun b g k => tile58 c _ _ _ b g k, ?_⟩
  refine ⟨lhs_piece _ _ _ 57 _ fun b g k => tile57 c _ _ _ b g k, ?_⟩
  refine ⟨lhs_piece _ _ _ 56 _ fun b g k => tile56 c _ _ _ b g k, ?_⟩
  refine ⟨lhs_piece _ _ _ 55 _ fun b g k => tile55 c _ _ _ b g k, ?_⟩
  refine ⟨lhs_piece _ _ _ 54 _ fun b g k => tile54 c _ _ _ b g k, ?_⟩
  refine ⟨lhs_piece _ _ _ 53 _ fun b g k => tile53 c _ _ _ b g k, ?_⟩
  refine ⟨lhs_piece _ _ _ 52 _ fun b g k => tile52 c _ _ _ b g k, ?_⟩
  refine ⟨lhs_piece _ _ _ 51 _ fun b g k => tile51 c _ _ _ b g k, ?_⟩
  refine ⟨lhs_piece _ _ _ 50 _ fun b g k => tile50 c _ _ _ b g k, ?_⟩
  refine ⟨lhs_piece _ _ _ 49 _ fun b g k => tile49 c _ _ _ b g k, ?_⟩
  refine ⟨lhs_piece _ _ _ 48 _ fun b g k => tile48 c _ _ _ b g k, ?_⟩
  refine ⟨lhs_piece _ _ _ 47 _ fun b g k => tile47 c _ _ _ b g k, ?_⟩
  refine ⟨lhs_piece _ _ _ 46 _ fun b g k => tile46 c _ _ _ b g k, ?_⟩
  refine ⟨lhs_piece _ _ _ 45 _ fun b g k => tile45 c _ _ _ b g k, ?_⟩
  refine ⟨lhs_piece _ _ _ 44 _ fun b g k => tile44 c _ _ _ b g k, ?_⟩
  refine ⟨lhs_piece _ _ _ 43 _ fun b g k => tile43 c _ _ _ b g k, ?_⟩
  refine ⟨lhs_piece _ _ _ 42 _ fun b g k => tile42 c _ _ _ b g k, ?_⟩
  refine ⟨lhs_piece _ _ _ 41 _ fun b g k => tile41 c _ _ _ b g k, ?_⟩
  refine ⟨lhs_piece _ _ _ 40 _ fun b g k => tile40 c _ _ _ b g k, ?_⟩
  refine ⟨lhs_piece _ _ _ 39 _ fun b g k => tile39 c _ _ _ b g k, ?_⟩
  refine ⟨lhs_piece _ _ _ 38 _ fun b g k => tile38 c _ _ _ b g k, ?_⟩
  refine ⟨lhs_piece _ _ _ 37 _ fun b g k => tile37 c _ _ _ b g k, ?_⟩
  refine ⟨lhs_piece _ _ _ 36 _ fun b g k => tile36 c _ _ _ b g k, ?_⟩
  refine ⟨lhs_piece _ _ _ 35 _ fun b g k => tile35 c _ _ _ b g k, ?_⟩
  refine ⟨lhs_piece _ _ _ 34 _ fun b g k => tile34 c _ _ _ b g k, ?_⟩
  refine ⟨lhs_piece _ _ _ 33 _ fun b g k => tile33 c _ _ _ b g k, ?_⟩
  refine ⟨lhs_piece _ _ _ 32 _ fun b g k => tile32 c _ _ _ b g k, ?_⟩
  refine ⟨lhs_piece _ _ _ 31 _ fun b g k => tile31 c _ _ _ b g k, ?_⟩
  refine ⟨lhs_piece _ _ _ 30 _ fun b g k => tile30 c _ _ _ b g k, ?_⟩
  refine ⟨lhs_piece _ _ _ 29 _ fun b g k => tile29 c _ _ _ b g k, ?_⟩
  refine ⟨lhs_piece _ _ _ 28 _ fun b g k => tile28 c _ _ _ b g k, ?_⟩
  refine ⟨lhs_piece _ _ _ 27 _ fun b g k => tile27 c _ _ _ b g k, ?_⟩
  refine ⟨lhs_piece _ _ _ 26 _ fun b g k => tile26 c _ _ _ b g k, ?_⟩
  refine ⟨lhs_piece _ _ _ 25 _ fun b g k => tile25 c _ _ _ b g k, ?_⟩
  refine ⟨lhs_piece _ _ _ 24 _ fun b g k => tile24 c _ _ _ b g k, ?_⟩
  refine ⟨lhs_piece _ _ _ 23 _ fun b g k => tile23 c _ _ _ b g k, ?_⟩
  refine ⟨lhs_piece _ _ _ 22 _ fun b g k => tile22 c _ _ _ b g k, ?_⟩
  refine ⟨lhs_piece _ _ _ 21 _ fun b g k => tile21 c _ _ _ b g k, ?_⟩
  refine ⟨lhs_piece _ _ _ 20 _ fun b g k => tile20 c _ _ _ b g k, ?_⟩
  refine ⟨lhs_piece _ _ _ 19 _ fun b g k => tile19 c _ _ _ b g k, ?_⟩
  refine ⟨lhs_piece _ _ _ 18 _ fun b g k => tile18 c _ _ _ b g k, ?_⟩
  refine ⟨lhs_piece _ _ _ 17 _ fun b g k => tile17 c _ _ _ b g k, ?_⟩
  refine ⟨lhs_piece _ _ _ 16 _ fun b g k => tile16 c _ _ _ b g k, ?_⟩
  refine ⟨lhs_piece _ _ _ 15 _ fun b g k => tile15 c _ _ _ b g k, ?_⟩
  refine ⟨lhs_piece _ _ _ 14 _ fun b g k => tile14 c _ _ _ b g k, ?_⟩
  refine ⟨lhs_piece _ _ _ 13 _ fun b g k => tile13 c _ _ _ b g k, ?_⟩
  refine ⟨lhs_piece _ _ _ 12 _ fun b g k => tile12 c _ _ _ b g k, ?_⟩
  refine ⟨lhs_piece _ _ _ 11 _ fun b g k => tile11 c _ _ _ b g k, ?_⟩
  refine ⟨lhs_piece _ _ _ 10 _ fun b g k => tile10 c _ _ _ b g k, ?_⟩
  refine ⟨lhs_piece _ _ _ 9 _ fun b g k => tile9 c _ _ _ b g k, ?_⟩
  refine ⟨lhs_piece _ _ _ 8 _ fun b g k => tile8 c _ _ _ b g k, ?_⟩
  refine ⟨lhs_piece _ _ _ 7 _ fun b g k => tile7 c _ _ _ b g k, ?_⟩
  refine ⟨lhs_piece _ _ _ 6 _ fun b g k => tile6 c _ _ _ b g k, ?_⟩
  refine ⟨lhs_piece _ _ _ 5 _ fun b g k => tile5 c _ _ _ b g k, ?_⟩
  refine ⟨lhs_piece _ _ _ 4 _ fun b g k => tile4 c _ _ _ b g k, ?_⟩
  refine ⟨lhs_piece _ _ _ 3 _ fun b g k => tile3 c _ _ _ b g k, ?_⟩
  refine ⟨lhs_piece _ _ _ 2 _ fun b g k => tile2 c _ _ _ b g k, ?_⟩
  refine ⟨lhs_piece _ _ _ 1 _ fun b g k => tile1 c _ _ _ b g k, ?_⟩
  exact lhs_piece _ _ _ 0 _ fun b g k => tile0 c _ _ _ b g k

theorem ext2 {n k : ℕ} (y : (⟨2, ![n, k]⟩ : Shape).Idx) : y = ix2 (y 0) (y 1) := by
  funext a
  match a with
  | ⟨0, _⟩ => rfl
  | ⟨1, _⟩ => rfl

theorem lora0_eq (b : Fin 10) (j : Fin 192) : lora0 m c (ix2 b j) = mV (iblk m c 0 p0) (iblk m c 1 p0) (iblk m c 2 p0) (iblk m c 5 p0) b j := by
  refine View.canon_apply_of_pieces (fun y : S10x192.Idx => mV (iblk m c 0 p0) (iblk m c 1 p0) (iblk m c 2 p0) (iblk m c 5 p0) (y 0) (y 1)) _ ?_ (ix2 b j) (cover_lora m c (ix2 b j))
  unfold initL initRun
  dsimp only
  simp only [List.forall_mem_cons, List.not_mem_nil, false_imp_iff, implies_true, and_true]
  intro (y : S10x192.Idx)
  rw [ext2 y]
  refine (mask_eq _ _ _ _ _ _ _ _ _ _ _ _ _ (y 0) (y 1)).trans (congrArg₂ (mV _ _ _ _) (Fin.ext ?_) (Fin.ext ?_))
  · exact (show (y 0).val = 0 + 1 * (y 0).val by omega)
  · exact (show (y 1).val = 0 + 1 * (y 1).val by omega)

theorem snd0_eq (b : Fin 10) (r : Fin 64) : snd0 m c (ix2 b r) = sV (iblk m c 0 p0) (iblk m c 1 p0) (iblk m c 2 p0) (iblk m c 5 p0) b r := by
  refine View.canon_apply_of_pieces (fun y : S10x64.Idx => sV (iblk m c 0 p0) (iblk m c 1 p0) (iblk m c 2 p0) (iblk m c 5 p0) (y 0) (y 1)) _ ?_ (ix2 b r) (cover_snd m c (ix2 b r))
  unfold initL initRun
  dsimp only
  simp only [List.forall_mem_cons, List.not_mem_nil, false_imp_iff, implies_true, and_true]
  intro (y : S10x64.Idx)
  rw [ext2 y]
  refine (snd_eq _ _ _ _ _ _ _ _ _ _ _ _ _ (y 0) (y 1)).trans (congrArg₂ (sV _ _ _ _) (Fin.ext ?_) (Fin.ext ?_))
  · exact (show (y 0).val = 0 + 1 * (y 0).val by omega)
  · exact (show (y 1).val = 0 + 1 * (y 1).val by omega)

end Cert.DownIdeal.Hand

end
-- ==== Proof.DownIdeal.Block.lean ====
/- What a grid point stores into the first output's block. -/
module

public import proofs.«01_k».proof.Proof.DownIdeal.Sums
public import proofs.«01_k».proof.Proof.DownIdeal.Held
public import proofs.«01_k».proof.Proof.GateUpIdeal.Block

@[expose] public section

set_option maxRecDepth 16384
set_option maxHeartbeats 1000000

noncomputable section

namespace Cert.DownIdeal.Hand

open Idealize.ShloMosaic Cert.DownIdeal.Gen Cert.Mx
open Cert.GateUpIdeal.Hand (lhsG lhsG_apply)

theorem lastV_apply (p : FVec Ideal S10x256 .f32) (M : Vec Ideal S10x192 .bf16) (B : Vec Ideal S3x64x256 .bf16) (b : Fin 10) (l : Fin 256) :
    lastV (F := Ideal) p M B (ix2 b l) = p (ix2 b l) + ∑ x : Fin 192, M (ix2 b x) * B (ix3 ⟨x.val / 64, by omega⟩ ⟨x.val % 64, by omega⟩ l) := by
  unfold lastV
  pointwise

theorem read11 (arg11 : Memref sig .tc .vmem S10x192 .bf16) (harg11 : arg11.IsWhole) (M : Vec Ideal S10x192 .bf16) (inb) :
    View.readAt (Elt Ideal) arg11.view (Rect.unit (s := S10x192) ![0, 0] ![10, 192] inb).toLoadRect (harg11.unread M) = M := by
  funext (y : S10x192.Idx)
  rw [readAt_whole]
  refine congrArg M (funext fun a => Fin.ext ?_)
  match a with
  | ⟨0, _⟩ => exact Eq.trans (show _ = 0 + 1 * (y 0).val from rfl) (by rw [Nat.one_mul, Nat.zero_add]; rfl)
  | ⟨1, _⟩ => exact Eq.trans (show _ = 0 + 1 * (y 1).val from rfl) (by rw [Nat.one_mul, Nat.zero_add]; rfl)

theorem read7 (arg7 : Memref sig .tc .vmem S3x64x256 .bf16) (harg7 : arg7.IsWhole) (x7 : Vec Ideal S3x64x256 .bf16) (inb) :
    View.readAt (Elt Ideal) arg7.view (Rect.unit (s := S3x64x256) ![0, 0, 0] ![3, 64, 256] inb).toLoadRect (harg7.unread x7) = x7 := by
  funext (y : S3x64x256.Idx)
  rw [readAt_whole]
  refine congrArg x7 (funext fun a => Fin.ext ?_)
  match a with
  | ⟨0, _⟩ => exact Eq.trans (show _ = 0 + 1 * (y 0).val from rfl) (by rw [Nat.one_mul, Nat.zero_add]; rfl)
  | ⟨1, _⟩ => exact Eq.trans (show _ = 0 + 1 * (y 1).val from rfl) (by rw [Nat.one_mul, Nat.zero_add]; rfl)
  | ⟨2, _⟩ => exact Eq.trans (show _ = 0 + 1 * (y 2).val from rfl) (by rw [Nat.one_mul, Nat.zero_add]; rfl)

/-- The column block of the main product, at a lane. -/
theorem sum_value (x3 : Vec Ideal S10x16384 .bf16) (x : Vec Ideal S8192x256 .i8) (sc : Vec Ideal S512x256 .i8) (hs : ∀ i, 2 ≤ (sc i : BitVec 8).toNat ∧ (sc i : BitVec 8).toNat ≤ 252)
    (b : Fin 10) (l : Fin 256) :
    redC (accT (F := Ideal) (R := 8192) (C := 256) (N := 64) (Q := 32) (T := 2) x (lhsG (N := 64) 8192 x3) (scG sc) 0 63) (ix2 b l)
      = prodV (R := 8192) (C := 256) (SR := 512) (fun d => at2 x3 b.val d) x sc (0 + l.val) :=
  block_value (R := 8192) (C := 256) (N := 64) (Q := 32) (T := 2) (SR := 512) x (lhsG (N := 64) 8192 x3) sc 0 (by decide) (by decide) (by decide) (fun d => at2 x3 b.val d) b l
    (fun n hn g k => lhsG_apply 8192 x3 n (by omega) b g k) hs 63 (by decide)

theorem out_piece (P : Fin 10 → Fin 256 → EReal) (M : Vec Ideal S10x192 .bf16) (x7 : Vec Ideal S3x64x256 .bf16) (p : FVec Ideal S10x256 .f32) (M0 : Vec Ideal S10x192 .bf16) (B : Vec Ideal S3x64x256 .bf16)
    (hp : ∀ b l, p (ix2 b l) = P b l) (hM : M0 = M) (hB : B = x7) (inb) (y : (Rect.unit (s := S10x256) ![0, 0] S10x256.size inb).shape.Idx) :
    lastV (F := Ideal) p M0 B y = (fun y : S10x256.Idx => P (y 0) (y 1) + ∑ x : Fin 192, M (ix2 (y 0) x) * x7 (ix3 ⟨x.val / 64, by omega⟩ ⟨x.val % 64, by omega⟩ (y 1))) ((Rect.unit (s := S10x256) ![0, 0] S10x256.size inb).emb y) := by
  subst hM
  subst hB
  have l0 : (y 0).val < 10 := (y 0).isLt
  have l1 : (y 1).val < 256 := (y 1).isLt
  have e : (y : S10x256.Idx) = ix2 ⟨(y 0).val, l0⟩ ⟨(y 1).val, l1⟩ := by
    funext a
    match a with
    | ⟨0, _⟩ => rfl
    | ⟨1, _⟩ => rfl
  refine (congrArg (lastV (F := Ideal) p M0 B) e).trans ((lastV_apply p M0 B _ _).trans ?_)
  rw [hp]
  refine congrArg₂ (fun (b : Fin 10) (l : Fin 256) => P b l + ∑ x : Fin 192, M0 (ix2 b x) * B (ix3 ⟨x.val / 64, by omega⟩ ⟨x.val % 64, by omega⟩ l)) (Fin.ext ?_) (Fin.ext ?_)
  · exact (show (y 0).val = 0 + 1 * (y 0).val by omega)
  · exact (show (y 1).val = 0 + 1 * (y 1).val by omega)

variable (m : (ℓ : Loc nD τ sig) → Buf (Elt Ideal) ℓ) (c : Dev nD)

theorem blk0_eq (t : Fin cfg0.N) (h5 : ∀ i, 2 ≤ (iblk m c 4 t i : BitVec 8).toNat ∧ (iblk m c 4 t i : BitVec 8).toNat ≤ 252) (b : Fin 10) (f : Fin 256) :
    blk0 m c t (ix2 b f) = prodV (R := 8192) (C := 256) (SR := 512) (fun d => at2 (R := 10) (C := 16384) (iblk m c 2 p0) b.val d) (iblk m c 3 t) (iblk m c 4 t) (0 + f.val)
      + ∑ x : Fin 192, lora0 m c (ix2 b x) * iblk m c 6 t (ix3 ⟨x.val / 64, by omega⟩ ⟨x.val % 64, by omega⟩ f) := by
  refine View.canon_apply_of_pieces (fun y : S10x256.Idx => prodV (R := 8192) (C := 256) (SR := 512) (fun d => at2 (R := 10) (C := 16384) (iblk m c 2 p0) (y 0).val d) (iblk m c 3 t) (iblk m c 4 t) (0 + (y 1).val)
      + ∑ x : Fin 192, lora0 m c (ix2 (y 0) x) * iblk m c 6 t (ix3 ⟨x.val / 64, by omega⟩ ⟨x.val % 64, by omega⟩ (y 1))) _ ?_ (ix2 b f) (cover_blk m c t (ix2 b f))
  unfold restL restRun
  dsimp only
  rw [out_eq, lhs0_eq]
  simp only [List.forall_mem_cons, List.not_mem_nil, false_imp_iff, implies_true, and_true]
  exact out_piece (fun b l => prodV (R := 8192) (C := 256) (SR := 512) (fun d => at2 (R := 10) (C := 16384) (iblk m c 2 p0) b.val d) (iblk m c 3 t) (iblk m c 4 t) (0 + l.val)) (lora0 m c) (iblk m c 6 t) _ _ _
    (fun b l => sum_value _ _ _ h5 b l) (read11 _ _ _ _) (read7 _ _ _ _) _

end Cert.DownIdeal.Hand

end
-- ==== Proof.DownIdeal.Arrays.lean ====
/- The output arrays after the run, in terms of the argument arrays. -/
module

public import proofs.«01_k».proof.Proof.DownIdeal.Block
public import proofs.«01_k».proof.Proof.GateUpIdeal.Arrays
public import Idealize.ShloMosaic.Lib.Pipeline.ValueKit

@[expose] public section

set_option maxRecDepth 16384
set_option maxHeartbeats 1000000

noncomputable section

namespace Cert.DownIdeal.Hand

open Idealize.ShloMosaic Cert.DownIdeal.Gen Cert.Mx
open Cert.GateUpIdeal.Hand (at2_blk prodV_congr)

/-- The first adapters' factor, its last two axes exchanged. -/
def trA (a4 : Vec Ideal S3x16384x64 .bf16) : Vec Ideal S3x64x16384 .bf16 := fun y => a4 (ix3 (y 0) (y 2) (y 1))

/-- The down projection with its low-rank part, of the argument arrays. -/
def gV (a0 : Vec Ideal S10x16384 .bf16) (a1 : Vec Ideal S10 .i32) (a2 : Vec Ideal S8192x3072 .i8) (a3 : Vec Ideal S512x3072 .i8) (a4 : Vec Ideal S3x16384x64 .bf16)
    (a5 : Vec Ideal S3x64x3072 .bf16) (a6 : Vec Ideal S3 .f32) (b : Fin 10) (j : Fin 3072) : EReal :=
  prodV (R := 8192) (C := 3072) (SR := 512) (fun d => at2 (R := 10) (C := 16384) a0 b.val d) a2 a3 j.val
    + ∑ k : Fin 192, mV a1 a6 a0 (trA a4) b k * a5 (ix3 ⟨k.val / 64, by omega⟩ ⟨k.val % 64, by omega⟩ j)

variable (m : (ℓ : Loc nD τ sig) → Buf (Elt Ideal) ℓ) (c : Dev nD)

theorem t_lt (t : Fin cfg0.N) : t.val < 12 := lt_of_lt_of_eq t.isLt N_0

theorem idx0 : ∀ t : Fin cfg0.N, (cfg0.win 0).index t 0 = 0 := by decide +kernel
theorem idx1 : ∀ t : Fin cfg0.N, (cfg0.win 1).index t 0 = 0 := by decide +kernel
theorem idx2 : ∀ t : Fin cfg0.N, (cfg0.win 2).index t 0 = 0 ∧ (cfg0.win 2).index t 1 = 0 := by decide +kernel
theorem idx3 : ∀ t : Fin cfg0.N, (cfg0.win 3).index t 0 = 0 ∧ (cfg0.win 3).index t 1 = t.val := by decide +kernel
theorem idx4 : ∀ t : Fin cfg0.N, (cfg0.win 4).index t 0 = 0 ∧ (cfg0.win 4).index t 1 = t.val := by decide +kernel
theorem idx5 : ∀ t : Fin cfg0.N, (cfg0.win 5).index t 0 = 0 ∧ (cfg0.win 5).index t 1 = 0 ∧ (cfg0.win 5).index t 2 = 0 := by decide +kernel
theorem idx6 : ∀ t : Fin cfg0.N, (cfg0.win 6).index t 0 = 0 ∧ (cfg0.win 6).index t 1 = 0 ∧ (cfg0.win 6).index t 2 = t.val := by decide +kernel
theorem idx7 : ∀ t : Fin cfg0.N, (cfg0.win 7).index t 0 = 0 ∧ (cfg0.win 7).index t 1 = t.val := by decide +kernel
theorem idx8 : ∀ t : Fin cfg0.N, (cfg0.win 8).index t 0 = 0 ∧ (cfg0.win 8).index t 1 = 0 := by decide +kernel

theorem blk_ids (b : Fin 10) : iblk m c 0 p0 (ix1 b) = m ((c.tc : Thread nD τ).loc main_arg1) (ix1 b) := by
  blk_ext [iblk, V_main_arg1, idx0 p0]
theorem blk_scal (n : Fin 3) : iblk m c 1 p0 (ix1 n) = m ((c.tc : Thread nD τ).loc main_arg6) (ix1 n) := by
  blk_ext [iblk, V_main_arg6, idx1 p0]
theorem blk_x (b : Fin 10) (d : Fin 16384) : iblk m c 2 p0 (ix2 b d) = m ((c.tc : Thread nD τ).loc main_arg0) (ix2 b d) := by
  blk_ext [iblk, V_main_arg0, idx2 p0]
theorem blk_code (t : Fin cfg0.N) (d : Fin 8192) (f : Fin 256) :
    iblk m c 3 t (ix2 d f) = m ((c.tc : Thread nD τ).loc main_arg2) (ix2 d ⟨256 * t.val + f.val, by have := t_lt t; omega⟩) := by
  blk_ext [iblk, V_main_arg2, idx3 t]
theorem blk_scl (t : Fin cfg0.N) (d : Fin 512) (f : Fin 256) :
    iblk m c 4 t (ix2 d f) = m ((c.tc : Thread nD τ).loc main_arg3) (ix2 d ⟨256 * t.val + f.val, by have := t_lt t; omega⟩) := by
  blk_ext [iblk, V_main_arg3, idx4 t]
theorem blk_lora_a (n : Fin 3) (r : Fin 64) (d : Fin 16384) : iblk m c 5 p0 (ix3 n r d) = m ((c.tc : Thread nD τ).loc main_arg4) (ix3 n d r) := by
  blk_ext! [iblk, idx5 p0]
theorem blk_lora_b (t : Fin cfg0.N) (n : Fin 3) (r : Fin 64) (f : Fin 256) :
    iblk m c 6 t (ix3 n r f) = m ((c.tc : Thread nD τ).loc main_arg5) (ix3 n r ⟨256 * t.val + f.val, by have := t_lt t; omega⟩) := by
  blk_ext [iblk, V_main_arg5, idx6 t]

theorem rows_eq : iblk m c 2 p0 = m ((c.tc : Thread nD τ).loc main_arg0) := by
  funext (y : S10x16384.Idx)
  rw [ext2 y]
  exact blk_x m c (y 0) (y 1)

theorem ids_eq' : iblk m c 0 p0 = m ((c.tc : Thread nD τ).loc main_arg1) := by
  funext (y : S10.Idx)
  have e : y = ix1 (y 0) := by
    funext a
    match a with
    | ⟨0, _⟩ => rfl
  rw [e]
  exact blk_ids m c (y 0)

theorem scal_eq : iblk m c 1 p0 = m ((c.tc : Thread nD τ).loc main_arg6) := by
  funext (y : S3.Idx)
  have e : y = ix1 (y 0) := by
    funext a
    match a with
    | ⟨0, _⟩ => rfl
  rw [e]
  exact blk_scal m c (y 0)

theorem lora_a_eq : iblk m c 5 p0 = trA (m ((c.tc : Thread nD τ).loc main_arg4)) := by
  funext (y : S3x64x16384.Idx)
  have e : y = ix3 (y 0) (y 1) (y 2) := by
    funext a
    match a with
    | ⟨0, _⟩ => rfl
    | ⟨1, _⟩ => rfl
    | ⟨2, _⟩ => rfl
  exact (congrArg (iblk m c 5 p0) e).trans (blk_lora_a m c (y 0) (y 1) (y 2))

/-- The first output, at an index. -/
def hV (b : Fin 10) (j : Fin 3072) : EReal := gV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b j

theorem blk0_apply (hs : ∀ i, 2 ≤ (m ((c.tc : Thread nD τ).loc main_arg3) i : BitVec 8).toNat ∧ (m ((c.tc : Thread nD τ).loc main_arg3) i : BitVec 8).toNat ≤ 252) (t : Fin cfg0.N) (b : Fin 10) (f : Fin 256) :
    blk0 m c t (ix2 b f) = hV m c b ⟨256 * t.val + f.val, by have := t_lt t; omega⟩ := by
  have ht := t_lt t
  rw [blk0_eq m c t (fun i => by rw [ext2 (n := 512) (k := 256) i]; exact (blk_scl m c t (i 0) (i 1)).symm ▸ hs _)]
  simp only [lora0_eq, blk_lora_b]
  rw [rows_eq, ids_eq', scal_eq, lora_a_eq,
    prodV_congr (D := 3072) _ (fun d => at2 (R := 10) (C := 16384) (m ((c.tc : Thread nD τ).loc main_arg0)) b.val d) (iblk m c 3 t) (iblk m c 4 t) (m ((c.tc : Thread nD τ).loc main_arg2)) (m ((c.tc : Thread nD τ).loc main_arg3)) (0 + f.val) (256 * t.val + f.val) (fun _ => rfl)
      (fun d => (congrArg (at2 _ d) (Nat.zero_add _)).trans (at2_blk _ _ (256 * t.val) (by omega) (blk_code m c t) d f)) (fun d => (congrArg (at2 _ d) (Nat.zero_add _)).trans (at2_blk _ _ (256 * t.val) (by omega) (blk_scl m c t) d f))]
  rfl

/-- The first output array after the run. -/
theorem arr0 (hs : ∀ i, 2 ≤ (m ((c.tc : Thread nD τ).loc main_arg3) i : BitVec 8).toNat ∧ (m ((c.tc : Thread nD τ).loc main_arg3) i : BitVec 8).toNat ≤ 252) :
    (dats m 0 c).arrAt 7 (cfgs 0).N = fun y : S10x3072.Idx => hV m c (y 0) (y 1) := by
  refine (dats m 0 c).arrAt_eq_of_covers 7 _ (by decide +kernel) fun t hf y => ?_
  blk_simp
  rw [after0_7]
  refine (congrArg (blk0 m c t) (ext2 (y : S10x256.Idx))).trans ((blk0_apply m c hs t _ _).trans (congrArg₂ (hV m c) (Fin.ext ?_) (Fin.ext ?_)))
  · blk_simp [idx7 t]
  · blk_simp [idx7 t]
    dsimp only
    omega

/-- The second output array after the run. -/
theorem arr1 : (dats m 0 c).arrAt 8 (cfgs 0).N = fun y : S10x64.Idx => sV (m ((c.tc : Thread nD τ).loc main_arg1)) (m ((c.tc : Thread nD τ).loc main_arg6)) (m ((c.tc : Thread nD τ).loc main_arg0)) (trA (m ((c.tc : Thread nD τ).loc main_arg4))) (y 0) (y 1) := by
  refine (dats m 0 c).arrAt_eq_of_covers 8 _ (by decide +kernel) fun t hf y => ?_
  blk_simp
  rw [after0_8]
  refine (congrArg (snd0 m c) (ext2 (y : S10x64.Idx))).trans ((snd0_eq m c _ _).trans ?_)
  rw [rows_eq, ids_eq', scal_eq, lora_a_eq]
  refine congrArg₂ (sV _ _ _ _) (Fin.ext ?_) (Fin.ext ?_)
  · blk_simp [idx8 t]
  · blk_simp [idx8 t]

end Cert.DownIdeal.Hand

end
-- ==== Proof.DownIdeal.Ref.lean ====
/- The reference's results at an index, in terms of the argument arrays. -/
module

public import proofs.«01_k».proof.Proof.DownIdeal.Lora
public import proofs.«01_k».proof.Proof.GateUpIdeal.Ref
public import proofs.«01_k».proof.Proof.Gen.DownReferenceIdeal.Read
public import Idealize.ShloMosaic.Lib.StableHlo.Predicate

@[expose] public section

set_option maxRecDepth 16384
set_option maxHeartbeats 1000000

noncomputable section

namespace Cert.DownReferenceIdeal.Hand

open Idealize.ShloMosaic Cert.DownReferenceIdeal Cert.DownReferenceIdeal.Read Cert.Mx
open Cert.GateUpIdeal.Hand (pick3)
open Cert.DownIdeal.Hand (sV mV)
open Cert.GateUpReferenceIdeal.Hand (at2_fin hot_pick)

variable (x0 : Vec Ideal S10x16384 .bf16) (x1 : Vec Ideal S10 .i32) (x2 : Vec Ideal S8192x3072 .i8) (x3 : Vec Ideal S512x3072 .i8)
  (x4 : Vec Ideal S3x16384x64 .bf16) (x5 : Vec Ideal S3x64x3072 .bf16) (x6 : Vec Ideal S3 .f32)

/-! ## The weights -/

theorem w_lo (hs : ∀ i, 2 ≤ (x3 i : BitVec 8).toNat ∧ (x3 i : BitVec 8).toNat ≤ 252) (d : Fin 8192) (c : Fin 3072) :
    val_main_v41 (F := Ideal) x2 x3 (ix2 d c) = codeV (x2 (ix2 d c)) 0 * scl (x3 (ix2 ⟨d.val / 32, by omega⟩ c)) := by
  have e1 : idx_main_v14 (idx_main_v41 (ix2 d c)) = ix2 d c := by
    funext a
    match a with
    | ⟨0, _⟩ => exact Fin.ext (show (((d.val * 3072 + c.val) / 98304 * 32 + (d.val * 3072 + c.val) / 3072 % 32) * 3072 + (d.val * 3072 + c.val) % 3072) / 3072 = d.val by omega)
    | ⟨1, _⟩ => exact Fin.ext (show (((d.val * 3072 + c.val) / 98304 * 32 + (d.val * 3072 + c.val) / 3072 % 32) * 3072 + (d.val * 3072 + c.val) % 3072) % 3072 = c.val by omega)
  have e2 : idx_main_v13 (idx_main_v15 (idx_main_v24 (idx_main_v41 (ix2 d c)))) = ix2 ⟨d.val / 32, by omega⟩ c := by
    funext a
    match a with
    | ⟨0, _⟩ => exact Fin.ext (show (d.val * 3072 + c.val) / 98304 = d.val / 32 by omega)
    | ⟨1, _⟩ => exact Fin.ext (show (d.val * 3072 + c.val) % 3072 = c.val by omega)
  refine Eq.trans ?_ (refW_eq (x2 (ix2 d c)) (x3 (ix2 ⟨d.val / 32, by omega⟩ c)) 0 (hs _).1 (hs _).2)
  simp only [val_main_c_apply, val_main_v9_apply, val_main_v10_apply, val_main_c_1_apply, val_main_v11_apply, val_main_v12_apply, val_main_v13_apply, val_main_v14_apply, val_main_v15_apply, val_main_c_2_apply, val_main_v16_apply, val_main_v17_apply, val_main_c_3_apply, val_main_v18_apply, val_main_v19_apply, val_main_c_4_apply, val_main_v20_apply, val_main_v21_apply, val_main_c_5_apply, val_main_v22_apply, val_main_v23_apply, val_main_v24_apply, val_main_v25_apply, val_main_c_6_apply, val_main_v26_apply, val_main_v27_apply, val_main_c_7_apply, val_main_c_8_apply, val_main_call1_v0_apply, val_main_call1_v1_apply, val_main_v28_apply, val_main_v29_apply, val_main_v30_apply, val_main_c_9_apply, val_main_v31_apply, val_main_v32_apply, val_main_c_10_apply, val_main_call2_v0_apply, val_main_call2_v1_apply, val_main_v33_apply, val_main_c_11_apply, val_main_v34_apply, val_main_v35_apply, val_main_c_12_apply, val_main_v36_apply, val_main_v37_apply, val_main_v38_apply, val_main_v39_apply, val_main_v40_apply, val_main_v41_apply, val_main_c_13_apply, val_main_v42_apply, val_main_v43_apply, val_main_v44_apply, val_main_v45_apply, val_main_v46_apply, val_main_c_14_apply, val_main_v47_apply, val_main_v48_apply, val_main_c_15_apply, val_main_v49_apply, val_main_v50_apply, val_main_c_16_apply, val_main_v51_apply, val_main_v52_apply, val_main_c_17_apply, val_main_v53_apply, val_main_v54_apply, val_main_v55_apply, val_main_v56_apply, val_main_c_18_apply, val_main_v57_apply, val_main_v58_apply, val_main_c_19_apply, val_main_c_20_apply, val_main_call3_v0_apply, val_main_call3_v1_apply, val_main_v59_apply, val_main_v60_apply, val_main_v61_apply, val_main_c_21_apply, val_main_v62_apply, val_main_v63_apply, val_main_c_22_apply, val_main_call4_v0_apply, val_main_call4_v1_apply, val_main_v64_apply, val_main_c_23_apply, val_main_v65_apply, val_main_v66_apply, val_main_c_24_apply, val_main_v67_apply, val_main_v68_apply, val_main_v69_apply, val_main_v70_apply, val_main_v71_apply, val_main_v72_apply]
  rw [e1, e2]
  rfl

theorem w_hi (hs : ∀ i, 2 ≤ (x3 i : BitVec 8).toNat ∧ (x3 i : BitVec 8).toNat ≤ 252) (d : Fin 8192) (c : Fin 3072) :
    val_main_v72 (F := Ideal) x2 x3 (ix2 d c) = codeV (x2 (ix2 d c)) 1 * scl (x3 (ix2 ⟨256 + d.val / 32, by omega⟩ c)) := by
  have e1 : idx_main_v45 (idx_main_v72 (ix2 d c)) = ix2 d c := by
    funext a
    match a with
    | ⟨0, _⟩ => exact Fin.ext (show (((d.val * 3072 + c.val) / 98304 * 32 + (d.val * 3072 + c.val) / 3072 % 32) * 3072 + (d.val * 3072 + c.val) % 3072) / 3072 = d.val by omega)
    | ⟨1, _⟩ => exact Fin.ext (show (((d.val * 3072 + c.val) / 98304 * 32 + (d.val * 3072 + c.val) / 3072 % 32) * 3072 + (d.val * 3072 + c.val) % 3072) % 3072 = c.val by omega)
  have e2 : idx_main_v44 (idx_main_v46 (idx_main_v55 (idx_main_v72 (ix2 d c)))) = ix2 ⟨256 + d.val / 32, by omega⟩ c := by
    funext a
    match a with
    | ⟨0, _⟩ => exact Fin.ext (show 256 + (d.val * 3072 + c.val) / 98304 = 256 + d.val / 32 by omega)
    | ⟨1, _⟩ => exact Fin.ext (show (d.val * 3072 + c.val) % 3072 = c.val by omega)
  refine Eq.trans ?_ (refW_eq (x2 (ix2 d c)) (x3 (ix2 ⟨256 + d.val / 32, by omega⟩ c)) 1 (hs _).1 (hs _).2)
  simp only [val_main_c_apply, val_main_v9_apply, val_main_v10_apply, val_main_c_1_apply, val_main_v11_apply, val_main_v12_apply, val_main_v13_apply, val_main_v14_apply, val_main_v15_apply, val_main_c_2_apply, val_main_v16_apply, val_main_v17_apply, val_main_c_3_apply, val_main_v18_apply, val_main_v19_apply, val_main_c_4_apply, val_main_v20_apply, val_main_v21_apply, val_main_c_5_apply, val_main_v22_apply, val_main_v23_apply, val_main_v24_apply, val_main_v25_apply, val_main_c_6_apply, val_main_v26_apply, val_main_v27_apply, val_main_c_7_apply, val_main_c_8_apply, val_main_call1_v0_apply, val_main_call1_v1_apply, val_main_v28_apply, val_main_v29_apply, val_main_v30_apply, val_main_c_9_apply, val_main_v31_apply, val_main_v32_apply, val_main_c_10_apply, val_main_call2_v0_apply, val_main_call2_v1_apply, val_main_v33_apply, val_main_c_11_apply, val_main_v34_apply, val_main_v35_apply, val_main_c_12_apply, val_main_v36_apply, val_main_v37_apply, val_main_v38_apply, val_main_v39_apply, val_main_v40_apply, val_main_v41_apply, val_main_c_13_apply, val_main_v42_apply, val_main_v43_apply, val_main_v44_apply, val_main_v45_apply, val_main_v46_apply, val_main_c_14_apply, val_main_v47_apply, val_main_v48_apply, val_main_c_15_apply, val_main_v49_apply, val_main_v50_apply, val_main_c_16_apply, val_main_v51_apply, val_main_v52_apply, val_main_c_17_apply, val_main_v53_apply, val_main_v54_apply, val_main_v55_apply, val_main_v56_apply, val_main_c_18_apply, val_main_v57_apply, val_main_v58_apply, val_main_c_19_apply, val_main_c_20_apply, val_main_call3_v0_apply, val_main_call3_v1_apply, val_main_v59_apply, val_main_v60_apply, val_main_v61_apply, val_main_c_21_apply, val_main_v62_apply, val_main_v63_apply, val_main_c_22_apply, val_main_call4_v0_apply, val_main_call4_v1_apply, val_main_v64_apply, val_main_c_23_apply, val_main_v65_apply, val_main_v66_apply, val_main_c_24_apply, val_main_v67_apply, val_main_v68_apply, val_main_v69_apply, val_main_v70_apply, val_main_v71_apply, val_main_v72_apply]
  rw [e1, e2, nib_hi_host]
  rfl

/-! ## The main product -/

theorem prod_eq (hs : ∀ i, 2 ≤ (x3 i : BitVec 8).toNat ∧ (x3 i : BitVec 8).toNat ≤ 252) (b : Fin 10) (c : Fin 3072) :
    val_main_v77 (F := Ideal) x0 x2 x3 (ix2 b c) = prodV (R := 8192) (C := 3072) (SR := 512) (fun d => at2 (R := 10) (C := 16384) x0 b.val d) x2 x3 c.val := by
  rw [val_main_v77_apply, val_main_v74_apply, val_main_v76_apply]
  unfold prodV
  rw [Finset.sum_range, Finset.sum_range]
  refine congrArg₂ (fun a b : EReal => a + b) (Finset.sum_congr rfl fun d _ => ?_) (Finset.sum_congr rfl fun d _ => ?_)
  · have e1 : idx_main_v73 (lidx_main_v74 (ix2 b c) d) = ix2 b ⟨d.val, by omega⟩ := by
      funext a
      match a with
      | ⟨0, _⟩ => rfl
      | ⟨1, _⟩ => rfl
    have e2 : ridx_main_v74 (ix2 b c) d = ix2 d c := by
      funext a
      match a with
      | ⟨0, _⟩ => rfl
      | ⟨1, _⟩ => rfl
    rw [e2, w_lo x2 x3 hs, val_main_v73_apply, e1, at2_fin x2 d c _ rfl, at2_fin x3 ⟨d.val / 32, by omega⟩ c _ rfl]
    exact congrArg (fun z : EReal => z * _) (at2_fin x0 b ⟨d.val, by omega⟩ b.val rfl).symm
  · have e1 : idx_main_v75 (lidx_main_v76 (ix2 b c) d) = ix2 b ⟨8192 + d.val, by omega⟩ := by
      funext a
      match a with
      | ⟨0, _⟩ => rfl
      | ⟨1, _⟩ => rfl
    have e2 : ridx_main_v76 (ix2 b c) d = ix2 d c := by
      funext a
      match a with
      | ⟨0, _⟩ => rfl
      | ⟨1, _⟩ => rfl
    rw [e2, w_hi x2 x3 hs, val_main_v75_apply, e1, at2_fin x2 d c _ rfl, at2_fin x3 ⟨256 + d.val / 32, by omega⟩ c _ rfl]
    exact congrArg (fun z : EReal => z * _) (at2_fin x0 b ⟨8192 + d.val, by omega⟩ b.val rfl).symm

/-! ## The adapters -/

/-- The one-hot row of an adapter index. -/
theorem hot_eq (b : Fin 10) (n : Fin 3) : val_main_v0 (F := Ideal) x1 (ix2 b n) = if x1 (ix1 b) = BitVec.ofNat 32 n.val then 1 else 0 := by
  simp only [val_main_v0_apply, val_main_call0_v4_apply, val_main_call0_v3_apply, val_main_call0_v2_apply, val_main_call0_v1_apply, val_main_call0_v0_apply]
  have e : idx_main_call0_v0 (idx_main_call0_v2 (ix2 b n)) = ix1 b := by
    funext a
    match a with
    | ⟨0, _⟩ => rfl
  rw [e]
  show ((((IntOp.cmpi .eq (x1 (ix1 b)) (BitVec.ofNat 32 n.val)).toNat : ℝ)) : EReal) = _
  by_cases h : x1 (ix1 b) = BitVec.ofNat 32 n.val
  · rw [if_pos h, h]
    simp [IntOp.cmpi]
  · rw [if_neg h]
    simp [IntOp.cmpi, h]

/-- The scaling looked up by an adapter index in range. -/
theorem scal_of (b : Fin 10) (n : Fin 3) (h : x1 (ix1 b) = BitVec.ofNat 32 n.val) : val_main_v8 (F := Ideal) x1 x6 (ix1 b) = x6 (ix1 n) := by
  have e : (ix1 b : S10.Idx) = Shape.Idx.ofFin b := by
    funext a
    match a with
    | ⟨0, _⟩ => rfl
  have e8 : val_main_v7 (F := Ideal) x1 (StableHlo.Predicate.ixP b) = BitVec.ofNat 32 n.val := by
    simp only [val_main_v7_apply, val_main_v6_apply, val_main_v3_apply, val_main_v5_apply, val_main_v2_apply, val_main_v4_apply, val_main_c_apply, val_main_c_0_apply]
    have e : idx_main_v7 (StableHlo.Predicate.ixP b) = ix1 b := by
      funext a
      match a with
      | ⟨0, _⟩ => rfl
    rw [e, h]
    clear h
    revert n
    decide +kernel
  unfold val_main_v8
  refine (congrArg (Host.gather gather_S3_S10x1_S10_n_0_n_n_0_1_1 x6 (val_main_v7 (F := Ideal) x1)) e).trans
    ((StableHlo.Predicate.gather_take gather_S3_S10x1_S10_n_0_n_n_0_1_1 rfl rfl rfl rfl x6 (val_main_v7 (F := Ideal) x1) b (by decide)).trans ?_)
  refine congrArg x6 (funext fun a => ?_)
  match a with
  | ⟨0, _⟩ =>
    refine Fin.ext ?_
    show min (val_main_v7 (F := Ideal) x1 (StableHlo.Predicate.ixP b)).toInt.toNat (3 - 1) = n.val
    rw [e8]
    clear e8 h
    revert n
    decide +kernel

/-- The second result at an index. -/
theorem s_eq (b : Fin 10) (r : Fin 64) : val_main_v83 (F := Ideal) x0 x1 x4 x6 (ix2 b r) = sV x1 x6 x0 (fun y => x4 (ix3 (y 0) (y 2) (y 1))) b r := by
  rw [val_main_v83_apply, val_main_v82_apply, val_main_v79_apply, val_main_v81_apply, val_main_v80_apply]
  have e1 : idx_main_v80 (idx_main_v81 (ix2 b r)) = ix1 b := by
    funext a
    match a with
    | ⟨0, _⟩ => rfl
  have e2 : ∀ n : Fin 3, lidx_main_v79 (ix2 b r) n = ix2 b n := fun n => by
    funext a
    match a with
    | ⟨0, _⟩ => rfl
    | ⟨1, _⟩ => rfl
  have e3 : ∀ n : Fin 3, val_main_v78 (F := Ideal) x0 x4 (ridx_main_v79 (ix2 b r) n) = ∑ d : Fin 16384, x0 (ix2 b d) * x4 (ix3 n d r) := fun n => by
    rw [val_main_v78_apply]
    refine Finset.sum_congr rfl fun d _ => ?_
    have f1 : lidx_main_v78 (ridx_main_v79 (ix2 b r) n) d = ix2 b d := by
      funext a
      match a with
      | ⟨0, _⟩ => rfl
      | ⟨1, _⟩ => rfl
    have f2 : ridx_main_v78 (ridx_main_v79 (ix2 b r) n) d = ix3 n d r := by
      funext a
      match a with
      | ⟨0, _⟩ => rfl
      | ⟨1, _⟩ => rfl
      | ⟨2, _⟩ => rfl
    rw [f1, f2]
  rw [e1]
  simp only [e2, e3, hot_eq]
  show (∑ n : Fin 3, (if x1 (ix1 b) = BitVec.ofNat 32 n.val then (1 : EReal) else 0) * ∑ d : Fin 16384, x0 (ix2 b d) * x4 (ix3 n d r)) * val_main_v8 (F := Ideal) x1 x6 (ix1 b) = _
  exact hot_pick (x1 (ix1 b)) (fun n => ∑ d : Fin 16384, x0 (ix2 b d) * x4 (ix3 n d r)) (fun n => x6 (ix1 n)) _ (scal_of x1 x6 b)

/-- The one-hot spread of a row's low-rank product. -/
theorem spread_eq (b : Fin 10) (n : Fin 3) (r : Fin 64) :
    val_main_v88 (F := Ideal) x0 x1 x4 x6 (ix3 b n r) = if x1 (ix1 b) = BitVec.ofNat 32 n.val then sV x1 x6 x0 (fun y => x4 (ix3 (y 0) (y 2) (y 1))) b r else 0 := by
  rw [val_main_v88_apply, val_main_v86_apply, val_main_v87_apply, val_main_v85_apply, val_main_v84_apply, val_main_v1_apply]
  have e1 : idx_main_v84 (idx_main_v86 (ix3 b n r)) = ix2 b n := by
    funext a
    match a with
    | ⟨0, _⟩ => rfl
    | ⟨1, _⟩ => rfl
  have e2 : idx_main_v85 (idx_main_v87 (ix3 b n r)) = ix2 b r := by
    funext a
    match a with
    | ⟨0, _⟩ => rfl
    | ⟨1, _⟩ => rfl
  rw [e1, e2, s_eq]
  show val_main_v0 (F := Ideal) x1 (ix2 b n) * _ = _
  rw [hot_eq]
  by_cases h : x1 (ix1 b) = BitVec.ofNat 32 n.val
  · rw [if_pos h, if_pos h, one_mul]
  · rw [if_neg h, if_neg h, zero_mul]

/-- The low-rank part at an index. -/
theorem lora_eq (b : Fin 10) (j : Fin 3072) : val_main_v89 (F := Ideal) x0 x1 x4 x5 x6 (ix2 b j)
    = ∑ k : Fin 192, mV x1 x6 x0 (fun y => x4 (ix3 (y 0) (y 2) (y 1))) b k * x5 (ix3 ⟨k.val / 64, by omega⟩ ⟨k.val % 64, by omega⟩ j) := by
  unfold val_main_v89
  pointwise
  refine Fin.sum_mul_add_congr (fun n r hl => ?_)
  rw [spread_eq]
  refine congrArg₂ (fun a b : EReal => a * b) ?_ (congrArg₂ (fun n r => x5 (ix3 n r j)) (Fin.ext ?_) (Fin.ext ?_))
  · unfold mV
    rw [show (n.val * 64 + r.val) / 64 = n.val by omega]
    exact congrArg (fun q => if x1 (ix1 b) = BitVec.ofNat 32 n.val then sV x1 x6 x0 (fun y => x4 (ix3 (y 0) (y 2) (y 1))) b q else 0) (Fin.ext (show r.val = (n.val * 64 + r.val) % 64 % 64 by omega))
  · exact (show n.val = (n.val * 64 + r.val) / 64 by omega)
  · exact (show r.val = (n.val * 64 + r.val) % 64 by omega)

/-! ## The first result -/

theorem y_eq (hs : ∀ i, 2 ≤ (x3 i : BitVec 8).toNat ∧ (x3 i : BitVec 8).toNat ≤ 252) (b : Fin 10) (j : Fin 3072) :
    val_main_v91 (F := Ideal) x0 x1 x2 x3 x4 x5 x6 (ix2 b j) = prodV (R := 8192) (C := 3072) (SR := 512) (fun d => at2 (R := 10) (C := 16384) x0 b.val d) x2 x3 j.val
      + ∑ k : Fin 192, mV x1 x6 x0 (fun y => x4 (ix3 (y 0) (y 2) (y 1))) b k * x5 (ix3 ⟨k.val / 64, by omega⟩ ⟨k.val % 64, by omega⟩ j) := by
  rw [val_main_v91_apply, val_main_v90_apply, lora_eq, prod_eq x0 x2 x3 hs]
  rfl

end Cert.DownReferenceIdeal.Hand

end
-- ==== Proof.DownIdeal.Claim.lean ====
/- The down claims: the two frames under the precondition, and the equality of the kernel's results with the reference's. -/
module

public import proofs.«01_k».proof.Defs
public import proofs.«01_k».proof.Proof.Gen.Pre_scales_down
public import proofs.«01_k».proof.Proof.DownIdeal.Arrays
public import proofs.«01_k».proof.Proof.DownIdeal.Ref
public import proofs.«01_k».proof.Proof.Gen.DownReferenceIdeal.Run

@[expose] public section

set_option maxRecDepth 16384
set_option maxHeartbeats 400000

noncomputable section

namespace Cert.DownClaims

open Idealize.ShloMosaic Idealize.ShloMosaic.TcCoe Idealize.SL.Sem Cert.Mx
open Cert.DownIdeal.Hand (sV trA hV arr0 arr1)

/-- The precondition read at an element: every scale code is at least 2 and at most 252. -/
theorem scales_of (m : (ℓ : Loc Cert.DownIdeal.nD Cert.DownIdeal.τ Cert.DownIdeal.sig) → Buf (Elt Ideal) ℓ)
    (h : Cert.Pre_DownIdeal_scales_down m) (c : Dev Cert.DownIdeal.nD) (i : Cert.DownIdeal.S512x3072.Idx) :
    2 ≤ (m ((c.tc : Thread Cert.DownIdeal.nD Cert.DownIdeal.τ).loc Cert.DownIdeal.main_arg3) i : BitVec 8).toNat
      ∧ (m ((c.tc : Thread Cert.DownIdeal.nD Cert.DownIdeal.τ).loc Cert.DownIdeal.main_arg3) i : BitVec 8).toNat ≤ 252 :=
  ⟨IntOp.cmpi_uge.1 (congrFun (h c).1 i), IntOp.cmpi_ule.1 (congrFun (h c).2 i)⟩

/-- The reference's frame: its run read at the arguments; it declares no semaphore. -/
theorem ref_frame : Cert.quiescent_DownReferenceIdeal := fun m g _ =>
  (θ_run Cert.DownReferenceIdeal.defs _ _).mono (fun r h => ⟨fun c => (h c).2.2,
      Idealize.ShloMosaic.sem_eq_zero_of_no_sems (by decide) r.2⟩)
    (Cert.DownReferenceIdeal.Value.run (F := Ideal) m g)

theorem algebraic : Cert.algebraic_DownIdeal_DownReferenceIdeal_pre_scales_down := by
  intro m g m' g' hp hag
  refine ⟨fun c => (fun y : Cert.DownIdeal.S10x3072.Idx => hV m c (y 0) (y 1)),
    fun c => (fun y : Cert.DownIdeal.S10x64.Idx => sV (m ((c.tc : Thread Cert.DownIdeal.nD Cert.DownIdeal.τ).loc Cert.DownIdeal.main_arg1)) (m ((c.tc : Thread Cert.DownIdeal.nD Cert.DownIdeal.τ).loc Cert.DownIdeal.main_arg6)) (m ((c.tc : Thread Cert.DownIdeal.nD Cert.DownIdeal.τ).loc Cert.DownIdeal.main_arg0)) (trA (m ((c.tc : Thread Cert.DownIdeal.nD Cert.DownIdeal.τ).loc Cert.DownIdeal.main_arg4))) (y 0) (y 1)), ?_, ?_⟩
  · refine (θ_run _ _ _).mono (fun r h c => ?_) (θ_run_and (Cert.DownIdeal.Hand.run_main m g) (Cert.DownIdeal.Hand.frame m g))
    exact ⟨(h.1.out_eq c 7).trans (arr0 m c (scales_of m hp c)), (h.1.out_eq c 8).trans (arr1 m c), h.2.1 c⟩
  · refine (θ_run _ _ _).mono (fun r h c => ?_) (Cert.DownReferenceIdeal.Value.run (F := Ideal) m' g')
    obtain ⟨h0, h1, hargs⟩ := h c
    obtain ⟨a0, a1, a2, a3, a4, a5, a6⟩ := hag c
    refine ⟨h0.trans ?_, h1.trans ?_, hargs⟩
    · rw [Cert.DownReferenceIdeal.Read.val_main_v91_eq, a0, a1, a2, a3, a4, a5, a6]
      refine funext fun (y : Cert.DownIdeal.S10x3072.Idx) => ?_
      have e : y = ix2 (y 0) (y 1) := by
        funext a
        match a with
        | ⟨0, _⟩ => rfl
        | ⟨1, _⟩ => rfl
      exact (congrArg _ e).trans (Cert.DownReferenceIdeal.Hand.y_eq _ _ _ _ _ _ _ (scales_of m hp c) (y 0) (y 1))
    · refine (Cert.DownReferenceIdeal.Read.val_main_v83_eq _ _ _ _).trans ?_
      rw [a0, a1, a4, a6]
      refine funext fun (y : Cert.DownIdeal.S10x64.Idx) => ?_
      have e : y = ix2 (y 0) (y 1) := by
        funext a
        match a with
        | ⟨0, _⟩ => rfl
        | ⟨1, _⟩ => rfl
      exact (congrArg _ e).trans (Cert.DownReferenceIdeal.Hand.s_eq _ _ _ _ (y 0) (y 1))

end Cert.DownClaims
-- ==== Proof.lean ====
module

public import proofs.«01_k».proof.Defs
public import proofs.«01_k».proof.Proof.GateUpIdeal.Frame
public import proofs.«01_k».proof.Proof.GateUpIdeal.Same
public import proofs.«01_k».proof.Proof.GateUpIdeal.Claim
public import proofs.«01_k».proof.Proof.DownIdeal.Frame
public import proofs.«01_k».proof.Proof.DownIdeal.Same
public import proofs.«01_k».proof.Proof.DownIdeal.Claim

@[expose] public section

noncomputable section

namespace Cert.Proof

open Idealize.ShloMosaic Idealize.SL.Sem

theorem claim : Cert.Claim := ⟨Cert.GateUp.Gen.facts, Cert.GateUpIdeal.Gen.facts, Cert.GateUpReferenceIdeal.Gen.facts, Cert.Down.Gen.facts, Cert.DownIdeal.Gen.facts, Cert.DownReferenceIdeal.Gen.facts, Cert.Pre_scales_gate_up.Gen.facts, Cert.Pre_scales_down.Gen.facts,
  Cert.GateUpClaims.bits_frame,
  fun m g _ => Cert.GateUpIdeal.Hand.frame m g,
  fun m g _ => Cert.GateUpIdeal.Hand.frame m g,
  Cert.GateUpClaims.ref_frame,
  fun m g _ => Cert.GateUpClaims.ref_frame m g trivial,
  Cert.DownClaims.bits_frame,
  fun m g _ => Cert.DownIdeal.Hand.frame m g,
  fun m g _ => Cert.DownIdeal.Hand.frame m g,
  Cert.DownClaims.ref_frame,
  fun m g _ => Cert.DownClaims.ref_frame m g trivial,
  trivial,
  Cert.GateUpClaims.algebraic,
  trivial,
  Cert.DownClaims.algebraic⟩

end Cert.Proof

end
